-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_qk [hPre_finite_qk : Cert.Pre_finite_qk.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_qk.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_qk.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_qk [hPre_finite_qk : Cert.Pre_finite_qk.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_qk.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_finite_qk.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2 = (fun _ => 1#1)

def Pre_FfnDz (m : (ℓ : Loc Cert.FfnDz.nD Cert.FfnDz.τ Cert.FfnDz.sig) → Buf (Elt Bits) ℓ) : Prop :=
  True

def Pre_FfnDzIdeal (m : (ℓ : Loc Cert.FfnDzIdeal.nD Cert.FfnDzIdeal.τ Cert.FfnDzIdeal.sig) → Buf (Elt Ideal) ℓ) : Prop :=
  True

def Pre_FfnDzIdeal_finite_dz [hPre_finite_dz : Cert.Pre_finite_dz.Facts] (m : (ℓ : Loc Cert.FfnDzIdeal.nD Cert.FfnDzIdeal.τ Cert.FfnDzIdeal.sig) → Buf (Elt Ideal) ℓ) : Prop :=
  ∀ c : Dev Cert.FfnDzIdeal.nD,
    (Cert.Pre_finite_dz.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).1 = (fun _ => 1#1)
    ∧ (Cert.Pre_finite_dz.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).2.1 = (fun _ => 1#1)
    ∧ (Cert.Pre_finite_dz.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).2.2 = (fun _ => 1#1)

def Pre_FfnDzRefIdeal (m : (ℓ : Loc Cert.FfnDzRefIdeal.nD Cert.FfnDzRefIdeal.τ Cert.FfnDzRefIdeal.sig) → Buf (Elt Ideal) ℓ) : Prop :=
  True

def Pre_FfnDzRefIdeal_finite_dz [hPre_finite_dz : Cert.Pre_finite_dz.Facts] (m : (ℓ : Loc Cert.FfnDzRefIdeal.nD Cert.FfnDzRefIdeal.τ Cert.FfnDzRefIdeal.sig) → Buf (Elt Ideal) ℓ) : Prop :=
  ∀ c : Dev Cert.FfnDzRefIdeal.nD,
    (Cert.Pre_finite_dz.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).1 = (fun _ => 1#1)
    ∧ (Cert.Pre_finite_dz.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).2.1 = (fun _ => 1#1)
    ∧ (Cert.Pre_finite_dz.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_MixDyRefIdeal (m : (ℓ : Loc Cert.MixDyRefIdeal.nD Cert.MixDyRefIdeal.τ Cert.MixDyRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQRefIdeal (m : (ℓ : Loc Cert.DwQRefIdeal.nD Cert.DwQRefIdeal.τ Cert.DwQRefIdeal.sig) → Buf (Elt Ideal) ℓ) : Prop :=
  True

def Pre_AttnDh (m : (ℓ : Loc Cert.AttnDh.nD Cert.AttnDh.τ Cert.AttnDh.sig) → Buf (Elt Bits) ℓ) : Prop :=
  True

def Pre_AttnDhIdeal (m : (ℓ : Loc Cert.AttnDhIdeal.nD Cert.AttnDhIdeal.τ Cert.AttnDhIdeal.sig) → Buf (Elt Ideal) ℓ) : Prop :=
  True

def Pre_AttnDhRefIdeal (m : (ℓ : Loc Cert.AttnDhRefIdeal.nD Cert.AttnDhRefIdeal.τ Cert.AttnDhRefIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_AttnDoRefIdeal (m : (ℓ : Loc Cert.AttnDoRefIdeal.nD Cert.AttnDoRefIdeal.τ Cert.AttnDoRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQRefIdeal (m : (ℓ : Loc Cert.AttnQRefIdeal.nD Cert.AttnQRefIdeal.τ Cert.AttnQRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AttnKv (m : (ℓ : Loc Cert.AttnKv.nD Cert.AttnKv.τ Cert.AttnKv.sig) → Buf (Elt Bits) ℓ) : Prop :=
  True

def Pre_AttnKvIdeal (m : (ℓ : Loc Cert.AttnKvIdeal.nD Cert.AttnKvIdeal.τ Cert.AttnKvIdeal.sig) → Buf (Elt Ideal) ℓ) : Prop :=
  True

def Pre_AttnKvRefIdeal (m : (ℓ : Loc Cert.AttnKvRefIdeal.nD Cert.AttnKvRefIdeal.τ Cert.AttnKvRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_AttnDmn (m : (ℓ : Loc Cert.AttnDmn.nD Cert.AttnDmn.τ Cert.AttnDmn.sig) → Buf (Elt Bits) ℓ) : Prop :=
  True

def Pre_AttnDmnIdeal (m : (ℓ : Loc Cert.AttnDmnIdeal.nD Cert.AttnDmnIdeal.τ Cert.AttnDmnIdeal.sig) → Buf (Elt Ideal) ℓ) : Prop :=
  True

def Pre_AttnDmnRefIdeal (m : (ℓ : Loc Cert.AttnDmnRefIdeal.nD Cert.AttnDmnRefIdeal.τ Cert.AttnDmnRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_qk [hAttnBwdIdeal : Cert.AttnBwdIdeal.Facts] [hPre_finite_qk : Cert.Pre_finite_qk.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_qk m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_finite_qk [hAttnBwdRefIdeal : Cert.AttnBwdRefIdeal.Facts] [hPre_finite_qk : Cert.Pre_finite_qk.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_qk m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_FfnDz [hFfnDz : Cert.FfnDz.Facts] : Prop :=
  ∀ (m : (ℓ : Loc Cert.FfnDz.nD Cert.FfnDz.τ Cert.FfnDz.sig) → Buf (Elt Bits) ℓ) (g : Dev Cert.FfnDz.nD → PrngReg), Pre_FfnDz m →
    θ_run (Cert.FfnDz.defs (F := Bits)) (onTc (τ := Cert.FfnDz.τ) (Cert.FfnDz.main (F := Bits))) ⟨m, fun _ => 0, g⟩ (fun r => (∀ c : Dev Cert.FfnDz.nD,
      r.2.mem ((c.tc : Thread Cert.FfnDz.nD Cert.FfnDz.τ).loc Cert.FfnDz.main_arg0) = m ((c.tc : Thread Cert.FfnDz.nD Cert.FfnDz.τ).loc Cert.FfnDz.main_arg0)
      ∧ r.2.mem ((c.tc : Thread Cert.FfnDz.nD Cert.FfnDz.τ).loc Cert.FfnDz.main_arg1) = m ((c.tc : Thread Cert.FfnDz.nD Cert.FfnDz.τ).loc Cert.FfnDz.main_arg1)
      ∧ r.2.mem ((c.tc : Thread Cert.FfnDz.nD Cert.FfnDz.τ).loc Cert.FfnDz.main_arg2) = m ((c.tc : Thread Cert.FfnDz.nD Cert.FfnDz.τ).loc Cert.FfnDz.main_arg2)
      ∧ r.2.mem ((c.tc : Thread Cert.FfnDz.nD Cert.FfnDz.τ).loc Cert.FfnDz.main_arg3) = m ((c.tc : Thread Cert.FfnDz.nD Cert.FfnDz.τ).loc Cert.FfnDz.main_arg3))
      ∧ r.2.sem = fun _ => 0)

def quiescent_FfnDzIdeal [hFfnDzIdeal : Cert.FfnDzIdeal.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ r.2.sem = fun _ => 0)

def quiescent_FfnDzIdeal_pre_finite_dz [hFfnDzIdeal : Cert.FfnDzIdeal.Facts] [hPre_finite_dz : Cert.Pre_finite_dz.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal_finite_dz m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ r.2.sem = fun _ => 0)

def quiescent_FfnDzRefIdeal [hFfnDzRefIdeal : Cert.FfnDzRefIdeal.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3))
      ∧ r.2.sem = fun _ => 0)

def quiescent_FfnDzRefIdeal_pre_finite_dz [hFfnDzRefIdeal : Cert.FfnDzRefIdeal.Facts] [hPre_finite_dz : Cert.Pre_finite_dz.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal_finite_dz m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1)
      ∧ r.2.mem ((c.tc : Thread Cert.MixDh.nD Cert.MixDh.τ).loc Cert.MixDh.main_arg2) = m ((c.tc : Thread Cert.MixDh.nD Cert.MixDh.τ).loc Cert.MixDh.main_arg2)
      ∧ r.2.mem ((c.tc : Thread Cert.MixDh.nD Cert.MixDh.τ).loc Cert.MixDh.main_arg3) = m ((c.tc : Thread Cert.MixDh.nD Cert.MixDh.τ).loc Cert.MixDh.main_arg3)
      ∧ r.2.mem ((c.tc : Thread Cert.MixDh.nD Cert.MixDh.τ).loc Cert.MixDh.main_arg4) = m ((c.tc : Thread Cert.MixDh.nD Cert.MixDh.τ).loc Cert.MixDh.main_arg4))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
      ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
      ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2)
      ∧ r.2.mem ((c.tc : Thread Cert.MixDhRefIdeal.nD Cert.MixDhRefIdeal.τ).loc Cert.MixDhRefIdeal.main_arg3) = m ((c.tc : Thread Cert.MixDhRefIdeal.nD Cert.MixDhRefIdeal.τ).loc Cert.MixDhRefIdeal.main_arg3)
      ∧ r.2.mem ((c.tc : Thread Cert.MixDhRefIdeal.nD Cert.MixDhRefIdeal.τ).loc Cert.MixDhRefIdeal.main_arg4) = m ((c.tc : Thread Cert.MixDhRefIdeal.nD Cert.MixDhRefIdeal.τ).loc Cert.MixDhRefIdeal.main_arg4))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ r.2.sem = fun _ => 0)

def quiescent_MixDyRefIdeal [hMixDyRefIdeal : Cert.MixDyRefIdeal.Facts] : Prop :=
  ∀ (m : (ℓ : Loc Cert.MixDyRefIdeal.nD Cert.MixDyRefIdeal.τ Cert.MixDyRefIdeal.sig) → Buf (Elt Ideal) ℓ) (g : Dev Cert.MixDyRefIdeal.nD → PrngReg), Pre_MixDyRefIdeal m →
    θ_run (Cert.MixDyRefIdeal.defs (F := Ideal)) (onTc (τ := Cert.MixDyRefIdeal.τ) (Cert.MixDyRefIdeal.main (F := Ideal))) ⟨m, fun _ => 0, g⟩ (fun r => (∀ c : Dev Cert.MixDyRefIdeal.nD,
      r.2.mem ((c.tc : Thread Cert.MixDyRefIdeal.nD Cert.MixDyRefIdeal.τ).loc Cert.MixDyRefIdeal.main_arg0) = m ((c.tc : Thread Cert.MixDyRefIdeal.nD Cert.MixDyRefIdeal.τ).loc Cert.MixDyRefIdeal.main_arg0)
      ∧ r.2.mem ((c.tc : Thread Cert.MixDyRefIdeal.nD Cert.MixDyRefIdeal.τ).loc Cert.MixDyRefIdeal.main_arg1) = m ((c.tc : Thread Cert.MixDyRefIdeal.nD Cert.MixDyRefIdeal.τ).loc Cert.MixDyRefIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQRefIdeal [hDwQRefIdeal : Cert.DwQRefIdeal.Facts] : Prop :=
  ∀ (m : (ℓ : Loc Cert.DwQRefIdeal.nD Cert.DwQRefIdeal.τ Cert.DwQRefIdeal.sig) → Buf (Elt Ideal) ℓ) (g : Dev Cert.DwQRefIdeal.nD → PrngReg), Pre_DwQRefIdeal m →
    θ_run (Cert.DwQRefIdeal.defs (F := Ideal)) (onTc (τ := Cert.DwQRefIdeal.τ) (Cert.DwQRefIdeal.main (F := Ideal))) ⟨m, fun _ => 0, g⟩ (fun r => (∀ c : Dev Cert.DwQRefIdeal.nD,
      r.2.mem ((c.tc : Thread Cert.DwQRefIdeal.nD Cert.DwQRefIdeal.τ).loc Cert.DwQRefIdeal.main_arg0) = m ((c.tc : Thread Cert.DwQRefIdeal.nD Cert.DwQRefIdeal.τ).loc Cert.DwQRefIdeal.main_arg0)
      ∧ r.2.mem ((c.tc : Thread Cert.DwQRefIdeal.nD Cert.DwQRefIdeal.τ).loc Cert.DwQRefIdeal.main_arg1) = m ((c.tc : Thread Cert.DwQRefIdeal.nD Cert.DwQRefIdeal.τ).loc Cert.DwQRefIdeal.main_arg1))
      ∧ r.2.sem = fun _ => 0)

def quiescent_AttnDh [hAttnDh : Cert.AttnDh.Facts] : Prop :=
  ∀ (m : (ℓ : Loc Cert.AttnDh.nD Cert.AttnDh.τ Cert.AttnDh.sig) → Buf (Elt Bits) ℓ) (g : Dev Cert.AttnDh.nD → PrngReg), Pre_AttnDh m →
    θ_run (Cert.AttnDh.defs (F := Bits)) (onTc (τ := Cert.AttnDh.τ) (Cert.AttnDh.main (F := Bits))) ⟨m, fun _ => 0, g⟩ (fun r => (∀ c : Dev Cert.AttnDh.nD,
      r.2.mem ((c.tc : Thread Cert.AttnDh.nD Cert.AttnDh.τ).loc Cert.AttnDh.main_arg0) = m ((c.tc : Thread Cert.AttnDh.nD Cert.AttnDh.τ).loc Cert.AttnDh.main_arg0)
      ∧ r.2.mem ((c.tc : Thread Cert.AttnDh.nD Cert.AttnDh.τ).loc Cert.AttnDh.main_arg1) = m ((c.tc : Thread Cert.AttnDh.nD Cert.AttnDh.τ).loc Cert.AttnDh.main_arg1)
      ∧ r.2.mem ((c.tc : Thread Cert.AttnDh.nD Cert.AttnDh.τ).loc Cert.AttnDh.main_arg2) = m ((c.tc : Thread Cert.AttnDh.nD Cert.AttnDh.τ).loc Cert.AttnDh.main_arg2)
      ∧ r.2.mem ((c.tc : Thread Cert.AttnDh.nD Cert.AttnDh.τ).loc Cert.AttnDh.main_arg3) = m ((c.tc : Thread Cert.AttnDh.nD Cert.AttnDh.τ).loc Cert.AttnDh.main_arg3)
      ∧ r.2.mem ((c.tc : Thread Cert.AttnDh.nD Cert.AttnDh.τ).loc Cert.AttnDh.main_arg4) = m ((c.tc : Thread Cert.AttnDh.nD Cert.AttnDh.τ).loc Cert.AttnDh.main_arg4))
      ∧ r.2.sem = fun _ => 0)

def quiescent_AttnDhIdeal [hAttnDhIdeal : Cert.AttnDhIdeal.Facts] : Prop :=
  ∀ (m : (ℓ : Loc Cert.AttnDhIdeal.nD Cert.AttnDhIdeal.τ Cert.AttnDhIdeal.sig) → Buf (Elt Ideal) ℓ) (g : Dev Cert.AttnDhIdeal.nD → PrngReg), Pre_AttnDhIdeal m →
    θ_run (Cert.AttnDhIdeal.defs (F := Ideal)) (onTc (τ := Cert.AttnDhIdeal.τ) (Cert.AttnDhIdeal.main (F := Ideal))) ⟨m, fun _ => 0, g⟩ (fun r => (∀ c : Dev Cert.AttnDhIdeal.nD,
      r.2.mem ((c.tc : Thread Cert.AttnDhIdeal.nD Cert.AttnDhIdeal.τ).loc Cert.AttnDhIdeal.main_arg0) = m ((c.tc : Thread Cert.AttnDhIdeal.nD Cert.AttnDhIdeal.τ).loc Cert.AttnDhIdeal.main_arg0)
      ∧ r.2.mem ((c.tc : Thread Cert.AttnDhIdeal.nD Cert.AttnDhIdeal.τ).loc Cert.AttnDhIdeal.main_arg1) = m ((c.tc : Thread Cert.AttnDhIdeal.nD Cert.AttnDhIdeal.τ).loc Cert.AttnDhIdeal.main_arg1)
      ∧ r.2.mem ((c.tc : Thread Cert.AttnDhIdeal.nD Cert.AttnDhIdeal.τ).loc Cert.AttnDhIdeal.main_arg2) = m ((c.tc : Thread Cert.AttnDhIdeal.nD Cert.AttnDhIdeal.τ).loc Cert.AttnDhIdeal.main_arg2)
      ∧ r.2.mem ((c.tc : Thread Cert.AttnDhIdeal.nD Cert.AttnDhIdeal.τ).loc Cert.AttnDhIdeal.main_arg3) = m ((c.tc : Thread Cert.AttnDhIdeal.nD Cert.AttnDhIdeal.τ).loc Cert.AttnDhIdeal.main_arg3)
      ∧ r.2.mem ((c.tc : Thread Cert.AttnDhIdeal.nD Cert.AttnDhIdeal.τ).loc Cert.AttnDhIdeal.main_arg4) = m ((c.tc : Thread Cert.AttnDhIdeal.nD Cert.AttnDhIdeal.τ).loc Cert.AttnDhIdeal.main_arg4))
      ∧ r.2.sem = fun _ => 0)

def quiescent_AttnDhRefIdeal [hAttnDhRefIdeal : Cert.AttnDhRefIdeal.Facts] : Prop :=
  ∀ (m : (ℓ : Loc Cert.AttnDhRefIdeal.nD Cert.AttnDhRefIdeal.τ Cert.AttnDhRefIdeal.sig) → Buf (Elt Ideal) ℓ) (g : Dev Cert.AttnDhRefIdeal.nD → PrngReg), Pre_AttnDhRefIdeal m →
    θ_run (Cert.AttnDhRefIdeal.defs (F := Ideal)) (onTc (τ := Cert.AttnDhRefIdeal.τ) (Cert.AttnDhRefIdeal.main (F := Ideal))) ⟨m, fun _ => 0, g⟩ (fun r => (∀ c : Dev Cert.AttnDhRefIdeal.nD,
      r.2.mem ((c.tc : Thread Cert.AttnDhRefIdeal.nD Cert.AttnDhRefIdeal.τ).loc Cert.AttnDhRefIdeal.main_arg0) = m ((c.tc : Thread Cert.AttnDhRefIdeal.nD Cert.AttnDhRefIdeal.τ).loc Cert.AttnDhRefIdeal.main_arg0)
      ∧ r.2.mem ((c.tc : Thread Cert.AttnDhRefIdeal.nD Cert.AttnDhRefIdeal.τ).loc Cert.AttnDhRefIdeal.main_arg1) = m ((c.tc : Thread Cert.AttnDhRefIdeal.nD Cert.AttnDhRefIdeal.τ).loc Cert.AttnDhRefIdeal.main_arg1)
      ∧ r.2.mem ((c.tc : Thread Cert.AttnDhRefIdeal.nD Cert.AttnDhRefIdeal.τ).loc Cert.AttnDhRefIdeal.main_arg2) = m ((c.tc : Thread Cert.AttnDhRefIdeal.nD Cert.AttnDhRefIdeal.τ).loc Cert.AttnDhRefIdeal.main_arg2)
      ∧ r.2.mem ((c.tc : Thread Cert.AttnDhRefIdeal.nD Cert.AttnDhRefIdeal.τ).loc Cert.AttnDhRefIdeal.main_arg3) = m ((c.tc : Thread Cert.AttnDhRefIdeal.nD Cert.AttnDhRefIdeal.τ).loc Cert.AttnDhRefIdeal.main_arg3)
      ∧ r.2.mem ((c.tc : Thread Cert.AttnDhRefIdeal.nD Cert.AttnDhRefIdeal.τ).loc Cert.AttnDhRefIdeal.main_arg4) = m ((c.tc : Thread Cert.AttnDhRefIdeal.nD Cert.AttnDhRefIdeal.τ).loc Cert.AttnDhRefIdeal.main_arg4))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ r.2.sem = fun _ => 0)

def quiescent_AttnDoRefIdeal [hAttnDoRefIdeal : Cert.AttnDoRefIdeal.Facts] : Prop :=
  ∀ (m : (ℓ : Loc Cert.AttnDoRefIdeal.nD Cert.AttnDoRefIdeal.τ Cert.AttnDoRefIdeal.sig) → Buf (Elt Ideal) ℓ) (g : Dev Cert.AttnDoRefIdeal.nD → PrngReg), Pre_AttnDoRefIdeal m →
    θ_run (Cert.AttnDoRefIdeal.defs (F := Ideal)) (onTc (τ := Cert.AttnDoRefIdeal.τ) (Cert.AttnDoRefIdeal.main (F := Ideal))) ⟨m, fun _ => 0, g⟩ (fun r => (∀ c : Dev Cert.AttnDoRefIdeal.nD,
      r.2.mem ((c.tc : Thread Cert.AttnDoRefIdeal.nD Cert.AttnDoRefIdeal.τ).loc Cert.AttnDoRefIdeal.main_arg0) = m ((c.tc : Thread Cert.AttnDoRefIdeal.nD Cert.AttnDoRefIdeal.τ).loc Cert.AttnDoRefIdeal.main_arg0)
      ∧ r.2.mem ((c.tc : Thread Cert.AttnDoRefIdeal.nD Cert.AttnDoRefIdeal.τ).loc Cert.AttnDoRefIdeal.main_arg1) = m ((c.tc : Thread Cert.AttnDoRefIdeal.nD Cert.AttnDoRefIdeal.τ).loc Cert.AttnDoRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1)
      ∧ r.2.mem ((c.tc : Thread Cert.AttnQ.nD Cert.AttnQ.τ).loc Cert.AttnQ.main_arg2) = m ((c.tc : Thread Cert.AttnQ.nD Cert.AttnQ.τ).loc Cert.AttnQ.main_arg2))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1)
      ∧ r.2.mem ((c.tc : Thread Cert.AttnQIdeal.nD Cert.AttnQIdeal.τ).loc Cert.AttnQIdeal.main_arg2) = m ((c.tc : Thread Cert.AttnQIdeal.nD Cert.AttnQIdeal.τ).loc Cert.AttnQIdeal.main_arg2))
      ∧ r.2.sem = fun _ => 0)

def quiescent_AttnQRefIdeal [hAttnQRefIdeal : Cert.AttnQRefIdeal.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1)
      ∧ r.2.mem ((c.tc : Thread Cert.AttnQRefIdeal.nD Cert.AttnQRefIdeal.τ).loc Cert.AttnQRefIdeal.main_arg2) = m ((c.tc : Thread Cert.AttnQRefIdeal.nD Cert.AttnQRefIdeal.τ).loc Cert.AttnQRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnKv [hAttnKv : Cert.AttnKv.Facts] : Prop :=
  ∀ (m : (ℓ : Loc Cert.AttnKv.nD Cert.AttnKv.τ Cert.AttnKv.sig) → Buf (Elt Bits) ℓ) (g : Dev Cert.AttnKv.nD → PrngReg), Pre_AttnKv m →
    θ_run (Cert.AttnKv.defs (F := Bits)) (onTc (τ := Cert.AttnKv.τ) (Cert.AttnKv.main (F := Bits))) ⟨m, fun _ => 0, g⟩ (fun r => (∀ c : Dev Cert.AttnKv.nD,
      r.2.mem ((c.tc : Thread Cert.AttnKv.nD Cert.AttnKv.τ).loc Cert.AttnKv.main_arg0) = m ((c.tc : Thread Cert.AttnKv.nD Cert.AttnKv.τ).loc Cert.AttnKv.main_arg0)
      ∧ r.2.mem ((c.tc : Thread Cert.AttnKv.nD Cert.AttnKv.τ).loc Cert.AttnKv.main_arg1) = m ((c.tc : Thread Cert.AttnKv.nD Cert.AttnKv.τ).loc Cert.AttnKv.main_arg1)
      ∧ r.2.mem ((c.tc : Thread Cert.AttnKv.nD Cert.AttnKv.τ).loc Cert.AttnKv.main_arg2) = m ((c.tc : Thread Cert.AttnKv.nD Cert.AttnKv.τ).loc Cert.AttnKv.main_arg2))
      ∧ r.2.sem = fun _ => 0)

def quiescent_AttnKvIdeal [hAttnKvIdeal : Cert.AttnKvIdeal.Facts] : Prop :=
  ∀ (m : (ℓ : Loc Cert.AttnKvIdeal.nD Cert.AttnKvIdeal.τ Cert.AttnKvIdeal.sig) → Buf (Elt Ideal) ℓ) (g : Dev Cert.AttnKvIdeal.nD → PrngReg), Pre_AttnKvIdeal m →
    θ_run (Cert.AttnKvIdeal.defs (F := Ideal)) (onTc (τ := Cert.AttnKvIdeal.τ) (Cert.AttnKvIdeal.main (F := Ideal))) ⟨m, fun _ => 0, g⟩ (fun r => (∀ c : Dev Cert.AttnKvIdeal.nD,
      r.2.mem ((c.tc : Thread Cert.AttnKvIdeal.nD Cert.AttnKvIdeal.τ).loc Cert.AttnKvIdeal.main_arg0) = m ((c.tc : Thread Cert.AttnKvIdeal.nD Cert.AttnKvIdeal.τ).loc Cert.AttnKvIdeal.main_arg0)
      ∧ r.2.mem ((c.tc : Thread Cert.AttnKvIdeal.nD Cert.AttnKvIdeal.τ).loc Cert.AttnKvIdeal.main_arg1) = m ((c.tc : Thread Cert.AttnKvIdeal.nD Cert.AttnKvIdeal.τ).loc Cert.AttnKvIdeal.main_arg1)
      ∧ r.2.mem ((c.tc : Thread Cert.AttnKvIdeal.nD Cert.AttnKvIdeal.τ).loc Cert.AttnKvIdeal.main_arg2) = m ((c.tc : Thread Cert.AttnKvIdeal.nD Cert.AttnKvIdeal.τ).loc Cert.AttnKvIdeal.main_arg2))
      ∧ r.2.sem = fun _ => 0)

def quiescent_AttnKvRefIdeal [hAttnKvRefIdeal : Cert.AttnKvRefIdeal.Facts] : Prop :=
  ∀ (m : (ℓ : Loc Cert.AttnKvRefIdeal.nD Cert.AttnKvRefIdeal.τ Cert.AttnKvRefIdeal.sig) → Buf (Elt Ideal) ℓ) (g : Dev Cert.AttnKvRefIdeal.nD → PrngReg), Pre_AttnKvRefIdeal m →
    θ_run (Cert.AttnKvRefIdeal.defs (F := Ideal)) (onTc (τ := Cert.AttnKvRefIdeal.τ) (Cert.AttnKvRefIdeal.main (F := Ideal))) ⟨m, fun _ => 0, g⟩ (fun r => (∀ c : Dev Cert.AttnKvRefIdeal.nD,
      r.2.mem ((c.tc : Thread Cert.AttnKvRefIdeal.nD Cert.AttnKvRefIdeal.τ).loc Cert.AttnKvRefIdeal.main_arg0) = m ((c.tc : Thread Cert.AttnKvRefIdeal.nD Cert.AttnKvRefIdeal.τ).loc Cert.AttnKvRefIdeal.main_arg0)
      ∧ r.2.mem ((c.tc : Thread Cert.AttnKvRefIdeal.nD Cert.AttnKvRefIdeal.τ).loc Cert.AttnKvRefIdeal.main_arg1) = m ((c.tc : Thread Cert.AttnKvRefIdeal.nD Cert.AttnKvRefIdeal.τ).loc Cert.AttnKvRefIdeal.main_arg1)
      ∧ r.2.mem ((c.tc : Thread Cert.AttnKvRefIdeal.nD Cert.AttnKvRefIdeal.τ).loc Cert.AttnKvRefIdeal.main_arg2) = m ((c.tc : Thread Cert.AttnKvRefIdeal.nD Cert.AttnKvRefIdeal.τ).loc Cert.AttnKvRefIdeal.main_arg2))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_AttnDmn [hAttnDmn : Cert.AttnDmn.Facts] : Prop :=
  ∀ (m : (ℓ : Loc Cert.AttnDmn.nD Cert.AttnDmn.τ Cert.AttnDmn.sig) → Buf (Elt Bits) ℓ) (g : Dev Cert.AttnDmn.nD → PrngReg), Pre_AttnDmn m →
    θ_run (Cert.AttnDmn.defs (F := Bits)) (onTc (τ := Cert.AttnDmn.τ) (Cert.AttnDmn.main (F := Bits))) ⟨m, fun _ => 0, g⟩ (fun r => (∀ c : Dev Cert.AttnDmn.nD,
      r.2.mem ((c.tc : Thread Cert.AttnDmn.nD Cert.AttnDmn.τ).loc Cert.AttnDmn.main_arg0) = m ((c.tc : Thread Cert.AttnDmn.nD Cert.AttnDmn.τ).loc Cert.AttnDmn.main_arg0)
      ∧ r.2.mem ((c.tc : Thread Cert.AttnDmn.nD Cert.AttnDmn.τ).loc Cert.AttnDmn.main_arg1) = m ((c.tc : Thread Cert.AttnDmn.nD Cert.AttnDmn.τ).loc Cert.AttnDmn.main_arg1))
      ∧ r.2.sem = fun _ => 0)

def quiescent_AttnDmnIdeal [hAttnDmnIdeal : Cert.AttnDmnIdeal.Facts] : Prop :=
  ∀ (m : (ℓ : Loc Cert.AttnDmnIdeal.nD Cert.AttnDmnIdeal.τ Cert.AttnDmnIdeal.sig) → Buf (Elt Ideal) ℓ) (g : Dev Cert.AttnDmnIdeal.nD → PrngReg), Pre_AttnDmnIdeal m →
    θ_run (Cert.AttnDmnIdeal.defs (F := Ideal)) (onTc (τ := Cert.AttnDmnIdeal.τ) (Cert.AttnDmnIdeal.main (F := Ideal))) ⟨m, fun _ => 0, g⟩ (fun r => (∀ c : Dev Cert.AttnDmnIdeal.nD,
      r.2.mem ((c.tc : Thread Cert.AttnDmnIdeal.nD Cert.AttnDmnIdeal.τ).loc Cert.AttnDmnIdeal.main_arg0) = m ((c.tc : Thread Cert.AttnDmnIdeal.nD Cert.AttnDmnIdeal.τ).loc Cert.AttnDmnIdeal.main_arg0)
      ∧ r.2.mem ((c.tc : Thread Cert.AttnDmnIdeal.nD Cert.AttnDmnIdeal.τ).loc Cert.AttnDmnIdeal.main_arg1) = m ((c.tc : Thread Cert.AttnDmnIdeal.nD Cert.AttnDmnIdeal.τ).loc Cert.AttnDmnIdeal.main_arg1))
      ∧ r.2.sem = fun _ => 0)

def quiescent_AttnDmnRefIdeal [hAttnDmnRefIdeal : Cert.AttnDmnRefIdeal.Facts] : Prop :=
  ∀ (m : (ℓ : Loc Cert.AttnDmnRefIdeal.nD Cert.AttnDmnRefIdeal.τ Cert.AttnDmnRefIdeal.sig) → Buf (Elt Ideal) ℓ) (g : Dev Cert.AttnDmnRefIdeal.nD → PrngReg), Pre_AttnDmnRefIdeal m →
    θ_run (Cert.AttnDmnRefIdeal.defs (F := Ideal)) (onTc (τ := Cert.AttnDmnRefIdeal.τ) (Cert.AttnDmnRefIdeal.main (F := Ideal))) ⟨m, fun _ => 0, g⟩ (fun r => (∀ c : Dev Cert.AttnDmnRefIdeal.nD,
      r.2.mem ((c.tc : Thread Cert.AttnDmnRefIdeal.nD Cert.AttnDmnRefIdeal.τ).loc Cert.AttnDmnRefIdeal.main_arg0) = m ((c.tc : Thread Cert.AttnDmnRefIdeal.nD Cert.AttnDmnRefIdeal.τ).loc Cert.AttnDmnRefIdeal.main_arg0)
      ∧ r.2.mem ((c.tc : Thread Cert.AttnDmnRefIdeal.nD Cert.AttnDmnRefIdeal.τ).loc Cert.AttnDmnRefIdeal.main_arg1) = m ((c.tc : Thread Cert.AttnDmnRefIdeal.nD Cert.AttnDmnRefIdeal.τ).loc Cert.AttnDmnRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_AttnBwd_AttnBwdIdeal : Prop :=
  True

def algebraic_AttnBwdIdeal_AttnBwdRefIdeal_pre_finite_qk [hAttnBwdIdeal : Cert.AttnBwdIdeal.Facts] [hAttnBwdRefIdeal : Cert.AttnBwdRefIdeal.Facts] [hPre_finite_qk : Cert.Pre_finite_qk.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_qk m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v67) = v0 c
          ∧ r.2.mem ((c.tc : Thread Cert.AttnBwdRefIdeal.nD Cert.AttnBwdRefIdeal.τ).loc Cert.AttnBwdRefIdeal.main_v65) = v1 c
          ∧ r.2.mem ((c.tc : Thread Cert.AttnBwdRefIdeal.nD Cert.AttnBwdRefIdeal.τ).loc Cert.AttnBwdRefIdeal.main_v64) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_FfnDz_FfnDzIdeal : Prop :=
  True

def algebraic_FfnDzIdeal_FfnDzRefIdeal_pre_finite_dz [hFfnDzIdeal : Cert.FfnDzIdeal.Facts] [hFfnDzRefIdeal : Cert.FfnDzRefIdeal.Facts] [hPre_finite_dz : Cert.Pre_finite_dz.Facts] : Prop :=
  ∀ (m : (ℓ : Loc Cert.FfnDzIdeal.nD Cert.FfnDzIdeal.τ Cert.FfnDzIdeal.sig) → Buf (Elt Ideal) ℓ) (g : Dev Cert.FfnDzIdeal.nD → PrngReg)
    (m' : (ℓ : Loc Cert.FfnDzRefIdeal.nD Cert.FfnDzRefIdeal.τ Cert.FfnDzRefIdeal.sig) → Buf (Elt Ideal) ℓ) (g' : Dev Cert.FfnDzRefIdeal.nD → PrngReg), Pre_FfnDzIdeal_finite_dz m →
    (∀ c : Dev Cert.FfnDzIdeal.nD,
      m' ((c.tc : Thread Cert.FfnDzRefIdeal.nD Cert.FfnDzRefIdeal.τ).loc Cert.FfnDzRefIdeal.main_arg0) = m ((c.tc : Thread Cert.FfnDzIdeal.nD Cert.FfnDzIdeal.τ).loc Cert.FfnDzIdeal.main_arg0)
      ∧ m' ((c.tc : Thread Cert.FfnDzRefIdeal.nD Cert.FfnDzRefIdeal.τ).loc Cert.FfnDzRefIdeal.main_arg1) = m ((c.tc : Thread Cert.FfnDzIdeal.nD Cert.FfnDzIdeal.τ).loc Cert.FfnDzIdeal.main_arg1)
      ∧ m' ((c.tc : Thread Cert.FfnDzRefIdeal.nD Cert.FfnDzRefIdeal.τ).loc Cert.FfnDzRefIdeal.main_arg2) = m ((c.tc : Thread Cert.FfnDzIdeal.nD Cert.FfnDzIdeal.τ).loc Cert.FfnDzIdeal.main_arg2)
      ∧ m' ((c.tc : Thread Cert.FfnDzRefIdeal.nD Cert.FfnDzRefIdeal.τ).loc Cert.FfnDzRefIdeal.main_arg3) = m ((c.tc : Thread Cert.FfnDzIdeal.nD Cert.FfnDzIdeal.τ).loc Cert.FfnDzIdeal.main_arg3)) →
    ∃ (v0 : (c : Dev Cert.FfnDzIdeal.nD) → Buf (Elt Ideal) ((c.tc : Thread Cert.FfnDzIdeal.nD Cert.FfnDzIdeal.τ).loc Cert.FfnDzIdeal.main_v0_0)) (v1 : (c : Dev Cert.FfnDzIdeal.nD) → Buf (Elt Ideal) ((c.tc : Thread Cert.FfnDzIdeal.nD Cert.FfnDzIdeal.τ).loc Cert.FfnDzIdeal.main_v0_1)) (v2 : (c : Dev Cert.FfnDzIdeal.nD) → Buf (Elt Ideal) ((c.tc : Thread Cert.FfnDzIdeal.nD Cert.FfnDzIdeal.τ).loc Cert.FfnDzIdeal.main_v0_2)),
      θ_run (Cert.FfnDzIdeal.defs (F := Ideal)) (onTc (τ := Cert.FfnDzIdeal.τ) (Cert.FfnDzIdeal.main (F := Ideal))) ⟨m, fun _ => 0, g⟩ (fun r => ∀ c : Dev Cert.FfnDzIdeal.nD,
          r.2.mem ((c.tc : Thread Cert.FfnDzIdeal.nD Cert.FfnDzIdeal.τ).loc Cert.FfnDzIdeal.main_v0_0) = v0 c
          ∧ r.2.mem ((c.tc : Thread Cert.FfnDzIdeal.nD Cert.FfnDzIdeal.τ).loc Cert.FfnDzIdeal.main_v0_1) = v1 c
          ∧ r.2.mem ((c.tc : Thread Cert.FfnDzIdeal.nD Cert.FfnDzIdeal.τ).loc Cert.FfnDzIdeal.main_v0_2) = v2 c
          ∧ r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
          ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
          ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
          ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ θ_run (Cert.FfnDzRefIdeal.defs (F := Ideal)) (onTc (τ := Cert.FfnDzRefIdeal.τ) (Cert.FfnDzRefIdeal.main (F := Ideal))) ⟨m', fun _ => 0, g'⟩ (fun r => ∀ c : Dev Cert.FfnDzRefIdeal.nD,
          r.2.mem ((c.tc : Thread Cert.FfnDzRefIdeal.nD Cert.FfnDzRefIdeal.τ).loc Cert.FfnDzRefIdeal.main_v16) = v0 c
          ∧ r.2.mem ((c.tc : Thread Cert.FfnDzRefIdeal.nD Cert.FfnDzRefIdeal.τ).loc Cert.FfnDzRefIdeal.main_v17) = v1 c
          ∧ r.2.mem ((c.tc : Thread Cert.FfnDzRefIdeal.nD Cert.FfnDzRefIdeal.τ).loc Cert.FfnDzRefIdeal.main_v18) = v2 c
          ∧ r.2.mem ((c.tc : Thread Cert.FfnDzRefIdeal.nD Cert.FfnDzRefIdeal.τ).loc Cert.FfnDzRefIdeal.main_arg0) = m' ((c.tc : Thread Cert.FfnDzRefIdeal.nD Cert.FfnDzRefIdeal.τ).loc Cert.FfnDzRefIdeal.main_arg0)
          ∧ r.2.mem ((c.tc : Thread Cert.FfnDzRefIdeal.nD Cert.FfnDzRefIdeal.τ).loc Cert.FfnDzRefIdeal.main_arg1) = m' ((c.tc : Thread Cert.FfnDzRefIdeal.nD Cert.FfnDzRefIdeal.τ).loc Cert.FfnDzRefIdeal.main_arg1)
          ∧ r.2.mem ((c.tc : Thread Cert.FfnDzRefIdeal.nD Cert.FfnDzRefIdeal.τ).loc Cert.FfnDzRefIdeal.main_arg2) = m' ((c.tc : Thread Cert.FfnDzRefIdeal.nD Cert.FfnDzRefIdeal.τ).loc Cert.FfnDzRefIdeal.main_arg2)
          ∧ r.2.mem ((c.tc : Thread Cert.FfnDzRefIdeal.nD Cert.FfnDzRefIdeal.τ).loc Cert.FfnDzRefIdeal.main_arg3) = m' ((c.tc : Thread Cert.FfnDzRefIdeal.nD Cert.FfnDzRefIdeal.τ).loc Cert.FfnDzRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)) →
    ∃ (v0 : (c : Dev Cert.FfnDhIdeal.nD) → Buf (Elt Ideal) ((c.tc : Thread Cert.FfnDhIdeal.nD Cert.FfnDhIdeal.τ).loc Cert.FfnDhIdeal.main_v0_0)) (v1 : (c : Dev Cert.FfnDhIdeal.nD) → Buf (Elt Ideal) ((c.tc : Thread Cert.FfnDhIdeal.nD Cert.FfnDhIdeal.τ).loc Cert.FfnDhIdeal.main_v0_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0_0) = v0 c
          ∧ r.2.mem ((c.tc : Thread Cert.FfnDhIdeal.nD Cert.FfnDhIdeal.τ).loc Cert.FfnDhIdeal.main_v0_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v39) = v0 c
          ∧ r.2.mem ((c.tc : Thread Cert.FfnDhRefIdeal.nD Cert.FfnDhRefIdeal.τ).loc Cert.FfnDhRefIdeal.main_v22) = v1 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v5) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)
      ∧ m' ((c.tc : Thread Cert.MixDhRefIdeal.nD Cert.MixDhRefIdeal.τ).loc Cert.MixDhRefIdeal.main_arg2) = m ((c.tc : Thread Cert.MixDhIdeal.nD Cert.MixDhIdeal.τ).loc Cert.MixDhIdeal.main_arg2)
      ∧ m' ((c.tc : Thread Cert.MixDhRefIdeal.nD Cert.MixDhRefIdeal.τ).loc Cert.MixDhRefIdeal.main_arg3) = m ((c.tc : Thread Cert.MixDhIdeal.nD Cert.MixDhIdeal.τ).loc Cert.MixDhIdeal.main_arg3)
      ∧ m' ((c.tc : Thread Cert.MixDhRefIdeal.nD Cert.MixDhRefIdeal.τ).loc Cert.MixDhRefIdeal.main_arg4) = m ((c.tc : Thread Cert.MixDhIdeal.nD Cert.MixDhIdeal.τ).loc Cert.MixDhIdeal.main_arg4)) →
    ∃ (v0 : (c : Dev Cert.MixDhIdeal.nD) → Buf (Elt Ideal) ((c.tc : Thread Cert.MixDhIdeal.nD Cert.MixDhIdeal.τ).loc Cert.MixDhIdeal.main_v0_0)) (v1 : (c : Dev Cert.MixDhIdeal.nD) → Buf (Elt Ideal) ((c.tc : Thread Cert.MixDhIdeal.nD Cert.MixDhIdeal.τ).loc Cert.MixDhIdeal.main_v0_1)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v0_0) = v0 c
          ∧ r.2.mem ((c.tc : Thread Cert.MixDhIdeal.nD Cert.MixDhIdeal.τ).loc Cert.MixDhIdeal.main_v0_1) = v1 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
          ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
          ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
          ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v38) = v0 c
          ∧ r.2.mem ((c.tc : Thread Cert.MixDhRefIdeal.nD Cert.MixDhRefIdeal.τ).loc Cert.MixDhRefIdeal.main_v21) = v1 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1)
          ∧ r.2.mem ((c.tc : Thread Cert.MixDhRefIdeal.nD Cert.MixDhRefIdeal.τ).loc Cert.MixDhRefIdeal.main_arg2) = m' ((c.tc : Thread Cert.MixDhRefIdeal.nD Cert.MixDhRefIdeal.τ).loc Cert.MixDhRefIdeal.main_arg2)
          ∧ r.2.mem ((c.tc : Thread Cert.MixDhRefIdeal.nD Cert.MixDhRefIdeal.τ).loc Cert.MixDhRefIdeal.main_arg3) = m' ((c.tc : Thread Cert.MixDhRefIdeal.nD Cert.MixDhRefIdeal.τ).loc Cert.MixDhRefIdeal.main_arg3)
          ∧ r.2.mem ((c.tc : Thread Cert.MixDhRefIdeal.nD Cert.MixDhRefIdeal.τ).loc Cert.MixDhRefIdeal.main_arg4) = m' ((c.tc : Thread Cert.MixDhRefIdeal.nD Cert.MixDhRefIdeal.τ).loc Cert.MixDhRefIdeal.main_arg4))

def preserves_MixDy_MixDyIdeal : Prop :=
  True

def algebraic_MixDyIdeal_MixDyRefIdeal [hMixDyIdeal : Cert.MixDyIdeal.Facts] [hMixDyRefIdeal : Cert.MixDyRefIdeal.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.MixDyRefIdeal.nD Cert.MixDyRefIdeal.τ Cert.MixDyRefIdeal.sig) → Buf (Elt Ideal) ℓ) (g' : Dev Cert.MixDyRefIdeal.nD → PrngReg), Pre_MixDyIdeal m →
    (∀ c : Dev Cert.MixDyIdeal.nD,
      m' ((c.tc : Thread Cert.MixDyRefIdeal.nD Cert.MixDyRefIdeal.τ).loc Cert.MixDyRefIdeal.main_arg0) = m ((c.tc : Thread Cert.MixDyIdeal.nD Cert.MixDyIdeal.τ).loc Cert.MixDyIdeal.main_arg0)
      ∧ m' ((c.tc : Thread Cert.MixDyRefIdeal.nD Cert.MixDyRefIdeal.τ).loc Cert.MixDyRefIdeal.main_arg1) = m ((c.tc : Thread Cert.MixDyIdeal.nD Cert.MixDyIdeal.τ).loc Cert.MixDyIdeal.main_arg1)) →
    ∃ (v0 : (c : Dev Cert.MixDyIdeal.nD) → Buf (Elt Ideal) ((c.tc : Thread Cert.MixDyIdeal.nD Cert.MixDyIdeal.τ).loc Cert.MixDyIdeal.main_v0)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          r.2.mem ((c.tc : Thread Cert.MixDyIdeal.nD Cert.MixDyIdeal.τ).loc Cert.MixDyIdeal.main_v0) = v0 c
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ θ_run (Cert.MixDyRefIdeal.defs (F := Ideal)) (onTc (τ := Cert.MixDyRefIdeal.τ) (Cert.MixDyRefIdeal.main (F := Ideal))) ⟨m', fun _ => 0, g'⟩ (fun r => ∀ c : Dev Cert.MixDyRefIdeal.nD,
          r.2.mem ((c.tc : Thread Cert.MixDyRefIdeal.nD Cert.MixDyRefIdeal.τ).loc Cert.MixDyRefIdeal.main_v3) = v0 c
          ∧ r.2.mem ((c.tc : Thread Cert.MixDyRefIdeal.nD Cert.MixDyRefIdeal.τ).loc Cert.MixDyRefIdeal.main_arg0) = m' ((c.tc : Thread Cert.MixDyRefIdeal.nD Cert.MixDyRefIdeal.τ).loc Cert.MixDyRefIdeal.main_arg0)
          ∧ r.2.mem ((c.tc : Thread Cert.MixDyRefIdeal.nD Cert.MixDyRefIdeal.τ).loc Cert.MixDyRefIdeal.main_arg1) = m' ((c.tc : Thread Cert.MixDyRefIdeal.nD Cert.MixDyRefIdeal.τ).loc Cert.MixDyRefIdeal.main_arg1))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v4) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DwQ_DwQIdeal : Prop :=
  True

def algebraic_DwQIdeal_DwQRefIdeal [hDwQIdeal : Cert.DwQIdeal.Facts] [hDwQRefIdeal : Cert.DwQRefIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQRefIdeal.nD Cert.DwQRefIdeal.τ Cert.DwQRefIdeal.sig) → Buf (Elt Ideal) ℓ) (g' : Dev Cert.DwQRefIdeal.nD → PrngReg), Pre_DwQIdeal m →
    (∀ c : Dev Cert.DwQIdeal.nD,
      m' ((c.tc : Thread Cert.DwQRefIdeal.nD Cert.DwQRefIdeal.τ).loc Cert.DwQRefIdeal.main_arg0) = m ((c.tc : Thread Cert.DwQIdeal.nD Cert.DwQIdeal.τ).loc Cert.DwQIdeal.main_arg0)
      ∧ m' ((c.tc : Thread Cert.DwQRefIdeal.nD Cert.DwQRefIdeal.τ).loc Cert.DwQRefIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQRefIdeal.defs (F := Ideal)) (onTc (τ := Cert.DwQRefIdeal.τ) (Cert.DwQRefIdeal.main (F := Ideal))) ⟨m', fun _ => 0, g'⟩ (fun r => ∀ c : Dev Cert.DwQRefIdeal.nD,
          r.2.mem ((c.tc : Thread Cert.DwQRefIdeal.nD Cert.DwQRefIdeal.τ).loc Cert.DwQRefIdeal.main_v5) = v0 c
          ∧ r.2.mem ((c.tc : Thread Cert.DwQRefIdeal.nD Cert.DwQRefIdeal.τ).loc Cert.DwQRefIdeal.main_arg0) = m' ((c.tc : Thread Cert.DwQRefIdeal.nD Cert.DwQRefIdeal.τ).loc Cert.DwQRefIdeal.main_arg0)
          ∧ r.2.mem ((c.tc : Thread Cert.DwQRefIdeal.nD Cert.DwQRefIdeal.τ).loc Cert.DwQRefIdeal.main_arg1) = m' ((c.tc : Thread Cert.DwQRefIdeal.nD Cert.DwQRefIdeal.τ).loc Cert.DwQRefIdeal.main_arg1))

def preserves_AttnDh_AttnDhIdeal : Prop :=
  True

def algebraic_AttnDhIdeal_AttnDhRefIdeal [hAttnDhIdeal : Cert.AttnDhIdeal.Facts] [hAttnDhRefIdeal : Cert.AttnDhRefIdeal.Facts] : Prop :=
  ∀ (m : (ℓ : Loc Cert.AttnDhIdeal.nD Cert.AttnDhIdeal.τ Cert.AttnDhIdeal.sig) → Buf (Elt Ideal) ℓ) (g : Dev Cert.AttnDhIdeal.nD → PrngReg)
    (m' : (ℓ : Loc Cert.AttnDhRefIdeal.nD Cert.AttnDhRefIdeal.τ Cert.AttnDhRefIdeal.sig) → Buf (Elt Ideal) ℓ) (g' : Dev Cert.AttnDhRefIdeal.nD → PrngReg), Pre_AttnDhIdeal m →
    (∀ c : Dev Cert.AttnDhIdeal.nD,
      m' ((c.tc : Thread Cert.AttnDhRefIdeal.nD Cert.AttnDhRefIdeal.τ).loc Cert.AttnDhRefIdeal.main_arg0) = m ((c.tc : Thread Cert.AttnDhIdeal.nD Cert.AttnDhIdeal.τ).loc Cert.AttnDhIdeal.main_arg0)
      ∧ m' ((c.tc : Thread Cert.AttnDhRefIdeal.nD Cert.AttnDhRefIdeal.τ).loc Cert.AttnDhRefIdeal.main_arg1) = m ((c.tc : Thread Cert.AttnDhIdeal.nD Cert.AttnDhIdeal.τ).loc Cert.AttnDhIdeal.main_arg1)
      ∧ m' ((c.tc : Thread Cert.AttnDhRefIdeal.nD Cert.AttnDhRefIdeal.τ).loc Cert.AttnDhRefIdeal.main_arg2) = m ((c.tc : Thread Cert.AttnDhIdeal.nD Cert.AttnDhIdeal.τ).loc Cert.AttnDhIdeal.main_arg2)
      ∧ m' ((c.tc : Thread Cert.AttnDhRefIdeal.nD Cert.AttnDhRefIdeal.τ).loc Cert.AttnDhRefIdeal.main_arg3) = m ((c.tc : Thread Cert.AttnDhIdeal.nD Cert.AttnDhIdeal.τ).loc Cert.AttnDhIdeal.main_arg3)
      ∧ m' ((c.tc : Thread Cert.AttnDhRefIdeal.nD Cert.AttnDhRefIdeal.τ).loc Cert.AttnDhRefIdeal.main_arg4) = m ((c.tc : Thread Cert.AttnDhIdeal.nD Cert.AttnDhIdeal.τ).loc Cert.AttnDhIdeal.main_arg4)) →
    ∃ (v0 : (c : Dev Cert.AttnDhIdeal.nD) → Buf (Elt Ideal) ((c.tc : Thread Cert.AttnDhIdeal.nD Cert.AttnDhIdeal.τ).loc Cert.AttnDhIdeal.main_v0_0)) (v1 : (c : Dev Cert.AttnDhIdeal.nD) → Buf (Elt Ideal) ((c.tc : Thread Cert.AttnDhIdeal.nD Cert.AttnDhIdeal.τ).loc Cert.AttnDhIdeal.main_v0_1)),
      θ_run (Cert.AttnDhIdeal.defs (F := Ideal)) (onTc (τ := Cert.AttnDhIdeal.τ) (Cert.AttnDhIdeal.main (F := Ideal))) ⟨m, fun _ => 0, g⟩ (fun r => ∀ c : Dev Cert.AttnDhIdeal.nD,
          r.2.mem ((c.tc : Thread Cert.AttnDhIdeal.nD Cert.AttnDhIdeal.τ).loc Cert.AttnDhIdeal.main_v0_0) = v0 c
          ∧ r.2.mem ((c.tc : Thread Cert.AttnDhIdeal.nD Cert.AttnDhIdeal.τ).loc Cert.AttnDhIdeal.main_v0_1) = v1 c
          ∧ r.2.mem ((c.tc : Thread Cert.AttnDhIdeal.nD Cert.AttnDhIdeal.τ).loc Cert.AttnDhIdeal.main_arg0) = m ((c.tc : Thread Cert.AttnDhIdeal.nD Cert.AttnDhIdeal.τ).loc Cert.AttnDhIdeal.main_arg0)
          ∧ r.2.mem ((c.tc : Thread Cert.AttnDhIdeal.nD Cert.AttnDhIdeal.τ).loc Cert.AttnDhIdeal.main_arg1) = m ((c.tc : Thread Cert.AttnDhIdeal.nD Cert.AttnDhIdeal.τ).loc Cert.AttnDhIdeal.main_arg1)
          ∧ r.2.mem ((c.tc : Thread Cert.AttnDhIdeal.nD Cert.AttnDhIdeal.τ).loc Cert.AttnDhIdeal.main_arg2) = m ((c.tc : Thread Cert.AttnDhIdeal.nD Cert.AttnDhIdeal.τ).loc Cert.AttnDhIdeal.main_arg2)
          ∧ r.2.mem ((c.tc : Thread Cert.AttnDhIdeal.nD Cert.AttnDhIdeal.τ).loc Cert.AttnDhIdeal.main_arg3) = m ((c.tc : Thread Cert.AttnDhIdeal.nD Cert.AttnDhIdeal.τ).loc Cert.AttnDhIdeal.main_arg3)
          ∧ r.2.mem ((c.tc : Thread Cert.AttnDhIdeal.nD Cert.AttnDhIdeal.τ).loc Cert.AttnDhIdeal.main_arg4) = m ((c.tc : Thread Cert.AttnDhIdeal.nD Cert.AttnDhIdeal.τ).loc Cert.AttnDhIdeal.main_arg4))
      ∧ θ_run (Cert.AttnDhRefIdeal.defs (F := Ideal)) (onTc (τ := Cert.AttnDhRefIdeal.τ) (Cert.AttnDhRefIdeal.main (F := Ideal))) ⟨m', fun _ => 0, g'⟩ (fun r => ∀ c : Dev Cert.AttnDhRefIdeal.nD,
          r.2.mem ((c.tc : Thread Cert.AttnDhRefIdeal.nD Cert.AttnDhRefIdeal.τ).loc Cert.AttnDhRefIdeal.main_v38) = v0 c
          ∧ r.2.mem ((c.tc : Thread Cert.AttnDhRefIdeal.nD Cert.AttnDhRefIdeal.τ).loc Cert.AttnDhRefIdeal.main_v21) = v1 c
          ∧ r.2.mem ((c.tc : Thread Cert.AttnDhRefIdeal.nD Cert.AttnDhRefIdeal.τ).loc Cert.AttnDhRefIdeal.main_arg0) = m' ((c.tc : Thread Cert.AttnDhRefIdeal.nD Cert.AttnDhRefIdeal.τ).loc Cert.AttnDhRefIdeal.main_arg0)
          ∧ r.2.mem ((c.tc : Thread Cert.AttnDhRefIdeal.nD Cert.AttnDhRefIdeal.τ).loc Cert.AttnDhRefIdeal.main_arg1) = m' ((c.tc : Thread Cert.AttnDhRefIdeal.nD Cert.AttnDhRefIdeal.τ).loc Cert.AttnDhRefIdeal.main_arg1)
          ∧ r.2.mem ((c.tc : Thread Cert.AttnDhRefIdeal.nD Cert.AttnDhRefIdeal.τ).loc Cert.AttnDhRefIdeal.main_arg2) = m' ((c.tc : Thread Cert.AttnDhRefIdeal.nD Cert.AttnDhRefIdeal.τ).loc Cert.AttnDhRefIdeal.main_arg2)
          ∧ r.2.mem ((c.tc : Thread Cert.AttnDhRefIdeal.nD Cert.AttnDhRefIdeal.τ).loc Cert.AttnDhRefIdeal.main_arg3) = m' ((c.tc : Thread Cert.AttnDhRefIdeal.nD Cert.AttnDhRefIdeal.τ).loc Cert.AttnDhRefIdeal.main_arg3)
          ∧ r.2.mem ((c.tc : Thread Cert.AttnDhRefIdeal.nD Cert.AttnDhRefIdeal.τ).loc Cert.AttnDhRefIdeal.main_arg4) = m' ((c.tc : Thread Cert.AttnDhRefIdeal.nD Cert.AttnDhRefIdeal.τ).loc Cert.AttnDhRefIdeal.main_arg4))

def preserves_AttnDo_AttnDoIdeal : Prop :=
  True

def algebraic_AttnDoIdeal_AttnDoRefIdeal [hAttnDoIdeal : Cert.AttnDoIdeal.Facts] [hAttnDoRefIdeal : Cert.AttnDoRefIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.AttnDoRefIdeal.nD Cert.AttnDoRefIdeal.τ Cert.AttnDoRefIdeal.sig) → Buf (Elt Ideal) ℓ) (g' : Dev Cert.AttnDoRefIdeal.nD → PrngReg), Pre_AttnDoIdeal m →
    (∀ c : Dev Cert.AttnDoIdeal.nD,
      m' ((c.tc : Thread Cert.AttnDoRefIdeal.nD Cert.AttnDoRefIdeal.τ).loc Cert.AttnDoRefIdeal.main_arg0) = m ((c.tc : Thread Cert.AttnDoIdeal.nD Cert.AttnDoIdeal.τ).loc Cert.AttnDoIdeal.main_arg0)
      ∧ m' ((c.tc : Thread Cert.AttnDoRefIdeal.nD Cert.AttnDoRefIdeal.τ).loc Cert.AttnDoRefIdeal.main_arg1) = m ((c.tc : Thread Cert.AttnDoIdeal.nD Cert.AttnDoIdeal.τ).loc Cert.AttnDoIdeal.main_arg1)) →
    ∃ (v0 : (c : Dev Cert.AttnDoIdeal.nD) → Buf (Elt Ideal) ((c.tc : Thread Cert.AttnDoIdeal.nD Cert.AttnDoIdeal.τ).loc Cert.AttnDoIdeal.main_v0)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v0) = v0 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ θ_run (Cert.AttnDoRefIdeal.defs (F := Ideal)) (onTc (τ := Cert.AttnDoRefIdeal.τ) (Cert.AttnDoRefIdeal.main (F := Ideal))) ⟨m', fun _ => 0, g'⟩ (fun r => ∀ c : Dev Cert.AttnDoRefIdeal.nD,
          r.2.mem ((c.tc : Thread Cert.AttnDoRefIdeal.nD Cert.AttnDoRefIdeal.τ).loc Cert.AttnDoRefIdeal.main_v4) = v0 c
          ∧ r.2.mem ((c.tc : Thread Cert.AttnDoRefIdeal.nD Cert.AttnDoRefIdeal.τ).loc Cert.AttnDoRefIdeal.main_arg0) = m' ((c.tc : Thread Cert.AttnDoRefIdeal.nD Cert.AttnDoRefIdeal.τ).loc Cert.AttnDoRefIdeal.main_arg0)
          ∧ r.2.mem ((c.tc : Thread Cert.AttnDoRefIdeal.nD Cert.AttnDoRefIdeal.τ).loc Cert.AttnDoRefIdeal.main_arg1) = m' ((c.tc : Thread Cert.AttnDoRefIdeal.nD Cert.AttnDoRefIdeal.τ).loc Cert.AttnDoRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v13) = v0 c
          ∧ r.2.mem ((c.tc : Thread Cert.MixInRefIdeal.nD Cert.MixInRefIdeal.τ).loc Cert.MixInRefIdeal.main_v14) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_AttnQ_AttnQIdeal : Prop :=
  True

def algebraic_AttnQIdeal_AttnQRefIdeal [hAttnQIdeal : Cert.AttnQIdeal.Facts] [hAttnQRefIdeal : Cert.AttnQRefIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQRefIdeal.nD Cert.AttnQRefIdeal.τ Cert.AttnQRefIdeal.sig) → Buf (Elt Ideal) ℓ) (g' : Dev Cert.AttnQRefIdeal.nD → PrngReg), Pre_AttnQIdeal m →
    (∀ c : Dev Cert.AttnQIdeal.nD,
      m' ((c.tc : Thread Cert.AttnQRefIdeal.nD Cert.AttnQRefIdeal.τ).loc Cert.AttnQRefIdeal.main_arg0) = m ((c.tc : Thread Cert.AttnQIdeal.nD Cert.AttnQIdeal.τ).loc Cert.AttnQIdeal.main_arg0)
      ∧ m' ((c.tc : Thread Cert.AttnQRefIdeal.nD Cert.AttnQRefIdeal.τ).loc Cert.AttnQRefIdeal.main_arg1) = m ((c.tc : Thread Cert.AttnQIdeal.nD Cert.AttnQIdeal.τ).loc Cert.AttnQIdeal.main_arg1)
      ∧ m' ((c.tc : Thread Cert.AttnQRefIdeal.nD Cert.AttnQRefIdeal.τ).loc Cert.AttnQRefIdeal.main_arg2) = m ((c.tc : Thread Cert.AttnQIdeal.nD Cert.AttnQIdeal.τ).loc Cert.AttnQIdeal.main_arg2)) →
    ∃ (v0 : (c : Dev Cert.AttnQIdeal.nD) → Buf (Elt Ideal) ((c.tc : Thread Cert.AttnQIdeal.nD Cert.AttnQIdeal.τ).loc Cert.AttnQIdeal.main_v0_0)) (v1 : (c : Dev Cert.AttnQIdeal.nD) → Buf (Elt Ideal) ((c.tc : Thread Cert.AttnQIdeal.nD Cert.AttnQIdeal.τ).loc Cert.AttnQIdeal.main_v0_1)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v0_0) = v0 c
          ∧ r.2.mem ((c.tc : Thread Cert.AttnQIdeal.nD Cert.AttnQIdeal.τ).loc Cert.AttnQIdeal.main_v0_1) = v1 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1)
          ∧ r.2.mem ((c.tc : Thread Cert.AttnQIdeal.nD Cert.AttnQIdeal.τ).loc Cert.AttnQIdeal.main_arg2) = m ((c.tc : Thread Cert.AttnQIdeal.nD Cert.AttnQIdeal.τ).loc Cert.AttnQIdeal.main_arg2))
      ∧ θ_run (Cert.AttnQRefIdeal.defs (F := Ideal)) (onTc (τ := Cert.AttnQRefIdeal.τ) (Cert.AttnQRefIdeal.main (F := Ideal))) ⟨m', fun _ => 0, g'⟩ (fun r => ∀ c : Dev Cert.AttnQRefIdeal.nD,
          r.2.mem ((c.tc : Thread Cert.AttnQRefIdeal.nD Cert.AttnQRefIdeal.τ).loc Cert.AttnQRefIdeal.main_v14) = v0 c
          ∧ r.2.mem ((c.tc : Thread Cert.AttnQRefIdeal.nD Cert.AttnQRefIdeal.τ).loc Cert.AttnQRefIdeal.main_v15) = v1 c
          ∧ r.2.mem ((c.tc : Thread Cert.AttnQRefIdeal.nD Cert.AttnQRefIdeal.τ).loc Cert.AttnQRefIdeal.main_arg0) = m' ((c.tc : Thread Cert.AttnQRefIdeal.nD Cert.AttnQRefIdeal.τ).loc Cert.AttnQRefIdeal.main_arg0)
          ∧ r.2.mem ((c.tc : Thread Cert.AttnQRefIdeal.nD Cert.AttnQRefIdeal.τ).loc Cert.AttnQRefIdeal.main_arg1) = m' ((c.tc : Thread Cert.AttnQRefIdeal.nD Cert.AttnQRefIdeal.τ).loc Cert.AttnQRefIdeal.main_arg1)
          ∧ r.2.mem ((c.tc : Thread Cert.AttnQRefIdeal.nD Cert.AttnQRefIdeal.τ).loc Cert.AttnQRefIdeal.main_arg2) = m' ((c.tc : Thread Cert.AttnQRefIdeal.nD Cert.AttnQRefIdeal.τ).loc Cert.AttnQRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v22) = v0 c
          ∧ r.2.mem ((c.tc : Thread Cert.FfnFwdRefIdeal.nD Cert.FfnFwdRefIdeal.τ).loc Cert.FfnFwdRefIdeal.main_v23) = v1 c
          ∧ r.2.mem ((c.tc : Thread Cert.FfnFwdRefIdeal.nD Cert.FfnFwdRefIdeal.τ).loc Cert.FfnFwdRefIdeal.main_v24) = v2 c
          ∧ r.2.mem ((c.tc : Thread Cert.FfnFwdRefIdeal.nD Cert.FfnFwdRefIdeal.τ).loc Cert.FfnFwdRefIdeal.main_v25) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_AttnKv_AttnKvIdeal : Prop :=
  True

def algebraic_AttnKvIdeal_AttnKvRefIdeal [hAttnKvIdeal : Cert.AttnKvIdeal.Facts] [hAttnKvRefIdeal : Cert.AttnKvRefIdeal.Facts] : Prop :=
  ∀ (m : (ℓ : Loc Cert.AttnKvIdeal.nD Cert.AttnKvIdeal.τ Cert.AttnKvIdeal.sig) → Buf (Elt Ideal) ℓ) (g : Dev Cert.AttnKvIdeal.nD → PrngReg)
    (m' : (ℓ : Loc Cert.AttnKvRefIdeal.nD Cert.AttnKvRefIdeal.τ Cert.AttnKvRefIdeal.sig) → Buf (Elt Ideal) ℓ) (g' : Dev Cert.AttnKvRefIdeal.nD → PrngReg), Pre_AttnKvIdeal m →
    (∀ c : Dev Cert.AttnKvIdeal.nD,
      m' ((c.tc : Thread Cert.AttnKvRefIdeal.nD Cert.AttnKvRefIdeal.τ).loc Cert.AttnKvRefIdeal.main_arg0) = m ((c.tc : Thread Cert.AttnKvIdeal.nD Cert.AttnKvIdeal.τ).loc Cert.AttnKvIdeal.main_arg0)
      ∧ m' ((c.tc : Thread Cert.AttnKvRefIdeal.nD Cert.AttnKvRefIdeal.τ).loc Cert.AttnKvRefIdeal.main_arg1) = m ((c.tc : Thread Cert.AttnKvIdeal.nD Cert.AttnKvIdeal.τ).loc Cert.AttnKvIdeal.main_arg1)
      ∧ m' ((c.tc : Thread Cert.AttnKvRefIdeal.nD Cert.AttnKvRefIdeal.τ).loc Cert.AttnKvRefIdeal.main_arg2) = m ((c.tc : Thread Cert.AttnKvIdeal.nD Cert.AttnKvIdeal.τ).loc Cert.AttnKvIdeal.main_arg2)) →
    ∃ (v0 : (c : Dev Cert.AttnKvIdeal.nD) → Buf (Elt Ideal) ((c.tc : Thread Cert.AttnKvIdeal.nD Cert.AttnKvIdeal.τ).loc Cert.AttnKvIdeal.main_v0_0)) (v1 : (c : Dev Cert.AttnKvIdeal.nD) → Buf (Elt Ideal) ((c.tc : Thread Cert.AttnKvIdeal.nD Cert.AttnKvIdeal.τ).loc Cert.AttnKvIdeal.main_v0_1)),
      θ_run (Cert.AttnKvIdeal.defs (F := Ideal)) (onTc (τ := Cert.AttnKvIdeal.τ) (Cert.AttnKvIdeal.main (F := Ideal))) ⟨m, fun _ => 0, g⟩ (fun r => ∀ c : Dev Cert.AttnKvIdeal.nD,
          r.2.mem ((c.tc : Thread Cert.AttnKvIdeal.nD Cert.AttnKvIdeal.τ).loc Cert.AttnKvIdeal.main_v0_0) = v0 c
          ∧ r.2.mem ((c.tc : Thread Cert.AttnKvIdeal.nD Cert.AttnKvIdeal.τ).loc Cert.AttnKvIdeal.main_v0_1) = v1 c
          ∧ r.2.mem ((c.tc : Thread Cert.AttnKvIdeal.nD Cert.AttnKvIdeal.τ).loc Cert.AttnKvIdeal.main_arg0) = m ((c.tc : Thread Cert.AttnKvIdeal.nD Cert.AttnKvIdeal.τ).loc Cert.AttnKvIdeal.main_arg0)
          ∧ r.2.mem ((c.tc : Thread Cert.AttnKvIdeal.nD Cert.AttnKvIdeal.τ).loc Cert.AttnKvIdeal.main_arg1) = m ((c.tc : Thread Cert.AttnKvIdeal.nD Cert.AttnKvIdeal.τ).loc Cert.AttnKvIdeal.main_arg1)
          ∧ r.2.mem ((c.tc : Thread Cert.AttnKvIdeal.nD Cert.AttnKvIdeal.τ).loc Cert.AttnKvIdeal.main_arg2) = m ((c.tc : Thread Cert.AttnKvIdeal.nD Cert.AttnKvIdeal.τ).loc Cert.AttnKvIdeal.main_arg2))
      ∧ θ_run (Cert.AttnKvRefIdeal.defs (F := Ideal)) (onTc (τ := Cert.AttnKvRefIdeal.τ) (Cert.AttnKvRefIdeal.main (F := Ideal))) ⟨m', fun _ => 0, g'⟩ (fun r => ∀ c : Dev Cert.AttnKvRefIdeal.nD,
          r.2.mem ((c.tc : Thread Cert.AttnKvRefIdeal.nD Cert.AttnKvRefIdeal.τ).loc Cert.AttnKvRefIdeal.main_v13) = v0 c
          ∧ r.2.mem ((c.tc : Thread Cert.AttnKvRefIdeal.nD Cert.AttnKvRefIdeal.τ).loc Cert.AttnKvRefIdeal.main_v14) = v1 c
          ∧ r.2.mem ((c.tc : Thread Cert.AttnKvRefIdeal.nD Cert.AttnKvRefIdeal.τ).loc Cert.AttnKvRefIdeal.main_arg0) = m' ((c.tc : Thread Cert.AttnKvRefIdeal.nD Cert.AttnKvRefIdeal.τ).loc Cert.AttnKvRefIdeal.main_arg0)
          ∧ r.2.mem ((c.tc : Thread Cert.AttnKvRefIdeal.nD Cert.AttnKvRefIdeal.τ).loc Cert.AttnKvRefIdeal.main_arg1) = m' ((c.tc : Thread Cert.AttnKvRefIdeal.nD Cert.AttnKvRefIdeal.τ).loc Cert.AttnKvRefIdeal.main_arg1)
          ∧ r.2.mem ((c.tc : Thread Cert.AttnKvRefIdeal.nD Cert.AttnKvRefIdeal.τ).loc Cert.AttnKvRefIdeal.main_arg2) = m' ((c.tc : Thread Cert.AttnKvRefIdeal.nD Cert.AttnKvRefIdeal.τ).loc Cert.AttnKvRefIdeal.main_arg2))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v4) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_AttnDmn_AttnDmnIdeal : Prop :=
  True

def algebraic_AttnDmnIdeal_AttnDmnRefIdeal [hAttnDmnIdeal : Cert.AttnDmnIdeal.Facts] [hAttnDmnRefIdeal : Cert.AttnDmnRefIdeal.Facts] : Prop :=
  ∀ (m : (ℓ : Loc Cert.AttnDmnIdeal.nD Cert.AttnDmnIdeal.τ Cert.AttnDmnIdeal.sig) → Buf (Elt Ideal) ℓ) (g : Dev Cert.AttnDmnIdeal.nD → PrngReg)
    (m' : (ℓ : Loc Cert.AttnDmnRefIdeal.nD Cert.AttnDmnRefIdeal.τ Cert.AttnDmnRefIdeal.sig) → Buf (Elt Ideal) ℓ) (g' : Dev Cert.AttnDmnRefIdeal.nD → PrngReg), Pre_AttnDmnIdeal m →
    (∀ c : Dev Cert.AttnDmnIdeal.nD,
      m' ((c.tc : Thread Cert.AttnDmnRefIdeal.nD Cert.AttnDmnRefIdeal.τ).loc Cert.AttnDmnRefIdeal.main_arg0) = m ((c.tc : Thread Cert.AttnDmnIdeal.nD Cert.AttnDmnIdeal.τ).loc Cert.AttnDmnIdeal.main_arg0)
      ∧ m' ((c.tc : Thread Cert.AttnDmnRefIdeal.nD Cert.AttnDmnRefIdeal.τ).loc Cert.AttnDmnRefIdeal.main_arg1) = m ((c.tc : Thread Cert.AttnDmnIdeal.nD Cert.AttnDmnIdeal.τ).loc Cert.AttnDmnIdeal.main_arg1)) →
    ∃ (v0 : (c : Dev Cert.AttnDmnIdeal.nD) → Buf (Elt Ideal) ((c.tc : Thread Cert.AttnDmnIdeal.nD Cert.AttnDmnIdeal.τ).loc Cert.AttnDmnIdeal.main_v0)),
      θ_run (Cert.AttnDmnIdeal.defs (F := Ideal)) (onTc (τ := Cert.AttnDmnIdeal.τ) (Cert.AttnDmnIdeal.main (F := Ideal))) ⟨m, fun _ => 0, g⟩ (fun r => ∀ c : Dev Cert.AttnDmnIdeal.nD,
          r.2.mem ((c.tc : Thread Cert.AttnDmnIdeal.nD Cert.AttnDmnIdeal.τ).loc Cert.AttnDmnIdeal.main_v0) = v0 c
          ∧ r.2.mem ((c.tc : Thread Cert.AttnDmnIdeal.nD Cert.AttnDmnIdeal.τ).loc Cert.AttnDmnIdeal.main_arg0) = m ((c.tc : Thread Cert.AttnDmnIdeal.nD Cert.AttnDmnIdeal.τ).loc Cert.AttnDmnIdeal.main_arg0)
          ∧ r.2.mem ((c.tc : Thread Cert.AttnDmnIdeal.nD Cert.AttnDmnIdeal.τ).loc Cert.AttnDmnIdeal.main_arg1) = m ((c.tc : Thread Cert.AttnDmnIdeal.nD Cert.AttnDmnIdeal.τ).loc Cert.AttnDmnIdeal.main_arg1))
      ∧ θ_run (Cert.AttnDmnRefIdeal.defs (F := Ideal)) (onTc (τ := Cert.AttnDmnRefIdeal.τ) (Cert.AttnDmnRefIdeal.main (F := Ideal))) ⟨m', fun _ => 0, g'⟩ (fun r => ∀ c : Dev Cert.AttnDmnRefIdeal.nD,
          r.2.mem ((c.tc : Thread Cert.AttnDmnRefIdeal.nD Cert.AttnDmnRefIdeal.τ).loc Cert.AttnDmnRefIdeal.main_v3) = v0 c
          ∧ r.2.mem ((c.tc : Thread Cert.AttnDmnRefIdeal.nD Cert.AttnDmnRefIdeal.τ).loc Cert.AttnDmnRefIdeal.main_arg0) = m' ((c.tc : Thread Cert.AttnDmnRefIdeal.nD Cert.AttnDmnRefIdeal.τ).loc Cert.AttnDmnRefIdeal.main_arg0)
          ∧ r.2.mem ((c.tc : Thread Cert.AttnDmnRefIdeal.nD Cert.AttnDmnRefIdeal.τ).loc Cert.AttnDmnRefIdeal.main_arg1) = m' ((c.tc : Thread Cert.AttnDmnRefIdeal.nD Cert.AttnDmnRefIdeal.τ).loc Cert.AttnDmnRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v0_0)) (v1 : (c : Dev Cert.NormMemIdeal.nD) → Buf (Elt Ideal) ((c.tc : Thread Cert.NormMemIdeal.nD Cert.NormMemIdeal.τ).loc Cert.NormMemIdeal.main_v0_1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0_0) = v0 c
          ∧ r.2.mem ((c.tc : Thread Cert.NormMemIdeal.nD Cert.NormMemIdeal.τ).loc Cert.NormMemIdeal.main_v0_1) = v1 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v33) = v0 c
          ∧ r.2.mem ((c.tc : Thread Cert.NormMemRefIdeal.nD Cert.NormMemRefIdeal.τ).loc Cert.NormMemRefIdeal.main_v17) = v1 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hAttnBwd : Cert.AttnBwd.Facts) (hAttnBwdIdeal : Cert.AttnBwdIdeal.Facts) (hAttnBwdRefIdeal : Cert.AttnBwdRefIdeal.Facts) (hFfnDz : Cert.FfnDz.Facts) (hFfnDzIdeal : Cert.FfnDzIdeal.Facts) (hFfnDzRefIdeal : Cert.FfnDzRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hFfnDh : Cert.FfnDh.Facts) (hFfnDhIdeal : Cert.FfnDhIdeal.Facts) (hFfnDhRefIdeal : Cert.FfnDhRefIdeal.Facts) (hMixDw : Cert.MixDw.Facts) (hMixDwIdeal : Cert.MixDwIdeal.Facts) (hMixDwRefIdeal : Cert.MixDwRefIdeal.Facts) (hMixDh : Cert.MixDh.Facts) (hMixDhIdeal : Cert.MixDhIdeal.Facts) (hMixDhRefIdeal : Cert.MixDhRefIdeal.Facts) (hMixDy : Cert.MixDy.Facts) (hMixDyIdeal : Cert.MixDyIdeal.Facts) (hMixDyRefIdeal : Cert.MixDyRefIdeal.Facts) (hDwSq : Cert.DwSq.Facts) (hDwSqIdeal : Cert.DwSqIdeal.Facts) (hDwSqRefIdeal : Cert.DwSqRefIdeal.Facts) (hDwQ : Cert.DwQ.Facts) (hDwQIdeal : Cert.DwQIdeal.Facts) (hDwQRefIdeal : Cert.DwQRefIdeal.Facts) (hAttnDh : Cert.AttnDh.Facts) (hAttnDhIdeal : Cert.AttnDhIdeal.Facts) (hAttnDhRefIdeal : Cert.AttnDhRefIdeal.Facts) (hAttnDo : Cert.AttnDo.Facts) (hAttnDoIdeal : Cert.AttnDoIdeal.Facts) (hAttnDoRefIdeal : Cert.AttnDoRefIdeal.Facts) (hMixIn : Cert.MixIn.Facts) (hMixInIdeal : Cert.MixInIdeal.Facts) (hMixInRefIdeal : Cert.MixInRefIdeal.Facts) (hAttnQ : Cert.AttnQ.Facts) (hAttnQIdeal : Cert.AttnQIdeal.Facts) (hAttnQRefIdeal : Cert.AttnQRefIdeal.Facts) (hMixOut : Cert.MixOut.Facts) (hMixOutIdeal : Cert.MixOutIdeal.Facts) (hMixOutRefIdeal : Cert.MixOutRefIdeal.Facts) (hFfnFwd : Cert.FfnFwd.Facts) (hFfnFwdIdeal : Cert.FfnFwdIdeal.Facts) (hFfnFwdRefIdeal : Cert.FfnFwdRefIdeal.Facts) (hAttnFwd : Cert.AttnFwd.Facts) (hAttnFwdIdeal : Cert.AttnFwdIdeal.Facts) (hAttnFwdRefIdeal : Cert.AttnFwdRefIdeal.Facts) (hAttnKv : Cert.AttnKv.Facts) (hAttnKvIdeal : Cert.AttnKvIdeal.Facts) (hAttnKvRefIdeal : Cert.AttnKvRefIdeal.Facts) (hDwKv : Cert.DwKv.Facts) (hDwKvIdeal : Cert.DwKvIdeal.Facts) (hDwKvRefIdeal : Cert.DwKvRefIdeal.Facts) (hAttnDmn : Cert.AttnDmn.Facts) (hAttnDmnIdeal : Cert.AttnDmnIdeal.Facts) (hAttnDmnRefIdeal : Cert.AttnDmnRefIdeal.Facts) (hNormMem : Cert.NormMem.Facts) (hNormMemIdeal : Cert.NormMemIdeal.Facts) (hNormMemRefIdeal : Cert.NormMemRefIdeal.Facts) (hLossHead : Cert.LossHead.Facts) (hLossHeadIdeal : Cert.LossHeadIdeal.Facts) (hLossHeadRefIdeal : Cert.LossHeadRefIdeal.Facts) (hPre_finite_qk : Cert.Pre_finite_qk.Facts) (hPre_finite_dz : Cert.Pre_finite_dz.Facts),
    quiescent_AttnBwd (hAttnBwd := hAttnBwd)
    ∧ quiescent_AttnBwdIdeal (hAttnBwdIdeal := hAttnBwdIdeal)
    ∧ quiescent_AttnBwdIdeal_pre_finite_qk (hAttnBwdIdeal := hAttnBwdIdeal) (hPre_finite_qk := hPre_finite_qk)
    ∧ quiescent_AttnBwdRefIdeal (hAttnBwdRefIdeal := hAttnBwdRefIdeal)
    ∧ quiescent_AttnBwdRefIdeal_pre_finite_qk (hAttnBwdRefIdeal := hAttnBwdRefIdeal) (hPre_finite_qk := hPre_finite_qk)
    ∧ quiescent_FfnDz (hFfnDz := hFfnDz)
    ∧ quiescent_FfnDzIdeal (hFfnDzIdeal := hFfnDzIdeal)
    ∧ quiescent_FfnDzIdeal_pre_finite_dz (hFfnDzIdeal := hFfnDzIdeal) (hPre_finite_dz := hPre_finite_dz)
    ∧ quiescent_FfnDzRefIdeal (hFfnDzRefIdeal := hFfnDzRefIdeal)
    ∧ quiescent_FfnDzRefIdeal_pre_finite_dz (hFfnDzRefIdeal := hFfnDzRefIdeal) (hPre_finite_dz := hPre_finite_dz)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_MixDy (hMixDy := hMixDy)
    ∧ quiescent_MixDyIdeal (hMixDyIdeal := hMixDyIdeal)
    ∧ quiescent_MixDyRefIdeal (hMixDyRefIdeal := hMixDyRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DwQ (hDwQ := hDwQ)
    ∧ quiescent_DwQIdeal (hDwQIdeal := hDwQIdeal)
    ∧ quiescent_DwQRefIdeal (hDwQRefIdeal := hDwQRefIdeal)
    ∧ quiescent_AttnDh (hAttnDh := hAttnDh)
    ∧ quiescent_AttnDhIdeal (hAttnDhIdeal := hAttnDhIdeal)
    ∧ quiescent_AttnDhRefIdeal (hAttnDhRefIdeal := hAttnDhRefIdeal)
    ∧ quiescent_AttnDo (hAttnDo := hAttnDo)
    ∧ quiescent_AttnDoIdeal (hAttnDoIdeal := hAttnDoIdeal)
    ∧ quiescent_AttnDoRefIdeal (hAttnDoRefIdeal := hAttnDoRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_AttnQ (hAttnQ := hAttnQ)
    ∧ quiescent_AttnQIdeal (hAttnQIdeal := hAttnQIdeal)
    ∧ quiescent_AttnQRefIdeal (hAttnQRefIdeal := hAttnQRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AttnKv (hAttnKv := hAttnKv)
    ∧ quiescent_AttnKvIdeal (hAttnKvIdeal := hAttnKvIdeal)
    ∧ quiescent_AttnKvRefIdeal (hAttnKvRefIdeal := hAttnKvRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_AttnDmn (hAttnDmn := hAttnDmn)
    ∧ quiescent_AttnDmnIdeal (hAttnDmnIdeal := hAttnDmnIdeal)
    ∧ quiescent_AttnDmnRefIdeal (hAttnDmnRefIdeal := hAttnDmnRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_AttnBwd_AttnBwdIdeal
    ∧ algebraic_AttnBwdIdeal_AttnBwdRefIdeal_pre_finite_qk (hAttnBwdIdeal := hAttnBwdIdeal) (hAttnBwdRefIdeal := hAttnBwdRefIdeal) (hPre_finite_qk := hPre_finite_qk)
    ∧ preserves_FfnDz_FfnDzIdeal
    ∧ algebraic_FfnDzIdeal_FfnDzRefIdeal_pre_finite_dz (hFfnDzIdeal := hFfnDzIdeal) (hFfnDzRefIdeal := hFfnDzRefIdeal) (hPre_finite_dz := hPre_finite_dz)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_FfnDh_FfnDhIdeal
    ∧ algebraic_FfnDhIdeal_FfnDhRefIdeal (hFfnDhIdeal := hFfnDhIdeal) (hFfnDhRefIdeal := hFfnDhRefIdeal)
    ∧ preserves_MixDw_MixDwIdeal
    ∧ algebraic_MixDwIdeal_MixDwRefIdeal (hMixDwIdeal := hMixDwIdeal) (hMixDwRefIdeal := hMixDwRefIdeal)
    ∧ preserves_MixDh_MixDhIdeal
    ∧ algebraic_MixDhIdeal_MixDhRefIdeal (hMixDhIdeal := hMixDhIdeal) (hMixDhRefIdeal := hMixDhRefIdeal)
    ∧ preserves_MixDy_MixDyIdeal
    ∧ algebraic_MixDyIdeal_MixDyRefIdeal (hMixDyIdeal := hMixDyIdeal) (hMixDyRefIdeal := hMixDyRefIdeal)
    ∧ preserves_DwSq_DwSqIdeal
    ∧ algebraic_DwSqIdeal_DwSqRefIdeal (hDwSqIdeal := hDwSqIdeal) (hDwSqRefIdeal := hDwSqRefIdeal)
    ∧ preserves_DwQ_DwQIdeal
    ∧ algebraic_DwQIdeal_DwQRefIdeal (hDwQIdeal := hDwQIdeal) (hDwQRefIdeal := hDwQRefIdeal)
    ∧ preserves_AttnDh_AttnDhIdeal
    ∧ algebraic_AttnDhIdeal_AttnDhRefIdeal (hAttnDhIdeal := hAttnDhIdeal) (hAttnDhRefIdeal := hAttnDhRefIdeal)
    ∧ preserves_AttnDo_AttnDoIdeal
    ∧ algebraic_AttnDoIdeal_AttnDoRefIdeal (hAttnDoIdeal := hAttnDoIdeal) (hAttnDoRefIdeal := hAttnDoRefIdeal)
    ∧ preserves_MixIn_MixInIdeal
    ∧ algebraic_MixInIdeal_MixInRefIdeal (hMixInIdeal := hMixInIdeal) (hMixInRefIdeal := hMixInRefIdeal)
    ∧ preserves_AttnQ_AttnQIdeal
    ∧ algebraic_AttnQIdeal_AttnQRefIdeal (hAttnQIdeal := hAttnQIdeal) (hAttnQRefIdeal := hAttnQRefIdeal)
    ∧ preserves_MixOut_MixOutIdeal
    ∧ algebraic_MixOutIdeal_MixOutRefIdeal (hMixOutIdeal := hMixOutIdeal) (hMixOutRefIdeal := hMixOutRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AttnKv_AttnKvIdeal
    ∧ algebraic_AttnKvIdeal_AttnKvRefIdeal (hAttnKvIdeal := hAttnKvIdeal) (hAttnKvRefIdeal := hAttnKvRefIdeal)
    ∧ preserves_DwKv_DwKvIdeal
    ∧ algebraic_DwKvIdeal_DwKvRefIdeal (hDwKvIdeal := hDwKvIdeal) (hDwKvRefIdeal := hDwKvRefIdeal)
    ∧ preserves_AttnDmn_AttnDmnIdeal
    ∧ algebraic_AttnDmnIdeal_AttnDmnRefIdeal (hAttnDmnIdeal := hAttnDmnIdeal) (hAttnDmnRefIdeal := hAttnDmnRefIdeal)
    ∧ preserves_NormMem_NormMemIdeal
    ∧ algebraic_NormMemIdeal_NormMemRefIdeal (hNormMemIdeal := hNormMemIdeal) (hNormMemRefIdeal := hNormMemRefIdeal)
    ∧ preserves_LossHead_LossHeadIdeal
    ∧ algebraic_LossHeadIdeal_LossHeadRefIdeal (hLossHeadIdeal := hLossHeadIdeal) (hLossHeadRefIdeal := hLossHeadRefIdeal)
-- ==== Pre_finite_dz.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .bf16) (main_arg2 : FVec F S4096x2816 .bf16) (main_arg3 : FVec F S2816x1024 .bf16) : IVec S4096x1024 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := (extf .f32 · bitsLt_bf16_f32) main_arg2
  let main_v4 : FVec F S4096x2816 .f32 := Host.absf main_v3
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S2816x1024 .f32 := (extf .f32 · bitsLt_bf16_f32) main_arg3
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  (main_v2, main_v6, main_v10)
-- ==== Pre_finite_qk.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .f32) (main_arg2 : FVec F S4096x1024 .bf16) : IVec S4096x1024 1 × IVec S256x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x1024 .f32 := (extractStridedSlice S256x1024 ![0, 0] · slices_S256x2048_S256x1024_0_0) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== AttnBwd.lean ====
abbrev S4096x1024 : Shape := ⟨2, ![4096, 1024]⟩
abbrev S256x2048 : Shape := ⟨2, ![256, 2048]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S4096x1024, .bf16⟩
  | .hbm, ⟨4, _⟩ => ⟨S256x1024, .f32⟩
  | .hbm, ⟨5, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnBwdRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S256x1024, .f32⟩
  | .hbm, ⟨4, _⟩ => ⟨S256x1024, .f32⟩
  | .hbm, ⟨5, _⟩ => ⟨S4096x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x256x4096, .f32⟩
  | .hbm, ⟨52, _⟩ => ⟨S4096x4x256, .f32⟩
  | .hbm, ⟨53, _⟩ => ⟨S4096x1024, .f32⟩
  | .hbm, ⟨54, _⟩ => ⟨S4096x1024, .f32⟩
  | .hbm, ⟨55, _⟩ => ⟨S4096x4x256, .f32⟩
  | .hbm, ⟨56, _⟩ => ⟨S4x256x4096, .f32⟩
  | .hbm, ⟨57, _⟩ => ⟨S4x4096x256, .f32⟩
  | .hbm, ⟨58, _⟩ => ⟨S4x256x256, .f32⟩
  | .hbm, ⟨59, _⟩ => ⟨S256x4x256, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S_, .f32⟩
  | .hbm, ⟨70, _⟩ => ⟨S4x4096, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S_, .f32⟩
  | .hbm, ⟨75, _⟩ => ⟨S4x4096x256, .f32⟩
  | .hbm, ⟨76, _⟩ => ⟨S4x4096x256, .f32⟩
  | .hbm, ⟨77, _⟩ => ⟨S4x256x256, .f32⟩
  | .hbm, ⟨78, _⟩ => ⟨S256x4x256, .f32⟩
  | .hbm, ⟨79, _⟩ => ⟨S4x4096x256, .f32⟩
  | .hbm, ⟨80, _⟩ => ⟨S4096x4x256, .f32⟩
  | .hbm, ⟨81, _⟩ => ⟨S256x1024, .f32⟩
  | .hbm, ⟨82, _⟩ => ⟨S256x1024, .f32⟩
  | .hbm, ⟨83, _⟩ => ⟨S4096x1024, .f32⟩
  | .hbm, ⟨84, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== FfnDz.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x2816 : Shape := ⟨2, ![512, 2816]⟩
abbrev S512x256 : Shape := ⟨2, ![512, 256]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnDzRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .bf16⟩
  | .hbm, ⟨46, _⟩ => ⟨S4096x2816, .bf16⟩
  | .hbm, ⟨47, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== DwIn.lean ====
abbrev S4096x1024 : Shape := ⟨2, ![4096, 1024]⟩
abbrev S4096x2816 : Shape := ⟨2, ![4096, 2816]⟩
abbrev S1024x5632 : Shape := ⟨2, ![1024, 5632]⟩
abbrev S512x1024 : Shape := ⟨2, ![512, 1024]⟩
abbrev S512x2816 : Shape := ⟨2, ![512, 2816]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S1024x2816, .f32⟩
  | .local _ .vmem, ⟨7, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v4 : BitVec 1 := Scalar.cmpi .slt arg1 c1_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c1_i32_3 : BitVec 32 := 1#32
  let v7 : BitVec 1 := Scalar.cmpi .sge arg1 c1_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c0_i32 : BitVec 32 := 0#32
  let v1 : BitVec 32 := Scalar.select v0 arg2 c0_i32
  let c1_i32_0 : BitVec 32 := 1#32
  let v2 : BitVec 1 := Scalar.cmpi .slt arg1 c1_i32_0
  let c0_i32_1 : BitVec 32 := 0#32
  let v3 : BitVec 32 := Scalar.select v2 arg1 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg1 c1_i32
  let c0_i32 : BitVec 32 := 0#32
  let v1 : BitVec 32 := Scalar.select v0 arg2 c0_i32
  let c1_i32_0 : BitVec 32 := 1#32
  let v2 : BitVec 1 := Scalar.cmpi .sge arg1 c1_i32_0
  let c1_i32_1 : BitVec 32 := 1#32
  let v3 : BitVec 32 := Scalar.subi arg1 c1_i32_1
  let c0_i32_2 : BitVec 32 := 0#32
  let v4 : BitVec 32 := Scalar.select v2 v3 c0_i32_2
  let c0_i32_3 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInRefIdeal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S4096x5632, .bf16⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DwOut.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnDh.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S512x1024 : Shape := ⟨2, ![512, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x5632, .bf16⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S1024x2816, .bf16⟩
  | .local _ .vmem, ⟨10, _⟩ => ⟨S1024x2816, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDhRefIdeal.lean ====
abbrev S4096x1024 : Shape := ⟨2, ![4096, 1024]⟩
abbrev S1x1024 : Shape := ⟨2, ![1, 1024]⟩
abbrev S4096x2816 : Shape := ⟨2, ![4096, 2816]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x5632, .bf16⟩
  | .hbm, ⟨6, _⟩ => ⟨S4096x5632, .bf16⟩
  | .hbm, ⟨7, _⟩ => ⟨S4096x5632, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixDw.lean ====
abbrev S4096x1024 : Shape := ⟨2, ![4096, 1024]⟩
abbrev S4096x2048 : Shape := ⟨2, ![4096, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDh.lean ====
abbrev S4096x1024 : Shape := ⟨2, ![4096, 1024]⟩
abbrev S1x1024 : Shape := ⟨2, ![1, 1024]⟩
abbrev S4096x2048 : Shape := ⟨2, ![4096, 2048]⟩
abbrev S1024x2048 : Shape := ⟨2, ![1024, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2048, .bf16⟩
  | .hbm, ⟨4, _⟩ => ⟨S1024x2048, .bf16⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixDhRefIdeal.lean ====
abbrev S4096x1024 : Shape := ⟨2, ![4096, 1024]⟩
abbrev S1x1024 : Shape := ⟨2, ![1, 1024]⟩
abbrev S4096x2048 : Shape := ⟨2, ![4096, 2048]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2048, .bf16⟩
  | .hbm, ⟨4, _⟩ => ⟨S1024x2048, .bf16⟩
  | .hbm, ⟨5, _⟩ => ⟨S1024x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixDy.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDyRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwSq.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSqRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwQ.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwQRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDh.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnDhRefIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== AttnDo.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDoRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixIn.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .bf16⟩
  | .hbm, ⟨3, _⟩ => ⟨S4096x2048, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixInRefIdeal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x2048, .f32⟩
  | .hbm, ⟨19, _⟩ => ⟨S4096x2048, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AttnQ.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnQRefIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S4096x2816 : Shape := ⟨2, ![4096, 2816]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S4096x1024, .bf16⟩
  | .hbm, ⟨6, _⟩ => ⟨S4096x2816, .bf16⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdRefIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x2816, .bf16⟩
  | .hbm, ⟨41, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== AttnFwd.lean ====
abbrev S4096x1024 : Shape := ⟨2, ![4096, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S4096x4x256, .f32⟩
  | .hbm, ⟨6, _⟩ => ⟨S256x4x256, .f32⟩
  | .hbm, ⟨7, _⟩ => ⟨S256x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S4x256x4096, .f32⟩
  | .hbm, ⟨27, _⟩ => ⟨S4096x4x256, .f32⟩
  | .hbm, ⟨28, _⟩ => ⟨S4096x1024, .f32⟩
  | .hbm, ⟨29, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== AttnKv.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== AttnKvRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2048, .f32⟩
  | .hbm, ⟨19, _⟩ => ⟨S256x2048, .f32⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwKv.lean ====
abbrev S256x1024 : Shape := ⟨2, ![256, 1024]⟩
abbrev S256x2048 : Shape := ⟨2, ![256, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .f32⟩
  | .local _ .vmem, ⟨0, _⟩ => ⟨S256x1024, .bf16⟩
  | .local _ .vmem, ⟨1, _⟩ => ⟨S256x2048, .f32⟩
  | .local _ .vmem, ⟨2, _⟩ => ⟨S1024x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwKvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S2048x1024, .f32⟩
  | .hbm, ⟨7, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDmn.lean ====
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== AttnDmnRefIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Attn.Spec.lean ====
/- Softmax attention of one head and its gradient, row by row, over the extended reals: the quantities both programs'
   results are stated in. A row of queries is a function of the head's 256 columns, the keys and values functions of
   the memory slot and the column. -/
module

public import Idealize.ShloMosaic.PureOps.Ideal

@[expose] public section

noncomputable section

namespace Attn

open Idealize.ShloMosaic

/-- The row of a head: its 256 columns; there are as many memory slots. -/
abbrev Row := Fin 256 → EReal

/-- The scaled score of a query row against memory slot `m`. -/
def score (q : Row) (k : Fin 256 → Row) (m : Fin 256) : EReal :=
  (∑ x, q x * k m x) * Ideal.ofBits .f32 0x3D800000#32

/-- The row's largest score, from `-∞`. -/
def top (s : Row) : EReal := Finset.univ.fold max (Ideal.ofBits .f32 0xFF800000#32) s

/-- The unnormalised softmax weight. -/
def weight (s : Row) (m : Fin 256) : EReal := Ideal.exp (s m - top s)

/-- The softmax of a row of scores. -/
def prob (s : Row) (m : Fin 256) : EReal := Ideal.div (weight s m) (∑ x, weight s x)

/-- The cotangent of the probability of slot `m`: the output's cotangent row against the value row. -/
def dprob (o : Row) (v : Fin 256 → Row) (m : Fin 256) : EReal := ∑ x, o x * v m x

/-- The cotangent of the raw score of slot `m`, from the probabilities' cotangents `dp`. -/
def dscore (s dp : Row) (m : Fin 256) : EReal :=
  prob s m * (dp m - ∑ x, dp x * prob s x) * Ideal.ofBits .f32 0x3D800000#32

/-- Column `x` of the head that column `c` of the 1024 lies in. -/
def hcol (c : Fin 1024) (x : Fin 256) : Fin 1024 := ⟨c.val / 256 * 256 + x.val, by omega⟩

/-- In a head's own columns, the head's columns are its first one's offset and on. -/
theorem hcol_at (o : ℕ) (ho : o % 256 = 0) (d x : Fin 256) (h : o + d.val < 1024) (h' : o + x.val < 1024) :
    hcol ⟨o + d.val, h⟩ x = ⟨o + x.val, h'⟩ := by
  apply Fin.ext
  show (o + d.val) / 256 * 256 + x.val = o + x.val
  omega

/-- Rows of 1024 columns: four heads side by side. -/
abbrev Mat (n : ℕ) := Fin n → Fin 1024 → EReal

variable {n : ℕ} (Q O : Mat n) (K V : Mat 256)

/-- The scores of row `r`, in the head of column `c`. -/
def scoreRow (c : Fin 1024) (r : Fin n) : Row := score (fun x => Q r (hcol c x)) (fun m x => K m (hcol c x))

/-- The probabilities' cotangents of row `r`, in the head of column `c`. -/
def dprobRow (c : Fin 1024) (r : Fin n) : Row := dprob (fun x => O r (hcol c x)) (fun m x => V m (hcol c x))

/-- The gradient of the queries. -/
def dqAt (r : Fin n) (c : Fin 1024) : EReal := ∑ m, dscore (scoreRow Q K c r) (dprobRow O V c r) m * K m c

/-- Row `r`'s part of the gradient of the keys. -/
def dkPart (m : Fin 256) (c : Fin 1024) (r : Fin n) : EReal :=
  dscore (scoreRow Q K c r) (dprobRow O V c r) m * Q r c

/-- Row `r`'s part of the gradient of the values. -/
def dvPart (m : Fin 256) (c : Fin 1024) (r : Fin n) : EReal := prob (scoreRow Q K c r) m * O r c

end Attn

end
-- ==== Proof.Attn.Payload.lean ====
/- The values the kernel stores for each of the four heads of a tile of 512 rows, at an index: the head's gradient of the
   queries, and its addends to the gradients of the keys and the values, in the quantities of the specification. -/
module

public import proofs.«01_k».proof.Proof.Attn.Spec
public import proofs.«01_k».proof.Proof.Gen.AttnBwdIdeal.Skeleton
public import Idealize.ShloMosaic.Lib.Pointwise

@[expose] public section

set_option maxRecDepth 16384

noncomputable section

namespace Attn

open Cert.AttnBwdIdeal Cert.AttnBwdIdeal.Gen Idealize.ShloMosaic

/-- Row `r` of a head's block. -/
abbrev rowOf {n : ℕ} {f : FTy} (x : FVec Ideal ⟨2, ![n, 256]⟩ f) (r : Fin n) : Row := fun d => x (ix2 r d)

/-- The scores of row `r` of a block of queries against a block of keys. -/
abbrev scores (q : FVec Ideal S512x256 .bf16) (k : FVec Ideal S256x256 .f32) (r : Fin 512) : Row :=
  score (rowOf q r) (rowOf k)

variable (q o : FVec Ideal S512x256 .bf16) (k v a : FVec Ideal S256x256 .f32)

/-! ## Head 0 -/

theorem dv0 (m d : Fin 256) : (k0_pay5 q k o a : FVec Ideal S256x256 .f32) (ix2 m d)
    = a (ix2 m d) + ∑ r, prob (scores q k r) m * o (ix2 r d) := by
  pointwise [k0_pay5, k0_pay4, k0_pay3]
  rfl

theorem dq0 (r : Fin 512) (d : Fin 256) : (k0_pay9 (k0_pay3 k) (k0_pay6 q k v o) k0_pay7 : FVec Ideal S512x256 .bf16) (ix2 r d)
    = ∑ m, dscore (scores q k r) (dprob (rowOf o r) (rowOf v)) m * k (ix2 m d) := by
  pointwise [k0_pay9, k0_pay8, k0_pay6, k0_pay7, k0_pay4, k0_pay3]
  rfl

theorem dk0 (m d : Fin 256) : (k0_pay10 q (k0_pay6 q k v o) k0_pay7 a : FVec Ideal S256x256 .f32) (ix2 m d)
    = a (ix2 m d) + ∑ r, dscore (scores q k r) (dprob (rowOf o r) (rowOf v)) m * q (ix2 r d) := by
  pointwise [k0_pay10, k0_pay8, k0_pay6, k0_pay7, k0_pay4, k0_pay3]
  rfl

/-! ## Head 1 -/

theorem dv1 (m d : Fin 256) : (k0_pay14 q k o a : FVec Ideal S256x256 .f32) (ix2 m d)
    = a (ix2 m d) + ∑ r, prob (scores q k r) m * o (ix2 r d) := by
  pointwise [k0_pay14, k0_pay12, k0_pay11]
  rfl

theorem dq1 (r : Fin 512) (d : Fin 256) : (k0_pay16 (k0_pay11 k) (k0_pay12 q k) (k0_pay13 v o) : FVec Ideal S512x256 .bf16) (ix2 r d)
    = ∑ m, dscore (scores q k r) (dprob (rowOf o r) (rowOf v)) m * k (ix2 m d) := by
  pointwise [k0_pay16, k0_pay15, k0_pay13, k0_pay12, k0_pay11]
  rfl

theorem dk1 (m d : Fin 256) : (k0_pay17 q (k0_pay12 q k) (k0_pay13 v o) a : FVec Ideal S256x256 .f32) (ix2 m d)
    = a (ix2 m d) + ∑ r, dscore (scores q k r) (dprob (rowOf o r) (rowOf v)) m * q (ix2 r d) := by
  pointwise [k0_pay17, k0_pay15, k0_pay13, k0_pay12, k0_pay11]
  rfl

/-! ## Head 2 -/

theorem dv2 (m d : Fin 256) : (k0_pay23 o (k0_pay20 q k) (k0_pay21 q k) a : FVec Ideal S256x256 .f32) (ix2 m d)
    = a (ix2 m d) + ∑ r, prob (scores q k r) m * o (ix2 r d) := by
  pointwise [k0_pay23, k0_pay22, k0_pay21, k0_pay20, k0_pay18]
  rfl

theorem dq2 (r : Fin 512) (d : Fin 256) : (k0_pay25 (k0_pay18 k) (k0_pay19 v) o (k0_pay20 q k) (k0_pay21 q k) : FVec Ideal S512x256 .bf16) (ix2 r d)
    = ∑ m, dscore (scores q k r) (dprob (rowOf o r) (rowOf v)) m * k (ix2 m d) := by
  pointwise [k0_pay25, k0_pay24, k0_pay22, k0_pay21, k0_pay20, k0_pay19, k0_pay18]
  rfl

theorem dk2 (m d : Fin 256) : (k0_pay26 q (k0_pay19 v) o (k0_pay20 q k) (k0_pay21 q k) a : FVec Ideal S256x256 .f32) (ix2 m d)
    = a (ix2 m d) + ∑ r, dscore (scores q k r) (dprob (rowOf o r) (rowOf v)) m * q (ix2 r d) := by
  pointwise [k0_pay26, k0_pay24, k0_pay22, k0_pay21, k0_pay20, k0_pay19, k0_pay18]
  rfl

/-! ## Head 3 -/

theorem dv3 (m d : Fin 256) : (k0_pay30 q (k0_pay27 k) o a : FVec Ideal S256x256 .f32) (ix2 m d)
    = a (ix2 m d) + ∑ r, prob (scores q k r) m * o (ix2 r d) := by
  pointwise [k0_pay30, k0_pay29, k0_pay27]
  rfl

theorem dq3 (r : Fin 512) (d : Fin 256) : (k0_pay32 q (k0_pay27 k) (k0_pay28 v) o : FVec Ideal S512x256 .bf16) (ix2 r d)
    = ∑ m, dscore (scores q k r) (dprob (rowOf o r) (rowOf v)) m * k (ix2 m d) := by
  pointwise [k0_pay32, k0_pay31, k0_pay29, k0_pay28, k0_pay27]
  rfl

theorem dk3 (m d : Fin 256) : (k0_pay33 q (k0_pay27 k) (k0_pay28 v) o a : FVec Ideal S256x256 .f32) (ix2 m d)
    = a (ix2 m d) + ∑ r, dscore (scores q k r) (dprob (rowOf o r) (rowOf v)) m * q (ix2 r d) := by
  pointwise [k0_pay33, k0_pay31, k0_pay29, k0_pay28, k0_pay27]
  rfl

end Attn

end
-- ==== Proof.Attn.Tile.lean ====
/- What one grid point leaves in the three output blocks, as functions of the point's input blocks: the tile's rows of
   the gradient of the queries, and the gradients of the keys and the values with the tile's part added to what they held. -/
module

public import proofs.«01_k».proof.Proof.Attn.Payload
public import proofs.«01_k».proof.Proof.Gen.AttnBwdIdeal.Value
public import Idealize.ShloMosaic.Lib.Pipeline.CanonAppend
public import Idealize.ShloMosaic.Lib.Pointwise

@[expose] public section

set_option maxRecDepth 16384

noncomputable section

namespace Attn

open Cert.AttnBwdIdeal Cert.AttnBwdIdeal.Gen Idealize.ShloMosaic Idealize.ShloMosaic.TcCoe Idealize.ShloMosaic.Tactic
open Idealize.SL.Sem

/-! ## Blocks of 256 columns -/

section Columns

variable {R : ℕ} {e : EltTy} {Val : EltTy → Type}

/-- A load of the columns from `o` reads column `o + d` at `d`. -/
theorem ld_col (x : (⟨2, ![R, 1024]⟩ : Shape).Idx → Val e) (o : ℕ) (ho : o + 256 ≤ 1024)
    (inb : ∀ a, (![0, o] : Fin 2 → ℕ) a + (![R, 256] : Fin 2 → ℕ) a ≤ (⟨2, ![R, 1024]⟩ : Shape).size a)
    (r : Fin R) (d : Fin 256) :
    View.ld x (Rect.unit (s := ⟨2, ![R, 1024]⟩) ![0, o] ![R, 256] inb) (ix2 r d) = x (ix2 r ⟨o + d.val, by omega⟩) := by
  refine congrArg x ?_
  funext a
  match a with
  | ⟨0, _⟩ => exact Fin.ext (by show 0 + 1 * r.val = r.val; omega)
  | ⟨1, _⟩ => exact Fin.ext (by show o + 1 * d.val = o + d.val; omega)

/-- The place of a column block's index in the whole array. -/
theorem emb_col (o : ℕ) (ho : o + 256 ≤ 1024)
    (inb : ∀ a, (![0, o] : Fin 2 → ℕ) a + (![R, 256] : Fin 2 → ℕ) a ≤ (⟨2, ![R, 1024]⟩ : Shape).size a)
    (r : Fin R) (d : Fin 256) :
    (Rect.unit (s := ⟨2, ![R, 1024]⟩) ![0, o] ![R, 256] inb).emb (ix2 r d) = ix2 r ⟨o + d.val, by omega⟩ := by
  funext a
  match a with
  | ⟨0, _⟩ => exact Fin.ext (by show 0 + 1 * r.val = r.val; omega)
  | ⟨1, _⟩ => exact Fin.ext (by show o + 1 * d.val = o + d.val; omega)

/-- A load of one head's columns does not see a store of another's. -/
theorem readCov_col_skip [∀ e, Nonempty (Val e)] {sig : RefSig} {κ : Kind} {sp : Space}
    (v : View sig κ sp ⟨2, ![R, 1024]⟩ e) (o o' : ℕ) (h : o + 256 ≤ o' ∨ o' + 256 ≤ o)
    (inb : ∀ a, (![0, o] : Fin 2 → ℕ) a + (![R, 256] : Fin 2 → ℕ) a ≤ (⟨2, ![R, 1024]⟩ : Shape).size a)
    (inb' : ∀ a, (![0, o'] : Fin 2 → ℕ) a + (![R, 256] : Fin 2 → ℕ) a ≤ (⟨2, ![R, 1024]⟩ : Shape).size a)
    (w : (⟨2, ![R, 256]⟩ : Shape).Idx → Val e) (L : List (View.Piece Val ⟨2, ![R, 1024]⟩ e)) :
    v.readCov (⟨Rect.unit (s := ⟨2, ![R, 1024]⟩) ![0, o] ![R, 256] inb, w⟩ :: L)
        (Rect.unit (s := ⟨2, ![R, 1024]⟩) ![0, o'] ![R, 256] inb').toLoadRect
      = v.readCov L (Rect.unit (s := ⟨2, ![R, 1024]⟩) ![0, o'] ![R, 256] inb').toLoadRect := by
  refine View.readCov_cons_of_disjoint v _ L _ (Finset.disjoint_left.mpr fun y h₁ h₂ => ?_)
  have e₁ := (Rect.mem_set_unit (inb := inb)).mp h₁ 1
  have e₂ := (Rect.mem_set_unit (inb := inb')).mp h₂ 1
  have f₁ : o ≤ (y 1).val ∧ (y 1).val < o + 256 := e₁
  have f₂ : o' ≤ (y 1).val ∧ (y 1).val < o' + 256 := e₂
  omega

/-- A load of columns of an array stored whole is the load from the stored array. -/
theorem readCov_whole [∀ e, Nonempty (Val e)] {sig : RefSig} {κ : Kind} {sp : Space}
    (v : View sig κ sp ⟨2, ![R, 1024]⟩ e) (o : ℕ)
    (inb : ∀ a, (![0, o] : Fin 2 → ℕ) a + (![R, 256] : Fin 2 → ℕ) a ≤ (⟨2, ![R, 1024]⟩ : Shape).size a)
    (inb' : ∀ a, (![0, 0] : Fin 2 → ℕ) a + (![R, 1024] : Fin 2 → ℕ) a ≤ (⟨2, ![R, 1024]⟩ : Shape).size a)
    (w : (⟨2, ![R, 1024]⟩ : Shape).Idx → Val e) :
    v.readCov [⟨Rect.unit (s := ⟨2, ![R, 1024]⟩) ![0, 0] ![R, 1024] inb', w⟩]
        (Rect.unit (s := ⟨2, ![R, 1024]⟩) ![0, o] ![R, 256] inb).toLoadRect
      = View.ld w (Rect.unit (s := ⟨2, ![R, 1024]⟩) ![0, o] ![R, 256] inb) := by
  rw [View.readCov_eq_canon']
  have hz : (![0, 0] : Fin 2 → ℕ) = fun _ => 0 := by funext a; fin_cases a <;> rfl
  rw [show View.canon [(⟨Rect.unit (s := ⟨2, ![R, 1024]⟩) ![0, 0] ![R, 1024] inb', w⟩ : View.Piece Val ⟨2, ![R, 1024]⟩ e)] = w from
    View.canon_cons_unit_zero (S := ⟨2, ![R, 1024]⟩) hz inb' w []]

/-- Four stores, one per head, leave the array they are all blocks of, whatever was stored before. -/
theorem canon_heads [∀ e, Nonempty (Val e)] (G : (⟨2, ![R, 1024]⟩ : Shape).Idx → Val e)
    (inb0 : ∀ a, (![0, 0] : Fin 2 → ℕ) a + (![R, 256] : Fin 2 → ℕ) a ≤ (⟨2, ![R, 1024]⟩ : Shape).size a)
    (inb1 : ∀ a, (![0, 256] : Fin 2 → ℕ) a + (![R, 256] : Fin 2 → ℕ) a ≤ (⟨2, ![R, 1024]⟩ : Shape).size a)
    (inb2 : ∀ a, (![0, 512] : Fin 2 → ℕ) a + (![R, 256] : Fin 2 → ℕ) a ≤ (⟨2, ![R, 1024]⟩ : Shape).size a)
    (inb3 : ∀ a, (![0, 768] : Fin 2 → ℕ) a + (![R, 256] : Fin 2 → ℕ) a ≤ (⟨2, ![R, 1024]⟩ : Shape).size a)
    (p0 p1 p2 p3 : (⟨2, ![R, 256]⟩ : Shape).Idx → Val e) (L : List (View.Piece Val ⟨2, ![R, 1024]⟩ e))
    (g0 : ∀ (r : Fin R) (d : Fin 256), p0 (ix2 r d) = G (ix2 r ⟨0 + d.val, by omega⟩))
    (g1 : ∀ (r : Fin R) (d : Fin 256), p1 (ix2 r d) = G (ix2 r ⟨256 + d.val, by omega⟩))
    (g2 : ∀ (r : Fin R) (d : Fin 256), p2 (ix2 r d) = G (ix2 r ⟨512 + d.val, by omega⟩))
    (g3 : ∀ (r : Fin R) (d : Fin 256), p3 (ix2 r d) = G (ix2 r ⟨768 + d.val, by omega⟩)) :
    View.canon (⟨Rect.unit (s := ⟨2, ![R, 1024]⟩) ![0, 768] ![R, 256] inb3, p3⟩
      :: ⟨Rect.unit (s := ⟨2, ![R, 1024]⟩) ![0, 512] ![R, 256] inb2, p2⟩
      :: ⟨Rect.unit (s := ⟨2, ![R, 1024]⟩) ![0, 256] ![R, 256] inb1, p1⟩
      :: ⟨Rect.unit (s := ⟨2, ![R, 1024]⟩) ![0, 0] ![R, 256] inb0, p0⟩ :: L) = G := by
  have at_col : ∀ (o : ℕ) (ho : o + 256 ≤ 1024)
      (inb : ∀ a, (![0, o] : Fin 2 → ℕ) a + (![R, 256] : Fin 2 → ℕ) a ≤ (⟨2, ![R, 1024]⟩ : Shape).size a)
      (p : (⟨2, ![R, 256]⟩ : Shape).Idx → Val e)
      (g : ∀ (r : Fin R) (d : Fin 256), p (ix2 r d) = G (ix2 r ⟨o + d.val, by omega⟩))
      (x : (⟨2, ![R, 256]⟩ : Shape).Idx),
      p x = G ((Rect.unit (s := ⟨2, ![R, 1024]⟩) ![0, o] ![R, 256] inb).emb x) := by
    intro o ho inb p g x
    rw [ValueIdx.eq_ix2 x]
    exact (g _ _).trans (congrArg G (emb_col o ho inb _ _).symm)
  have mem_col : ∀ (o : ℕ)
      (inb : ∀ a, (![0, o] : Fin 2 → ℕ) a + (![R, 256] : Fin 2 → ℕ) a ≤ (⟨2, ![R, 1024]⟩ : Shape).size a)
      (y : (⟨2, ![R, 1024]⟩ : Shape).Idx), o ≤ (y 1).val → (y 1).val < o + 256 →
      y ∈ (Rect.unit (s := ⟨2, ![R, 1024]⟩) ![0, o] ![R, 256] inb).set := by
    intro o inb y hl hu
    refine Rect.mem_set_unit.mpr (Fin.forall_fin_two.mpr ⟨⟨Nat.zero_le _, ?_⟩, hl, hu⟩)
    show (y 0).val < 0 + R
    have := ValueIdx.idx2_lt0 y
    omega
  funext y
  refine View.canon_append_of_pieces G L
    [⟨Rect.unit (s := ⟨2, ![R, 1024]⟩) ![0, 768] ![R, 256] inb3, p3⟩,
      ⟨Rect.unit (s := ⟨2, ![R, 1024]⟩) ![0, 512] ![R, 256] inb2, p2⟩,
      ⟨Rect.unit (s := ⟨2, ![R, 1024]⟩) ![0, 256] ![R, 256] inb1, p1⟩,
      ⟨Rect.unit (s := ⟨2, ![R, 1024]⟩) ![0, 0] ![R, 256] inb0, p0⟩] ?_ y ?_
  · simp only [List.mem_cons, List.not_mem_nil, or_false, forall_eq_or_imp, forall_eq]
    exact ⟨at_col 768 (by omega) inb3 p3 g3, at_col 512 (by omega) inb2 p2 g2, at_col 256 (by omega) inb1 p1 g1,
      at_col 0 (by omega) inb0 p0 g0⟩
  · simp only [List.mem_cons, List.not_mem_nil, or_false, exists_eq_or_imp, exists_eq_left]
    have hy := ValueIdx.idx2_lt1 y
    by_cases h3 : 768 ≤ (y 1).val
    · exact Or.inl (mem_col 768 inb3 y h3 (by omega))
    by_cases h2 : 512 ≤ (y 1).val
    · exact Or.inr (Or.inl (mem_col 512 inb2 y h2 (by omega)))
    by_cases h1 : 256 ≤ (y 1).val
    · exact Or.inr (Or.inr (Or.inl (mem_col 256 inb1 y h1 (by omega))))
    exact Or.inr (Or.inr (Or.inr (mem_col 0 inb0 y (by omega) (by omega))))

end Columns

/-! ## The tile's values -/

/-- An array of 1024 columns as rows. -/
abbrev mat {n : ℕ} {f : FTy} (x : FVec Ideal ⟨2, ![n, 1024]⟩ f) : Mat n := fun r c => x (ix2 r c)

/-- The columns of one head of a block of 512 rows, loaded. -/
abbrev ldQ (o : ℕ) (i : ∀ a, (![0, o] : Fin 2 → ℕ) a + (![512, 256] : Fin 2 → ℕ) a ≤ S512x1024.size a)
    (x : FVec Ideal S512x1024 .bf16) : FVec Ideal S512x256 .bf16 :=
  View.ld (Val := Elt Ideal) (e' := .bf16) x (Rect.unit (s := S512x1024) ![0, o] ![512, 256] i)

/-- The columns of one head of a block of 256 rows, loaded. -/
abbrev ldM (o : ℕ) (i : ∀ a, (![0, o] : Fin 2 → ℕ) a + (![256, 256] : Fin 2 → ℕ) a ≤ S256x1024.size a)
    (x : FVec Ideal S256x1024 .f32) : FVec Ideal S256x256 .f32 :=
  View.ld (Val := Elt Ideal) (e' := .f32) x (Rect.unit (s := S256x1024) ![0, o] ![256, 256] i)

theorem ldQ_at (o : ℕ) (hb : o + 256 ≤ 1024) (i : ∀ a, (![0, o] : Fin 2 → ℕ) a + (![512, 256] : Fin 2 → ℕ) a ≤ S512x1024.size a)
    (x : FVec Ideal S512x1024 .bf16) (r : Fin 512) (d : Fin 256) :
    ldQ o i x (ix2 r d) = x (ix2 r ⟨o + d.val, by omega⟩) :=
  ld_col (R := 512) (Val := fun _ => EReal) (e := .f32) x o hb i r d

theorem ldM_at (o : ℕ) (hb : o + 256 ≤ 1024) (i : ∀ a, (![0, o] : Fin 2 → ℕ) a + (![256, 256] : Fin 2 → ℕ) a ≤ S256x1024.size a)
    (x : FVec Ideal S256x1024 .f32) (r d : Fin 256) :
    ldM o i x (ix2 r d) = x (ix2 r ⟨o + d.val, by omega⟩) :=
  ld_col (R := 256) (Val := fun _ => EReal) (e := .f32) x o hb i r d

variable (x0 x3 : FVec Ideal S512x1024 .bf16) (x1 x2 b : FVec Ideal S256x1024 .f32)

/-- The tile's rows of the gradient of the queries. -/
def dqTile : FVec Ideal S512x1024 .bf16 := fun y => dqAt (mat x0) (mat x3) (mat x1) (mat x2) (y 0) (y 1)

/-- What was held, `b`, plus the tile's part of the gradient of the keys. -/
def dkTile : FVec Ideal S256x1024 .f32 := fun y =>
  b y + ∑ r, dkPart (mat x0) (mat x3) (mat x1) (mat x2) (y 0) (y 1) r

/-- What was held, `b`, plus the tile's part of the gradient of the values. -/
def dvTile : FVec Ideal S256x1024 .f32 := fun y =>
  b y + ∑ r, dvPart (mat x0) (mat x3) (mat x1) (y 0) (y 1) r

section Heads

variable (o : ℕ) (ho : o % 256 = 0) (hb : o + 256 ≤ 1024)
  (i512 : ∀ a, (![0, o] : Fin 2 → ℕ) a + (![512, 256] : Fin 2 → ℕ) a ≤ S512x1024.size a)
  (i256 : ∀ a, (![0, o] : Fin 2 → ℕ) a + (![256, 256] : Fin 2 → ℕ) a ≤ S256x1024.size a)

include ho hb in
theorem scores_ld (r : Fin 512) (d : Fin 256) :
    scores (ldQ o i512 x0) (ldM o i256 x1) r
      = scoreRow (mat x0) (mat x1) ⟨o + d.val, by omega⟩ r := by
  unfold scores scoreRow
  congr 1
  · funext x
    rw [hcol_at o ho d x _ (by omega)]
    exact ldQ_at o hb i512 x0 r x
  · funext m x
    rw [hcol_at o ho d x _ (by omega)]
    exact ldM_at o hb i256 x1 m x

include ho hb in
theorem dprob_ld (r : Fin 512) (d : Fin 256) :
    dprob (rowOf (ldQ o i512 x3) r) (rowOf (ldM o i256 x2))
      = dprobRow (mat x3) (mat x2) ⟨o + d.val, by omega⟩ r := by
  unfold dprobRow
  congr 1
  · funext x
    rw [hcol_at o ho d x _ (by omega)]
    exact ldQ_at o hb i512 x3 r x
  · funext m x
    rw [hcol_at o ho d x _ (by omega)]
    exact ldM_at o hb i256 x2 m x

include ho hb in
/-- A head's stored block of query gradients is the tile's. -/
theorem dq_head (p : FVec Ideal S512x256 .bf16)
    (hp : ∀ (r : Fin 512) (d : Fin 256), p (ix2 r d)
      = ∑ m, dscore (scores (ldQ o i512 x0) (ldM o i256 x1) r)
          (dprob (rowOf (ldQ o i512 x3) r) (rowOf (ldM o i256 x2))) m
          * (ldM o i256 x1) (ix2 m d))
    (r : Fin 512) (d : Fin 256) : p (ix2 r d) = dqTile x0 x3 x1 x2 (ix2 r ⟨o + d.val, by omega⟩) := by
  rw [hp]
  show _ = dqAt _ _ _ _ r ⟨o + d.val, _⟩
  unfold dqAt
  refine Finset.sum_congr rfl fun m _ => ?_
  rw [scores_ld x0 x1 o ho hb i512 i256 r d, dprob_ld x3 x2 o ho hb i512 i256 r d, ldM_at o hb i256 x1 m d]

include ho hb in
/-- A head's stored block of key gradients is the tile's. -/
theorem dk_head (p : FVec Ideal S256x256 .f32)
    (hp : ∀ m d : Fin 256, p (ix2 m d) = (ldM o i256 b) (ix2 m d)
      + ∑ r, dscore (scores (ldQ o i512 x0) (ldM o i256 x1) r)
          (dprob (rowOf (ldQ o i512 x3) r) (rowOf (ldM o i256 x2))) m
          * (ldQ o i512 x0) (ix2 r d))
    (m d : Fin 256) : p (ix2 m d) = dkTile x0 x3 x1 x2 b (ix2 m ⟨o + d.val, by omega⟩) := by
  rw [hp, ldM_at o hb i256 b m d]
  show _ = b _ + ∑ r, dkPart _ _ _ _ m ⟨o + d.val, _⟩ r
  congr 1
  unfold dkPart
  refine Finset.sum_congr rfl fun r _ => ?_
  rw [scores_ld x0 x1 o ho hb i512 i256 r d, dprob_ld x3 x2 o ho hb i512 i256 r d, ldQ_at o hb i512 x0 r d]

include ho hb in
/-- A head's stored block of value gradients is the tile's. -/
theorem dv_head (p : FVec Ideal S256x256 .f32)
    (hp : ∀ m d : Fin 256, p (ix2 m d) = (ldM o i256 b) (ix2 m d)
      + ∑ r, prob (scores (ldQ o i512 x0) (ldM o i256 x1) r) m
          * (ldQ o i512 x3) (ix2 r d))
    (m d : Fin 256) : p (ix2 m d) = dvTile x0 x3 x1 b (ix2 m ⟨o + d.val, by omega⟩) := by
  rw [hp, ldM_at o hb i256 b m d]
  show _ = b _ + ∑ r, dvPart _ _ _ m ⟨o + d.val, _⟩ r
  congr 1
  unfold dvPart
  refine Finset.sum_congr rfl fun r _ => ?_
  rw [scores_ld x0 x1 o ho hb i512 i256 r d, ldQ_at o hb i512 x3 r d]

end Heads

/-! ## The blocks a point leaves -/

/-- The accumulators start at zero. -/
theorem zero1 : (k0_pay1 : FVec Ideal S256x1024 .f32) = fun _ => 0 := by
  funext y
  rw [ValueIdx.eq_ix2 y]
  pointwise [k0_pay1]

theorem zero2 : (k0_pay2 : FVec Ideal S256x1024 .f32) = fun _ => 0 := by
  funext y
  rw [ValueIdx.eq_ix2 y]
  pointwise [k0_pay2]

end Attn

end
-- ==== Proof.Attn.Points.lean ====
/- The blocks a grid point leaves in the three outputs are the tile's values: at the first point from zero, at a later one
   from what the point before left. -/
module

public import proofs.«01_k».proof.Proof.Attn.Tile

@[expose] public section

set_option maxRecDepth 16384

noncomputable section

namespace Attn

open Cert.AttnBwdIdeal Cert.AttnBwdIdeal.Gen Idealize.ShloMosaic Idealize.ShloMosaic.TcCoe Idealize.ShloMosaic.Tactic
open Idealize.SL.Sem

set_option maxHeartbeats 400000 in
theorem out_A_4 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : cond0_0 i)
    (x0 x3 : Vec Ideal S512x1024 .bf16) (x1 x2 : Vec Ideal S256x1024 .f32) :
    out0_A_4 (F := Ideal) c i a1 h1 a2 h2 a3 h3 a4 h4 a5 h5 a6 h6 a7 h7 hc0 x0 x1 x2 x3 = dqTile x0 x3 x1 x2 := by
  unfold out0_A_4
  rw [View.read_writes_eq_canon _ _ _ (cover0_A_4 c i a1 h1 a2 h2 a3 h3 a4 h4 a5 h5 a6 h6 a7 h7 hc0 x0 x1 x2 x3)]
  unfold kernelRun0_A
  dsimp only
  sl_unfold_words
  simp only [View.readAt_eq_ld, h1.read_unread, h2.read_unread, h3.read_unread, h4.read_unread]
  exact canon_heads _ _ _ _ _ _ _ _ _ _
    (dq_head x0 x3 x1 x2 0 rfl (by omega) _ _ _ (dq0 _ _ _ _))
    (dq_head x0 x3 x1 x2 256 rfl (by omega) _ _ _ (dq1 _ _ _ _))
    (dq_head x0 x3 x1 x2 512 rfl (by omega) _ _ _ (dq2 _ _ _ _))
    (dq_head x0 x3 x1 x2 768 rfl (by omega) _ _ _ (dq3 _ _ _ _))

set_option maxHeartbeats 400000 in
theorem out_A_5 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : cond0_0 i)
    (x0 x3 : Vec Ideal S512x1024 .bf16) (x1 x2 : Vec Ideal S256x1024 .f32) :
    out0_A_5 (F := Ideal) c i a1 h1 a2 h2 a3 h3 a4 h4 a5 h5 a6 h6 a7 h7 hc0 x0 x1 x2 x3 = dkTile x0 x3 x1 x2 (fun _ => 0) := by
  unfold out0_A_5
  rw [View.read_writes_eq_canon _ _ _ (cover0_A_5 c i a1 h1 a2 h2 a3 h3 a4 h4 a5 h5 a6 h6 a7 h7 hc0 x0 x1 x2 x3)]
  unfold kernelRun0_A
  dsimp only
  sl_unfold_words
  simp only [View.readAt_eq_ld, h1.read_unread, h2.read_unread, h3.read_unread, h4.read_unread]
  simp (disch := decide) only [readCov_col_skip, readCov_whole]
  rw [show (k0_pay1 : FVec Ideal S256x1024 .f32) = fun _ => 0 from zero1]
  exact canon_heads _ _ _ _ _ _ _ _ _ _
    (dk_head x0 x3 x1 x2 (fun _ => 0) 0 rfl (by omega) _ _ _ (dk0 _ _ _ _ _))
    (dk_head x0 x3 x1 x2 (fun _ => 0) 256 rfl (by omega) _ _ _ (dk1 _ _ _ _ _))
    (dk_head x0 x3 x1 x2 (fun _ => 0) 512 rfl (by omega) _ _ _ (dk2 _ _ _ _ _))
    (dk_head x0 x3 x1 x2 (fun _ => 0) 768 rfl (by omega) _ _ _ (dk3 _ _ _ _ _))

set_option maxHeartbeats 400000 in
theorem out_A_6 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : cond0_0 i)
    (x0 x3 : Vec Ideal S512x1024 .bf16) (x1 x2 : Vec Ideal S256x1024 .f32) :
    out0_A_6 (F := Ideal) c i a1 h1 a2 h2 a3 h3 a4 h4 a5 h5 a6 h6 a7 h7 hc0 x0 x1 x2 x3 = dvTile x0 x3 x1 (fun _ => 0) := by
  unfold out0_A_6
  rw [View.read_writes_eq_canon _ _ _ (cover0_A_6 c i a1 h1 a2 h2 a3 h3 a4 h4 a5 h5 a6 h6 a7 h7 hc0 x0 x1 x2 x3)]
  unfold kernelRun0_A
  dsimp only
  sl_unfold_words
  simp only [View.readAt_eq_ld, h1.read_unread, h2.read_unread, h3.read_unread, h4.read_unread]
  simp (disch := decide) only [readCov_col_skip, readCov_whole]
  rw [show (k0_pay2 : FVec Ideal S256x1024 .f32) = fun _ => 0 from zero2]
  exact canon_heads _ _ _ _ _ _ _ _ _ _
    (dv_head x0 x3 x1 (fun _ => 0) 0 rfl (by omega) _ _ _ (dv0 _ _ _ _))
    (dv_head x0 x3 x1 (fun _ => 0) 256 rfl (by omega) _ _ _ (dv1 _ _ _ _))
    (dv_head x0 x3 x1 (fun _ => 0) 512 rfl (by omega) _ _ _ (dv2 _ _ _ _))
    (dv_head x0 x3 x1 (fun _ => 0) 768 rfl (by omega) _ _ _ (dv3 _ _ _ _))

set_option maxHeartbeats 400000 in
theorem out_B_4 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : ¬cond0_0 i)
    (x0 x3 : Vec Ideal S512x1024 .bf16) (x1 x2 : Vec Ideal S256x1024 .f32) (b5 b6 : Vec Ideal S256x1024 .f32) :
    out0_B_4 (F := Ideal) c i a1 h1 a2 h2 a3 h3 a4 h4 a5 h5 a6 h6 a7 h7 hc0 x0 x1 x2 x3 b5 b6 = dqTile x0 x3 x1 x2 := by
  unfold out0_B_4
  rw [View.read_writes_eq_canon _ _ _ (cover0_B_4 c i a1 h1 a2 h2 a3 h3 a4 h4 a5 h5 a6 h6 a7 h7 hc0 x0 x1 x2 x3 b5 b6)]
  unfold kernelRun0_B
  dsimp only
  sl_unfold_words
  simp only [View.readAt_eq_ld, h1.read_unread, h2.read_unread, h3.read_unread, h4.read_unread, h6.read_unread, h7.read_unread]
  exact canon_heads _ _ _ _ _ _ _ _ _ _
    (dq_head x0 x3 x1 x2 0 rfl (by omega) _ _ _ (dq0 _ _ _ _))
    (dq_head x0 x3 x1 x2 256 rfl (by omega) _ _ _ (dq1 _ _ _ _))
    (dq_head x0 x3 x1 x2 512 rfl (by omega) _ _ _ (dq2 _ _ _ _))
    (dq_head x0 x3 x1 x2 768 rfl (by omega) _ _ _ (dq3 _ _ _ _))

set_option maxHeartbeats 400000 in
theorem out_B_5 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : ¬cond0_0 i)
    (x0 x3 : Vec Ideal S512x1024 .bf16) (x1 x2 : Vec Ideal S256x1024 .f32) (b5 b6 : Vec Ideal S256x1024 .f32) :
    out0_B_5 (F := Ideal) c i a1 h1 a2 h2 a3 h3 a4 h4 a5 h5 a6 h6 a7 h7 hc0 x0 x1 x2 x3 b5 b6 = dkTile x0 x3 x1 x2 b5 := by
  unfold out0_B_5
  rw [View.read_writes_eq_canon _ _ _ (cover0_B_5 c i a1 h1 a2 h2 a3 h3 a4 h4 a5 h5 a6 h6 a7 h7 hc0 x0 x1 x2 x3 b5 b6)]
  unfold kernelRun0_B
  dsimp only
  sl_unfold_words
  simp only [View.readAt_eq_ld, h1.read_unread, h2.read_unread, h3.read_unread, h4.read_unread, h6.read_unread, h7.read_unread]
  exact canon_heads _ _ _ _ _ _ _ _ _ _
    (dk_head x0 x3 x1 x2 b5 0 rfl (by omega) _ _ _ (dk0 _ _ _ _ _))
    (dk_head x0 x3 x1 x2 b5 256 rfl (by omega) _ _ _ (dk1 _ _ _ _ _))
    (dk_head x0 x3 x1 x2 b5 512 rfl (by omega) _ _ _ (dk2 _ _ _ _ _))
    (dk_head x0 x3 x1 x2 b5 768 rfl (by omega) _ _ _ (dk3 _ _ _ _ _))

set_option maxHeartbeats 400000 in
theorem out_B_6 (c : Dev nD) (i : grid0.Coords) (a1 : Memref sig .tc .vmem S512x1024 .bf16) (h1 : a1.IsWhole) (a2 : Memref sig .tc .vmem S256x1024 .f32) (h2 : a2.IsWhole) (a3 : Memref sig .tc .vmem S256x1024 .f32) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole) (hc0 : ¬cond0_0 i)
    (x0 x3 : Vec Ideal S512x1024 .bf16) (x1 x2 : Vec Ideal S256x1024 .f32) (b5 b6 : Vec Ideal S256x1024 .f32) :
    out0_B_6 (F := Ideal) c i a1 h1 a2 h2 a3 h3 a4 h4 a5 h5 a6 h6 a7 h7 hc0 x0 x1 x2 x3 b5 b6 = dvTile x0 x3 x1 b6 := by
  unfold out0_B_6
  rw [View.read_writes_eq_canon _ _ _ (cover0_B_6 c i a1 h1 a2 h2 a3 h3 a4 h4 a5 h5 a6 h6 a7 h7 hc0 x0 x1 x2 x3 b5 b6)]
  unfold kernelRun0_B
  dsimp only
  sl_unfold_words
  simp only [View.readAt_eq_ld, h1.read_unread, h2.read_unread, h3.read_unread, h4.read_unread, h6.read_unread, h7.read_unread]
  exact canon_heads _ _ _ _ _ _ _ _ _ _
    (dv_head x0 x3 x1 b6 0 rfl (by omega) _ _ _ (dv0 _ _ _ _))
    (dv_head x0 x3 x1 b6 256 rfl (by omega) _ _ _ (dv1 _ _ _ _))
    (dv_head x0 x3 x1 b6 512 rfl (by omega) _ _ _ (dv2 _ _ _ _))
    (dv_head x0 x3 x1 b6 768 rfl (by omega) _ _ _ (dv3 _ _ _ _))

end Attn

end
-- ==== Proof.Attn.Array.lean ====
/- The kernel's three result arrays, at an index: the gradients over all 4096 rows. A grid point takes 512 rows; the
   gradients of the keys and values gather them point after point. -/
module

public import proofs.«01_k».proof.Proof.Attn.Points

@[expose] public section

set_option maxRecDepth 16384

noncomputable section

namespace Attn

open Cert.AttnBwdIdeal Cert.AttnBwdIdeal.Gen Cert.AttnBwdIdeal.Value Idealize.ShloMosaic Idealize.ShloMosaic.TcCoe Idealize.SL.Sem

/-! ## Sums gathered block by block -/

/-- A family over 4096 rows, by the row's number. -/
def ext (f : Fin 4096 → EReal) (i : ℕ) : EReal := if h : i < 4096 then f ⟨i, h⟩ else 0

theorem sum_ext (f : Fin 4096 → EReal) : ∑ i ∈ Finset.range 4096, ext f i = ∑ r, f r := by
  rw [Finset.sum_range]
  exact Finset.sum_congr rfl fun r _ => dif_pos r.isLt

theorem sum_step (f : Fin 4096 → EReal) (g : Fin 512 → EReal) (n : ℕ) (hn : n < 8)
    (h : ∀ r : Fin 512, g r = f ⟨512 * n + r.val, by omega⟩) :
    (∑ i ∈ Finset.range (512 * n), ext f i) + ∑ r, g r = ∑ i ∈ Finset.range (512 * (n + 1)), ext f i := by
  rw [Nat.mul_succ, Finset.sum_range_add, Finset.sum_range (fun x => ext f (512 * n + x))]
  congr 1
  refine Finset.sum_congr rfl fun r _ => (h r).trans ?_
  unfold ext
  rw [dif_pos (show 512 * n + r.val < 4096 by omega)]

/-! ## The blocks a point reads -/

variable (m : (ℓ : Loc nD τ sig) → Buf (Elt Ideal) ℓ) (c : Dev nD)

/-- The arguments: the queries, the keys and values side by side, and the output's cotangent. -/
abbrev argQ : FVec Ideal S4096x1024 .bf16 := m ((c.tc : Thread nD τ).loc main_arg0)
abbrev argKV : FVec Ideal S256x2048 .f32 := m ((c.tc : Thread nD τ).loc main_arg1)
abbrev argO : FVec Ideal S4096x1024 .bf16 := m ((c.tc : Thread nD τ).loc main_arg2)

abbrev rowsQ : Mat 4096 := fun r k => argQ m c (ix2 r k)
abbrev rowsO : Mat 4096 := fun r k => argO m c (ix2 r k)
abbrev rowsK : Mat 256 := fun r k => argKV m c (ix2 r ⟨k.val, by omega⟩)
abbrev rowsV : Mat 256 := fun r k => argKV m c (ix2 r ⟨1024 + k.val, by omega⟩)

abbrev blkQ (t : Fin cfg0.N) : FVec Ideal S512x1024 .bf16 := iblk m c 0 t
abbrev blkK (t : Fin cfg0.N) : FVec Ideal S256x1024 .f32 := iblk m c 1 t
abbrev blkV (t : Fin cfg0.N) : FVec Ideal S256x1024 .f32 := iblk m c 2 t
abbrev blkO (t : Fin cfg0.N) : FVec Ideal S512x1024 .bf16 := iblk m c 3 t

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 1 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

theorem blkQ_at (t : Fin cfg0.N) (r : Fin 512) (k : Fin 1024) :
    blkQ m c t (ix2 r k) = rowsQ m c ⟨512 * t.val + r.val, by have := lt8 t; omega⟩ k := by
  unfold blkQ iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkO_at (t : Fin cfg0.N) (r : Fin 512) (k : Fin 1024) :
    blkO m c t (ix2 r k) = rowsO m c ⟨512 * t.val + r.val, by have := lt8 t; omega⟩ k := by
  unfold blkO iblk
  rw [View.read_apply]
  show V m c main_arg2 _ = m _ _
  unfold V
  congr 1
  funext a
  apply Fin.ext
  match a with
  | ⟨0, _⟩ => show win0_3.index t 0 * 512 + 1 * r.val = 512 * t.val + r.val; rw [(index3 t).1]; omega
  | ⟨1, _⟩ => show win0_3.index t 1 * 1024 + 1 * k.val = k.val; rw [(index3 t).2]; omega

theorem blkK_eq (t : Fin cfg0.N) : mat (blkK m c t) = rowsK m c := by
  funext r k
  show blkK m c t (ix2 r k) = _
  unfold blkK iblk
  rw [View.read_apply]
  show V m c main_arg1 _ = m _ _
  unfold V
  congr 1
  funext a
  apply Fin.ext
  match a with
  | ⟨0, _⟩ => show win0_1.index t 0 * 256 + 1 * r.val = r.val; rw [(index1 t).1]; omega
  | ⟨1, _⟩ => show win0_1.index t 1 * 1024 + 1 * k.val = k.val; rw [(index1 t).2]; omega

theorem blkV_eq (t : Fin cfg0.N) : mat (blkV m c t) = rowsV m c := by
  funext r k
  show blkV m c t (ix2 r k) = _
  unfold blkV iblk
  rw [View.read_apply]
  show V m c main_arg1 _ = m _ _
  unfold V
  congr 1
  funext a
  apply Fin.ext
  match a with
  | ⟨0, _⟩ => show win0_2.index t 0 * 256 + 1 * r.val = r.val; rw [(index2 t).1]; omega
  | ⟨1, _⟩ => show win0_2.index t 1 * 1024 + 1 * k.val = 1024 + k.val; rw [(index2 t).2]; omega

theorem rowQ (t : Fin cfg0.N) (r : Fin 512) :
    mat (blkQ m c t) r = rowsQ m c ⟨512 * t.val + r.val, by have := lt8 t; omega⟩ := funext fun k => blkQ_at m c t r k
theorem rowO (t : Fin cfg0.N) (r : Fin 512) :
    mat (blkO m c t) r = rowsO m c ⟨512 * t.val + r.val, by have := lt8 t; omega⟩ := funext fun k => blkO_at m c t r k

/-! ## What the accumulators hold after a point -/

/-- A row's part does not depend on which array the row stands in. -/
theorem dkPart_congr {n n' : ℕ} {Q O : Mat n} {Q' O' : Mat n'} (K V : Mat 256) (j : Fin 256) (k : Fin 1024) (r : Fin n) (r' : Fin n')
    (hq : Q r = Q' r') (ho : O r = O' r') : dkPart Q O K V j k r = dkPart Q' O' K V j k r' := by
  unfold dkPart scoreRow dprobRow
  rw [hq, ho]

theorem dvPart_congr {n n' : ℕ} {Q O : Mat n} {Q' O' : Mat n'} (K : Mat 256) (j : Fin 256) (k : Fin 1024) (r : Fin n) (r' : Fin n')
    (hq : Q r = Q' r') (ho : O r = O' r') : dvPart Q O K j k r = dvPart Q' O' K j k r' := by
  unfold dvPart scoreRow
  rw [hq, ho]

theorem dqAt_congr {n n' : ℕ} {Q O : Mat n} {Q' O' : Mat n'} (K V : Mat 256) (k : Fin 1024) (r : Fin n) (r' : Fin n')
    (hq : Q r = Q' r') (ho : O r = O' r') : dqAt Q O K V r k = dqAt Q' O' K V r' k := by
  unfold dqAt scoreRow dprobRow
  rw [hq, ho]

/-- The gradient of the keys over the rows below `n`. -/
def dkSum (n : ℕ) : FVec Ideal S256x1024 .f32 := fun y =>
  ∑ i ∈ Finset.range n, ext (dkPart (rowsQ m c) (rowsO m c) (rowsK m c) (rowsV m c) (y 0) (y 1)) i

/-- The gradient of the values over the rows below `n`. -/
def dvSum (n : ℕ) : FVec Ideal S256x1024 .f32 := fun y =>
  ∑ i ∈ Finset.range n, ext (dvPart (rowsQ m c) (rowsO m c) (rowsK m c) (y 0) (y 1)) i

theorem dkTile_step (t : Fin cfg0.N) :
    dkTile (blkQ m c t) (blkO m c t) (blkK m c t) (blkV m c t) (dkSum m c (512 * t.val)) = dkSum m c (512 * (t.val + 1)) := by
  funext y
  unfold dkTile
  rw [blkK_eq, blkV_eq]
  exact sum_step _ _ t.val (lt8 t) fun r => dkPart_congr _ _ _ _ _ _ (rowQ m c t r) (rowO m c t r)

theorem dvTile_step (t : Fin cfg0.N) :
    dvTile (blkQ m c t) (blkO m c t) (blkK m c t) (dvSum m c (512 * t.val)) = dvSum m c (512 * (t.val + 1)) := by
  funext y
  unfold dvTile
  rw [blkK_eq]
  exact sum_step _ _ t.val (lt8 t) fun r => dvPart_congr _ _ _ _ _ (rowQ m c t r) (rowO m c t r)

/-! A point's results, off the point before. -/

theorem first4 (t : Fin cfg0.N) (h : t.val % 8 = 0) :
    (outsAt0 m c t.val t.isLt).1 = dqTile (blkQ m c t) (blkO m c t) (blkK m c t) (blkV m c t) := by
  rw [outsAt0_A m c t h]
  dsimp only
  exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 3 t) (iblk m c 1 t) (iblk m c 2 t)

theorem next4 (t : Fin cfg0.N) (h : ¬t.val % 8 = 0) :
    (outsAt0 m c t.val t.isLt).1 = dqTile (blkQ m c t) (blkO m c t) (blkK m c t) (blkV m c t) := by
  rw [outsAt0_B m c t h]
  dsimp only
  exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun e => h ((hcond0_0 t).mp e)) (iblk m c 0 t) (iblk m c 3 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem first5 (t : Fin cfg0.N) (h : t.val % 8 = 0) :
    (outsAt0 m c t.val t.isLt).2.1 = dkTile (blkQ m c t) (blkO m c t) (blkK m c t) (blkV m c t) (fun _ => 0) := by
  rw [outsAt0_A m c t h]
  dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 3 t) (iblk m c 1 t) (iblk m c 2 t)

theorem next5 (t : Fin cfg0.N) (h : ¬t.val % 8 = 0) :
    (outsAt0 m c t.val t.isLt).2.1 = dkTile (blkQ m c t) (blkO m c t) (blkK m c t) (blkV m c t) (outsAt0 m c (t.val - 1) (Nat.lt_of_le_of_lt (Nat.sub_le _ _) t.isLt)).2.1 := by
  rw [outsAt0_B m c t h]
  dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun e => h ((hcond0_0 t).mp e)) (iblk m c 0 t) (iblk m c 3 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem first6 (t : Fin cfg0.N) (h : t.val % 8 = 0) :
    (outsAt0 m c t.val t.isLt).2.2 = dvTile (blkQ m c t) (blkO m c t) (blkK m c t) (fun _ => 0) := by
  rw [outsAt0_A m c t h]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 3 t) (iblk m c 1 t) (iblk m c 2 t)

theorem next6 (t : Fin cfg0.N) (h : ¬t.val % 8 = 0) :
    (outsAt0 m c t.val t.isLt).2.2 = dvTile (blkQ m c t) (blkO m c t) (blkK m c t) (outsAt0 m c (t.val - 1) (Nat.lt_of_le_of_lt (Nat.sub_le _ _) t.isLt)).2.2 := by
  rw [outsAt0_B m c t h]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun e => h ((hcond0_0 t).mp e)) (iblk m c 0 t) (iblk m c 3 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- The point whose block has a row. -/
def pointOf (r : Fin 4096) : Fin cfg0.N := ⟨r.val / 512, by have : cfg0.N = 8 := N_0; omega⟩

/-- The last point. -/
def last : Fin cfg0.N := ⟨7, by have : cfg0.N = 8 := N_0; omega⟩

theorem outs_k : ∀ (n : ℕ) (h : n < cfg0.N), (outsAt0 m c n h).2.1 = dkSum m c (512 * (n + 1))
  | 0, h => (first5 m c ⟨0, h⟩ rfl).trans (dkTile_step m c ⟨0, h⟩)
  | n + 1, h => by
    have hB : ¬(n + 1) % 8 = 0 := by have : n + 1 < 8 := lt8 ⟨n + 1, h⟩; omega
    have e := outs_k n (Nat.lt_of_succ_lt h)
    refine (next5 m c ⟨n + 1, h⟩ hB).trans ?_
    refine Eq.trans (congrArg _ ?_) (dkTile_step m c ⟨n + 1, h⟩)
    exact e

theorem outs_v : ∀ (n : ℕ) (h : n < cfg0.N), (outsAt0 m c n h).2.2 = dvSum m c (512 * (n + 1))
  | 0, h => (first6 m c ⟨0, h⟩ rfl).trans (dvTile_step m c ⟨0, h⟩)
  | n + 1, h => by
    have hB : ¬(n + 1) % 8 = 0 := by have : n + 1 < 8 := lt8 ⟨n + 1, h⟩; omega
    have e := outs_v n (Nat.lt_of_succ_lt h)
    refine (next6 m c ⟨n + 1, h⟩ hB).trans ?_
    refine Eq.trans (congrArg _ ?_) (dvTile_step m c ⟨n + 1, h⟩)
    exact e

theorem outs_q (t : Fin cfg0.N) : (outsAt0 m c t.val t.isLt).1 = dqTile (blkQ m c t) (blkO m c t) (blkK m c t) (blkV m c t) :=
  if h : t.val % 8 = 0 then first4 m c t h else next4 m c t h

/-! ## The arrays -/

/-- The gradient of the queries. -/
def resQ : FVec Ideal S4096x1024 .bf16 := fun y => dqAt (rowsQ m c) (rowsO m c) (rowsK m c) (rowsV m c) (y 0) (y 1)
/-- The gradient of the keys. -/
def resK : FVec Ideal S256x1024 .f32 := fun y => ∑ r, dkPart (rowsQ m c) (rowsO m c) (rowsK m c) (rowsV m c) (y 0) (y 1) r
/-- The gradient of the values. -/
def resV : FVec Ideal S256x1024 .f32 := fun y => ∑ r, dvPart (rowsQ m c) (rowsO m c) (rowsK m c) (y 0) (y 1) r

theorem final_q (c : Dev nD) : (dats m 0 c).arrAt 4 cfg0.N = resQ m c :=
  (dats m 0 c).arrAt_eq_of_cover 4 (resQ m c)
    (fun t _ => by
      rw [flushed4, outs_q]
      funext j
      rw [View.read_apply]
      have e : ((cfg0.win 4).blk t).view.emb j
          = (ix2 ⟨512 * t.val + (j 0).val, by have := lt8 t; have := ValueIdx.idx2_lt0 (n0 := 512) (n1 := 1024) j; omega⟩ (j 1) : S4096x1024.Idx) := by
        funext a
        apply Fin.ext
        match a with
        | ⟨0, _⟩ => show win0_4.index t 0 * 512 + 1 * (j 0).val = 512 * t.val + (j 0).val; rw [(index4 t).1]; omega
        | ⟨1, _⟩ => show win0_4.index t 1 * 1024 + 1 * (j 1).val = (j 1).val; rw [(index4 t).2]; omega
      rw [e]
      show dqAt _ _ _ _ _ _ = dqAt _ _ _ _ _ _
      rw [blkK_eq, blkV_eq]
      exact dqAt_congr _ _ _ _ _ (rowQ m c t _) (rowO m c t _))
    (fun i => ⟨pointOf (i 0), flush0_4 _, by
      have h0 : (i 0 : ℕ) < 4096 := (i 0).isLt
      have h1 : (i 1 : ℕ) < 1024 := (i 1).isLt
      have hN : cfg0.N = 8 := N_0
      show i ∈ ((View.whole main_v0_0).slice (win0_4.rect (pointOf (i 0)))).set
      rw [View.set_slice_whole, Rect.mem_set_unit]
      intro a
      match a with
      | ⟨0, _⟩ =>
        show win0_4.index _ 0 * 512 ≤ (i 0 : ℕ) ∧ (i 0 : ℕ) < win0_4.index _ 0 * 512 + 512
        rw [(index4 _).1]; unfold pointOf; dsimp only; omega
      | ⟨1, _⟩ =>
        show win0_4.index _ 1 * 1024 ≤ (i 1 : ℕ) ∧ (i 1 : ℕ) < win0_4.index _ 1 * 1024 + 1024
        rw [(index4 _).2]; omega⟩)

theorem final_k (c : Dev nD) : (dats m 0 c).arrAt 5 cfg0.N = resK m c :=
  (dats m 0 c).arrAt_eq_of_cover 5 (resK m c)
    (fun t hf => by
      have h7 : t.val = 7 := by have := (flush0_5 t).mp hf; have := lt8 t; omega
      rw [flushed5, outs_k]
      funext j
      rw [View.read_apply]
      have e : ((cfg0.win 5).blk t).view.emb j = (ix2 (j 0) (j 1) : S256x1024.Idx) := by
        funext a
        apply Fin.ext
        match a with
        | ⟨0, _⟩ => show win0_5.index t 0 * 256 + 1 * (j 0).val = (j 0).val; rw [(index5 t).1]; omega
        | ⟨1, _⟩ => show win0_5.index t 1 * 1024 + 1 * (j 1).val = (j 1).val; rw [(index5 t).2]; omega
      rw [e, h7]
      exact sum_ext _)
    (fun i => ⟨last, (flush0_5 _).mpr rfl, by
      have hN : cfg0.N = 8 := N_0
      show i ∈ ((View.whole main_v0_1).slice (win0_5.rect last)).set
      rw [View.set_slice_whole, Rect.mem_set_unit]
      intro a
      have h0 : (i 0 : ℕ) < 256 := (i 0).isLt
      have h1 : (i 1 : ℕ) < 1024 := (i 1).isLt
      match a with
      | ⟨0, _⟩ =>
        show win0_5.index _ 0 * 256 ≤ (i 0 : ℕ) ∧ (i 0 : ℕ) < win0_5.index _ 0 * 256 + 256
        rw [(index5 _).1]; omega
      | ⟨1, _⟩ =>
        show win0_5.index _ 1 * 1024 ≤ (i 1 : ℕ) ∧ (i 1 : ℕ) < win0_5.index _ 1 * 1024 + 1024
        rw [(index5 _).2]; omega⟩)

theorem final_v (c : Dev nD) : (dats m 0 c).arrAt 6 cfg0.N = resV m c :=
  (dats m 0 c).arrAt_eq_of_cover 6 (resV m c)
    (fun t hf => by
      have h7 : t.val = 7 := by have := (flush0_6 t).mp hf; have := lt8 t; omega
      rw [flushed6, outs_v]
      funext j
      rw [View.read_apply]
      have e : ((cfg0.win 6).blk t).view.emb j = (ix2 (j 0) (j 1) : S256x1024.Idx) := by
        funext a
        apply Fin.ext
        match a with
        | ⟨0, _⟩ => show win0_6.index t 0 * 256 + 1 * (j 0).val = (j 0).val; rw [(index6 t).1]; omega
        | ⟨1, _⟩ => show win0_6.index t 1 * 1024 + 1 * (j 1).val = (j 1).val; rw [(index6 t).2]; omega
      rw [e, h7]
      exact sum_ext _)
    (fun i => ⟨last, (flush0_6 _).mpr rfl, by
      have hN : cfg0.N = 8 := N_0
      show i ∈ ((View.whole main_v0_2).slice (win0_6.rect last)).set
      rw [View.set_slice_whole, Rect.mem_set_unit]
      intro a
      have h0 : (i 0 : ℕ) < 256 := (i 0).isLt
      have h1 : (i 1 : ℕ) < 1024 := (i 1).isLt
      match a with
      | ⟨0, _⟩ =>
        show win0_6.index _ 0 * 256 ≤ (i 0 : ℕ) ∧ (i 0 : ℕ) < win0_6.index _ 0 * 256 + 256
        rw [(index6 _).1]; omega
      | ⟨1, _⟩ =>
        show win0_6.index _ 1 * 1024 ≤ (i 1 : ℕ) ∧ (i 1 : ℕ) < win0_6.index _ 1 * 1024 + 1024
        rw [(index6 _).2]; omega⟩)

end Attn

end
-- ==== Proof.Math.Reals.lean ====
/- Sums, quotients and constants over the extended reals where some factor is real. -/
module

public import Idealize.ShloMosaic.PureOps.Ideal
public import Idealize.ShloMosaic.Lib.IdealHost

@[expose] public section

noncomputable section

namespace Reals

open Idealize.ShloMosaic

/-! ## Constants -/

theorem c16 : Ideal.ofBits .f32 0x41800000#32 = ((16 : ℝ) : EReal) := by
  simp [Ideal.ofBits, Ideal.ieee, -EReal.coe_mul]; norm_num

theorem cSixteenth : Ideal.ofBits .f32 0x3D800000#32 = ((1 / 16 : ℝ) : EReal) := by
  simp [Ideal.ofBits, Ideal.ieee, -EReal.coe_mul]; norm_num

theorem cNegInf : Ideal.ofBits .f32 0xFF800000#32 = ⊥ := by
  simp [Ideal.ofBits, Ideal.ieee]

theorem cInf : Ideal.ofBits .f32 0x7F800000#32 = ⊤ := by
  simp [Ideal.ofBits, Ideal.ieee]

/-- A quotient by sixteen is a product by a sixteenth. -/
theorem div16 (x : EReal) : Ideal.div x (Ideal.ofBits .f32 0x41800000#32) = x * Ideal.ofBits .f32 0x3D800000#32 := by
  rw [c16, cSixteenth]
  exact Ideal.div_coe (by norm_num) x

/-! ## Real values -/

/-- An extended real that is a real number. -/
def IsReal (x : EReal) : Prop := ∃ a : ℝ, x = (a : EReal)

theorem IsReal.of_ne {x : EReal} (h : x ≠ ⊤) (h' : x ≠ ⊥) : IsReal x := ⟨x.toReal, (EReal.coe_toReal h h').symm⟩

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {ι : Type*} {s : Finset ι} {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A sum of real numbers, as one. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Distributing a real factor -/

theorem add_mul_coe {a : ℝ} (h : 0 ≤ a) (x y : EReal) : (x + y) * (a : EReal) = x * a + y * a :=
  EReal.right_distrib_of_nonneg_of_ne_top (EReal.coe_nonneg.mpr h) (EReal.coe_ne_top a) x y

/-- A nonnegative real factor goes into any sum. -/
theorem sum_mul_coe {ι : Type*} (s : Finset ι) (f : ι → EReal) {a : ℝ} (h : 0 ≤ a) :
    (∑ i ∈ s, f i) * (a : EReal) = ∑ i ∈ s, f i * (a : EReal) := by
  classical
  induction s using Finset.induction_on with
  | empty => simp
  | insert b s hb ih => rw [Finset.sum_insert hb, Finset.sum_insert hb, add_mul_coe h, ih]

/-- A strict bound of an absolute value is no infinity: what a test of finiteness says. -/
theorem IsReal.of_abs {x : EReal} (h : max x (-x) < ⊤) : IsReal x := by
  refine IsReal.of_ne ?_ ?_
  · rintro rfl; simp at h
  · rintro rfl; simp at h

end Reals

end
-- ==== Proof.Attn.Grad.lean ====
/- The gradient of the softmax as the chain rule writes it — quotient, exponential and maximum one at a time — is the
   gradient in the probabilities, wherever the scores are real numbers. -/
module

public import proofs.«01_k».proof.Proof.Attn.Spec
public import proofs.«01_k».proof.Proof.Math.Reals

@[expose] public section

noncomputable section

namespace Attn

open Idealize.ShloMosaic Reals

/-! ## The reference's quantities -/

/-- The score, divided by the root of the head's width. -/
def rscore (q : Row) (k : Fin 256 → Row) (m : Fin 256) : EReal :=
  Ideal.div (∑ x, q x * k m x) (Ideal.ofBits .f32 0x41800000#32)

def rweight (s : Row) (m : Fin 256) : EReal :=
  Ideal.exp (s m - max (Ideal.ofBits .f32 0xFF800000#32) (Finset.univ.fold max (Ideal.ofBits .f32 0xFF800000#32) fun x => s x))

def rprob (s : Row) (m : Fin 256) : EReal := Ideal.div (rweight s m) (∑ x, rweight s x)

def rdscore (s dp : Row) (m : Fin 256) : EReal :=
  Ideal.div ((Ideal.div (dp m) (∑ x, rweight s x)
      + ∑ _x : Fin 1, -∑ x, dp x * Ideal.div 1 ((∑ y, rweight s y) * ∑ y, rweight s y) * rweight s x) * rweight s m)
    (Ideal.ofBits .f32 0x41800000#32)

/-! ## They are the same -/

theorem rscore_eq (q : Row) (k : Fin 256 → Row) : rscore q k = score q k := funext fun _ => div16 _

theorem rweight_eq (s : Row) : rweight s = weight s := by
  funext m
  unfold rweight weight top
  rw [cNegInf, max_eq_right bot_le]

theorem rprob_eq (s : Row) : rprob s = prob s := by
  funext m
  unfold rprob prob
  rw [rweight_eq]

/-- The largest of finitely many real numbers is one. -/
theorem top_real (s : Row) (h : ∀ m, IsReal (s m)) : IsReal (top s) := by
  unfold top
  rw [cNegInf]
  have hne : ∀ (t : Finset (Fin 256)), (t = ∅ ∧ t.fold max ⊥ s = ⊥) ∨ IsReal (t.fold max ⊥ s) := by
    intro t
    induction t using Finset.induction_on with
    | empty => exact Or.inl ⟨rfl, rfl⟩
    | insert a t ha ih =>
      right
      rw [Finset.fold_insert ha]
      rcases ih with ⟨_, e⟩ | e
      · rw [e, max_eq_left bot_le]; exact h a
      · rcases max_choice (s a) (t.fold max ⊥ s) with h' | h' <;> rw [h']
        · exact h a
        · exact e
  exact (hne Finset.univ).resolve_left fun e => Finset.univ_nonempty.ne_empty e.1

/-- A weight is a positive real number. -/
theorem weight_real (s : Row) (h : ∀ m, IsReal (s m)) (m : Fin 256) : ∃ e : ℝ, 0 < e ∧ weight s m = (e : EReal) := by
  obtain ⟨a, ha⟩ := h m
  obtain ⟨b, hb⟩ := top_real s h
  refine ⟨Real.exp (a - b), Real.exp_pos _, ?_⟩
  unfold weight
  rw [ha, hb, ← EReal.coe_sub]
  rfl

/-- The gradients of the scores agree, whatever the probabilities' cotangents. -/
theorem rdscore_eq (s dp : Row) (h : ∀ m, IsReal (s m)) : rdscore s dp = dscore s dp := by
  choose e he hw using weight_real s h
  have hw' : weight s = fun m => (e m : EReal) := funext hw
  have hL : 0 < ∑ x, e x := Finset.sum_pos (fun x _ => he x) Finset.univ_nonempty
  obtain ⟨L, hLd⟩ : ∃ L, L = ∑ x, e x := ⟨_, rfl⟩
  rw [← hLd] at hL
  have hsum : ∑ x, weight s x = (L : EReal) := by rw [hw', hLd, coe_sum]
  have hp : ∀ m, prob s m = ((e m * (1 / L) : ℝ) : EReal) := fun m => by
    unfold prob
    rw [hsum, hw, Ideal.div_coe hL.ne', EReal.coe_mul]
  have hr : 0 ≤ 1 / L := by positivity
  funext m
  unfold rdscore dscore
  rw [rweight_eq, hsum, ← EReal.coe_mul, Ideal.div_coe hL.ne', Ideal.div_coe (mul_pos hL hL).ne', div16, hw m, hp m]
  congr 1
  simp only [hp, hw, Finset.univ_unique, Finset.sum_const, Finset.card_singleton, one_smul, one_mul]
  have e1 : ∑ x, dp x * ((1 / (L * L) : ℝ) : EReal) * (e x : EReal) = (∑ x, dp x * ((e x * (1 / L) : ℝ) : EReal)) * ((1 / L : ℝ) : EReal) := by
    rw [sum_mul_coe _ _ hr]
    refine Finset.sum_congr rfl fun x _ => ?_
    rw [mul_assoc, mul_assoc, ← EReal.coe_mul, ← EReal.coe_mul]
    congr 2
    field_simp
  rw [e1, ← EReal.neg_mul, ← add_mul_coe hr, mul_assoc, ← EReal.coe_mul, mul_comm, sub_eq_add_neg, mul_comm (1 / L)]

/-! ## With the rows of the whole arrays -/

variable {n : ℕ} (Q O : Mat n) (K V : Mat 256)

def rscoreRow (c : Fin 1024) (r : Fin n) : Row := rscore (fun x => Q r (hcol c x)) (fun m x => K m (hcol c x))

theorem rscoreRow_eq : rscoreRow Q K = scoreRow Q K := funext fun _ => funext fun _ => rscore_eq _ _

theorem score_real (hQ : ∀ r c, IsReal (Q r c)) (hK : ∀ r c, IsReal (K r c)) (c : Fin 1024) (r : Fin n) (m : Fin 256) :
    IsReal (scoreRow Q K c r m) := by
  unfold scoreRow score
  exact (IsReal.sum fun x => (hQ _ _).mul (hK _ _)).mul ⟨_, cSixteenth⟩

theorem rdscoreRow_eq (hQ : ∀ r c, IsReal (Q r c)) (hK : ∀ r c, IsReal (K r c)) (c : Fin 1024) (r : Fin n) :
    rdscore (rscoreRow Q K c r) (dprobRow O V c r) = dscore (scoreRow Q K c r) (dprobRow O V c r) := by
  rw [rscoreRow_eq]
  exact rdscore_eq _ _ (score_real Q K hQ hK c r)

end Attn

end
-- ==== Proof.Attn.Reference.lean ====
/- The reference's three results at an index: the gradients the kernel's arrays hold, wherever the queries and keys are
   finite. -/
module

public import proofs.«01_k».proof.Proof.Attn.Grad
public import proofs.«01_k».proof.Proof.Gen.AttnBwdRefIdeal.Run
public import proofs.«01_k».proof.Proof.Gen.Pre_finite_qk
public import Idealize.ShloMosaic.Lib.Pointwise

@[expose] public section

set_option maxRecDepth 16384

noncomputable section

namespace Attn

open Cert.AttnBwdRefIdeal Cert.AttnBwdRefIdeal.Gen Cert.AttnBwdRefIdeal.Value Idealize.ShloMosaic Idealize.ShloMosaic.TcCoe Idealize.SL.Sem Reals

/-! ## The precondition -/

/-- A passed test of finiteness. -/
theorem real_of_test {x : EReal} (e : Ideal.cmp .olt (max x (-x)) (Ideal.ofBits .f32 0x7F800000#32) = 1#1) : IsReal x := by
  refine IsReal.of_abs ?_
  by_contra hc
  rw [cInf] at e
  simp [Ideal.cmp, hc] at e

theorem pre_q (Q : FVec Ideal ⟨2, ![4096, 1024]⟩ .bf16) (KV : FVec Ideal ⟨2, ![256, 2048]⟩ .f32) (O : FVec Ideal ⟨2, ![4096, 1024]⟩ .bf16)
    (h : (Cert.Pre_finite_qk.fn (F := Ideal) Q KV O).1 = fun _ => 1#1) (r : Fin 4096) (k : Fin 1024) : IsReal (Q (ix2 r k)) :=
  real_of_test (congrFun h (ix2 r k))

theorem pre_k (Q : FVec Ideal ⟨2, ![4096, 1024]⟩ .bf16) (KV : FVec Ideal ⟨2, ![256, 2048]⟩ .f32) (O : FVec Ideal ⟨2, ![4096, 1024]⟩ .bf16)
    (h : (Cert.Pre_finite_qk.fn (F := Ideal) Q KV O).2 = fun _ => 1#1) (r : Fin 256) (k : Fin 1024) :
    IsReal (KV (ix2 r ⟨k.val, by omega⟩)) := by
  have e := congrFun h (ix2 r k)
  unfold Cert.Pre_finite_qk.fn at e
  dsimp only at e
  have hi : (extractStridedSlice (⟨2, ![256, 1024]⟩ : Shape) ![0, 0] KV Cert.Pre_finite_qk.Gen.slices_S256x2048_S256x1024_0_0) (ix2 r k)
      = KV (ix2 r ⟨k.val, by omega⟩) := by
    pointwise []
  refine real_of_test ?_
  rw [← hi]
  exact e

/-! ## The intermediate arrays, a head to each leading index -/

/-- The scores. -/
def hS (Q : FVec Ideal S4096x1024 .bf16) (KV : FVec Ideal S256x2048 .f32) : FVec Ideal S4x4096x256 .f32 :=
  Host.divf (Host.dotGeneral dot_S4096x4x256_S256x4x256_S4x4096x256_2_2_0_0_1_1 none (shapeCast _ (extf .f32 Q bitsLt_bf16_f32) shapeCasts_S4096x1024_S4096x4x256) (shapeCast _ (extractStridedSlice S256x1024 ![0, 0] KV slices_S256x2048_S256x1024_0_0) shapeCasts_S256x1024_S256x4x256)) (broadcastInDim S4x4096x256 ![] bcast_S_S4x4096x256 (constant S_ .f32 0x41800000#32))

/-- The rows' largest scores. -/
def hM (Q : FVec Ideal S4096x1024 .bf16) (KV : FVec Ideal S256x2048 .f32) : FVec Ideal S4x4096 .f32 :=
  Host.reduce FloatOps.maximumf (hS Q KV) (constant S_ .f32 0xFF800000#32) reducesTo_S4x4096x256_S4x4096_d2 h_S_

/-- The unnormalised weights. -/
def hE (Q : FVec Ideal S4096x1024 .bf16) (KV : FVec Ideal S256x2048 .f32) : FVec Ideal S4x4096x256 .f32 :=
  Host.exp (subf (hS Q KV) (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) (hM Q KV)))))

/-- Their sums. -/
def hL (Q : FVec Ideal S4096x1024 .bf16) (KV : FVec Ideal S256x2048 .f32) : FVec Ideal S4x4096 .f32 :=
  Host.reduceAdd (hE Q KV) (constant S_ .f32 0x00000000#32) reducesTo_S4x4096x256_S4x4096_d2 h_S_

/-- The probabilities' cotangents. -/
def hP (DO : FVec Ideal S4096x1024 .bf16) (KV : FVec Ideal S256x2048 .f32) : FVec Ideal S4x4096x256 .f32 :=
  Host.dotGeneral dot_S4x256x4096_S256x4x256_S4x4096x256_1_2_2_0_0_1 none (transpose S4x256x4096 [1, 2, 0] (shapeCast _ (extf .f32 DO bitsLt_bf16_f32) shapeCasts_S4096x1024_S4096x4x256) transposes_S4096x4x256_S4x256x4096_1_2_0) (shapeCast _ (extractStridedSlice S256x1024 ![0, 1024] KV slices_S256x2048_S256x1024_0_1024) shapeCasts_S256x1024_S256x4x256)

/-- The cotangents' weighted sums, negated. -/
def hN (Q : FVec Ideal S4096x1024 .bf16) (KV : FVec Ideal S256x2048 .f32) (DO : FVec Ideal S4096x1024 .bf16) : FVec Ideal S4x4096 .f32 :=
  Host.reduceAdd (Host.negf (shapeCast _ (Host.reduceAdd (mulf (mulf (hP DO KV) (broadcastInDim S4x4096x256 ![0, 1, 2] bcast_S4x4096x1_S4x4096x256_0_1_2 (Host.divf (broadcastInDim S4x4096x1 ![] bcast_S_S4x4096x1 (constant S_ .f32 0x3F800000#32)) (mulf (broadcastInDim S4x4096x1 ![0, 1] bcast_S4x4096_S4x4096x1_0_1 (hL Q KV)) (broadcastInDim S4x4096x1 ![0, 1] bcast_S4x4096_S4x4096x1_0_1 (hL Q KV)))))) (hE Q KV)) (constant S_ .f32 0x00000000#32) reducesTo_S4x4096x256_S4x4096_d2 h_S_) shapeCasts_S4x4096_S4x4096x1)) (constant S_ .f32 0x00000000#32) reducesTo_S4x4096x1_S4x4096_d2 h_S_

/-- The scores' cotangents. -/
def hD (Q : FVec Ideal S4096x1024 .bf16) (KV : FVec Ideal S256x2048 .f32) (DO : FVec Ideal S4096x1024 .bf16) : FVec Ideal S4x4096x256 .f32 :=
  Host.divf (mulf (addf (Host.divf (hP DO KV) (broadcastInDim S4x4096x256 ![0, 1, 2] bcast_S4x4096x1_S4x4096x256_0_1_2 (broadcastInDim S4x4096x1 ![0, 1] bcast_S4x4096_S4x4096x1_0_1 (hL Q KV)))) (broadcastInDim S4x4096x256 ![0, 1] bcast_S4x4096_S4x4096x256_0_1 (hN Q KV DO))) (hE Q KV)) (broadcastInDim S4x4096x256 ![] bcast_S_S4x4096x256 (constant S_ .f32 0x41800000#32))

variable (Q : FVec Ideal S4096x1024 .bf16) (KV : FVec Ideal S256x2048 .f32) (DO : FVec Ideal S4096x1024 .bf16)

/-- A row's scores in head `h`. -/
abbrev sRow (h : Fin 4) (r : Fin 4096) : Row :=
  rscore (fun x => Q (ix2 r ⟨h.val * 256 + x.val, by omega⟩)) fun j x => KV (ix2 j ⟨h.val * 256 + x.val, by omega⟩)

/-- A row's cotangents in head `h`. -/
abbrev pRow (h : Fin 4) (r : Fin 4096) : Row :=
  dprob (fun x => DO (ix2 r ⟨h.val * 256 + x.val, by omega⟩)) fun j x => KV (ix2 j ⟨1024 + (h.val * 256 + x.val), by omega⟩)

theorem hS_at (h : Fin 4) (r : Fin 4096) (j : Fin 256) : hS Q KV (ix3 h r j) = sRow Q KV h r j := by
  unfold hS
  pointwise []
  rfl

/-- A host maximum along the last of three axes. -/
theorem hostMax_at {n0 n1 n2 : ℕ} (h : (⟨3, ![n0, n1, n2]⟩ : Shape).ReducesTo [2] ⟨2, ![n0, n1]⟩)
    (S : FVec Ideal ⟨3, ![n0, n1, n2]⟩ .f32) (c : FVec Ideal ⟨0, ![]⟩ .f32) (hu) (i : Fin n0) (j : Fin n1) :
    Host.reduce FloatOps.maximumf S c h hu (ix2 i j)
      = Finset.univ.fold max (c (Shape.Idx.first hu)) fun x : Fin n2 => S (ix3 i j x) := by
  rw [Host.reduce_eq_fold, Shape.ReducesTo.fold_fiber_r3_a2]
  rfl

theorem hM_at (h : Fin 4) (r : Fin 4096) : hM Q KV (ix2 h r)
    = Finset.univ.fold max (Ideal.ofBits .f32 0xFF800000#32) fun x : Fin 256 => hS Q KV (ix3 h r x) := by
  unfold hM
  rw [hostMax_at, ValueIdx.constant_apply]

theorem weights_at (S : FVec Ideal S4x4096x256 .f32) (X : FVec Ideal S4x4096 .f32) (h : Fin 4) (r : Fin 4096) (j : Fin 256) :
    Host.exp (subf S (broadcastInDim S4x4096x256 ![0, 1, 2] bcast_S4x4096x1_S4x4096x256_0_1_2
      (broadcastInDim S4x4096x1 ![0, 1] bcast_S4x4096_S4x4096x1_0_1 X))) (ix3 h r j)
      = Ideal.exp (S (ix3 h r j) - X (ix2 h r)) := by
  pointwise []

theorem max_at (X : FVec Ideal S4x4096 .f32) (w : BitVec (FTy.bits .f32)) (i : S4x4096.Idx) :
    maximumf (broadcastInDim S4x4096 ![] bcast_S_S4x4096 (constant S_ .f32 w)) X i = max (Ideal.ofBits .f32 w) (X i) := by
  rfl

theorem hE_eq (h : Fin 4) (r : Fin 4096) (j : Fin 256) : hE Q KV (ix3 h r j)
    = Ideal.exp (hS Q KV (ix3 h r j) - max (Ideal.ofBits .f32 0xFF800000#32) (hM Q KV (ix2 h r))) := by
  unfold hE
  rw [weights_at, max_at]

theorem hE_at (h : Fin 4) (r : Fin 4096) (j : Fin 256) : hE Q KV (ix3 h r j) = rweight (sRow Q KV h r) j := by
  rw [hE_eq, hM_at]
  unfold rweight
  simp only [hS_at]

theorem hL_at (h : Fin 4) (r : Fin 4096) : hL Q KV (ix2 h r) = ∑ j, rweight (sRow Q KV h r) j := by
  unfold hL
  pointwise []
  exact Finset.sum_congr rfl fun j _ => hE_at Q KV h r j

theorem hP_at (h : Fin 4) (r : Fin 4096) (j : Fin 256) : hP DO KV (ix3 h r j) = pRow KV DO h r j := by
  unfold hP
  pointwise []
  rfl

theorem hN_at (h : Fin 4) (r : Fin 4096) : hN Q KV DO (ix2 h r) = ∑ _x : Fin 1, -∑ j, pRow KV DO h r j
    * Ideal.div 1 ((∑ y, rweight (sRow Q KV h r) y) * ∑ y, rweight (sRow Q KV h r) y) * rweight (sRow Q KV h r) j := by
  unfold hN
  rw [← hL_at]
  simp only [← hE_at, ← hP_at]
  pointwise []

theorem hD_at (h : Fin 4) (r : Fin 4096) (j : Fin 256) : hD Q KV DO (ix3 h r j) = rdscore (sRow Q KV h r) (pRow KV DO h r) j := by
  unfold hD rdscore
  rw [← hN_at, ← hE_at, ← hP_at, ← hL_at]
  pointwise []

/-! ## The results -/

abbrev matQ : Mat 4096 := fun r k => Q (ix2 r k)
abbrev matK : Mat 256 := fun r k => KV (ix2 r ⟨k.val, by omega⟩)
abbrev matV : Mat 256 := fun r k => KV (ix2 r ⟨1024 + k.val, by omega⟩)

def outQ : FVec Ideal S4096x1024 .bf16 :=
  truncf .bf16 (shapeCast _ (transpose S4096x4x256 [1, 0, 2] (Host.dotGeneral dot_S4x4096x256_S256x4x256_S4x4096x256_2_0_1_2_0_1 none (hD Q KV DO) (shapeCast _ (extractStridedSlice S256x1024 ![0, 0] KV slices_S256x2048_S256x1024_0_0) shapeCasts_S256x1024_S256x4x256)) transposes_S4x4096x256_S4096x4x256_1_0_2) shapeCasts_S4096x4x256_S4096x1024) bitsLt_bf16_f32

def outK : FVec Ideal S256x1024 .f32 :=
  shapeCast _ (transpose S256x4x256 [1, 0, 2] (Host.dotGeneral dot_S4x4096x256_S4096x4x256_S4x256x256_1_0_2_2_0_1 none (hD Q KV DO) (shapeCast _ (extf .f32 Q bitsLt_bf16_f32) shapeCasts_S4096x1024_S4096x4x256)) transposes_S4x256x256_S256x4x256_1_0_2) shapeCasts_S256x4x256_S256x1024

def outV : FVec Ideal S256x1024 .f32 :=
  shapeCast _ (transpose S256x4x256 [2, 0, 1] (Host.dotGeneral dot_S4x256x4096_S4x4096x256_S4x256x256_2_1_1_2_0_0 none (transpose S4x256x4096 [1, 2, 0] (shapeCast _ (extf .f32 DO bitsLt_bf16_f32) shapeCasts_S4096x1024_S4096x4x256) transposes_S4096x4x256_S4x256x4096_1_2_0) (Host.divf (hE Q KV) (broadcastInDim S4x4096x256 ![0, 1, 2] bcast_S4x4096x1_S4x4096x256_0_1_2 (broadcastInDim S4x4096x1 ![0, 1] bcast_S4x4096_S4x4096x1_0_1 (hL Q KV))))) transposes_S4x256x256_S256x4x256_2_0_1) shapeCasts_S256x4x256_S256x1024

theorem outQ_at (r : Fin 4096) (k : Fin 1024) : outQ Q KV DO (ix2 r k)
    = ∑ j, rdscore (rscoreRow (matQ Q) (matK KV) k r) (dprobRow (matQ DO) (matV KV) k r) j * matK KV j k := by
  unfold outQ
  pointwise []
  refine Finset.sum_congr rfl fun j _ => ?_
  rw [hD_at]
  rfl

theorem outK_at (j : Fin 256) (k : Fin 1024) : outK Q KV DO (ix2 j k)
    = ∑ r, rdscore (rscoreRow (matQ Q) (matK KV) k r) (dprobRow (matQ DO) (matV KV) k r) j * matQ Q r k := by
  unfold outK
  pointwise []
  refine Finset.sum_congr rfl fun j _ => ?_
  rw [hD_at]
  rfl

theorem outV_at (j : Fin 256) (k : Fin 1024) : outV Q KV DO (ix2 j k)
    = ∑ r, matQ DO r k * rprob (rscoreRow (matQ Q) (matK KV) k r) j := by
  unfold outV
  pointwise []
  refine Finset.sum_congr rfl fun j _ => ?_
  rw [hE_at, hL_at]
  rfl

end Attn

end
-- ==== Proof.Attn.Match.lean ====
/- The kernel's gradients are the reference's: both result arrays at an index, for real queries and keys. -/
module

public import proofs.«01_k».proof.Proof.Attn.Array
public import proofs.«01_k».proof.Proof.Attn.Reference

@[expose] public section

set_option maxRecDepth 16384

noncomputable section

namespace Attn

open Cert.AttnBwdIdeal Idealize.ShloMosaic Idealize.ShloMosaic.TcCoe Idealize.SL.Sem Reals

variable (m : (ℓ : Loc nD τ sig) → Buf (Elt Ideal) ℓ) (c : Dev nD)

/-- The gradient of the queries. -/
theorem outQ_match (hQ : ∀ r k, IsReal (rowsQ m c r k)) (hK : ∀ r k, IsReal (rowsK m c r k)) :
    outQ (argQ m c) (argKV m c) (argO m c) = resQ m c := by
  funext y
  obtain ⟨i, j, rfl⟩ : ∃ (i : Fin 4096) (j : Fin 1024), y = ix2 i j := ⟨y 0, y 1, ValueIdx.eq_ix2 y⟩
  refine (outQ_at _ _ _ i j).trans ?_
  show _ = ∑ x, dscore (scoreRow (rowsQ m c) (rowsK m c) j i) (dprobRow (rowsO m c) (rowsV m c) j i) x * rowsK m c x j
  refine Finset.sum_congr rfl fun x _ => ?_
  exact congrArg (fun s : Row => s x * rowsK m c x j) (rdscoreRow_eq (rowsQ m c) (rowsO m c) (rowsK m c) (rowsV m c) hQ hK j i)

/-- The gradient of the keys. -/
theorem outK_match (hQ : ∀ r k, IsReal (rowsQ m c r k)) (hK : ∀ r k, IsReal (rowsK m c r k)) :
    outK (argQ m c) (argKV m c) (argO m c) = resK m c := by
  funext y
  obtain ⟨i, j, rfl⟩ : ∃ (i : Fin 256) (j : Fin 1024), y = ix2 i j := ⟨y 0, y 1, ValueIdx.eq_ix2 y⟩
  refine (outK_at _ _ _ i j).trans ?_
  show _ = ∑ r, dscore (scoreRow (rowsQ m c) (rowsK m c) j r) (dprobRow (rowsO m c) (rowsV m c) j r) i * rowsQ m c r j
  refine Finset.sum_congr rfl fun r _ => ?_
  exact congrArg (fun s : Row => s i * rowsQ m c r j) (rdscoreRow_eq (rowsQ m c) (rowsO m c) (rowsK m c) (rowsV m c) hQ hK j r)

/-- The gradient of the values. -/
theorem outV_match : outV (argQ m c) (argKV m c) (argO m c) = resV m c := by
  funext y
  obtain ⟨i, j, rfl⟩ : ∃ (i : Fin 256) (j : Fin 1024), y = ix2 i j := ⟨y 0, y 1, ValueIdx.eq_ix2 y⟩
  refine (outV_at _ _ _ i j).trans ?_
  show _ = ∑ r, prob (scoreRow (rowsQ m c) (rowsK m c) j r) i * rowsO m c r j
  refine Finset.sum_congr rfl fun r _ => ?_
  rw [rscoreRow_eq, rprob_eq, mul_comm]

end Attn

end
-- ==== Proof.Math.Blocks.lean ====
/- Rectangular blocks of a matrix: what a load of one reads, and where one of its indices lies. -/
module

public import Idealize.ShloMosaic.Lib.Pointwise
public import Idealize.ShloMosaic.Lib.Pipeline.Value

@[expose] public section

noncomputable section

namespace Blocks

open Idealize.ShloMosaic

variable {M N A B : ℕ} {e : EltTy} {Val : EltTy → Type}

/-- The place of a block's index in the whole matrix. -/
theorem emb_at (p o : ℕ) (hp : p + A ≤ M) (ho : o + B ≤ N)
    (inb : ∀ a, (![p, o] : Fin 2 → ℕ) a + (![A, B] : Fin 2 → ℕ) a ≤ (⟨2, ![M, N]⟩ : Shape).size a) (r : Fin A) (d : Fin B) :
    (Rect.unit (s := ⟨2, ![M, N]⟩) ![p, o] ![A, B] inb).emb (ix2 r d) = ix2 ⟨p + r.val, by omega⟩ ⟨o + d.val, by omega⟩ := by
  funext a
  match a with
  | ⟨0, _⟩ => exact Fin.ext (by show p + 1 * r.val = p + r.val; omega)
  | ⟨1, _⟩ => exact Fin.ext (by show o + 1 * d.val = o + d.val; omega)

/-- A load of the block from row `p` and column `o`. -/
theorem ld_at (x : (⟨2, ![M, N]⟩ : Shape).Idx → Val e) (p o : ℕ) (hp : p + A ≤ M) (ho : o + B ≤ N)
    (inb : ∀ a, (![p, o] : Fin 2 → ℕ) a + (![A, B] : Fin 2 → ℕ) a ≤ (⟨2, ![M, N]⟩ : Shape).size a) (r : Fin A) (d : Fin B) :
    View.ld x (Rect.unit (s := ⟨2, ![M, N]⟩) ![p, o] ![A, B] inb) (ix2 r d) = x (ix2 ⟨p + r.val, by omega⟩ ⟨o + d.val, by omega⟩) :=
  congrArg x (emb_at p o hp ho inb r d)

end Blocks

end
-- ==== Proof.Ffn.Gate.lean ====
/- The gated unit `(silu g · u)`, its value and its gradients, for one entry: as the kernel writes them, with the logistic
   function by the hyperbolic tangent, and as differentiation writes them, with the logistic function by the exponential. -/
module

public import proofs.«01_k».proof.Proof.Math.Reals
public import Mathlib.Analysis.Complex.Trigonometric

@[expose] public section

noncomputable section

namespace Ffn

open Idealize.ShloMosaic Reals

/-- The constants one half and one. -/
abbrev half : EReal := Ideal.ofBits .f32 0x3F000000#32
abbrev one : EReal := Ideal.ofBits .f32 0x3F800000#32

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

theorem one_one : one = 1 := one_eq.trans EReal.coe_one

/-! ## As the kernel writes them -/

/-- The logistic function. -/
def gsig (g : EReal) : EReal := half * Ideal.tanh (half * g) + half

/-- The unit's value. -/
def act (g u : EReal) : EReal := g * gsig g * u

/-- The gradient of the linear half, from the value's. -/
def upGrad (g d : EReal) : EReal := d * (g * gsig g)

/-- The gradient of the gate, from the value's. -/
def gateGrad (g u d : EReal) : EReal := d * u * (gsig g + g * gsig g * (one - gsig g))

/-- The gradient of the unit's value: half a row of the output's cotangent along a row of the weights. -/
def valGrad {n : ℕ} (x w : Fin n → EReal) : EReal := ∑ k, half * x k * w k

/-! ## As differentiation writes them -/

/-- The logistic function by the exponential. -/
def logi (g : EReal) : EReal := Ideal.div one (one + Ideal.exp (-g))

/-- The logistic function of a real number, by the hyperbolic tangent. -/
theorem real_logi (a : ℝ) : 1 / 2 * Real.tanh (1 / 2 * a) + 1 / 2 = 1 / (1 + Real.exp (-a)) := by
  have h := Real.exp_pos (1 / 2 * a)
  have e : Real.exp (-a) = (Real.exp (1 / 2 * a) * Real.exp (1 / 2 * a))⁻¹ := by
    rw [← Real.exp_add, ← Real.exp_neg]; congr 1; ring
  rw [Real.tanh_eq_sinh_div_cosh, Real.sinh_eq, Real.cosh_eq, e, Real.exp_neg]
  field_simp
  ring

theorem gsig_coe (a : ℝ) : gsig (a : EReal) = ((1 / (1 + Real.exp (-a)) : ℝ) : EReal) := by
  unfold gsig
  rw [half_eq, ← EReal.coe_mul, Ideal.tanh_coe, ← EReal.coe_mul, ← EReal.coe_add, real_logi]

theorem logi_coe (a : ℝ) : logi (a : EReal) = ((1 / (1 + Real.exp (-a)) : ℝ) : EReal) := by
  unfold logi
  have h : (1 + Real.exp (-a) : ℝ) ≠ 0 := by have := Real.exp_pos (-a); positivity
  rw [one_eq, ← EReal.coe_neg, Ideal.exp_coe, ← EReal.coe_add, Ideal.div_coe h, ← EReal.coe_mul, one_mul]

theorem gsig_bot : gsig ⊥ = 0 := by
  unfold gsig
  rw [half_eq, EReal.coe_mul_bot_of_pos (by norm_num), show Ideal.tanh ⊥ = ((-1 : ℝ) : EReal) from rfl, ← EReal.coe_mul,
    ← EReal.coe_add, ← EReal.coe_zero]
  norm_num

theorem gsig_top : gsig ⊤ = 1 := by
  unfold gsig
  rw [half_eq, EReal.coe_mul_top_of_pos (by norm_num), show Ideal.tanh ⊤ = ((1 : ℝ) : EReal) from rfl, ← EReal.coe_mul,
    ← EReal.coe_add, ← EReal.coe_one]
  norm_num

theorem logi_bot : logi ⊥ = 0 := by
  unfold logi
  rw [EReal.neg_bot, show Ideal.exp ⊤ = ⊤ from rfl, one_one, EReal.add_top_of_ne_bot (by rw [← EReal.coe_one]; exact EReal.coe_ne_bot 1)]
  simp [Ideal.div]

theorem logi_top : logi ⊤ = 1 := by
  unfold logi
  rw [EReal.neg_top, show Ideal.exp ⊥ = 0 from rfl, one_one, add_zero]
  simp [Ideal.div]

/-- The two logistic functions agree, at the infinities too. -/
theorem gsig_eq : ∀ g, gsig g = logi g
  | ⊥ => gsig_bot.trans logi_bot.symm
  | ⊤ => gsig_top.trans logi_top.symm
  | (a : ℝ) => (gsig_coe a).trans (logi_coe a).symm

/-- The two forms of the gate's gradient agree where the product of the value's gradient and the linear half is real. -/
theorem gate_eq (g u d : EReal) (h : IsReal (d * u)) :
    gateGrad g u d = d * u * logi g + g * (d * u) * (logi g * (one - logi g)) := by
  unfold gateGrad
  rw [gsig_eq]
  generalize d * u = t at h
  induction g using EReal.rec with
  | bot => rw [logi_bot]; simp
  | top =>
    have e : (1 : EReal) - 1 = 0 := EReal.sub_self (by rw [← EReal.coe_one]; exact EReal.coe_ne_top 1) (by rw [← EReal.coe_one]; exact EReal.coe_ne_bot 1)
    rw [logi_top, one_one, e]; simp
  | coe a =>
    obtain ⟨b, rfl⟩ := h
    rw [logi_coe, one_eq]
    generalize (1 / (1 + Real.exp (-a)) : ℝ) = s
    simp only [← EReal.coe_mul, ← EReal.coe_add, ← EReal.coe_sub]
    congr 1
    ring

end Ffn

end
-- ==== Proof.Ffn.DzPayload.lean ====
/- The values the kernel stores for each of the eleven blocks of 256 columns of a tile of 512 rows, at an index: the gated
   unit's value and its two gradients. -/
module

public import proofs.«01_k».proof.Proof.Ffn.Gate
public import proofs.«01_k».proof.Proof.Gen.FfnDzIdeal.Skeleton
public import Idealize.ShloMosaic.Lib.Pointwise

@[expose] public section

set_option maxRecDepth 16384

noncomputable section

namespace Ffn

open Cert.FfnDzIdeal Cert.FfnDzIdeal.Gen Idealize.ShloMosaic

variable (x : FVec Ideal S512x1024 .f32) (g u : FVec Ideal S512x256 .bf16) (w : FVec Ideal S256x1024 .bf16)
variable (r : Fin 512) (d : Fin 256)

/-! ## Columns 0 to 255 -/

theorem a0 : (k0_pay6 g u : FVec Ideal S512x256 .bf16) (ix2 r d)
    = act (g (ix2 r d)) (u (ix2 r d)) := by
  pointwise [k0_pay6, k0_pay5, k0_pay4, k0_pay3, k0_pay2]
  rfl

theorem dg0 : (k0_pay9 x g u w : FVec Ideal S512x256 .bf16) (ix2 r d)
    = gateGrad (g (ix2 r d)) (u (ix2 r d)) (valGrad (fun k => x (ix2 r k)) (fun k => w (ix2 d k))) := by
  pointwise [k0_pay9, k0_pay7, k0_pay5, k0_pay4, k0_pay3, k0_pay2, k0_pay1]
  unfold gateGrad
  rw [one_one]
  rfl

theorem du0 : (k0_pay8 x g w : FVec Ideal S512x256 .bf16) (ix2 r d)
    = upGrad (g (ix2 r d)) (valGrad (fun k => x (ix2 r k)) (fun k => w (ix2 d k))) := by
  pointwise [k0_pay8, k0_pay7, k0_pay5, k0_pay4, k0_pay2, k0_pay1]
  rfl

/-! ## Columns 256 to 511 -/

theorem a1 : (k0_pay14 (k0_pay10 g) u : FVec Ideal S512x256 .bf16) (ix2 r d)
    = act (g (ix2 r d)) (u (ix2 r d)) := by
  pointwise [k0_pay14, k0_pay13, k0_pay12, k0_pay11, k0_pay10]
  rfl

theorem dg1 : (k0_pay17 (k0_pay1 x) (k0_pay10 g) u w : FVec Ideal S512x256 .bf16) (ix2 r d)
    = gateGrad (g (ix2 r d)) (u (ix2 r d)) (valGrad (fun k => x (ix2 r k)) (fun k => w (ix2 d k))) := by
  pointwise [k0_pay17, k0_pay15, k0_pay13, k0_pay12, k0_pay11, k0_pay10, k0_pay1]
  unfold gateGrad
  rw [one_one]
  rfl

theorem du1 : (k0_pay16 (k0_pay1 x) (k0_pay10 g) w : FVec Ideal S512x256 .bf16) (ix2 r d)
    = upGrad (g (ix2 r d)) (valGrad (fun k => x (ix2 r k)) (fun k => w (ix2 d k))) := by
  pointwise [k0_pay16, k0_pay15, k0_pay13, k0_pay12, k0_pay10, k0_pay1]
  rfl

/-! ## Columns 512 to 767 -/

theorem a2 : (k0_pay23 (k0_pay18 g) (k0_pay19 u) (k0_pay20 g) half : FVec Ideal S512x256 .bf16) (ix2 r d)
    = act (g (ix2 r d)) (u (ix2 r d)) := by
  pointwise [k0_pay23, k0_pay22, k0_pay21, k0_pay20, k0_pay19, k0_pay18]
  rfl

theorem dg2 : (k0_pay26 (k0_pay1 x) (k0_pay18 g) (k0_pay19 u) (k0_pay20 g) half w : FVec Ideal S512x256 .bf16) (ix2 r d)
    = gateGrad (g (ix2 r d)) (u (ix2 r d)) (valGrad (fun k => x (ix2 r k)) (fun k => w (ix2 d k))) := by
  pointwise [k0_pay26, k0_pay24, k0_pay22, k0_pay21, k0_pay20, k0_pay19, k0_pay18, k0_pay1]
  unfold gateGrad
  rw [one_one]
  rfl

theorem du2 : (k0_pay25 (k0_pay1 x) (k0_pay18 g) (k0_pay20 g) half w : FVec Ideal S512x256 .bf16) (ix2 r d)
    = upGrad (g (ix2 r d)) (valGrad (fun k => x (ix2 r k)) (fun k => w (ix2 d k))) := by
  pointwise [k0_pay25, k0_pay24, k0_pay22, k0_pay21, k0_pay20, k0_pay18, k0_pay1]
  rfl

/-! ## Columns 768 to 1023 -/

theorem a3 : (k0_pay31 g u : FVec Ideal S512x256 .bf16) (ix2 r d)
    = act (g (ix2 r d)) (u (ix2 r d)) := by
  pointwise [k0_pay31, k0_pay30, k0_pay29, k0_pay28, k0_pay27]
  rfl

theorem dg3 : (k0_pay34 (k0_pay1 x) (k0_pay28 u) (k0_pay29 g) (k0_pay30 g) w : FVec Ideal S512x256 .bf16) (ix2 r d)
    = gateGrad (g (ix2 r d)) (u (ix2 r d)) (valGrad (fun k => x (ix2 r k)) (fun k => w (ix2 d k))) := by
  pointwise [k0_pay34, k0_pay32, k0_pay30, k0_pay29, k0_pay28, k0_pay27, k0_pay1]
  unfold gateGrad
  rw [one_one]
  rfl

theorem du3 : (k0_pay33 (k0_pay1 x) (k0_pay30 g) w : FVec Ideal S512x256 .bf16) (ix2 r d)
    = upGrad (g (ix2 r d)) (valGrad (fun k => x (ix2 r k)) (fun k => w (ix2 d k))) := by
  pointwise [k0_pay33, k0_pay32, k0_pay30, k0_pay29, k0_pay27, k0_pay1]
  rfl

/-! ## Columns 1024 to 1279 -/

theorem a4 : (k0_pay39 g u : FVec Ideal S512x256 .bf16) (ix2 r d)
    = act (g (ix2 r d)) (u (ix2 r d)) := by
  pointwise [k0_pay39, k0_pay38, k0_pay37, k0_pay36, k0_pay35]
  rfl

theorem dg4 : (k0_pay44 (k0_pay37 g) (k0_pay38 g) (k0_pay42 (k0_pay1 x) u w) (k0_pay43 g) : FVec Ideal S512x256 .bf16) (ix2 r d)
    = gateGrad (g (ix2 r d)) (u (ix2 r d)) (valGrad (fun k => x (ix2 r k)) (fun k => w (ix2 d k))) := by
  pointwise [k0_pay44, k0_pay43, k0_pay42, k0_pay40, k0_pay38, k0_pay37, k0_pay36, k0_pay35, k0_pay1]
  unfold gateGrad
  rw [one_one]
  rfl

theorem du4 : (k0_pay41 (k0_pay1 x) g w : FVec Ideal S512x256 .bf16) (ix2 r d)
    = upGrad (g (ix2 r d)) (valGrad (fun k => x (ix2 r k)) (fun k => w (ix2 d k))) := by
  pointwise [k0_pay41, k0_pay40, k0_pay38, k0_pay37, k0_pay35, k0_pay1]
  rfl

/-! ## Columns 1280 to 1535 -/

theorem a5 : (k0_pay49 g u : FVec Ideal S512x256 .bf16) (ix2 r d)
    = act (g (ix2 r d)) (u (ix2 r d)) := by
  pointwise [k0_pay49, k0_pay48, k0_pay47, k0_pay46, k0_pay45]
  rfl

theorem dg5 : (k0_pay52 (k0_pay1 x) g u w : FVec Ideal S512x256 .bf16) (ix2 r d)
    = gateGrad (g (ix2 r d)) (u (ix2 r d)) (valGrad (fun k => x (ix2 r k)) (fun k => w (ix2 d k))) := by
  pointwise [k0_pay52, k0_pay50, k0_pay48, k0_pay47, k0_pay46, k0_pay45, k0_pay1]
  unfold gateGrad
  rw [one_one]
  rfl

theorem du5 : (k0_pay51 (k0_pay1 x) g w : FVec Ideal S512x256 .bf16) (ix2 r d)
    = upGrad (g (ix2 r d)) (valGrad (fun k => x (ix2 r k)) (fun k => w (ix2 d k))) := by
  pointwise [k0_pay51, k0_pay50, k0_pay48, k0_pay47, k0_pay45, k0_pay1]
  rfl

/-! ## Columns 1536 to 1791 -/

theorem a6 : (k0_pay57 (k0_pay53 g) u : FVec Ideal S512x256 .bf16) (ix2 r d)
    = act (g (ix2 r d)) (u (ix2 r d)) := by
  pointwise [k0_pay57, k0_pay56, k0_pay55, k0_pay54, k0_pay53]
  rfl

theorem dg6 : (k0_pay60 (k0_pay1 x) (k0_pay53 g) u w : FVec Ideal S512x256 .bf16) (ix2 r d)
    = gateGrad (g (ix2 r d)) (u (ix2 r d)) (valGrad (fun k => x (ix2 r k)) (fun k => w (ix2 d k))) := by
  pointwise [k0_pay60, k0_pay58, k0_pay56, k0_pay55, k0_pay54, k0_pay53, k0_pay1]
  unfold gateGrad
  rw [one_one]
  rfl

theorem du6 : (k0_pay59 (k0_pay1 x) (k0_pay53 g) w : FVec Ideal S512x256 .bf16) (ix2 r d)
    = upGrad (g (ix2 r d)) (valGrad (fun k => x (ix2 r k)) (fun k => w (ix2 d k))) := by
  pointwise [k0_pay59, k0_pay58, k0_pay56, k0_pay55, k0_pay53, k0_pay1]
  rfl

/-! ## Columns 1792 to 2047 -/

theorem a7 : (k0_pay66 (k0_pay61 g) (k0_pay62 u) (k0_pay63 g) half : FVec Ideal S512x256 .bf16) (ix2 r d)
    = act (g (ix2 r d)) (u (ix2 r d)) := by
  pointwise [k0_pay66, k0_pay65, k0_pay64, k0_pay63, k0_pay62, k0_pay61]
  rfl

theorem dg7 : (k0_pay69 (k0_pay1 x) (k0_pay61 g) (k0_pay62 u) (k0_pay63 g) half w : FVec Ideal S512x256 .bf16) (ix2 r d)
    = gateGrad (g (ix2 r d)) (u (ix2 r d)) (valGrad (fun k => x (ix2 r k)) (fun k => w (ix2 d k))) := by
  pointwise [k0_pay69, k0_pay67, k0_pay65, k0_pay64, k0_pay63, k0_pay62, k0_pay61, k0_pay1]
  unfold gateGrad
  rw [one_one]
  rfl

theorem du7 : (k0_pay68 (k0_pay1 x) (k0_pay61 g) (k0_pay63 g) half w : FVec Ideal S512x256 .bf16) (ix2 r d)
    = upGrad (g (ix2 r d)) (valGrad (fun k => x (ix2 r k)) (fun k => w (ix2 d k))) := by
  pointwise [k0_pay68, k0_pay67, k0_pay65, k0_pay64, k0_pay63, k0_pay61, k0_pay1]
  rfl

/-! ## Columns 2048 to 2303 -/

theorem a8 : (k0_pay74 g u : FVec Ideal S512x256 .bf16) (ix2 r d)
    = act (g (ix2 r d)) (u (ix2 r d)) := by
  pointwise [k0_pay74, k0_pay73, k0_pay72, k0_pay71, k0_pay70]
  rfl

theorem dg8 : (k0_pay77 (k0_pay1 x) (k0_pay71 u) (k0_pay72 g) (k0_pay73 g) w : FVec Ideal S512x256 .bf16) (ix2 r d)
    = gateGrad (g (ix2 r d)) (u (ix2 r d)) (valGrad (fun k => x (ix2 r k)) (fun k => w (ix2 d k))) := by
  pointwise [k0_pay77, k0_pay75, k0_pay73, k0_pay72, k0_pay71, k0_pay70, k0_pay1]
  unfold gateGrad
  rw [one_one]
  rfl

theorem du8 : (k0_pay76 (k0_pay1 x) (k0_pay73 g) w : FVec Ideal S512x256 .bf16) (ix2 r d)
    = upGrad (g (ix2 r d)) (valGrad (fun k => x (ix2 r k)) (fun k => w (ix2 d k))) := by
  pointwise [k0_pay76, k0_pay75, k0_pay73, k0_pay72, k0_pay70, k0_pay1]
  rfl

/-! ## Columns 2304 to 2559 -/

theorem a9 : (k0_pay82 g u : FVec Ideal S512x256 .bf16) (ix2 r d)
    = act (g (ix2 r d)) (u (ix2 r d)) := by
  pointwise [k0_pay82, k0_pay81, k0_pay80, k0_pay79, k0_pay78]
  rfl

theorem dg9 : (k0_pay87 (k0_pay80 g) (k0_pay81 g) (k0_pay85 (k0_pay1 x) u w) (k0_pay86 g) : FVec Ideal S512x256 .bf16) (ix2 r d)
    = gateGrad (g (ix2 r d)) (u (ix2 r d)) (valGrad (fun k => x (ix2 r k)) (fun k => w (ix2 d k))) := by
  pointwise [k0_pay87, k0_pay86, k0_pay85, k0_pay83, k0_pay81, k0_pay80, k0_pay79, k0_pay78, k0_pay1]
  unfold gateGrad
  rw [one_one]
  rfl

theorem du9 : (k0_pay84 (k0_pay1 x) g w : FVec Ideal S512x256 .bf16) (ix2 r d)
    = upGrad (g (ix2 r d)) (valGrad (fun k => x (ix2 r k)) (fun k => w (ix2 d k))) := by
  pointwise [k0_pay84, k0_pay83, k0_pay81, k0_pay80, k0_pay78, k0_pay1]
  rfl

/-! ## Columns 2560 to 2815 -/

theorem a10 : (k0_pay92 g u : FVec Ideal S512x256 .bf16) (ix2 r d)
    = act (g (ix2 r d)) (u (ix2 r d)) := by
  pointwise [k0_pay92, k0_pay91, k0_pay90, k0_pay89, k0_pay88]
  rfl

theorem dg10 : (k0_pay95 (k0_pay1 x) g u w : FVec Ideal S512x256 .bf16) (ix2 r d)
    = gateGrad (g (ix2 r d)) (u (ix2 r d)) (valGrad (fun k => x (ix2 r k)) (fun k => w (ix2 d k))) := by
  pointwise [k0_pay95, k0_pay93, k0_pay91, k0_pay90, k0_pay89, k0_pay88, k0_pay1]
  unfold gateGrad
  rw [one_one]
  rfl

theorem du10 : (k0_pay94 (k0_pay1 x) g w : FVec Ideal S512x256 .bf16) (ix2 r d)
    = upGrad (g (ix2 r d)) (valGrad (fun k => x (ix2 r k)) (fun k => w (ix2 d k))) := by
  pointwise [k0_pay94, k0_pay93, k0_pay91, k0_pay90, k0_pay88, k0_pay1]
  rfl

end Ffn

end
-- ==== Proof.Ffn.DzTile.lean ====
/- What a grid point leaves in the three outputs: the gated unit's value and its two gradients, for a tile of 512 rows. -/
module

public import proofs.«01_k».proof.Proof.Math.Blocks
public import proofs.«01_k».proof.Proof.Ffn.DzPayload
public import proofs.«01_k».proof.Proof.Gen.FfnDzIdeal.Frame

@[expose] public section

set_option maxRecDepth 16384

noncomputable section

namespace Ffn

open Cert.FfnDzIdeal Cert.FfnDzIdeal.Gen Idealize.ShloMosaic Idealize.ShloMosaic.TcCoe Idealize.SL.Sem

variable (x0 : FVec Ideal S512x1024 .f32) (x1 x2 : FVec Ideal S512x2816 .bf16) (x3 : FVec Ideal S2816x1024 .bf16)

/-- The unit's values of a tile. -/
def tileA : FVec Ideal S512x2816 .bf16 := fun y => act (x1 y) (x2 y)

/-- Their gradients. -/
def tileD (y : S512x2816.Idx) : EReal :=
  valGrad (fun k : Fin 1024 => x0 (ix2 (y 0) k)) (fun k => x3 (ix2 (y 1) k))

/-- The gradients of the gate. -/
def tileG : FVec Ideal S512x2816 .bf16 := fun y => gateGrad (x1 y) (x2 y) (tileD x0 x3 y)

/-- The gradients of the linear half. -/
def tileU : FVec Ideal S512x2816 .bf16 := fun y => upGrad (x1 y) (tileD x0 x3 y)

/-! ## One block of columns -/

/-- A block's columns of a tile, a block's rows of the weights, and the whole cotangent, loaded. -/
abbrev ldCol (o : ℕ) (i : ∀ a, (![0, o] : Fin 2 → ℕ) a + (![512, 256] : Fin 2 → ℕ) a ≤ S512x2816.size a)
    (x : FVec Ideal S512x2816 .bf16) : FVec Ideal S512x256 .bf16 :=
  View.ld (Val := Elt Ideal) (e' := .bf16) x (Rect.unit (s := S512x2816) ![0, o] ![512, 256] i)
abbrev ldRow (o : ℕ) (j : ∀ a, (![o, 0] : Fin 2 → ℕ) a + (![256, 1024] : Fin 2 → ℕ) a ≤ S2816x1024.size a)
    (x : FVec Ideal S2816x1024 .bf16) : FVec Ideal S256x1024 .bf16 :=
  View.ld (Val := Elt Ideal) (e' := .bf16) x (Rect.unit (s := S2816x1024) ![o, 0] ![256, 1024] j)
abbrev ldAll (k : ∀ a, (![0, 0] : Fin 2 → ℕ) a + (![512, 1024] : Fin 2 → ℕ) a ≤ S512x1024.size a)
    (x : FVec Ideal S512x1024 .f32) : FVec Ideal S512x1024 .f32 :=
  View.ld (Val := Elt Ideal) (e' := .f32) x (Rect.unit (s := S512x1024) ![0, 0] ![512, 1024] k)

section Block

variable (o : ℕ)
  (i : ∀ a, (![0, o] : Fin 2 → ℕ) a + (![512, 256] : Fin 2 → ℕ) a ≤ S512x2816.size a)
  (j : ∀ a, (![o, 0] : Fin 2 → ℕ) a + (![256, 1024] : Fin 2 → ℕ) a ≤ S2816x1024.size a)
  (k : ∀ a, (![0, 0] : Fin 2 → ℕ) a + (![512, 1024] : Fin 2 → ℕ) a ≤ S512x1024.size a)

theorem grad_block (r : Fin 512) (d : Fin 256) :
    valGrad (fun n => ldAll k x0 (ix2 r n)) (fun n => ldRow o j x3 (ix2 d n))
      = tileD x0 x3 ((Rect.unit (s := S512x2816) ![0, o] ![512, 256] i).emb (ix2 r d)) := by
  refine congrArg₂ valGrad (funext fun n => congrArg x0 (funext fun a => ?_)) (funext fun n => congrArg x3 (funext fun a => ?_))
  · match a with
    | ⟨0, _⟩ => exact Fin.ext (by show 0 + 1 * r.val = 0 + 1 * r.val; rfl)
    | ⟨1, _⟩ => exact Fin.ext (by show 0 + 1 * n.val = n.val; omega)
  · match a with
    | ⟨0, _⟩ => exact Fin.ext (by show o + 1 * d.val = o + 1 * d.val; rfl)
    | ⟨1, _⟩ => exact Fin.ext (by show 0 + 1 * n.val = n.val; omega)

variable (p : FVec Ideal S512x256 .bf16)

theorem block_a (h : ∀ r d, p (ix2 r d) = act (ldCol o i x1 (ix2 r d)) (ldCol o i x2 (ix2 r d))) (y : S512x256.Idx) :
    p y = tileA x1 x2 ((Rect.unit (s := S512x2816) ![0, o] ![512, 256] i).emb y) := by
  rw [ValueIdx.eq_ix2 y]
  exact h _ _

theorem block_g (h : ∀ r d, p (ix2 r d) = gateGrad (ldCol o i x1 (ix2 r d)) (ldCol o i x2 (ix2 r d))
      (valGrad (fun n => ldAll k x0 (ix2 r n)) (fun n => ldRow o j x3 (ix2 d n)))) (y : S512x256.Idx) :
    p y = tileG x0 x1 x2 x3 ((Rect.unit (s := S512x2816) ![0, o] ![512, 256] i).emb y) := by
  rw [ValueIdx.eq_ix2 y]
  exact (h _ _).trans (congrArg (gateGrad _ _) (grad_block x0 x3 o i j k _ _))

theorem block_u (h : ∀ r d, p (ix2 r d) = upGrad (ldCol o i x1 (ix2 r d))
      (valGrad (fun n => ldAll k x0 (ix2 r n)) (fun n => ldRow o j x3 (ix2 d n)))) (y : S512x256.Idx) :
    p y = tileU x0 x1 x3 ((Rect.unit (s := S512x2816) ![0, o] ![512, 256] i).emb y) := by
  rw [ValueIdx.eq_ix2 y]
  exact (h _ _).trans (congrArg (upGrad _) (grad_block x0 x3 o i j k _ _))

end Block

/-! ## The whole tile -/

theorem out_a : out0_4 (F := Ideal) x0 x1 x2 x3 = tileA x1 x2 := by
  funext y
  unfold out0_4 k0_pay105 k0_pay104 k0_pay103 k0_pay102 k0_pay100 k0_pay99 k0_pay98 k0_pay97
  refine View.canon_apply_of_pieces (Val := Elt Ideal) (S := S512x2816) (e := .bf16) (tileA x1 x2) _ ?_ y (cover0_4 _ _ _ _ _ _ _ _ _ _ _ y)
  simp only [List.mem_cons, List.not_mem_nil, or_false, forall_eq_or_imp, forall_eq]
  exact ⟨block_a x1 x2 2560 _ _ (a10 _ _),
    block_a x1 x2 2304 _ _ (a9 _ _),
    block_a x1 x2 2048 _ _ (a8 _ _),
    block_a x1 x2 1792 _ _ (a7 _ _),
    block_a x1 x2 1536 _ _ (a6 _ _),
    block_a x1 x2 1280 _ _ (a5 _ _),
    block_a x1 x2 1024 _ _ (a4 _ _),
    block_a x1 x2 768 _ _ (a3 _ _),
    block_a x1 x2 512 _ _ (a2 _ _),
    block_a x1 x2 256 _ _ (a1 _ _),
    block_a x1 x2 0 _ _ (a0 _ _)⟩

theorem out_g : out0_5 (F := Ideal) x0 x1 x2 x3 = tileG x0 x1 x2 x3 := by
  funext y
  unfold out0_5 k0_pay106 k0_pay105 k0_pay104 k0_pay103 k0_pay102 k0_pay101 k0_pay100 k0_pay99 k0_pay98 k0_pay97 k0_pay96
  refine View.canon_apply_of_pieces (Val := Elt Ideal) (S := S512x2816) (e := .bf16) (tileG x0 x1 x2 x3) _ ?_ y (cover0_5 _ _ _ _ _ _ _ _ _ _ _ y)
  simp only [List.mem_cons, List.not_mem_nil, or_false, forall_eq_or_imp, forall_eq]
  exact ⟨block_g x0 x1 x2 x3 2560 _ _ _ _ (dg10 _ _ _ _),
    block_g x0 x1 x2 x3 2304 _ _ _ _ (dg9 _ _ _ _),
    block_g x0 x1 x2 x3 2048 _ _ _ _ (dg8 _ _ _ _),
    block_g x0 x1 x2 x3 1792 _ _ _ _ (dg7 _ _ _ _),
    block_g x0 x1 x2 x3 1536 _ _ _ _ (dg6 _ _ _ _),
    block_g x0 x1 x2 x3 1280 _ _ _ _ (dg5 _ _ _ _),
    block_g x0 x1 x2 x3 1024 _ _ _ _ (dg4 _ _ _ _),
    block_g x0 x1 x2 x3 768 _ _ _ _ (dg3 _ _ _ _),
    block_g x0 x1 x2 x3 512 _ _ _ _ (dg2 _ _ _ _),
    block_g x0 x1 x2 x3 256 _ _ _ _ (dg1 _ _ _ _),
    block_g x0 x1 x2 x3 0 _ _ _ _ (dg0 _ _ _ _)⟩

theorem out_u : out0_6 (F := Ideal) x0 x1 x2 x3 = tileU x0 x1 x3 := by
  funext y
  unfold out0_6 k0_pay106 k0_pay105 k0_pay103 k0_pay102 k0_pay101 k0_pay100 k0_pay98 k0_pay97 k0_pay96
  refine View.canon_apply_of_pieces (Val := Elt Ideal) (S := S512x2816) (e := .bf16) (tileU x0 x1 x3) _ ?_ y (cover0_6 _ _ _ _ _ _ _ _ _ _ _ y)
  simp only [List.mem_cons, List.not_mem_nil, or_false, forall_eq_or_imp, forall_eq]
  exact ⟨block_u x0 x1 x3 2560 _ _ _ _ (du10 _ _ _),
    block_u x0 x1 x3 2304 _ _ _ _ (du9 _ _ _),
    block_u x0 x1 x3 2048 _ _ _ _ (du8 _ _ _),
    block_u x0 x1 x3 1792 _ _ _ _ (du7 _ _ _),
    block_u x0 x1 x3 1536 _ _ _ _ (du6 _ _ _),
    block_u x0 x1 x3 1280 _ _ _ _ (du5 _ _ _),
    block_u x0 x1 x3 1024 _ _ _ _ (du4 _ _ _),
    block_u x0 x1 x3 768 _ _ _ _ (du3 _ _ _),
    block_u x0 x1 x3 512 _ _ _ _ (du2 _ _ _),
    block_u x0 x1 x3 256 _ _ _ _ (du1 _ _ _),
    block_u x0 x1 x3 0 _ _ _ _ (du0 _ _ _)⟩

end Ffn

end
-- ==== Proof.Ffn.DzArray.lean ====
/- The kernel's three result arrays, at an index: each of the eight grid points leaves 512 rows. -/
module

public import proofs.«01_k».proof.Proof.Ffn.DzTile
public import proofs.«01_k».proof.Proof.Gen.FfnDzIdeal.Value

@[expose] public section

set_option maxRecDepth 16384

noncomputable section

namespace Ffn

open Cert.FfnDzIdeal Cert.FfnDzIdeal.Gen Cert.FfnDzIdeal.Value Idealize.ShloMosaic Idealize.ShloMosaic.TcCoe Idealize.SL.Sem

variable (m : (ℓ : Loc nD τ sig) → Buf (Elt Ideal) ℓ) (c : Dev nD)

/-- The arguments: the output's cotangent, the two halves of the projection, and the output's weights. -/
abbrev argX : FVec Ideal S4096x1024 .f32 := m ((c.tc : Thread nD τ).loc main_arg0)
abbrev argG : FVec Ideal S4096x2816 .bf16 := m ((c.tc : Thread nD τ).loc main_arg1)
abbrev argU : FVec Ideal S4096x2816 .bf16 := m ((c.tc : Thread nD τ).loc main_arg2)
abbrev argW : FVec Ideal S2816x1024 .bf16 := m ((c.tc : Thread nD τ).loc main_arg3)

/-! ## The results -/

/-- The unit's values. -/
def resA : FVec Ideal S4096x2816 .bf16 := fun y => act (argG m c y) (argU m c y)

/-- Their gradients. -/
def resD (y : S4096x2816.Idx) : EReal :=
  valGrad (fun k : Fin 1024 => argX m c (ix2 (y 0) k)) (fun k => argW m c (ix2 (y 1) k))

/-- The gradients of the gate. -/
def resG : FVec Ideal S4096x2816 .bf16 := fun y => gateGrad (argG m c y) (argU m c y) (resD m c y)

/-- The gradients of the linear half. -/
def resU : FVec Ideal S4096x2816 .bf16 := fun y => upGrad (argG m c y) (resD m c y)

/-! ## The blocks a point reads -/

abbrev blkX (t : Fin cfg0.N) : FVec Ideal S512x1024 .f32 := iblk m c 0 t
abbrev blkG (t : Fin cfg0.N) : FVec Ideal S512x2816 .bf16 := iblk m c 1 t
abbrev blkU (t : Fin cfg0.N) : FVec Ideal S512x2816 .bf16 := iblk m c 2 t
abbrev blkW (t : Fin cfg0.N) : FVec Ideal S2816x1024 .bf16 := iblk m c 3 t

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkG_at (t : Fin cfg0.N) (r : Fin 512) (k : Fin 2816) :
    blkG m c t (ix2 r k) = argG m c (ix2 ⟨512 * t.val + r.val, by have := lt8 t; omega⟩ k) := by
  unfold blkG iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 2816 + 1 * k.val = k.val; rw [(index1 t).2]; omega

theorem blkU_at (t : Fin cfg0.N) (r : Fin 512) (k : Fin 2816) :
    blkU m c t (ix2 r k) = argU m c (ix2 ⟨512 * t.val + r.val, by have := lt8 t; omega⟩ k) := by
  unfold blkU iblk
  rw [View.read_apply]
  show V m c main_arg2 _ = m _ _
  unfold V
  congr 1
  funext a
  apply Fin.ext
  match a with
  | ⟨0, _⟩ => show win0_2.index t 0 * 512 + 1 * r.val = 512 * t.val + r.val; rw [(index2 t).1]; omega
  | ⟨1, _⟩ => show win0_2.index t 1 * 2816 + 1 * k.val = k.val; rw [(index2 t).2]; omega

theorem blkW_at (t : Fin cfg0.N) (r : Fin 2816) (k : Fin 1024) :
    blkW m c t (ix2 r k) = argW m c (ix2 r k) := by
  unfold blkW iblk
  rw [View.read_apply]
  show V m c main_arg3 _ = m _ _
  unfold V
  congr 1
  funext a
  apply Fin.ext
  match a with
  | ⟨0, _⟩ => show win0_3.index t 0 * 2816 + 1 * r.val = r.val; rw [(index3 t).1]; omega
  | ⟨1, _⟩ => show win0_3.index t 1 * 1024 + 1 * k.val = k.val; rw [(index3 t).2]; omega

theorem blkD_at (t : Fin cfg0.N) (r : Fin 512) (k : Fin 2816) :
    tileD (blkX m c t) (blkW m c t) (ix2 r k) = resD m c (ix2 ⟨512 * t.val + r.val, by have := lt8 t; omega⟩ k) :=
  congrArg₂ valGrad (funext fun n => blkX_at m c t r n) (funext fun n => blkW_at m c t k n)

theorem tileA_at (t : Fin cfg0.N) (r : Fin 512) (k : Fin 2816) :
    tileA (blkG m c t) (blkU m c t) (ix2 r k) = resA m c (ix2 ⟨512 * t.val + r.val, by have := lt8 t; omega⟩ k) :=
  congrArg₂ act (blkG_at m c t r k) (blkU_at m c t r k)

theorem tileG_at (t : Fin cfg0.N) (r : Fin 512) (k : Fin 2816) :
    tileG (blkX m c t) (blkG m c t) (blkU m c t) (blkW m c t) (ix2 r k) = resG m c (ix2 ⟨512 * t.val + r.val, by have := lt8 t; omega⟩ k) := by
  unfold tileG resG
  rw [blkG_at, blkU_at, blkD_at]

theorem tileU_at (t : Fin cfg0.N) (r : Fin 512) (k : Fin 2816) :
    tileU (blkX m c t) (blkG m c t) (blkW m c t) (ix2 r k) = resU m c (ix2 ⟨512 * t.val + r.val, by have := lt8 t; omega⟩ k) := by
  unfold tileU resU
  rw [blkG_at, blkD_at]

/-! ## The arrays -/

/-- The point whose block has a row. -/
def pointOf (r : Fin 4096) : Fin cfg0.N := ⟨r.val / 512, by have : cfg0.N = 8 := N_0; omega⟩

theorem final_a (c : Dev nD) : (dats m 0 c).arrAt 4 cfg0.N = resA m c :=
  (dats m 0 c).arrAt_eq_of_cover 4 (resA m c)
    (fun t _ => by
      rw [flushed4, out_a]
      funext j
      rw [View.read_apply]
      have e : ((cfg0.win 4).blk t).view.emb j
          = (ix2 ⟨512 * t.val + (j 0).val, by have := lt8 t; have := ValueIdx.idx2_lt0 (n0 := 512) (n1 := 2816) j; omega⟩ (j 1) : S4096x2816.Idx) := by
        funext a
        apply Fin.ext
        match a with
        | ⟨0, _⟩ => show win0_4.index t 0 * 512 + 1 * (j 0).val = 512 * t.val + (j 0).val; rw [(index4 t).1]; omega
        | ⟨1, _⟩ => show win0_4.index t 1 * 2816 + 1 * (j 1).val = (j 1).val; rw [(index4 t).2]; omega
      rw [e]
      exact (congrArg _ (ValueIdx.eq_ix2 (n0 := 512) (n1 := 2816) j)).trans (tileA_at m c t (j 0) (j 1)))
    (fun i => ⟨pointOf (i 0), flush0_4 _, by
      have h0 : (i 0 : ℕ) < 4096 := (i 0).isLt
      have h1 : (i 1 : ℕ) < 2816 := (i 1).isLt
      have hN : cfg0.N = 8 := N_0
      show i ∈ ((View.whole main_v0_0).slice (win0_4.rect (pointOf (i 0)))).set
      rw [View.set_slice_whole, Rect.mem_set_unit]
      intro a
      match a with
      | ⟨0, _⟩ =>
        show win0_4.index _ 0 * 512 ≤ (i 0 : ℕ) ∧ (i 0 : ℕ) < win0_4.index _ 0 * 512 + 512
        rw [(index4 _).1]; unfold pointOf; dsimp only; omega
      | ⟨1, _⟩ =>
        show win0_4.index _ 1 * 2816 ≤ (i 1 : ℕ) ∧ (i 1 : ℕ) < win0_4.index _ 1 * 2816 + 2816
        rw [(index4 _).2]; omega⟩)

theorem final_g (c : Dev nD) : (dats m 0 c).arrAt 5 cfg0.N = resG m c :=
  (dats m 0 c).arrAt_eq_of_cover 5 (resG m c)
    (fun t _ => by
      rw [flushed5, out_g]
      funext j
      rw [View.read_apply]
      have e : ((cfg0.win 5).blk t).view.emb j
          = (ix2 ⟨512 * t.val + (j 0).val, by have := lt8 t; have := ValueIdx.idx2_lt0 (n0 := 512) (n1 := 2816) j; omega⟩ (j 1) : S4096x2816.Idx) := by
        funext a
        apply Fin.ext
        match a with
        | ⟨0, _⟩ => show win0_5.index t 0 * 512 + 1 * (j 0).val = 512 * t.val + (j 0).val; rw [(index5 t).1]; omega
        | ⟨1, _⟩ => show win0_5.index t 1 * 2816 + 1 * (j 1).val = (j 1).val; rw [(index5 t).2]; omega
      rw [e]
      exact (congrArg _ (ValueIdx.eq_ix2 (n0 := 512) (n1 := 2816) j)).trans (tileG_at m c t (j 0) (j 1)))
    (fun i => ⟨pointOf (i 0), flush0_5 _, by
      have h0 : (i 0 : ℕ) < 4096 := (i 0).isLt
      have h1 : (i 1 : ℕ) < 2816 := (i 1).isLt
      have hN : cfg0.N = 8 := N_0
      show i ∈ ((View.whole main_v0_1).slice (win0_5.rect (pointOf (i 0)))).set
      rw [View.set_slice_whole, Rect.mem_set_unit]
      intro a
      match a with
      | ⟨0, _⟩ =>
        show win0_5.index _ 0 * 512 ≤ (i 0 : ℕ) ∧ (i 0 : ℕ) < win0_5.index _ 0 * 512 + 512
        rw [(index5 _).1]; unfold pointOf; dsimp only; omega
      | ⟨1, _⟩ =>
        show win0_5.index _ 1 * 2816 ≤ (i 1 : ℕ) ∧ (i 1 : ℕ) < win0_5.index _ 1 * 2816 + 2816
        rw [(index5 _).2]; omega⟩)

theorem final_u (c : Dev nD) : (dats m 0 c).arrAt 6 cfg0.N = resU m c :=
  (dats m 0 c).arrAt_eq_of_cover 6 (resU m c)
    (fun t _ => by
      rw [flushed6, out_u]
      funext j
      rw [View.read_apply]
      have e : ((cfg0.win 6).blk t).view.emb j
          = (ix2 ⟨512 * t.val + (j 0).val, by have := lt8 t; have := ValueIdx.idx2_lt0 (n0 := 512) (n1 := 2816) j; omega⟩ (j 1) : S4096x2816.Idx) := by
        funext a
        apply Fin.ext
        match a with
        | ⟨0, _⟩ => show win0_6.index t 0 * 512 + 1 * (j 0).val = 512 * t.val + (j 0).val; rw [(index6 t).1]; omega
        | ⟨1, _⟩ => show win0_6.index t 1 * 2816 + 1 * (j 1).val = (j 1).val; rw [(index6 t).2]; omega
      rw [e]
      exact (congrArg _ (ValueIdx.eq_ix2 (n0 := 512) (n1 := 2816) j)).trans (tileU_at m c t (j 0) (j 1)))
    (fun i => ⟨pointOf (i 0), flush0_6 _, by
      have h0 : (i 0 : ℕ) < 4096 := (i 0).isLt
      have h1 : (i 1 : ℕ) < 2816 := (i 1).isLt
      have hN : cfg0.N = 8 := N_0
      show i ∈ ((View.whole main_v0_2).slice (win0_6.rect (pointOf (i 0)))).set
      rw [View.set_slice_whole, Rect.mem_set_unit]
      intro a
      match a with
      | ⟨0, _⟩ =>
        show win0_6.index _ 0 * 512 ≤ (i 0 : ℕ) ∧ (i 0 : ℕ) < win0_6.index _ 0 * 512 + 512
        rw [(index6 _).1]; unfold pointOf; dsimp only; omega
      | ⟨1, _⟩ =>
        show win0_6.index _ 1 * 2816 ≤ (i 1 : ℕ) ∧ (i 1 : ℕ) < win0_6.index _ 1 * 2816 + 2816
        rw [(index6 _).2]; omega⟩)

end Ffn

end
-- ==== Proof.Ffn.DzReference.lean ====
/- The reference's gated unit and its gradients at an index, and the kernel's as the reference's: the gradient of the gate
   where the cotangent, the linear half and the weights are real. -/
module

public import proofs.«01_k».proof.Proof.Ffn.DzArray
public import proofs.«01_k».proof.Proof.Attn.Reference
public import proofs.«01_k».proof.Proof.Gen.FfnDzRefIdeal.Run
public import proofs.«01_k».proof.Proof.Gen.Pre_finite_dz
public import Idealize.ShloMosaic.Lib.Pointwise

@[expose] public section

set_option maxRecDepth 16384

noncomputable section

namespace Ffn

open Cert.FfnDzRefIdeal Cert.FfnDzRefIdeal.Gen Idealize.ShloMosaic Idealize.ShloMosaic.TcCoe Reals

variable (X : FVec Ideal S4096x1024 .f32) (G U : FVec Ideal S4096x2816 .bf16) (W : FVec Ideal S2816x1024 .bf16)

/-! ## The intermediate arrays -/

/-- The logistic function of the gate. -/
def hS : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 G bitsLt_bf16_f32))))

/-- The gradients of the unit's values. -/
def hD : FVec Ideal S4096x2816 .f32 :=
  Host.dotGeneral dot_S4096x1024_S2816x1024_S4096x2816_1_1_0_0_n_n none (mulf (broadcastInDim S4096x1024 ![] bcast_S_S4096x1024 (constant S_ .f32 0x3F000000#32)) X) (extf .f32 W bitsLt_bf16_f32)

/-- The unit's values. -/
def outA : FVec Ideal S4096x2816 .bf16 :=
  truncf .bf16 (mulf (mulf (extf .f32 G bitsLt_bf16_f32) (hS G)) (extf .f32 U bitsLt_bf16_f32)) bitsLt_bf16_f32

/-- The gradients of the gate. -/
def outG : FVec Ideal S4096x2816 .bf16 :=
  truncf .bf16 (addf (mulf (mulf (hD X W) (extf .f32 U bitsLt_bf16_f32)) (hS G))
    (mulf (mulf (extf .f32 G bitsLt_bf16_f32) (mulf (hD X W) (extf .f32 U bitsLt_bf16_f32)))
      (mulf (hS G) (subf (broadcastInDim S4096x2816 ![] bcast_S_S4096x2816 (constant S_ .f32 0x3F800000#32)) (hS G))))) bitsLt_bf16_f32

/-- The gradients of the linear half. -/
def outU : FVec Ideal S4096x2816 .bf16 :=
  truncf .bf16 (mulf (mulf (extf .f32 G bitsLt_bf16_f32) (hS G)) (hD X W)) bitsLt_bf16_f32

theorem hS_at (y : S4096x2816.Idx) : hS G y = logi (G y) := rfl

theorem hD_at (r : Fin 4096) (k : Fin 2816) :
    hD X W (ix2 r k) = valGrad (fun n : Fin 1024 => X (ix2 r n)) (fun n => W (ix2 k n)) := by
  unfold hD
  pointwise []
  rfl

theorem outA_eq (y : S4096x2816.Idx) : outA G U y = act (G y) (U y) := by
  show G y * hS G y * U y = _
  rw [hS_at, ← gsig_eq]
  rfl

theorem outU_eq (y : S4096x2816.Idx) : outU X G W y = upGrad (G y) (hD X W y) := by
  show G y * hS G y * hD X W y = _
  rw [hS_at, ← gsig_eq, mul_comm]
  rfl

theorem outG_eq (y : S4096x2816.Idx) (h : IsReal (hD X W y * U y)) : outG X G U W y = gateGrad (G y) (U y) (hD X W y) :=
  (gate_eq _ _ _ h).symm

/-! ## Real arguments -/

theorem pre_x (h : (Cert.Pre_finite_dz.fn (F := Ideal) X G U W).1 = fun _ => 1#1) (y : S4096x1024.Idx) : IsReal (X y) :=
  Attn.real_of_test (congrFun h y)

theorem pre_u (h : (Cert.Pre_finite_dz.fn (F := Ideal) X G U W).2.1 = fun _ => 1#1) (y : S4096x2816.Idx) : IsReal (U y) :=
  Attn.real_of_test (congrFun h y)

theorem pre_w (h : (Cert.Pre_finite_dz.fn (F := Ideal) X G U W).2.2 = fun _ => 1#1) (y : S2816x1024.Idx) : IsReal (W y) :=
  Attn.real_of_test (congrFun h y)

theorem real_valGrad {n : ℕ} {x w : Fin n → EReal} (hx : ∀ k, IsReal (x k)) (hw : ∀ k, IsReal (w k)) : IsReal (valGrad x w) :=
  IsReal.sum fun k => (IsReal.mul ⟨_, half_eq⟩ (hx k)).mul (hw k)

/-! ## The kernel's arrays -/

variable (m : (ℓ : Loc Cert.FfnDzIdeal.nD Cert.FfnDzIdeal.τ Cert.FfnDzIdeal.sig) → Buf (Elt Ideal) ℓ) (c : Dev Cert.FfnDzIdeal.nD)

theorem outA_match : outA (argG m c) (argU m c) = resA m c := funext fun y => outA_eq _ _ y

theorem hD_match (y : S4096x2816.Idx) : hD (argX m c) (argW m c) y = resD m c y := by
  obtain ⟨i, j, rfl⟩ : ∃ (i : Fin 4096) (j : Fin 2816), y = ix2 i j := ⟨y 0, y 1, ValueIdx.eq_ix2 y⟩
  exact hD_at _ _ i j

theorem outU_match : outU (argX m c) (argG m c) (argW m c) = resU m c :=
  funext fun y => (outU_eq _ _ _ y).trans (congrArg _ (hD_match m c y))

theorem outG_match (hX : ∀ y, IsReal (argX m c y)) (hU : ∀ y, IsReal (argU m c y)) (hW : ∀ y, IsReal (argW m c y)) :
    outG (argX m c) (argG m c) (argU m c) (argW m c) = resG m c := by
  funext y
  refine (outG_eq _ _ _ _ y ?_).trans (congrArg _ (hD_match m c y))
  rw [hD_match]
  exact (real_valGrad (fun k => hX _) fun k => hW _).mul (hU y)

end Ffn

end
-- ==== Proof.Math.RowSums.lean ====
/- Sums over 4096 rows gathered 512 at a time, and a matrix of two halves side by side. -/
module

public import Idealize.ShloMosaic.Lib.Pointwise
public import Idealize.ShloMosaic.Lib.Pipeline.Value

@[expose] public section

noncomputable section

namespace RowSums

open Idealize.ShloMosaic

/-- A family over 4096 rows, by the row's number. -/
def ext (f : Fin 4096 → EReal) (i : ℕ) : EReal := if h : i < 4096 then f ⟨i, h⟩ else 0

/-- Its sum over the first `n` rows. -/
def upTo (f : Fin 4096 → EReal) (n : ℕ) : EReal := ∑ i ∈ Finset.range n, ext f i

theorem upTo_zero (f : Fin 4096 → EReal) : upTo f (512 * 0) = 0 := rfl

theorem upTo_all (f : Fin 4096 → EReal) : upTo f (512 * (7 + 1)) = ∑ r, f r := by
  unfold upTo
  rw [show 512 * (7 + 1) = 4096 from rfl, Finset.sum_range]
  exact Finset.sum_congr rfl fun r _ => dif_pos r.isLt

/-- One block more. -/
theorem upTo_step (f : Fin 4096 → EReal) (g : Fin 512 → EReal) (n : ℕ) (hn : n < 8)
    (h : ∀ r : Fin 512, g r = f ⟨512 * n + r.val, by omega⟩) :
    upTo f (512 * n) + ∑ r, g r = upTo f (512 * (n + 1)) := by
  unfold upTo
  rw [Nat.mul_succ, Finset.sum_range_add, Finset.sum_range (fun x => ext f (512 * n + x))]
  congr 1
  refine Finset.sum_congr rfl fun r _ => (h r).trans ?_
  unfold ext
  rw [dif_pos (show 512 * n + r.val < 4096 by omega)]

/-- The first block. -/
theorem upTo_first (f : Fin 4096 → EReal) (g : Fin 512 → EReal)
    (h : ∀ r : Fin 512, g r = f ⟨512 * 0 + r.val, by omega⟩) : (0 : EReal) + ∑ r, g r = upTo f (512 * (0 + 1)) :=
  upTo_step f g 0 (by omega) h

/-! ## Two halves side by side -/

variable {M N : ℕ} {α : Type} (x y : (⟨2, ![M, N]⟩ : Shape).Idx → α)

theorem cat_left {K : ℕ} (h : Shape.Concatenates [⟨2, ![M, N]⟩, ⟨2, ![M, N]⟩] ⟨2, ![M, K]⟩ 1) (r : Fin M) (j : Fin N) (k : Fin K)
    (hk : k.val = j.val) :
    concatenate ⟨2, ![M, K]⟩ 1 [⟨⟨2, ![M, N]⟩, x⟩, ⟨⟨2, ![M, N]⟩, y⟩] h (ix2 r k) = x (ix2 r j) :=
  concatenate_pair_apply_left 1 x y h (ix2 r k) rfl (ix2 r j) (fun b => by
    match b with
    | ⟨0, _⟩ => rfl
    | ⟨1, _⟩ => exact hk.symm)

theorem cat_right {K : ℕ} (h : Shape.Concatenates [⟨2, ![M, N]⟩, ⟨2, ![M, N]⟩] ⟨2, ![M, K]⟩ 1) (r : Fin M) (j : Fin N) (k : Fin K)
    (hk : k.val = N + j.val) :
    concatenate ⟨2, ![M, K]⟩ 1 [⟨⟨2, ![M, N]⟩, x⟩, ⟨⟨2, ![M, N]⟩, y⟩] h (ix2 r k) = y (ix2 r j) :=
  concatenate_pair_apply_right 1 x y h (ix2 r k) rfl rfl (ix2 r j)
    (fun b hb => by
      match b with
      | ⟨0, _⟩ => rfl
      | ⟨1, _⟩ => exact absurd rfl hb)
    (by show j.val + N = k.val; omega)

end RowSums

end
-- ==== Proof.Weights.In.lean ====
/- The gradient of the gated unit's input weights: for each of its two halves the kernel gathers it over eight blocks of 512
   rows. -/
module

public import proofs.«01_k».proof.Proof.Math.RowSums
public import proofs.«01_k».proof.Proof.Gen.DwInIdeal.Value
public import Idealize.ShloMosaic.Lib.Pointwise

@[expose] public section

set_option maxRecDepth 16384

noncomputable section

namespace Weights.In

open Cert.DwInIdeal Cert.DwInIdeal.Gen Cert.DwInIdeal.Value Idealize.ShloMosaic Idealize.ShloMosaic.TcCoe Idealize.SL.Sem RowSums
open Idealize.ShloMosaic.Tactic

/-! ## A point's values -/

theorem first_at (i : Fin 1024) (j : Fin 2816) : (k0_pay1 : FVec Ideal S1024x2816 .f32) (ix2 i j) = 0 := by
  unfold k0_pay1
  pointwise []

theorem add_at (x0 : FVec Ideal S512x1024 .bf16) (acc : FVec Ideal S1024x2816 .f32) (x1 : FVec Ideal S512x2816 .bf16) (i : Fin 1024) (j : Fin 2816) :
    (k0_pay2 x0 acc x1 : FVec Ideal S1024x2816 .f32) (ix2 i j) = acc (ix2 i j) + ∑ r : Fin 512, x0 (ix2 r i) * x1 (ix2 r j) := by
  unfold k0_pay2
  pointwise []

theorem same (x0 : FVec Ideal S512x1024 .bf16) (acc : FVec Ideal S1024x2816 .f32) (x1 : FVec Ideal S512x2816 .bf16) :
    (k0_pay3 x0 acc x1 : FVec Ideal S1024x2816 .f32) = k0_pay2 x0 acc x1 := rfl

/-! ## What a point leaves: at a half's first point from zero, at a later one from what the point before left -/

theorem hz : (![0, 0] : Fin 2 → Nat) = fun _ => 0 := funext fun a => by fin_cases a <;> rfl

theorem out_A (c : Dev nD) (i : grid0.Coords) (a3 : Memref sig .tc .vmem S512x1024 .bf16) (h3 : a3.IsWhole) (a4 : Memref sig .tc .vmem S512x2816 .bf16) (h4 : a4.IsWhole) (a5 : Memref sig .tc .vmem S512x2816 .bf16) (h5 : a5.IsWhole) (a6 : Memref sig .tc .vmem S1024x2816 .f32) (h6 : a6.IsWhole) (hc0 : cond0_0 i) (hc1 : cond0_1 i) (hc2 : ¬cond0_2 i)
    (x0 : Vec Ideal S512x1024 .bf16) (x1 x2 : Vec Ideal S512x2816 .bf16) :
    out0_A_3 (F := Ideal) c i a3 h3 a4 h4 a5 h5 a6 h6 hc0 hc1 hc2 x0 x1 x2 = k0_pay2 x0 (k0_pay1 (F := Ideal)) x1 := by
  unfold out0_A_3
  rw [View.read_writes_eq_canon _ _ _ (cover0_A_3 c i a3 h3 a4 h4 a5 h5 a6 h6 hc0 hc1 hc2 x0 x1 x2)]
  unfold kernelRun0_A
  dsimp only
  try sl_unfold_words
  rw [View.canon_cons_unit_zero (S := S1024x2816) hz, View.readCov_unit_zero (S := S1024x2816) _ hz]
  simp only [View.readAt_eq_ld, h3.read_unread, h4.read_unread, h5.read_unread, h6.read_unread, View.ld_unit_zero (S := S512x1024) hz, View.ld_unit_zero (S := S512x2816) hz, View.ld_unit_zero (S := S1024x2816) hz, shapeCast_self]

theorem out_B (c : Dev nD) (i : grid0.Coords) (a3 : Memref sig .tc .vmem S512x1024 .bf16) (h3 : a3.IsWhole) (a4 : Memref sig .tc .vmem S512x2816 .bf16) (h4 : a4.IsWhole) (a5 : Memref sig .tc .vmem S512x2816 .bf16) (h5 : a5.IsWhole) (a6 : Memref sig .tc .vmem S1024x2816 .f32) (h6 : a6.IsWhole) (hc0 : ¬cond0_0 i) (hc1 : cond0_1 i) (hc2 : ¬cond0_2 i)
    (x0 : Vec Ideal S512x1024 .bf16) (x1 x2 : Vec Ideal S512x2816 .bf16) (acc : Vec Ideal S1024x2816 .f32) :
    out0_B_3 (F := Ideal) c i a3 h3 a4 h4 a5 h5 a6 h6 hc0 hc1 hc2 x0 x1 x2 acc = k0_pay2 x0 acc x1 := by
  unfold out0_B_3
  rw [View.read_writes_eq_canon _ _ _ (cover0_B_3 c i a3 h3 a4 h4 a5 h5 a6 h6 hc0 hc1 hc2 x0 x1 x2 acc)]
  unfold kernelRun0_B
  dsimp only
  try sl_unfold_words
  rw [View.canon_unit_zero hz]
  simp only [View.readAt_eq_ld, h3.read_unread, h4.read_unread, h5.read_unread, h6.read_unread, View.ld_unit_zero (S := S512x1024) hz, View.ld_unit_zero (S := S512x2816) hz, View.ld_unit_zero (S := S1024x2816) hz, shapeCast_self]

theorem out_C (c : Dev nD) (i : grid0.Coords) (a3 : Memref sig .tc .vmem S512x1024 .bf16) (h3 : a3.IsWhole) (a4 : Memref sig .tc .vmem S512x2816 .bf16) (h4 : a4.IsWhole) (a5 : Memref sig .tc .vmem S512x2816 .bf16) (h5 : a5.IsWhole) (a6 : Memref sig .tc .vmem S1024x2816 .f32) (h6 : a6.IsWhole) (hc0 : cond0_0 i) (hc1 : ¬cond0_1 i) (hc2 : cond0_2 i)
    (x0 : Vec Ideal S512x1024 .bf16) (x1 x2 : Vec Ideal S512x2816 .bf16) :
    out0_C_3 (F := Ideal) c i a3 h3 a4 h4 a5 h5 a6 h6 hc0 hc1 hc2 x0 x1 x2 = k0_pay3 x0 (k0_pay1 (F := Ideal)) x2 := by
  unfold out0_C_3
  rw [View.read_writes_eq_canon _ _ _ (cover0_C_3 c i a3 h3 a4 h4 a5 h5 a6 h6 hc0 hc1 hc2 x0 x1 x2)]
  unfold kernelRun0_C
  dsimp only
  try sl_unfold_words
  rw [View.canon_cons_unit_zero (S := S1024x2816) hz, View.readCov_unit_zero (S := S1024x2816) _ hz]
  simp only [View.readAt_eq_ld, h3.read_unread, h4.read_unread, h5.read_unread, h6.read_unread, View.ld_unit_zero (S := S512x1024) hz, View.ld_unit_zero (S := S512x2816) hz, View.ld_unit_zero (S := S1024x2816) hz, shapeCast_self]

theorem out_D (c : Dev nD) (i : grid0.Coords) (a3 : Memref sig .tc .vmem S512x1024 .bf16) (h3 : a3.IsWhole) (a4 : Memref sig .tc .vmem S512x2816 .bf16) (h4 : a4.IsWhole) (a5 : Memref sig .tc .vmem S512x2816 .bf16) (h5 : a5.IsWhole) (a6 : Memref sig .tc .vmem S1024x2816 .f32) (h6 : a6.IsWhole) (hc0 : ¬cond0_0 i) (hc1 : ¬cond0_1 i) (hc2 : cond0_2 i)
    (x0 : Vec Ideal S512x1024 .bf16) (x1 x2 : Vec Ideal S512x2816 .bf16) (acc : Vec Ideal S1024x2816 .f32) :
    out0_D_3 (F := Ideal) c i a3 h3 a4 h4 a5 h5 a6 h6 hc0 hc1 hc2 x0 x1 x2 acc = k0_pay3 x0 acc x2 := by
  unfold out0_D_3
  rw [View.read_writes_eq_canon _ _ _ (cover0_D_3 c i a3 h3 a4 h4 a5 h5 a6 h6 hc0 hc1 hc2 x0 x1 x2 acc)]
  unfold kernelRun0_D
  dsimp only
  try sl_unfold_words
  rw [View.canon_unit_zero hz]
  simp only [View.readAt_eq_ld, h3.read_unread, h4.read_unread, h5.read_unread, h6.read_unread, View.ld_unit_zero (S := S512x1024) hz, View.ld_unit_zero (S := S512x2816) hz, View.ld_unit_zero (S := S1024x2816) hz, shapeCast_self]

/-! ## The blocks a point reads -/

variable (m : (ℓ : Loc nD τ sig) → Buf (Elt Ideal) ℓ) (c : Dev nD)

/-- The arguments: the normalised rows, and the gradients of the projection's two halves. -/
abbrev argH : FVec Ideal S4096x1024 .bf16 := m ((c.tc : Thread nD τ).loc main_arg0)
abbrev argG : FVec Ideal S4096x2816 .bf16 := m ((c.tc : Thread nD τ).loc main_arg1)
abbrev argU : FVec Ideal S4096x2816 .bf16 := m ((c.tc : Thread nD τ).loc main_arg2)

/-- The half numbered `q`. -/
def argZ (q : ℕ) : FVec Ideal S4096x2816 .bf16 := if q = 0 then argG m c else argU m c

abbrev blkH (t : Fin cfg0.N) : FVec Ideal S512x1024 .bf16 := iblk m c 0 t
abbrev blkG (t : Fin cfg0.N) : FVec Ideal S512x2816 .bf16 := iblk m c 1 t
abbrev blkU (t : Fin cfg0.N) : FVec Ideal S512x2816 .bf16 := iblk m c 2 t

/-- The block of the half a point takes. -/
def blkZ (t : Fin cfg0.N) : FVec Ideal S512x2816 .bf16 := if t.val < 8 then blkG m c t else blkU m c t

theorem lt16 (t : Fin cfg0.N) : t.val < 16 := by
  have h : cfg0.N = 16 := N_0
  have := t.isLt
  omega

theorem index0 : ∀ t : Fin grid0.N, win0_0.index t 0 = t.val % 8 ∧ win0_0.index t 1 = 0 := by decide +kernel
theorem index1 : ∀ t : Fin grid0.N, t.val < 8 → win0_1.index t 0 = t.val % 8 ∧ win0_1.index t 1 = 0 := by decide +kernel
theorem index2 : ∀ t : Fin grid0.N, ¬t.val < 8 → win0_2.index t 0 = t.val % 8 ∧ win0_2.index t 1 = 0 := by decide +kernel
theorem index3 : ∀ t : Fin grid0.N, win0_3.index t 0 = 0 ∧ win0_3.index t 1 = t.val / 8 := by decide +kernel

theorem blkH_at (t : Fin cfg0.N) (r : Fin 512) (k : Fin 1024) :
    blkH m c t (ix2 r k) = argH m c (ix2 ⟨512 * (t.val % 8) + r.val, by omega⟩ k) := by
  unfold blkH iblk
  rw [View.read_apply]
  show V m c main_arg0 _ = m _ _
  unfold V
  congr 1
  funext a
  apply Fin.ext
  match a with
  | ⟨0, _⟩ => show win0_0.index t 0 * 512 + 1 * r.val = 512 * (t.val % 8) + r.val; rw [(index0 t).1]; omega
  | ⟨1, _⟩ => show win0_0.index t 1 * 1024 + 1 * k.val = k.val; rw [(index0 t).2]; omega

theorem blkG_at (t : Fin cfg0.N) (h : t.val < 8) (r : Fin 512) (k : Fin 2816) :
    blkG m c t (ix2 r k) = argG m c (ix2 ⟨512 * (t.val % 8) + r.val, by omega⟩ k) := by
  unfold blkG iblk
  rw [View.read_apply]
  show V m c main_arg1 _ = m _ _
  unfold V
  congr 1
  funext a
  apply Fin.ext
  match a with
  | ⟨0, _⟩ => show win0_1.index t 0 * 512 + 1 * r.val = 512 * (t.val % 8) + r.val; rw [(index1 t h).1]; omega
  | ⟨1, _⟩ => show win0_1.index t 1 * 2816 + 1 * k.val = k.val; rw [(index1 t h).2]; omega

theorem blkU_at (t : Fin cfg0.N) (h : ¬t.val < 8) (r : Fin 512) (k : Fin 2816) :
    blkU m c t (ix2 r k) = argU m c (ix2 ⟨512 * (t.val % 8) + r.val, by omega⟩ k) := by
  unfold blkU iblk
  rw [View.read_apply]
  show V m c main_arg2 _ = m _ _
  unfold V
  congr 1
  funext a
  apply Fin.ext
  match a with
  | ⟨0, _⟩ => show win0_2.index t 0 * 512 + 1 * r.val = 512 * (t.val % 8) + r.val; rw [(index2 t h).1]; omega
  | ⟨1, _⟩ => show win0_2.index t 1 * 2816 + 1 * k.val = k.val; rw [(index2 t h).2]; omega

theorem blkZ_at (t : Fin cfg0.N) (r : Fin 512) (k : Fin 2816) :
    blkZ m c t (ix2 r k) = argZ m c (t.val / 8) (ix2 ⟨512 * (t.val % 8) + r.val, by omega⟩ k) := by
  unfold blkZ argZ
  by_cases h : t.val < 8
  · rw [if_pos h, if_pos (by omega)]
    exact blkG_at m c t h r k
  · rw [if_neg h, if_neg (by omega)]
    exact blkU_at m c t h r k

/-! ## The gathered sums -/

/-- A row's term, in half `q`, of the weight at row `i` and column `j`. -/
def term (q : ℕ) (i : Fin 1024) (j : Fin 2816) (r : Fin 4096) : EReal := argH m c (ix2 r i) * argZ m c q (ix2 r j)

/-- The gradient of the input weights. -/
def res : FVec Ideal S1024x5632 .f32 := fun y => ∑ r, term m c ((y 1).val / 2816) (y 0) ⟨(y 1).val % 2816, by omega⟩ r

/-- A point's products are its rows' terms. -/
theorem rows (t : Fin cfg0.N) (i : Fin 1024) (j : Fin 2816) (r : Fin 512) :
    blkH m c t (ix2 r i) * blkZ m c t (ix2 r j) = term m c (t.val / 8) i j ⟨512 * (t.val % 8) + r.val, by omega⟩ :=
  congrArg₂ (· * ·) (blkH_at m c t r i) (blkZ_at m c t r j)

theorem outs_first (t : Fin cfg0.N) (h : t.val % 8 = 0) : outsAt0 m c t.val t.isLt = k0_pay2 (F := Ideal) (blkH m c t) (k0_pay1 (F := Ideal)) (blkZ m c t) := by
  unfold blkZ
  by_cases h1 : t.val < 8
  · rw [if_pos h1, outsAt0_A m c t h h1 (by omega)]
    exact out_A c (grid0.coords t) (ms0_0 t) (hs0_0 t) (ms0_1 t) (hs0_1 t) (ms0_2 t) (hs0_2 t) (ms0_3 t) (hs0_3 t) _ _ _ _ _ _
  · rw [if_neg h1, outsAt0_C m c t h h1 (by omega)]
    exact out_C c (grid0.coords t) (ms0_0 t) (hs0_0 t) (ms0_1 t) (hs0_1 t) (ms0_2 t) (hs0_2 t) (ms0_3 t) (hs0_3 t) _ _ _ _ _ _

theorem outs_next (t : Fin cfg0.N) (h : ¬t.val % 8 = 0) : outsAt0 m c t.val t.isLt
    = k0_pay2 (F := Ideal) (blkH m c t) (outsAt0 m c (t.val - 1) (Nat.lt_of_le_of_lt (Nat.sub_le _ _) t.isLt)) (blkZ m c t) := by
  unfold blkZ
  by_cases h1 : t.val < 8
  · rw [if_pos h1, outsAt0_B m c t h h1 (by omega)]
    exact out_B c (grid0.coords t) (ms0_0 t) (hs0_0 t) (ms0_1 t) (hs0_1 t) (ms0_2 t) (hs0_2 t) (ms0_3 t) (hs0_3 t) _ _ _ _ _ _ _
  · rw [if_neg h1, outsAt0_D m c t h h1 (by omega)]
    exact out_D c (grid0.coords t) (ms0_0 t) (hs0_0 t) (ms0_1 t) (hs0_1 t) (ms0_2 t) (hs0_2 t) (ms0_3 t) (hs0_3 t) _ _ _ _ _ _ _

theorem outs_at (i : Fin 1024) (j : Fin 2816) : ∀ (n : ℕ) (h : n < cfg0.N),
    outsAt0 m c n h (ix2 i j) = upTo (term m c (n / 8) i j) (512 * (n % 8 + 1))
  | 0, h => by
    rw [outs_first m c ⟨0, h⟩ rfl]
    refine (add_at _ _ _ i j).trans ?_
    rw [first_at]
    exact upTo_first _ _ fun r => rows m c ⟨0, h⟩ i j r
  | n + 1, h => by
    by_cases h0 : (n + 1) % 8 = 0
    · rw [outs_first m c ⟨n + 1, h⟩ h0]
      refine (add_at _ _ _ i j).trans ?_
      rw [first_at, h0]
      exact upTo_first _ _ fun r => (rows m c ⟨n + 1, h⟩ i j r).trans (congrArg _ (Fin.ext (by show 512 * ((n + 1) % 8) + r.val = _; rw [h0])))
    · rw [outs_next m c ⟨n + 1, h⟩ h0]
      refine (add_at _ _ _ i j).trans ?_
      have e : outsAt0 m c (n + 1 - 1) (Nat.lt_of_le_of_lt (Nat.sub_le _ _) h) (ix2 i j) = _ := outs_at i j n (by omega)
      dsimp only
      rw [e, show n / 8 = (n + 1) / 8 by omega, show n % 8 + 1 = (n + 1) % 8 by omega]
      exact upTo_step _ _ ((n + 1) % 8) (by omega) fun r => rows m c ⟨n + 1, h⟩ i j r

/-! ## The array -/

theorem final : (dats m 0 c).arrAt 3 cfg0.N = res m c :=
  (dats m 0 c).arrAt_eq_of_cover 3 (res m c)
    (fun t hf => by
      have h7 : t.val % 8 = 7 := (flush0_3 t).mp hf
      have ht := lt16 t
      rw [flushed3]
      funext j
      have hj : (j 1).val < 2816 := (j 1).isLt
      rw [View.read_apply]
      have e : ((cfg0.win 3).blk t).view.emb j = (ix2 (j 0) ⟨2816 * (t.val / 8) + (j 1).val, by omega⟩ : S1024x5632.Idx) := by
        funext a
        apply Fin.ext
        match a with
        | ⟨0, _⟩ => show win0_3.index t 0 * 1024 + 1 * (j 0).val = (j 0).val; rw [(index3 t).1]; omega
        | ⟨1, _⟩ => show win0_3.index t 1 * 2816 + 1 * (j 1).val = 2816 * (t.val / 8) + (j 1).val; rw [(index3 t).2]; omega
      rw [e]
      refine Eq.trans (b := outsAt0 m c t.val t.isLt (ix2 (j 0) (j 1))) (congrArg (outsAt0 m c t.val t.isLt) (ValueIdx.eq_ix2 j)) ?_
      show outsAt0 m c t.val t.isLt (ix2 (j 0) (j 1)) = ∑ r, term m c ((2816 * (t.val / 8) + (j 1).val) / 2816) (j 0) ⟨(2816 * (t.val / 8) + (j 1).val) % 2816, _⟩ r
      refine (outs_at m c _ _ t.val t.isLt).trans ?_
      rw [h7]
      refine (upTo_all _).trans ?_
      have e1 : (2816 * (t.val / 8) + (j 1).val) / 2816 = t.val / 8 := by omega
      have e2 : (⟨(2816 * (t.val / 8) + (j 1).val) % 2816, by omega⟩ : Fin 2816) = j 1 := Fin.ext (by show (2816 * (t.val / 8) + (j 1).val) % 2816 = (j 1).val; omega)
      rw [e1]
      exact congrArg (fun k => ∑ r, term m c (t.val / 8) (j 0) k r) e2.symm)
    (fun i => by
      have h0 : (i 0 : ℕ) < 1024 := (i 0).isLt
      have h1 : (i 1 : ℕ) < 5632 := (i 1).isLt
      have hN : cfg0.N = 16 := N_0
      have hp : 8 * ((i 1 : ℕ) / 2816) + 7 < cfg0.N := by omega
      refine ⟨⟨8 * ((i 1 : ℕ) / 2816) + 7, hp⟩, (flush0_3 _).mpr (by show (8 * ((i 1 : ℕ) / 2816) + 7) % 8 = 7; omega), ?_⟩
      show (i : S1024x5632.Idx) ∈ ((View.whole main_v0).slice (win0_3.rect ⟨8 * ((i 1 : ℕ) / 2816) + 7, hp⟩)).set
      rw [View.set_slice_whole, Rect.mem_set_unit]
      intro a
      match a with
      | ⟨0, _⟩ =>
        show win0_3.index _ 0 * 1024 ≤ (i 0 : ℕ) ∧ (i 0 : ℕ) < win0_3.index _ 0 * 1024 + 1024
        rw [(index3 _).1]; omega
      | ⟨1, _⟩ =>
        show win0_3.index _ 1 * 2816 ≤ (i 1 : ℕ) ∧ (i 1 : ℕ) < win0_3.index _ 1 * 2816 + 2816
        rw [(index3 _).2]; dsimp only; omega)

end Weights.In

end
-- ==== Proof.Weights.InRef.lean ====
/- The reference's gradient of the gated unit's input weights at an index, and the kernel's as it. -/
module

public import proofs.«01_k».proof.Proof.Weights.In
public import proofs.«01_k».proof.Proof.Gen.DwInRefIdeal.Run

@[expose] public section

set_option maxRecDepth 16384

noncomputable section

namespace Weights.InRef

open Cert.DwInRefIdeal Cert.DwInRefIdeal.Gen Idealize.ShloMosaic Idealize.ShloMosaic.TcCoe RowSums

variable (H : FVec Ideal S4096x1024 .bf16) (G U : FVec Ideal S4096x2816 .bf16)

/-- The two halves' gradients side by side. -/
def both : FVec Ideal S4096x5632 .bf16 :=
  concatenate S4096x5632 1 [⟨S4096x2816, G⟩, ⟨S4096x2816, U⟩] concatenates_S4096x2816_S4096x2816_S4096x5632_d1

def prod (Z : FVec Ideal S4096x5632 .bf16) : FVec Ideal S5632x1024 .f32 :=
  Host.dotGeneral dot_S4096x5632_S4096x1024_S5632x1024_0_0_1_1_n_n none (extf .f32 Z bitsLt_bf16_f32) (extf .f32 H bitsLt_bf16_f32)

def out : FVec Ideal S1024x5632 .f32 :=
  transpose S1024x5632 [1, 0] (prod H (both G U)) transposes_S5632x1024_S1024x5632_1_0

theorem prod_at (Z : FVec Ideal S4096x5632 .bf16) (j : Fin 5632) (i : Fin 1024) :
    prod H Z (ix2 j i) = ∑ r : Fin 4096, Z (ix2 r j) * H (ix2 r i) := by
  unfold prod
  pointwise []

theorem out_at (i : Fin 1024) (j : Fin 5632) :
    out H G U (ix2 i j) = ∑ r : Fin 4096, both G U (ix2 r j) * H (ix2 r i) := by
  unfold out
  generalize both G U = Z
  rw [← prod_at]
  generalize prod H Z = P
  pointwise []

theorem out_match (m : (ℓ : Loc Cert.DwInIdeal.nD Cert.DwInIdeal.τ Cert.DwInIdeal.sig) → Buf (Elt Ideal) ℓ) (c : Dev Cert.DwInIdeal.nD) :
    out (In.argH m c) (In.argG m c) (In.argU m c) = In.res m c := by
  funext y
  obtain ⟨i, j, rfl⟩ : ∃ (i : Fin 1024) (j : Fin 5632), y = ix2 i j := ⟨y 0, y 1, ValueIdx.eq_ix2 y⟩
  refine (out_at _ _ _ i j).trans ?_
  show _ = ∑ r, In.term m c (j.val / 2816) i ⟨j.val % 2816, _⟩ r
  refine Finset.sum_congr rfl fun r _ => ?_
  unfold In.term In.argZ
  rw [mul_comm]
  refine congrArg _ ?_
  by_cases h : j.val / 2816 = 0
  · rw [if_pos h]
    exact cat_left _ _ _ r ⟨j.val % 2816, by omega⟩ j (by show j.val = j.val % 2816; omega)
  · rw [if_neg h]
    have := j.isLt
    exact cat_right _ _ _ r ⟨j.val % 2816, by omega⟩ j (by show j.val = 2816 + j.val % 2816; omega)

end Weights.InRef

end
-- ==== Proof.Weights.Out.lean ====
/- The gradient of the gated unit's output weights: the kernel gathers it over eight blocks of 512 rows and halves it at the
   last; the reference sums the halved products over all 4096 rows. -/
module

public import proofs.«01_k».proof.Proof.Math.RowSums
public import proofs.«01_k».proof.Proof.Ffn.Gate
public import proofs.«01_k».proof.Proof.Gen.DwOutIdeal.Value
public import proofs.«01_k».proof.Proof.Gen.DwOutRefIdeal.Run
public import Idealize.ShloMosaic.Lib.Pointwise

@[expose] public section

set_option maxRecDepth 16384

noncomputable section

namespace Weights.Out

open Cert.DwOutIdeal Cert.DwOutIdeal.Gen Cert.DwOutIdeal.Value Idealize.ShloMosaic Idealize.ShloMosaic.TcCoe Idealize.SL.Sem RowSums

/-! ## A point's values -/

theorem first_at (i : Fin 1408) (j : Fin 1024) : (k0_pay1 : FVec Ideal S1408x1024 .f32) (ix2 i j) = 0 := by
  unfold k0_pay1
  pointwise []

theorem add_at (x0 : FVec Ideal S512x1408 .bf16) (acc : FVec Ideal S1408x1024 .f32) (x1 : FVec Ideal S512x1024 .f32) (i : Fin 1408) (j : Fin 1024) :
    (k0_pay2 x0 acc x1 : FVec Ideal S1408x1024 .f32) (ix2 i j) = acc (ix2 i j) + ∑ r : Fin 512, x0 (ix2 r i) * x1 (ix2 r j) := by
  unfold k0_pay2
  pointwise []

theorem scale_at (acc : FVec Ideal S1408x1024 .f32) (i : Fin 1408) (j : Fin 1024) :
    (k0_pay3 acc : FVec Ideal S1408x1024 .f32) (ix2 i j) = acc (ix2 i j) * Ffn.half := by
  unfold k0_pay3
  pointwise []

/-! ## The blocks a point reads -/

variable (m : (ℓ : Loc nD τ sig) → Buf (Elt Ideal) ℓ) (c : Dev nD)

/-- The arguments: the unit's values and the output's cotangent. -/
abbrev argA : FVec Ideal S4096x2816 .bf16 := m ((c.tc : Thread nD τ).loc main_arg0)
abbrev argX : FVec Ideal S4096x1024 .f32 := m ((c.tc : Thread nD τ).loc main_arg1)

abbrev blkA (t : Fin cfg0.N) : FVec Ideal S512x1408 .bf16 := iblk m c 0 t
abbrev blkX (t : Fin cfg0.N) : FVec Ideal S512x1024 .f32 := iblk m c 1 t

theorem lt16 (t : Fin cfg0.N) : t.val < 16 := by
  have h : cfg0.N = 16 := N_0
  have := t.isLt
  omega

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel

theorem blkA_at (t : Fin cfg0.N) (r : Fin 512) (k : Fin 1408) :
    blkA m c t (ix2 r k) = argA m c (ix2 ⟨512 * (t.val % 8) + r.val, by omega⟩ ⟨1408 * (t.val / 8) + k.val, by have := lt16 t; omega⟩) := by
  unfold blkA iblk
  rw [View.read_apply]
  show V m c main_arg0 _ = m _ _
  unfold V
  congr 1
  funext a
  apply Fin.ext
  match a with
  | ⟨0, _⟩ => show win0_0.index t 0 * 512 + 1 * r.val = 512 * (t.val % 8) + r.val; rw [(index0 t).1]; omega
  | ⟨1, _⟩ => show win0_0.index t 1 * 1408 + 1 * k.val = 1408 * (t.val / 8) + k.val; rw [(index0 t).2]; omega

theorem blkX_at (t : Fin cfg0.N) (r : Fin 512) (k : Fin 1024) :
    blkX m c t (ix2 r k) = argX m c (ix2 ⟨512 * (t.val % 8) + r.val, by omega⟩ k) := by
  unfold blkX iblk
  rw [View.read_apply]
  show V m c main_arg1 _ = m _ _
  unfold V
  congr 1
  funext a
  apply Fin.ext
  match a with
  | ⟨0, _⟩ => show win0_1.index t 0 * 512 + 1 * r.val = 512 * (t.val % 8) + r.val; rw [(index1 t).1]; omega
  | ⟨1, _⟩ => show win0_1.index t 1 * 1024 + 1 * k.val = k.val; rw [(index1 t).2]; omega

/-! ## The gathered sums -/

/-- A row's term of the weight at row `i` and column `j`. -/
def term (i : Fin 2816) (j : Fin 1024) (r : Fin 4096) : EReal := argA m c (ix2 r i) * argX m c (ix2 r j)

/-- The gradient of the output weights. -/
def res : FVec Ideal S2816x1024 .f32 := fun y => (∑ r, term m c (y 0) (y 1) r) * Ffn.half

/-- A point's products are its rows' terms. -/
theorem rows (q n : ℕ) (hn : n < 8) (h : 8 * q + n < cfg0.N) (i : Fin 1408) (j : Fin 1024) (hi : 1408 * q + i.val < 2816) (r : Fin 512) :
    blkA m c ⟨8 * q + n, h⟩ (ix2 r i) * blkX m c ⟨8 * q + n, h⟩ (ix2 r j)
      = term m c ⟨1408 * q + i.val, hi⟩ j ⟨512 * n + r.val, by omega⟩ := by
  have e1 : (⟨512 * ((8 * q + n) % 8) + r.val, by omega⟩ : Fin 4096) = ⟨512 * n + r.val, by omega⟩ := Fin.ext (by dsimp only; omega)
  have e2 : (⟨1408 * ((8 * q + n) / 8) + i.val, by omega⟩ : Fin 2816) = ⟨1408 * q + i.val, hi⟩ := Fin.ext (by dsimp only; omega)
  exact congrArg₂ (· * ·) ((blkA_at m c _ r i).trans (congrArg₂ (fun a b => argA m c (ix2 a b)) e1 e2))
    ((blkX_at m c _ r j).trans (congrArg (fun a => argX m c (ix2 a j)) e1))

theorem step_mid (n : ℕ) (h : n < cfg0.N) (acc : FVec Ideal S1408x1024 .f32) (h0 : ¬n % 8 = 0) (h7 : ¬n % 8 = 7) :
    step2 m c n h acc = k0_pay2 (F := Ideal) (blkA m c ⟨n, h⟩) acc (blkX m c ⟨n, h⟩) := by
  unfold step2
  rw [if_pos ⟨h0, h7⟩]

theorem step_last (n : ℕ) (h : n < cfg0.N) (acc : FVec Ideal S1408x1024 .f32) (h7 : n % 8 = 7) :
    step2 m c n h acc = k0_pay3 (F := Ideal) (k0_pay2 (F := Ideal) (blkA m c ⟨n, h⟩) acc (blkX m c ⟨n, h⟩)) := by
  unfold step2
  rw [if_neg (by omega), if_pos (by omega)]

/-- What a run holds before its last point. -/
theorem acc_at (q : ℕ) (i : Fin 1408) (j : Fin 1024) (hi : 1408 * q + i.val < 2816) : ∀ (n : ℕ) (_ : n < 7) (h : 8 * q + n < cfg0.N),
    Pipeline.accAt (reset2 m c) (step2 m c) (8 * q) n h (ix2 i j) = upTo (term m c ⟨1408 * q + i.val, hi⟩ j) (512 * (n + 1))
  | 0, _, h => by
    rw [Pipeline.accAt_zero]
    unfold reset2
    refine (add_at _ _ _ i j).trans ?_
    rw [first_at]
    exact upTo_first _ _ fun r => rows m c q 0 (by omega) h i j hi r
  | n + 1, hn, h => by
    rw [Pipeline.accAt_succ, step_mid m c _ _ _ (by omega) (by omega)]
    refine (add_at _ _ _ i j).trans ?_
    rw [acc_at q i j hi n (by omega)]
    exact upTo_step _ _ (n + 1) (by omega) fun r => rows m c q (n + 1) (by omega) h i j hi r

/-- What it holds after it. -/
theorem acc_last (q : ℕ) (i : Fin 1408) (j : Fin 1024) (hi : 1408 * q + i.val < 2816) (h : 8 * q + 7 < cfg0.N) :
    Pipeline.accAt (reset2 m c) (step2 m c) (8 * q) 7 h (ix2 i j) = (∑ r, term m c ⟨1408 * q + i.val, hi⟩ j r) * Ffn.half := by
  rw [Pipeline.accAt_succ, step_last m c _ _ _ (by omega)]
  refine (scale_at _ i j).trans (congrArg (· * Ffn.half) ?_)
  refine (add_at _ _ _ i j).trans ?_
  rw [acc_at m c q i j hi 6 (by omega), ← upTo_all]
  exact upTo_step _ _ 7 (by omega) fun r => rows m c q 7 (by omega) h i j hi r

theorem final : G2 m c = res m c := by
  funext y
  have h0 : (y 0).val < 2816 := (y 0).isLt
  have h1 : (y 1).val < 1024 := (y 1).isLt
  have hN : cfg0.N = 16 := N_0
  have hq : run2Of y = (y 0).val / 1408 := by show 1 * ((y 0).val / 1408 - 0) + 1 * ((y 1).val / 1024 - 0) = _; omega
  have hl : loc2Of y = (ix2 ⟨(y 0).val % 1408, by omega⟩ (y 1) : S1408x1024.Idx) := by
    funext a
    apply Fin.ext
    match a with
    | ⟨0, _⟩ => rfl
    | ⟨1, _⟩ => show (y 1).val % 1024 = (y 1).val; omega
  unfold G2
  rw [dif_pos (by rw [hq]; omega), hl]
  refine (acc_last m c (run2Of y) _ _ (by rw [hq]; show _ + (y 0).val % 1408 < _; omega) _).trans ?_
  unfold res
  have e : (⟨1408 * run2Of y + (y 0).val % 1408, by rw [hq]; omega⟩ : Fin 2816) = y 0 :=
    Fin.ext (by show 1408 * run2Of y + (y 0).val % 1408 = (y 0).val; rw [hq]; omega)
  exact congrArg (fun i => (∑ r, term m c i (y 1) r) * Ffn.half) e

end Weights.Out

namespace Weights.OutRef

open Cert.DwOutRefIdeal Cert.DwOutRefIdeal.Gen Idealize.ShloMosaic Idealize.ShloMosaic.TcCoe

/-! ## The reference -/

/-- The product before the transpose, at an index. -/
def prod (A : FVec Ideal S4096x2816 .bf16) (X : FVec Ideal S4096x1024 .f32) : FVec Ideal S1024x2816 .f32 :=
  Host.dotGeneral dot_S4096x1024_S4096x2816_S1024x2816_0_0_1_1_n_n none (mulf (broadcastInDim S4096x1024 ![] bcast_S_S4096x1024 (constant S_ .f32 0x3F000000#32)) X) (extf .f32 A bitsLt_bf16_f32)

def out (A : FVec Ideal S4096x2816 .bf16) (X : FVec Ideal S4096x1024 .f32) : FVec Ideal S2816x1024 .f32 :=
  transpose S2816x1024 [1, 0] (prod A X) transposes_S1024x2816_S2816x1024_1_0

theorem prod_at (A : FVec Ideal S4096x2816 .bf16) (X : FVec Ideal S4096x1024 .f32) (j : Fin 1024) (i : Fin 2816) :
    prod A X (ix2 j i) = ∑ r : Fin 4096, Ffn.half * X (ix2 r j) * A (ix2 r i) := by
  unfold prod
  pointwise []

theorem out_at (A : FVec Ideal S4096x2816 .bf16) (X : FVec Ideal S4096x1024 .f32) (i : Fin 2816) (j : Fin 1024) :
    out A X (ix2 i j) = ∑ r : Fin 4096, Ffn.half * X (ix2 r j) * A (ix2 r i) := by
  rw [← prod_at]
  unfold out
  generalize prod A X = P
  pointwise []

theorem out_match (m : (ℓ : Loc Cert.DwOutIdeal.nD Cert.DwOutIdeal.τ Cert.DwOutIdeal.sig) → Buf (Elt Ideal) ℓ) (c : Dev Cert.DwOutIdeal.nD) :
    out (Out.argA m c) (Out.argX m c) = Out.res m c := by
  funext y
  obtain ⟨i, j, rfl⟩ : ∃ (i : Fin 2816) (j : Fin 1024), y = ix2 i j := ⟨y 0, y 1, ValueIdx.eq_ix2 y⟩
  refine (out_at _ _ i j).trans ?_
  show _ = (∑ r, Out.term m c i j r) * Ffn.half
  rw [Ffn.half_eq, Reals.sum_mul_coe _ _ (by norm_num)]
  refine Finset.sum_congr rfl fun r _ => ?_
  unfold Out.term
  rw [mul_assoc, mul_comm, mul_comm (Out.argX m c (ix2 r j))]

end Weights.OutRef

end
-- ==== Proof.Norm.Row.lean ====
/- The root-mean-square norm of a row and its gradient, at any extended reals: the form that projects out the normalised row
   against the form that differentiates the mean. -/
module

public import proofs.«01_k».proof.Proof.Math.Reals

@[expose] public section

noncomputable section

namespace Norm

open Idealize.ShloMosaic Reals

abbrev width : EReal := Ideal.ofBits .f32 0x44800000#32
abbrev eps : EReal := Ideal.ofBits .f32 0x358637BD#32
abbrev negHalf : EReal := Ideal.ofBits .f32 0xBF000000#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : eps = ((8796093 / 8796093022208 : ℝ) : EReal) := by
  simp [eps, Ideal.ofBits, Ideal.ieee, -EReal.coe_mul]; norm_num

variable {n : ℕ} (x d : Fin n → EReal)

/-- The mean square and its shift. -/
def shifted : EReal := Ideal.div (∑ k, x k * x k) width + eps

/-- The scale. -/
def rs : EReal := Ideal.rsqrt (shifted x)

/-- The gradient as the projection. -/
def project (o : EReal) (k : Fin n) : EReal :=
  o + rs x * (d k - x k * rs x * Ideal.div (∑ j, d j * (x j * rs x)) width)

/-- Half the derivative of the scale along the row. -/
def slope : EReal := Ideal.div ((∑ j, x j * d j) * (negHalf * Ideal.div (rs x) (shifted x))) width

/-- The gradient as the mean's derivative. -/
def direct (o : EReal) (k : Fin n) : EReal := o + d k * rs x + x k * slope x d + slope x d * x k

/-! ## A row with an infinity -/

theorem sq_nonneg (a : EReal) : 0 ≤ a * a := by
  induction a using EReal.rec with
  | bot => simp
  | top => simp
  | coe a => exact_mod_cast mul_self_nonneg a

theorem sq_top {a : EReal} (h : ¬IsReal a) : a * a = ⊤ := by
  induction a using EReal.rec with
  | bot => simp
  | top => simp
  | coe a => exact absurd ⟨a, rfl⟩ h

theorem shifted_top (k : Fin n) (h : ¬IsReal (x k)) : shifted x = ⊤ := by
  unfold shifted
  have e : ∑ k, x k * x k = ⊤ :=
    top_le_iff.mp ((sq_top h).symm.le.trans (Finset.single_le_sum (fun j _ => sq_nonneg (x j)) (Finset.mem_univ k)))
  rw [e, width_eq, Ideal.div_coe (by norm_num), EReal.top_mul_coe_of_pos (by norm_num), eps_eq,
    EReal.top_add_of_ne_bot (EReal.coe_ne_bot _)]

theorem eq_of_top (h : shifted x = ⊤) (o : EReal) (k : Fin n) : direct x d o k = project x d o k := by
  have hr : rs x = 0 := by unfold rs; rw [h]; rfl
  have hs : slope x d = 0 := by
    unfold slope
    rw [hr, h, width_eq, Ideal.div_coe (by norm_num)]
    simp [Ideal.div]
  unfold direct project
  rw [hr, hs]
  simp

/-! ## A real row -/

/-- A product by a real, twice over. -/
theorem mul_coe_add (p : EReal) (b : ℝ) : p * (b : EReal) + p * (b : EReal) = p * ((2 * b : ℝ) : EReal) := by
  induction p using EReal.rec with
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe p => simp only [← EReal.coe_mul, ← EReal.coe_add]; congr 1; ring

theorem eq_of_coe (a : Fin n → ℝ) (hx : ∀ k, x k = (a k : EReal)) (o : EReal) (k : Fin n) : direct x d o k = project x d o k := by
  obtain ⟨s, hs, es⟩ : ∃ s : ℝ, 0 < s ∧ shifted x = (s : EReal) := by
    refine ⟨(∑ k, a k * a k) * (1 / 1024) + 8796093 / 8796093022208, ?_, ?_⟩
    · have : 0 ≤ ∑ k, a k * a k := Finset.sum_nonneg fun k _ => mul_self_nonneg (a k)
      positivity
    · unfold shifted
      rw [width_eq, eps_eq, Ideal.div_coe (by norm_num)]
      simp only [hx, ← EReal.coe_mul]
      rw [← coe_sum, ← EReal.coe_mul, ← EReal.coe_add]
  obtain ⟨r, hr, er, e2⟩ : ∃ r : ℝ, 0 ≤ r ∧ rs x = (r : EReal) ∧ r * r = 1 / s := by
    refine ⟨(Real.sqrt s)⁻¹, by positivity, ?_, ?_⟩
    · unfold rs
      rw [es]
      show (if s < 0 then (⊥ : EReal) else if s = 0 then ⊤ else ((Real.sqrt s)⁻¹ : ℝ)) = _
      rw [if_neg (by linarith), if_neg (by linarith)]
    · rw [← mul_inv, Real.mul_self_sqrt hs.le, one_div]
  have hp : ∑ j, d j * (x j * rs x) = (∑ j, x j * d j) * (r : EReal) := by
    rw [er, sum_mul_coe _ _ hr]
    exact Finset.sum_congr rfl fun j _ => by rw [mul_comm (x j) (d j), mul_assoc]
  have hc : slope x d = (∑ j, x j * d j) * ((-(1 / 2) * (r * (1 / s)) * (1 / 1024) : ℝ) : EReal) := by
    unfold slope
    rw [er, es, negHalf_eq, width_eq, Ideal.div_coe hs.ne', Ideal.div_coe (by norm_num), ← EReal.coe_mul, ← EReal.coe_mul, mul_assoc, ← EReal.coe_mul]
  unfold direct project
  rw [hp, hc, er, hx k, width_eq, Ideal.div_coe (by norm_num)]
  generalize ∑ j, x j * d j = p
  rw [add_assoc, mul_comm (a k : EReal), mul_assoc, ← EReal.coe_mul, mul_coe_add, add_assoc]
  congr 1
  rw [sub_eq_add_neg, mul_comm (r : EReal) (d k + _), add_mul_coe hr]
  congr 1
  rw [mul_assoc p, ← EReal.coe_mul, ← EReal.coe_mul, mul_comm _ (p * _), mul_assoc p, ← EReal.coe_mul, ← mul_neg, ← EReal.coe_neg,
    mul_assoc p, ← EReal.coe_mul]
  congr 2
  rw [← e2]
  ring

/-- The two forms agree. -/
theorem direct_eq (o : EReal) (k : Fin n) : direct x d o k = project x d o k := by
  by_cases h : ∀ k, IsReal (x k)
  · choose a ha using h
    exact eq_of_coe x d a ha o k
  · push Not at h
    obtain ⟨j, hj⟩ := h
    exact eq_of_top x d (shifted_top x j hj) o k

end Norm

end
-- ==== Proof.Norm.Tile.lean ====
/- A grid point's values: the gradient of the normalised rows' products, the norm's gradient of a row, and the gain's
   gradient over the point's rows. -/
module

public import proofs.«01_k».proof.Proof.Norm.Row
public import proofs.«01_k».proof.Proof.Gen.FfnDhIdeal.Value
public import Idealize.ShloMosaic.Lib.Pointwise

@[expose] public section

set_option maxRecDepth 16384

noncomputable section

namespace Norm

open Cert.FfnDhIdeal Cert.FfnDhIdeal.Gen Idealize.ShloMosaic Idealize.ShloMosaic.TcCoe Idealize.ShloMosaic.Tactic
open Idealize.SL.Sem

/-- The gradient of a normalised entry: over the two halves of the projection. -/
def pull (z u l w : Fin 2816 → EReal) : EReal := ∑ k, z k * l k + ∑ k, u k * w k

/-- The same, with every entry of a tile. -/
def tileP (x3 x4 : FVec Ideal S512x2816 .bf16) (x5 x6 : FVec Ideal S1024x2816 .bf16) (r : Fin 512) (k : Fin 1024) : EReal :=
  pull (fun n => x3 (ix2 r n)) (fun n => x4 (ix2 r n)) (fun n => x5 (ix2 k n)) (fun n => x6 (ix2 k n))

theorem pull_at (x3 x4 : FVec Ideal S512x2816 .bf16) (x5 x6 : FVec Ideal S1024x2816 .bf16) (r : Fin 512) (k : Fin 1024) :
    (k0_pay3 x3 x5 x4 x6 : FVec Ideal S512x1024 .f32) (ix2 r k) = tileP x3 x4 x5 x6 r k := by
  unfold k0_pay3
  pointwise []
  rfl

theorem rs_at (x : FVec Ideal S512x1024 .f32) (r : Fin 512) :
    (k0_pay4 x : FVec Ideal S512x1 .f32) (ix2 r 0) = rs (fun k : Fin 1024 => x (ix2 r k)) := by
  unfold k0_pay4
  pointwise []
  rfl

theorem scaled_at (x : FVec Ideal S512x1024 .f32) (r : Fin 512) (k : Fin 1024) :
    (k0_pay5 x : FVec Ideal S512x1024 .f32) (ix2 r k) = x (ix2 r k) * rs (fun k : Fin 1024 => x (ix2 r k)) := by
  rw [← rs_at]
  unfold k0_pay5
  generalize (k0_pay4 x : FVec Ideal S512x1 .f32) = v
  pointwise []

theorem gain_at (g : FVec Ideal S1x1024 .f32) (r : Fin 512) (k : Fin 1024) :
    (k0_pay7 g : FVec Ideal S512x1024 .f32) (ix2 r k) = g (ix2 0 k) := by
  unfold k0_pay7
  pointwise []

theorem first_at (k : Fin 1024) : (k0_pay2 : FVec Ideal S1x1024 .f32) (ix2 0 k) = 0 := by
  unfold k0_pay2
  pointwise []

theorem sum_at (x3 x4 : FVec Ideal S512x2816 .bf16) (x5 x6 : FVec Ideal S1024x2816 .bf16) (x : FVec Ideal S512x1024 .f32)
    (acc : FVec Ideal S1x1024 .f32) (k : Fin 1024) :
    (k0_pay6 x3 x5 x4 x6 x acc : FVec Ideal S1x1024 .f32) (ix2 0 k)
      = acc (ix2 0 k) + ∑ r : Fin 512, tileP x3 x4 x5 x6 r k * (x (ix2 r k) * rs (fun k : Fin 1024 => x (ix2 r k))) := by
  simp only [← pull_at, ← scaled_at]
  unfold k0_pay6
  generalize (k0_pay3 x3 x5 x4 x6 : FVec Ideal S512x1024 .f32) = P
  generalize (k0_pay5 x : FVec Ideal S512x1024 .f32) = Y
  pointwise []

theorem back_at (P : FVec Ideal S512x1024 .f32) (v : FVec Ideal S512x1 .f32) (Y g o : FVec Ideal S512x1024 .f32) (r : Fin 512) (k : Fin 1024) :
    (k0_pay1 P v Y g o : FVec Ideal S512x1024 .f32) (ix2 r k)
      = o (ix2 r k) + v (ix2 r 0) * (P (ix2 r k) * g (ix2 r k) - Y (ix2 r k) * Ideal.div (∑ j : Fin 1024, P (ix2 r j) * g (ix2 r j) * Y (ix2 r j)) width) := by
  unfold k0_pay1
  pointwise []

/-- A row's gradient. -/
theorem row_at (x0 x1 : FVec Ideal S512x1024 .f32) (x2 : FVec Ideal S1x1024 .f32) (x3 x4 : FVec Ideal S512x2816 .bf16)
    (x5 x6 : FVec Ideal S1024x2816 .bf16) (r : Fin 512) (k : Fin 1024) :
    (k0_pay1 (k0_pay3 x3 x5 x4 x6) (k0_pay4 x0) (k0_pay5 x0) (k0_pay7 x2) x1 : FVec Ideal S512x1024 .f32) (ix2 r k)
      = project (fun j : Fin 1024 => x0 (ix2 r j)) (fun j => tileP x3 x4 x5 x6 r j * x2 (ix2 0 j)) (x1 (ix2 r k)) k := by
  refine (back_at _ _ _ _ _ r k).trans ?_
  unfold project
  simp only [pull_at, rs_at, scaled_at, gain_at]

/-! ## What a point leaves -/

theorem hz : (![0, 0] : Fin 2 → Nat) = fun _ => 0 := funext fun a => by fin_cases a <;> rfl

theorem out_A_7 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (hc0 : cond0_0 i)
    (x0 x1 : Vec Ideal S512x1024 .f32) (x2 : Vec Ideal S1x1024 .f32) (x3 x4 : Vec Ideal S512x2816 .bf16) (x5 x6 : Vec Ideal S1024x2816 .bf16) :
    out0_A_7 (F := Ideal) c i a1 h1 a2 h2 a3 h3 a4 h4 a5 h5 a6 h6 a7 h7 a8 h8 a9 h9 hc0 x0 x1 x2 x3 x4 x5 x6 = k0_pay1 (F := Ideal) (k0_pay3 (F := Ideal) x3 x5 x4 x6) (k0_pay4 (F := Ideal) x0) (k0_pay5 (F := Ideal) x0) (k0_pay7 (F := Ideal) x2) x1 := by
  unfold out0_A_7
  rw [View.read_writes_eq_canon _ _ _ (cover0_A_7 c i a1 h1 a2 h2 a3 h3 a4 h4 a5 h5 a6 h6 a7 h7 a8 h8 a9 h9 hc0 x0 x1 x2 x3 x4 x5 x6)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S512x1024) hz, View.ld_unit_zero (S := S512x2816) hz, View.ld_unit_zero (S := S1024x2816) hz, View.ld_unit_zero (S := S1x1024) hz, shapeCast_self]

theorem out_A_8 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (hc0 : cond0_0 i)
    (x0 x1 : Vec Ideal S512x1024 .f32) (x2 : Vec Ideal S1x1024 .f32) (x3 x4 : Vec Ideal S512x2816 .bf16) (x5 x6 : Vec Ideal S1024x2816 .bf16) :
    out0_A_8 (F := Ideal) c i a1 h1 a2 h2 a3 h3 a4 h4 a5 h5 a6 h6 a7 h7 a8 h8 a9 h9 hc0 x0 x1 x2 x3 x4 x5 x6 = k0_pay6 (F := Ideal) x3 x5 x4 x6 x0 (k0_pay2 (F := Ideal)) := by
  unfold out0_A_8
  rw [View.read_writes_eq_canon _ _ _ (cover0_A_8 c i a1 h1 a2 h2 a3 h3 a4 h4 a5 h5 a6 h6 a7 h7 a8 h8 a9 h9 hc0 x0 x1 x2 x3 x4 x5 x6)]
  unfold kernelRun0_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, View.ld_unit_zero (S := S512x1024) hz, View.ld_unit_zero (S := S512x2816) hz, View.ld_unit_zero (S := S1024x2816) hz, View.ld_unit_zero (S := S1x1024) hz, shapeCast_self]

theorem out_B_7 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (hc0 : ¬cond0_0 i)
    (x0 x1 : Vec Ideal S512x1024 .f32) (x2 : Vec Ideal S1x1024 .f32) (x3 x4 : Vec Ideal S512x2816 .bf16) (x5 x6 : Vec Ideal S1024x2816 .bf16) (acc : Vec Ideal S1x1024 .f32) :
    out0_B_7 (F := Ideal) c i a1 h1 a2 h2 a3 h3 a4 h4 a5 h5 a6 h6 a7 h7 a8 h8 a9 h9 hc0 x0 x1 x2 x3 x4 x5 x6 acc = k0_pay1 (F := Ideal) (k0_pay3 (F := Ideal) x3 x5 x4 x6) (k0_pay4 (F := Ideal) x0) (k0_pay5 (F := Ideal) x0) (k0_pay7 (F := Ideal) x2) x1 := by
  unfold out0_B_7
  rw [View.read_writes_eq_canon _ _ _ (cover0_B_7 c i a1 h1 a2 h2 a3 h3 a4 h4 a5 h5 a6 h6 a7 h7 a8 h8 a9 h9 hc0 x0 x1 x2 x3 x4 x5 x6 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S512x1024) hz, View.ld_unit_zero (S := S512x2816) hz, View.ld_unit_zero (S := S1024x2816) hz, View.ld_unit_zero (S := S1x1024) hz, shapeCast_self]

theorem out_B_8 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2816 .bf16) (h4 : a4.IsWhole) (a5 : Memref sig .tc .vmem S512x2816 .bf16) (h5 : a5.IsWhole) (a6 : Memref sig .tc .vmem S1024x2816 .bf16) (h6 : a6.IsWhole) (a7 : Memref sig .tc .vmem S1024x2816 .bf16) (h7 : a7.IsWhole) (a8 : Memref sig .tc .vmem S512x1024 .f32) (h8 : a8.IsWhole) (a9 : Memref sig .tc .vmem S1x1024 .f32) (h9 : a9.IsWhole) (hc0 : ¬cond0_0 i)
    (x0 x1 : Vec Ideal S512x1024 .f32) (x2 : Vec Ideal S1x1024 .f32) (x3 x4 : Vec Ideal S512x2816 .bf16) (x5 x6 : Vec Ideal S1024x2816 .bf16) (acc : Vec Ideal S1x1024 .f32) :
    out0_B_8 (F := Ideal) c i a1 h1 a2 h2 a3 h3 a4 h4 a5 h5 a6 h6 a7 h7 a8 h8 a9 h9 hc0 x0 x1 x2 x3 x4 x5 x6 acc = k0_pay6 (F := Ideal) x3 x5 x4 x6 x0 acc := by
  unfold out0_B_8
  rw [View.read_writes_eq_canon _ _ _ (cover0_B_8 c i a1 h1 a2 h2 a3 h3 a4 h4 a5 h5 a6 h6 a7 h7 a8 h8 a9 h9 hc0 x0 x1 x2 x3 x4 x5 x6 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S512x1024) hz, View.ld_unit_zero (S := S512x2816) hz, View.ld_unit_zero (S := S1024x2816) hz, View.ld_unit_zero (S := S1x1024) hz, shapeCast_self]

end Norm

end
-- ==== Proof.Norm.Array.lean ====
/- The kernel's two arrays at an index: a row's gradient, each of the eight grid points leaving 512 rows, and the gain's
   gradient, gathered point after point. -/
module

public import proofs.«01_k».proof.Proof.Norm.Tile
public import proofs.«01_k».proof.Proof.Math.RowSums

@[expose] public section

set_option maxRecDepth 16384

noncomputable section

namespace Norm

open Cert.FfnDhIdeal Cert.FfnDhIdeal.Gen Cert.FfnDhIdeal.Value Idealize.ShloMosaic Idealize.ShloMosaic.TcCoe Idealize.SL.Sem RowSums

variable (m : (ℓ : Loc nD τ sig) → Buf (Elt Ideal) ℓ) (c : Dev nD)

/-- The arguments: the rows, the output's cotangent, the gain, the gradients of the projection's two halves, the weights. -/
abbrev argX : FVec Ideal S4096x1024 .f32 := m ((c.tc : Thread nD τ).loc main_arg0)
abbrev argO : FVec Ideal S4096x1024 .f32 := m ((c.tc : Thread nD τ).loc main_arg1)
abbrev argG : FVec Ideal S1x1024 .f32 := m ((c.tc : Thread nD τ).loc main_arg2)
abbrev argZ : FVec Ideal S4096x2816 .bf16 := m ((c.tc : Thread nD τ).loc main_arg3)
abbrev argU : FVec Ideal S4096x2816 .bf16 := m ((c.tc : Thread nD τ).loc main_arg4)
abbrev argW : FVec Ideal S1024x5632 .bf16 := m ((c.tc : Thread nD τ).loc main_arg5)

abbrev blkX (t : Fin cfg0.N) : FVec Ideal S512x1024 .f32 := iblk m c 0 t
abbrev blkO (t : Fin cfg0.N) : FVec Ideal S512x1024 .f32 := iblk m c 1 t
abbrev blkG (t : Fin cfg0.N) : FVec Ideal S1x1024 .f32 := iblk m c 2 t
abbrev blkZ (t : Fin cfg0.N) : FVec Ideal S512x2816 .bf16 := iblk m c 3 t
abbrev blkU (t : Fin cfg0.N) : FVec Ideal S512x2816 .bf16 := iblk m c 4 t
abbrev blkWL (t : Fin cfg0.N) : FVec Ideal S1024x2816 .bf16 := iblk m c 5 t
abbrev blkWR (t : Fin cfg0.N) : FVec Ideal S1024x2816 .bf16 := iblk m c 6 t

/-! ## The results -/

/-- The gradient of the normalised entry at a row and column. -/
def pulled (r : Fin 4096) (k : Fin 1024) : EReal :=
  pull (fun n => argZ m c (ix2 r n)) (fun n => argU m c (ix2 r n)) (fun n => argW m c (ix2 k ⟨n.val, by omega⟩))
    (fun n => argW m c (ix2 k ⟨2816 + n.val, by omega⟩))

/-- The rows' gradients. -/
def resX : FVec Ideal S4096x1024 .f32 := fun y =>
  project (fun j : Fin 1024 => argX m c (ix2 (y 0) j)) (fun j => pulled m c (y 0) j * argG m c (ix2 0 j)) (argO m c y) (y 1)

/-- A row's term of the gain's gradient. -/
def term (k : Fin 1024) (r : Fin 4096) : EReal :=
  pulled m c r k * (argX m c (ix2 r k) * rs (fun j : Fin 1024 => argX m c (ix2 r j)))

/-- The gain's gradient. -/
def resG : FVec Ideal S1x1024 .f32 := fun y => ∑ r, term m c (y 1) r

/-! ## The blocks a point reads -/

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 1 := by decide +kernel
theorem index7 : ∀ t : Fin grid0.N, win0_7.index t 0 = t.val ∧ win0_7.index t 1 = 0 := by decide +kernel
theorem index8 : ∀ t : Fin grid0.N, win0_8.index t 0 = 0 ∧ win0_8.index t 1 = 0 := by decide +kernel

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkO_at (t : Fin cfg0.N) (r : Fin 512) (k : Fin 1024) :
    blkO m c t (ix2 r k) = argO m c (ix2 ⟨512 * t.val + r.val, by have := lt8 t; omega⟩ k) := by
  unfold blkO iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

theorem blkG_at (t : Fin cfg0.N) (r : Fin 1) (k : Fin 1024) :
    blkG m c t (ix2 r k) = argG m c (ix2 r k) := by
  unfold blkG iblk
  rw [View.read_apply]
  show V m c main_arg2 _ = m _ _
  unfold V
  congr 1
  funext a
  apply Fin.ext
  match a with
  | ⟨0, _⟩ => show win0_2.index t 0 * 1 + 1 * r.val = r.val; rw [(index2 t).1]; omega
  | ⟨1, _⟩ => show win0_2.index t 1 * 1024 + 1 * k.val = k.val; rw [(index2 t).2]; omega

theorem blkZ_at (t : Fin cfg0.N) (r : Fin 512) (k : Fin 2816) :
    blkZ m c t (ix2 r k) = argZ m c (ix2 ⟨512 * t.val + r.val, by have := lt8 t; omega⟩ k) := by
  unfold blkZ iblk
  rw [View.read_apply]
  show V m c main_arg3 _ = m _ _
  unfold V
  congr 1
  funext a
  apply Fin.ext
  match a with
  | ⟨0, _⟩ => show win0_3.index t 0 * 512 + 1 * r.val = 512 * t.val + r.val; rw [(index3 t).1]; omega
  | ⟨1, _⟩ => show win0_3.index t 1 * 2816 + 1 * k.val = k.val; rw [(index3 t).2]; omega

theorem blkU_at (t : Fin cfg0.N) (r : Fin 512) (k : Fin 2816) :
    blkU m c t (ix2 r k) = argU m c (ix2 ⟨512 * t.val + r.val, by have := lt8 t; omega⟩ k) := by
  unfold blkU iblk
  rw [View.read_apply]
  show V m c main_arg4 _ = m _ _
  unfold V
  congr 1
  funext a
  apply Fin.ext
  match a with
  | ⟨0, _⟩ => show win0_4.index t 0 * 512 + 1 * r.val = 512 * t.val + r.val; rw [(index4 t).1]; omega
  | ⟨1, _⟩ => show win0_4.index t 1 * 2816 + 1 * k.val = k.val; rw [(index4 t).2]; omega

theorem blkWL_at (t : Fin cfg0.N) (r : Fin 1024) (k : Fin 2816) :
    blkWL m c t (ix2 r k) = argW m c (ix2 r ⟨k.val, by omega⟩) := by
  unfold blkWL iblk
  rw [View.read_apply]
  show V m c main_arg5 _ = m _ _
  unfold V
  congr 1
  funext a
  apply Fin.ext
  match a with
  | ⟨0, _⟩ => show win0_5.index t 0 * 1024 + 1 * r.val = r.val; rw [(index5 t).1]; omega
  | ⟨1, _⟩ => show win0_5.index t 1 * 2816 + 1 * k.val = k.val; rw [(index5 t).2]; omega

theorem blkWR_at (t : Fin cfg0.N) (r : Fin 1024) (k : Fin 2816) :
    blkWR m c t (ix2 r k) = argW m c (ix2 r ⟨2816 + k.val, by omega⟩) := by
  unfold blkWR iblk
  rw [View.read_apply]
  show V m c main_arg5 _ = m _ _
  unfold V
  congr 1
  funext a
  apply Fin.ext
  match a with
  | ⟨0, _⟩ => show win0_6.index t 0 * 1024 + 1 * r.val = r.val; rw [(index6 t).1]; omega
  | ⟨1, _⟩ => show win0_6.index t 1 * 2816 + 1 * k.val = 2816 + k.val; rw [(index6 t).2]; omega

/-- The row of the whole array a point's row is. -/
abbrev rowOf (t : Fin cfg0.N) (r : Fin 512) : Fin 4096 := ⟨512 * t.val + r.val, by have := lt8 t; omega⟩

theorem tileP_at (t : Fin cfg0.N) (r : Fin 512) (k : Fin 1024) :
    tileP (blkZ m c t) (blkU m c t) (blkWL m c t) (blkWR m c t) r k = pulled m c (rowOf t r) k := by
  unfold tileP pulled
  rw [funext fun n => blkZ_at m c t r n, funext fun n => blkU_at m c t r n, funext fun n => blkWL_at m c t k n, funext fun n => blkWR_at m c t k n]

theorem blkX_row (t : Fin cfg0.N) (r : Fin 512) :
    (fun j : Fin 1024 => blkX m c t (ix2 r j)) = fun j => argX m c (ix2 (rowOf t r) j) := funext fun j => blkX_at m c t r j

theorem term_at (t : Fin cfg0.N) (k : Fin 1024) (r : Fin 512) :
    tileP (blkZ m c t) (blkU m c t) (blkWL m c t) (blkWR m c t) r k * (blkX m c t (ix2 r k) * rs (fun j : Fin 1024 => blkX m c t (ix2 r j)))
      = term m c k (rowOf t r) := by
  unfold term
  rw [tileP_at, blkX_row, blkX_at]

/-! ## What a point leaves -/

theorem outs_x (t : Fin cfg0.N) : (outsAt0 m c t.val t.isLt).1
    = k0_pay1 (F := Ideal) (k0_pay3 (F := Ideal) (blkZ m c t) (blkWL m c t) (blkU m c t) (blkWR m c t)) (k0_pay4 (F := Ideal) (blkX m c t))
      (k0_pay5 (F := Ideal) (blkX m c t)) (k0_pay7 (F := Ideal) (blkG m c t)) (blkO m c t) := by
  by_cases h : t.val % 8 = 0
  · rw [outsAt0_A m c t h]
    dsimp only
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) _ _ _ _ _ _ _ _
  · rw [outsAt0_B m c t h]
    dsimp only
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) _ _ _ _ _ _ _ _ _

theorem outs_x_at (t : Fin cfg0.N) (r : Fin 512) (k : Fin 1024) :
    (outsAt0 m c t.val t.isLt).1 (ix2 r k) = resX m c (ix2 (rowOf t r) k) := by
  rw [outs_x]
  refine (row_at _ _ _ _ _ _ _ r k).trans ?_
  show _ = project (fun j : Fin 1024 => argX m c (ix2 (rowOf t r) j)) (fun j => pulled m c (rowOf t r) j * argG m c (ix2 0 j)) (argO m c (ix2 (rowOf t r) k)) k
  rw [blkX_row, blkO_at]
  congr 1
  funext j
  rw [tileP_at, blkG_at]

theorem outs_first (t : Fin cfg0.N) (h : t.val % 8 = 0) : (outsAt0 m c t.val t.isLt).2
    = k0_pay6 (F := Ideal) (blkZ m c t) (blkWL m c t) (blkU m c t) (blkWR m c t) (blkX m c t) (k0_pay2 (F := Ideal)) := by
  rw [outsAt0_A m c t h]
  dsimp only
  exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) _ _ _ _ _ _ _ _

theorem outs_next (t : Fin cfg0.N) (h : ¬t.val % 8 = 0) : (outsAt0 m c t.val t.isLt).2
    = k0_pay6 (F := Ideal) (blkZ m c t) (blkWL m c t) (blkU m c t) (blkWR m c t) (blkX m c t)
      (outsAt0 m c (t.val - 1) (Nat.lt_of_le_of_lt (Nat.sub_le _ _) t.isLt)).2 := by
  rw [outsAt0_B m c t h]
  dsimp only
  exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) _ _ _ _ _ _ _ _ _

theorem outs_g_at (k : Fin 1024) : ∀ (n : ℕ) (h : n < cfg0.N), (outsAt0 m c n h).2 (ix2 0 k) = upTo (term m c k) (512 * (n + 1))
  | 0, h => by
    rw [outs_first m c ⟨0, h⟩ rfl]
    refine (sum_at _ _ _ _ _ _ k).trans ?_
    rw [first_at]
    exact upTo_first _ _ fun r => term_at m c ⟨0, h⟩ k r
  | n + 1, h => by
    have hN : cfg0.N = 8 := N_0
    rw [outs_next m c ⟨n + 1, h⟩ (by dsimp only; omega)]
    refine (sum_at _ _ _ _ _ _ k).trans ?_
    have e : (outsAt0 m c (n + 1 - 1) (Nat.lt_of_le_of_lt (Nat.sub_le _ _) h)).2 (ix2 0 k) = _ := outs_g_at k n (by omega)
    dsimp only
    rw [e]
    exact upTo_step _ _ (n + 1) (by omega) fun r => term_at m c ⟨n + 1, h⟩ k r

/-! ## The arrays -/

theorem final_x : (dats m 0 c).arrAt 7 cfg0.N = resX m c :=
  (dats m 0 c).arrAt_eq_of_cover 7 (resX m c)
    (fun t hf => by
      rw [flushed7]
      funext j
      rw [View.read_apply]
      have e : ((cfg0.win 7).blk t).view.emb j = (ix2 (rowOf t (j 0)) (j 1) : S4096x1024.Idx) := by
        funext a
        apply Fin.ext
        match a with
        | ⟨0, _⟩ => show win0_7.index t 0 * 512 + 1 * (j 0).val = 512 * t.val + (j 0).val; rw [(index7 t).1]; omega
        | ⟨1, _⟩ => show win0_7.index t 1 * 1024 + 1 * (j 1).val = (j 1).val; rw [(index7 t).2]; omega
      rw [e]
      exact (congrArg (outsAt0 m c t.val t.isLt).1 (ValueIdx.eq_ix2 (n0 := 512) (n1 := 1024) j)).trans (outs_x_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_7 _, ?_⟩
      show (i : S4096x1024.Idx) ∈ ((View.whole main_v0_0).slice (win0_7.rect ⟨(i 0 : ℕ) / 512, hp⟩)).set
      rw [View.set_slice_whole, Rect.mem_set_unit]
      intro a
      match a with
      | ⟨0, _⟩ =>
        show win0_7.index _ 0 * 512 ≤ (i 0 : ℕ) ∧ (i 0 : ℕ) < win0_7.index _ 0 * 512 + 512
        rw [(index7 _).1]; dsimp only; omega
      | ⟨1, _⟩ =>
        show win0_7.index _ 1 * 1024 ≤ (i 1 : ℕ) ∧ (i 1 : ℕ) < win0_7.index _ 1 * 1024 + 1024
        rw [(index7 _).2]; omega)

theorem final_g : (dats m 0 c).arrAt 8 cfg0.N = resG m c :=
  (dats m 0 c).arrAt_eq_of_cover 8 (resG m c)
    (fun t hf => by
      have h7 : t.val = 7 := by have := (flush0_8 t).mp hf; have := lt8 t; omega
      rw [flushed8]
      funext j
      have hj : (j 0).val < 1 := (j 0).isLt
      rw [View.read_apply]
      have e : ((cfg0.win 8).blk t).view.emb j = (ix2 0 (j 1) : S1x1024.Idx) := by
        funext a
        apply Fin.ext
        match a with
        | ⟨0, _⟩ => show win0_8.index t 0 * 1 + 1 * (j 0).val = 0; rw [(index8 t).1]; omega
        | ⟨1, _⟩ => show win0_8.index t 1 * 1024 + 1 * (j 1).val = (j 1).val; rw [(index8 t).2]; omega
      have e' : (j : S1x1024.Idx) = ix2 0 (j 1) := by
        funext a
        apply Fin.ext
        match a with
        | ⟨0, _⟩ => show (j 0).val = 0; omega
        | ⟨1, _⟩ => rfl
      rw [e]
      refine ((congrArg (outsAt0 m c t.val t.isLt).2 e').trans (outs_g_at m c (j 1) t.val t.isLt)).trans ?_
      rw [h7]
      exact upTo_all _)
    (fun i => by
      have h0 : (i 0 : ℕ) < 1 := (i 0).isLt
      have h1 : (i 1 : ℕ) < 1024 := (i 1).isLt
      have hN : cfg0.N = 8 := N_0
      have hp : 7 < cfg0.N := by omega
      refine ⟨⟨7, hp⟩, (flush0_8 _).mpr rfl, ?_⟩
      show (i : S1x1024.Idx) ∈ ((View.whole main_v0_1).slice (win0_8.rect ⟨7, hp⟩)).set
      rw [View.set_slice_whole, Rect.mem_set_unit]
      intro a
      match a with
      | ⟨0, _⟩ =>
        show win0_8.index _ 0 * 1 ≤ (i 0 : ℕ) ∧ (i 0 : ℕ) < win0_8.index _ 0 * 1 + 1
        rw [(index8 _).1]; omega
      | ⟨1, _⟩ =>
        show win0_8.index _ 1 * 1024 ≤ (i 1 : ℕ) ∧ (i 1 : ℕ) < win0_8.index _ 1 * 1024 + 1024
        rw [(index8 _).2]; omega)

end Norm

end
-- ==== Proof.Norm.Reference.lean ====
/- The reference's gradients of the normalised rows and of their gain at an index, and the kernel's as them. -/
module

public import proofs.«01_k».proof.Proof.Norm.Array
public import proofs.«01_k».proof.Proof.Gen.FfnDhRefIdeal.Run

@[expose] public section

set_option maxRecDepth 16384

noncomputable section

namespace Norm.Ref

open Cert.FfnDhRefIdeal Cert.FfnDhRefIdeal.Gen Idealize.ShloMosaic Idealize.ShloMosaic.TcCoe RowSums

variable (X O : FVec Ideal S4096x1024 .f32) (G : FVec Ideal S1x1024 .f32) (Z U : FVec Ideal S4096x2816 .bf16) (W : FVec Ideal S1024x5632 .bf16)

/-! ## The arrays -/

def both : FVec Ideal S4096x5632 .bf16 :=
  concatenate S4096x5632 1 [⟨S4096x2816, Z⟩, ⟨S4096x2816, U⟩] concatenates_S4096x2816_S4096x2816_S4096x5632_d1

def prod (Y : FVec Ideal S4096x5632 .bf16) : FVec Ideal S4096x1024 .f32 :=
  Host.dotGeneral dot_S4096x5632_S1024x5632_S4096x1024_1_1_0_0_n_n none (extf .f32 Y bitsLt_bf16_f32) (extf .f32 W bitsLt_bf16_f32)

def shiftedA : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def rsA (M : FVec Ideal S4096x1 .f32) : FVec Ideal S4096x1 .f32 := Host.rsqrt M

/-- A column at every entry of its row. -/
def across (R : FVec Ideal S4096x1 .f32) : FVec Ideal S4096x1024 .f32 := broadcastInDim S4096x1024 ![0, 1] bcast_S4096x1_S4096x1024_0_1 R

def gained (P : FVec Ideal S4096x1024 .f32) : FVec Ideal S4096x1024 .f32 := mulf P (broadcastInDim S4096x1024 ![0, 1] bcast_S1x1024_S4096x1024_0_1 G)

def overlap (D : FVec Ideal S4096x1024 .f32) : FVec Ideal S4096x1 .f32 :=
  shapeCast _ (Host.reduceAdd (mulf X D) (constant S_ .f32 0x00000000#32) reducesTo_S4096x1024_S4096_d1 h_S_) shapeCasts_S4096_S4096x1

def slopeA (R M K : FVec Ideal S4096x1 .f32) : FVec Ideal S4096x1 .f32 :=
  Host.divf (mulf K (mulf (broadcastInDim S4096x1 ![] bcast_S_S4096x1 (constant S_ .f32 0xBF000000#32)) (Host.divf R M))) (broadcastInDim S4096x1 ![] bcast_S_S4096x1 (constant S_ .f32 0x44800000#32))

def spread (C : FVec Ideal S4096x1 .f32) : FVec Ideal S4096x1024 .f32 :=
  broadcastInDim S4096x1024 ![0] bcast_S4096_S4096x1024_0 (Host.reduceAdd C (constant S_ .f32 0x00000000#32) reducesTo_S4096x1_S4096_d1 h_S_)

def rows (D R C : FVec Ideal S4096x1024 .f32) : FVec Ideal S4096x1024 .f32 := addf (addf (addf O (mulf D R)) (mulf X C)) (mulf C X)

def gains (P R : FVec Ideal S4096x1024 .f32) : FVec Ideal S1x1024 .f32 :=
  shapeCast _ (Host.reduceAdd (mulf (mulf X R) P) (constant S_ .f32 0x00000000#32) reducesTo_S4096x1024_S1024_d0 h_S_) shapeCasts_S1024_S1x1024

/-- The rows' gradients. -/
def outX : FVec Ideal S4096x1024 .f32 :=
  rows X O (gained G (prod W (both Z U))) (across (rsA (shiftedA X)))
    (spread (slopeA (rsA (shiftedA X)) (shiftedA X) (overlap X (gained G (prod W (both Z U))))))

/-- The gain's gradient. -/
def outG : FVec Ideal S1x1024 .f32 := gains X (prod W (both Z U)) (across (rsA (shiftedA X)))

/-! ## The arrays at an index -/

theorem prod_sum (Y : FVec Ideal S4096x5632 .bf16) (r : Fin 4096) (k : Fin 1024) :
    prod W Y (ix2 r k) = ∑ n : Fin 5632, Y (ix2 r n) * W (ix2 k n) := by
  unfold prod
  pointwise []

/-- A sum over both halves. -/
theorem halves (f : Fin 5632 → EReal) :
    ∑ n, f n = ∑ n : Fin 2816, f ⟨n.val, by omega⟩ + ∑ n : Fin 2816, f ⟨2816 + n.val, by omega⟩ :=
  Fin.sum_univ_add (a := 2816) (b := 2816) f

theorem prod_at (r : Fin 4096) (k : Fin 1024) :
    prod W (both Z U) (ix2 r k) = pull (fun n => Z (ix2 r n)) (fun n => U (ix2 r n)) (fun n => W (ix2 k ⟨n.val, by omega⟩))
      (fun n => W (ix2 k ⟨2816 + n.val, by omega⟩)) := by
  rw [prod_sum, halves]
  unfold pull
  congr 1
  · refine Finset.sum_congr rfl fun n _ => congrArg (· * _) ?_
    exact cat_left _ _ _ r n _ rfl
  · refine Finset.sum_congr rfl fun n _ => congrArg (· * _) ?_
    exact cat_right _ _ _ r n _ rfl

theorem shifted_at (r : Fin 4096) : shiftedA X (ix2 r 0) = shifted (fun k : Fin 1024 => X (ix2 r k)) := by
  unfold shiftedA
  pointwise []
  rfl

theorem rs_at (r : Fin 4096) : rsA (shiftedA X) (ix2 r 0) = rs (fun k : Fin 1024 => X (ix2 r k)) := by
  unfold rs
  rw [← shifted_at]
  generalize shiftedA X = M
  unfold rsA
  pointwise []

theorem across_at (R : FVec Ideal S4096x1 .f32) (r : Fin 4096) (k : Fin 1024) : across R (ix2 r k) = R (ix2 r 0) := by
  unfold across
  pointwise []

theorem gained_at (P : FVec Ideal S4096x1024 .f32) (r : Fin 4096) (k : Fin 1024) : gained G P (ix2 r k) = P (ix2 r k) * G (ix2 0 k) := by
  unfold gained
  pointwise []

theorem overlap_at (D : FVec Ideal S4096x1024 .f32) (r : Fin 4096) : overlap X D (ix2 r 0) = ∑ j : Fin 1024, X (ix2 r j) * D (ix2 r j) := by
  unfold overlap
  pointwise []

theorem slope_at (R M K : FVec Ideal S4096x1 .f32) (r : Fin 4096) :
    slopeA R M K (ix2 r 0) = Ideal.div (K (ix2 r 0) * (negHalf * Ideal.div (R (ix2 r 0)) (M (ix2 r 0)))) width := by
  unfold slopeA
  pointwise []

theorem spread_at (C : FVec Ideal S4096x1 .f32) (r : Fin 4096) (k : Fin 1024) : spread C (ix2 r k) = C (ix2 r 0) := by
  unfold spread
  pointwise []
  exact Fin.sum_univ_one _

theorem rows_at (D R C : FVec Ideal S4096x1024 .f32) (r : Fin 4096) (k : Fin 1024) :
    rows X O D R C (ix2 r k) = O (ix2 r k) + D (ix2 r k) * R (ix2 r k) + X (ix2 r k) * C (ix2 r k) + C (ix2 r k) * X (ix2 r k) := by
  unfold rows
  pointwise []

theorem gains_at (P R : FVec Ideal S4096x1024 .f32) (k : Fin 1024) :
    gains X P R (ix2 0 k) = ∑ r : Fin 4096, X (ix2 r k) * R (ix2 r k) * P (ix2 r k) := by
  unfold gains
  pointwise []

/-! ## The kernel's arrays -/

theorem outX_match (m : (ℓ : Loc Cert.FfnDhIdeal.nD Cert.FfnDhIdeal.τ Cert.FfnDhIdeal.sig) → Buf (Elt Ideal) ℓ) (c : Dev Cert.FfnDhIdeal.nD) :
    outX (argX m c) (argO m c) (argG m c) (argZ m c) (argU m c) (argW m c) = resX m c := by
  funext y
  obtain ⟨r, k, rfl⟩ : ∃ (r : Fin 4096) (k : Fin 1024), y = ix2 r k := ⟨y 0, y 1, ValueIdx.eq_ix2 y⟩
  refine (rows_at _ _ _ _ _ r k).trans ?_
  rw [across_at, spread_at, slope_at, rs_at, shifted_at, overlap_at]
  simp only [gained_at, prod_at]
  exact direct_eq (fun j : Fin 1024 => argX m c (ix2 r j)) (fun j => pulled m c r j * argG m c (ix2 0 j)) (argO m c (ix2 r k)) k

theorem outG_match (m : (ℓ : Loc Cert.FfnDhIdeal.nD Cert.FfnDhIdeal.τ Cert.FfnDhIdeal.sig) → Buf (Elt Ideal) ℓ) (c : Dev Cert.FfnDhIdeal.nD) :
    outG (argX m c) (argZ m c) (argU m c) (argW m c) = resG m c := by
  funext y
  obtain ⟨i, k, rfl⟩ : ∃ (i : Fin 1) (k : Fin 1024), y = ix2 i k := ⟨y 0, y 1, ValueIdx.eq_ix2 y⟩
  obtain rfl : i = 0 := Fin.ext (by omega)
  refine (gains_at _ _ _ k).trans ?_
  show _ = ∑ r, term m c k r
  refine Finset.sum_congr rfl fun r _ => ?_
  rw [across_at, rs_at, prod_at]
  exact mul_comm _ _

end Norm.Ref

end
-- ==== Proof.Weights.Mix.lean ====
/- The gradient of the mixer's input weights: the kernel gathers it over eight blocks of 512 rows; the reference sums the
   products over all 4096. -/
module

public import proofs.«01_k».proof.Proof.Math.RowSums
public import proofs.«01_k».proof.Proof.Gen.MixDwIdeal.Value
public import proofs.«01_k».proof.Proof.Gen.MixDwRefIdeal.Run
public import Idealize.ShloMosaic.Lib.Pointwise

@[expose] public section

set_option maxRecDepth 16384

noncomputable section

namespace Weights.Mix

open Cert.MixDwIdeal Cert.MixDwIdeal.Gen Cert.MixDwIdeal.Value Idealize.ShloMosaic Idealize.ShloMosaic.TcCoe Idealize.SL.Sem RowSums

/-! ## A point's values -/

theorem first_at (i : Fin 1024) (j : Fin 2048) : (k0_pay1 : FVec Ideal S1024x2048 .f32) (ix2 i j) = 0 := by
  unfold k0_pay1
  pointwise []

theorem add_at (x0 : FVec Ideal S512x1024 .bf16) (acc : FVec Ideal S1024x2048 .f32) (x1 : FVec Ideal S512x2048 .bf16) (i : Fin 1024) (j : Fin 2048) :
    (k0_pay2 x0 acc x1 : FVec Ideal S1024x2048 .f32) (ix2 i j) = acc (ix2 i j) + ∑ r : Fin 512, x0 (ix2 r i) * x1 (ix2 r j) := by
  unfold k0_pay2
  pointwise []

/-! ## The blocks a point reads -/

variable (m : (ℓ : Loc nD τ sig) → Buf (Elt Ideal) ℓ) (c : Dev nD)

/-- The arguments: the normalised rows and the projection's cotangent. -/
abbrev argA : FVec Ideal S4096x1024 .bf16 := m ((c.tc : Thread nD τ).loc main_arg0)
abbrev argX : FVec Ideal S4096x2048 .bf16 := m ((c.tc : Thread nD τ).loc main_arg1)

abbrev blkA (t : Fin cfg0.N) : FVec Ideal S512x1024 .bf16 := iblk m c 0 t
abbrev blkX (t : Fin cfg0.N) : FVec Ideal S512x2048 .bf16 := iblk m c 1 t

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

theorem blkA_at (t : Fin cfg0.N) (r : Fin 512) (k : Fin 1024) :
    blkA m c t (ix2 r k) = argA m c (ix2 ⟨512 * t.val + r.val, by have := lt8 t; omega⟩ k) := by
  unfold blkA iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkX_at (t : Fin cfg0.N) (r : Fin 512) (k : Fin 2048) :
    blkX m c t (ix2 r k) = argX m c (ix2 ⟨512 * t.val + r.val, by have := lt8 t; omega⟩ k) := by
  unfold blkX iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 2048 + 1 * k.val = k.val; rw [(index1 t).2]; omega

/-! ## The gathered sums -/

/-- A row's term of the weight at row `i` and column `j`. -/
def term (i : Fin 1024) (j : Fin 2048) (r : Fin 4096) : EReal := argA m c (ix2 r i) * argX m c (ix2 r j)

/-- The gradient of the weights. -/
def res : FVec Ideal S1024x2048 .f32 := fun y => ∑ r, term m c (y 0) (y 1) r

/-- A point's products are its rows' terms. -/
theorem rows (n : ℕ) (hn : n < 8) (h : 8 * 0 + n < cfg0.N) (i : Fin 1024) (j : Fin 2048) (r : Fin 512) :
    blkA m c ⟨8 * 0 + n, h⟩ (ix2 r i) * blkX m c ⟨8 * 0 + n, h⟩ (ix2 r j) = term m c i j ⟨512 * n + r.val, by omega⟩ := by
  have e : (⟨512 * (8 * 0 + n) + r.val, by omega⟩ : Fin 4096) = ⟨512 * n + r.val, by omega⟩ := Fin.ext (by dsimp only; omega)
  exact congrArg₂ (· * ·) ((blkA_at m c _ r i).trans (congrArg (fun a => argA m c (ix2 a i)) e))
    ((blkX_at m c _ r j).trans (congrArg (fun a => argX m c (ix2 a j)) e))

/-- What the run holds after its first points. -/
theorem acc_at (i : Fin 1024) (j : Fin 2048) : ∀ (n : ℕ) (_ : n < 8) (h : 8 * 0 + n < cfg0.N),
    Pipeline.accAt (reset2 m c) (step2 m c) (8 * 0) n h (ix2 i j) = upTo (term m c i j) (512 * (n + 1))
  | 0, _, h => by
    rw [Pipeline.accAt_zero]
    unfold reset2
    refine (add_at _ _ _ i j).trans ?_
    rw [first_at]
    exact upTo_first _ _ fun r => rows m c 0 (by omega) h i j r
  | n + 1, hn, h => by
    rw [Pipeline.accAt_succ]
    refine (add_at (blkA m c _) _ (blkX m c _) i j).trans ((congrArg (· + _) (acc_at i j n (by omega) _)).trans ?_)
    exact upTo_step _ _ (n + 1) (by omega) fun r => rows m c (n + 1) (by omega) h i j r

theorem final : G2 m c = res m c := by
  funext y
  have h0 : (y 0).val < 1024 := (y 0).isLt
  have h1 : (y 1).val < 2048 := (y 1).isLt
  have hN : cfg0.N = 8 := N_0
  have hq : run2Of y = 0 := by show 1 * ((y 0).val / 1024 - 0) + 1 * ((y 1).val / 2048 - 0) = _; omega
  have hl : loc2Of y = (ix2 (y 0) (y 1) : S1024x2048.Idx) := by
    funext a
    apply Fin.ext
    match a with
    | ⟨0, _⟩ => show (y 0).val % 1024 = (y 0).val; omega
    | ⟨1, _⟩ => show (y 1).val % 2048 = (y 1).val; omega
  unfold G2
  rw [dif_pos (by rw [hq]; omega), hl]
  generalize_proofs hp
  revert hp
  rw [hq]
  intro hp
  refine (acc_at m c (y 0) (y 1) 7 (by omega) hp).trans ?_
  exact upTo_all _

end Weights.Mix

namespace Weights.MixRef

open Cert.MixDwRefIdeal Cert.MixDwRefIdeal.Gen Idealize.ShloMosaic Idealize.ShloMosaic.TcCoe

/-! ## The reference -/

/-- The product before the transpose. -/
def prod (A : FVec Ideal S4096x1024 .bf16) (X : FVec Ideal S4096x2048 .bf16) : FVec Ideal S2048x1024 .f32 :=
  Host.dotGeneral dot_S4096x2048_S4096x1024_S2048x1024_0_0_1_1_n_n none (extf .f32 X bitsLt_bf16_f32) (extf .f32 A bitsLt_bf16_f32)

def out (A : FVec Ideal S4096x1024 .bf16) (X : FVec Ideal S4096x2048 .bf16) : FVec Ideal S1024x2048 .f32 :=
  transpose S1024x2048 [1, 0] (prod A X) transposes_S2048x1024_S1024x2048_1_0

theorem prod_at (A : FVec Ideal S4096x1024 .bf16) (X : FVec Ideal S4096x2048 .bf16) (j : Fin 2048) (i : Fin 1024) :
    prod A X (ix2 j i) = ∑ r : Fin 4096, X (ix2 r j) * A (ix2 r i) := by
  unfold prod
  pointwise []

theorem out_at (A : FVec Ideal S4096x1024 .bf16) (X : FVec Ideal S4096x2048 .bf16) (i : Fin 1024) (j : Fin 2048) :
    out A X (ix2 i j) = ∑ r : Fin 4096, X (ix2 r j) * A (ix2 r i) := by
  rw [← prod_at]
  unfold out
  generalize prod A X = P
  pointwise []

theorem out_match (m : (ℓ : Loc Cert.MixDwIdeal.nD Cert.MixDwIdeal.τ Cert.MixDwIdeal.sig) → Buf (Elt Ideal) ℓ) (c : Dev Cert.MixDwIdeal.nD) :
    out (Mix.argA m c) (Mix.argX m c) = Mix.res m c := by
  funext y
  obtain ⟨i, j, rfl⟩ : ∃ (i : Fin 1024) (j : Fin 2048), y = ix2 i j := ⟨y 0, y 1, ValueIdx.eq_ix2 y⟩
  refine (out_at _ _ i j).trans ?_
  exact Finset.sum_congr rfl fun r _ => mul_comm _ _

end Weights.MixRef

end
-- ==== Proof.Weights.Square.lean ====
/- The gradient of a square output weight: the kernel gathers it over eight blocks of 512 rows; the reference sums the
   products over all 4096. -/
module

public import proofs.«01_k».proof.Proof.Math.RowSums
public import proofs.«01_k».proof.Proof.Gen.DwSqIdeal.Value
public import proofs.«01_k».proof.Proof.Gen.DwSqRefIdeal.Run
public import Idealize.ShloMosaic.Lib.Pointwise

@[expose] public section

set_option maxRecDepth 16384

noncomputable section

namespace Weights.Square

open Cert.DwSqIdeal Cert.DwSqIdeal.Gen Cert.DwSqIdeal.Value Idealize.ShloMosaic Idealize.ShloMosaic.TcCoe Idealize.SL.Sem RowSums

/-! ## A point's values -/

theorem first_at (i : Fin 1024) (j : Fin 1024) : (k0_pay1 : FVec Ideal S1024x1024 .f32) (ix2 i j) = 0 := by
  unfold k0_pay1
  pointwise []

theorem add_at (x0 : FVec Ideal S512x1024 .bf16) (acc : FVec Ideal S1024x1024 .f32) (x1 : FVec Ideal S512x1024 .f32) (i : Fin 1024) (j : Fin 1024) :
    (k0_pay2 x0 acc x1 : FVec Ideal S1024x1024 .f32) (ix2 i j) = acc (ix2 i j) + ∑ r : Fin 512, x0 (ix2 r i) * x1 (ix2 r j) := by
  unfold k0_pay2
  pointwise []

/-! ## The blocks a point reads -/

variable (m : (ℓ : Loc nD τ sig) → Buf (Elt Ideal) ℓ) (c : Dev nD)

/-- The arguments: the rows the weights multiply and the residual stream's cotangent. -/
abbrev argA : FVec Ideal S4096x1024 .bf16 := m ((c.tc : Thread nD τ).loc main_arg0)
abbrev argX : FVec Ideal S4096x1024 .f32 := m ((c.tc : Thread nD τ).loc main_arg1)

abbrev blkA (t : Fin cfg0.N) : FVec Ideal S512x1024 .bf16 := iblk m c 0 t
abbrev blkX (t : Fin cfg0.N) : FVec Ideal S512x1024 .f32 := iblk m c 1 t

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

theorem blkA_at (t : Fin cfg0.N) (r : Fin 512) (k : Fin 1024) :
    blkA m c t (ix2 r k) = argA m c (ix2 ⟨512 * t.val + r.val, by have := lt8 t; omega⟩ k) := by
  unfold blkA iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

/-! ## The gathered sums -/

/-- A row's term of the weight at row `i` and column `j`. -/
def term (i : Fin 1024) (j : Fin 1024) (r : Fin 4096) : EReal := argA m c (ix2 r i) * argX m c (ix2 r j)

/-- The gradient of the weights. -/
def res : FVec Ideal S1024x1024 .f32 := fun y => ∑ r, term m c (y 0) (y 1) r

/-- A point's products are its rows' terms. -/
theorem rows (n : ℕ) (hn : n < 8) (h : 8 * 0 + n < cfg0.N) (i : Fin 1024) (j : Fin 1024) (r : Fin 512) :
    blkA m c ⟨8 * 0 + n, h⟩ (ix2 r i) * blkX m c ⟨8 * 0 + n, h⟩ (ix2 r j) = term m c i j ⟨512 * n + r.val, by omega⟩ := by
  have e : (⟨512 * (8 * 0 + n) + r.val, by omega⟩ : Fin 4096) = ⟨512 * n + r.val, by omega⟩ := Fin.ext (by dsimp only; omega)
  exact congrArg₂ (· * ·) ((blkA_at m c _ r i).trans (congrArg (fun a => argA m c (ix2 a i)) e))
    ((blkX_at m c _ r j).trans (congrArg (fun a => argX m c (ix2 a j)) e))

/-- What the run holds after its first points. -/
theorem acc_at (i : Fin 1024) (j : Fin 1024) : ∀ (n : ℕ) (_ : n < 8) (h : 8 * 0 + n < cfg0.N),
    Pipeline.accAt (reset2 m c) (step2 m c) (8 * 0) n h (ix2 i j) = upTo (term m c i j) (512 * (n + 1))
  | 0, _, h => by
    rw [Pipeline.accAt_zero]
    unfold reset2
    refine (add_at _ _ _ i j).trans ?_
    rw [first_at]
    exact upTo_first _ _ fun r => rows m c 0 (by omega) h i j r
  | n + 1, hn, h => by
    rw [Pipeline.accAt_succ]
    refine (add_at (blkA m c _) _ (blkX m c _) i j).trans ((congrArg (· + _) (acc_at i j n (by omega) _)).trans ?_)
    exact upTo_step _ _ (n + 1) (by omega) fun r => rows m c (n + 1) (by omega) h i j r

theorem final : G2 m c = res m c := by
  funext y
  have h0 : (y 0).val < 1024 := (y 0).isLt
  have h1 : (y 1).val < 1024 := (y 1).isLt
  have hN : cfg0.N = 8 := N_0
  have hq : run2Of y = 0 := by show 1 * ((y 0).val / 1024 - 0) + 1 * ((y 1).val / 1024 - 0) = _; omega
  have hl : loc2Of y = (ix2 (y 0) (y 1) : S1024x1024.Idx) := by
    funext a
    apply Fin.ext
    match a with
    | ⟨0, _⟩ => show (y 0).val % 1024 = (y 0).val; omega
    | ⟨1, _⟩ => show (y 1).val % 1024 = (y 1).val; omega
  unfold G2
  rw [dif_pos (by rw [hq]; omega), hl]
  generalize_proofs hp
  revert hp
  rw [hq]
  intro hp
  refine (acc_at m c (y 0) (y 1) 7 (by omega) hp).trans ?_
  exact upTo_all _

end Weights.Square

namespace Weights.SquareRef

open Cert.DwSqRefIdeal Cert.DwSqRefIdeal.Gen Idealize.ShloMosaic Idealize.ShloMosaic.TcCoe

/-! ## The reference -/

/-- The product before the transpose. -/
def prod (A : FVec Ideal S4096x1024 .bf16) (X : FVec Ideal S4096x1024 .f32) : FVec Ideal S1024x1024 .f32 :=
  Host.dotGeneral dot_S4096x1024_S4096x1024_S1024x1024_0_0_1_1_n_n none X (extf .f32 A bitsLt_bf16_f32)

def out (A : FVec Ideal S4096x1024 .bf16) (X : FVec Ideal S4096x1024 .f32) : FVec Ideal S1024x1024 .f32 :=
  transpose S1024x1024 [1, 0] (prod A X) transposes_S1024x1024_S1024x1024_1_0

theorem prod_at (A : FVec Ideal S4096x1024 .bf16) (X : FVec Ideal S4096x1024 .f32) (j : Fin 1024) (i : Fin 1024) :
    prod A X (ix2 j i) = ∑ r : Fin 4096, X (ix2 r j) * A (ix2 r i) := by
  unfold prod
  pointwise []

theorem out_at (A : FVec Ideal S4096x1024 .bf16) (X : FVec Ideal S4096x1024 .f32) (i : Fin 1024) (j : Fin 1024) :
    out A X (ix2 i j) = ∑ r : Fin 4096, X (ix2 r j) * A (ix2 r i) := by
  rw [← prod_at]
  unfold out
  generalize prod A X = P
  pointwise []

theorem out_match (m : (ℓ : Loc Cert.DwSqIdeal.nD Cert.DwSqIdeal.τ Cert.DwSqIdeal.sig) → Buf (Elt Ideal) ℓ) (c : Dev Cert.DwSqIdeal.nD) :
    out (Square.argA m c) (Square.argX m c) = Square.res m c := by
  funext y
  obtain ⟨i, j, rfl⟩ : ∃ (i : Fin 1024) (j : Fin 1024), y = ix2 i j := ⟨y 0, y 1, ValueIdx.eq_ix2 y⟩
  refine (out_at _ _ i j).trans ?_
  exact Finset.sum_congr rfl fun r _ => mul_comm _ _

end Weights.SquareRef

end
-- ==== Proof.Weights.Query.lean ====
/- The gradient of the query weights: the kernel gathers it over eight blocks of 512 rows; the reference sums the products
   over all 4096. -/
module

public import proofs.«01_k».proof.Proof.Math.RowSums
public import proofs.«01_k».proof.Proof.Gen.DwQIdeal.Value
public import proofs.«01_k».proof.Proof.Gen.DwQRefIdeal.Run
public import Idealize.ShloMosaic.Lib.Pointwise

@[expose] public section

set_option maxRecDepth 16384

noncomputable section

namespace Weights.Query

open Cert.DwQIdeal Cert.DwQIdeal.Gen Cert.DwQIdeal.Value Idealize.ShloMosaic Idealize.ShloMosaic.TcCoe Idealize.SL.Sem RowSums

/-! ## A point's values -/

theorem first_at (i : Fin 1024) (j : Fin 1024) : (k0_pay1 : FVec Ideal S1024x1024 .f32) (ix2 i j) = 0 := by
  unfold k0_pay1
  pointwise []

theorem add_at (x0 : FVec Ideal S512x1024 .bf16) (acc : FVec Ideal S1024x1024 .f32) (x1 : FVec Ideal S512x1024 .bf16) (i : Fin 1024) (j : Fin 1024) :
    (k0_pay2 x0 acc x1 : FVec Ideal S1024x1024 .f32) (ix2 i j) = acc (ix2 i j) + ∑ r : Fin 512, x0 (ix2 r i) * x1 (ix2 r j) := by
  unfold k0_pay2
  pointwise []

/-! ## The blocks a point reads -/

variable (m : (ℓ : Loc nD τ sig) → Buf (Elt Ideal) ℓ) (c : Dev nD)

/-- The arguments: the normalised rows and the queries' cotangent. -/
abbrev argA : FVec Ideal S4096x1024 .bf16 := m ((c.tc : Thread nD τ).loc main_arg0)
abbrev argX : FVec Ideal S4096x1024 .bf16 := m ((c.tc : Thread nD τ).loc main_arg1)

abbrev blkA (t : Fin cfg0.N) : FVec Ideal S512x1024 .bf16 := iblk m c 0 t
abbrev blkX (t : Fin cfg0.N) : FVec Ideal S512x1024 .bf16 := iblk m c 1 t

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

theorem blkA_at (t : Fin cfg0.N) (r : Fin 512) (k : Fin 1024) :
    blkA m c t (ix2 r k) = argA m c (ix2 ⟨512 * t.val + r.val, by have := lt8 t; omega⟩ k) := by
  unfold blkA iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

/-! ## The gathered sums -/

/-- A row's term of the weight at row `i` and column `j`. -/
def term (i : Fin 1024) (j : Fin 1024) (r : Fin 4096) : EReal := argA m c (ix2 r i) * argX m c (ix2 r j)

/-- The gradient of the weights. -/
def res : FVec Ideal S1024x1024 .f32 := fun y => ∑ r, term m c (y 0) (y 1) r

/-- A point's products are its rows' terms. -/
theorem rows (n : ℕ) (hn : n < 8) (h : 8 * 0 + n < cfg0.N) (i : Fin 1024) (j : Fin 1024) (r : Fin 512) :
    blkA m c ⟨8 * 0 + n, h⟩ (ix2 r i) * blkX m c ⟨8 * 0 + n, h⟩ (ix2 r j) = term m c i j ⟨512 * n + r.val, by omega⟩ := by
  have e : (⟨512 * (8 * 0 + n) + r.val, by omega⟩ : Fin 4096) = ⟨512 * n + r.val, by omega⟩ := Fin.ext (by dsimp only; omega)
  exact congrArg₂ (· * ·) ((blkA_at m c _ r i).trans (congrArg (fun a => argA m c (ix2 a i)) e))
    ((blkX_at m c _ r j).trans (congrArg (fun a => argX m c (ix2 a j)) e))

/-- What the run holds after its first points. -/
theorem acc_at (i : Fin 1024) (j : Fin 1024) : ∀ (n : ℕ) (_ : n < 8) (h : 8 * 0 + n < cfg0.N),
    Pipeline.accAt (reset2 m c) (step2 m c) (8 * 0) n h (ix2 i j) = upTo (term m c i j) (512 * (n + 1))
  | 0, _, h => by
    rw [Pipeline.accAt_zero]
    unfold reset2
    refine (add_at _ _ _ i j).trans ?_
    rw [first_at]
    exact upTo_first _ _ fun r => rows m c 0 (by omega) h i j r
  | n + 1, hn, h => by
    rw [Pipeline.accAt_succ]
    refine (add_at (blkA m c _) _ (blkX m c _) i j).trans ((congrArg (· + _) (acc_at i j n (by omega) _)).trans ?_)
    exact upTo_step _ _ (n + 1) (by omega) fun r => rows m c (n + 1) (by omega) h i j r

theorem final : G2 m c = res m c := by
  funext y
  have h0 : (y 0).val < 1024 := (y 0).isLt
  have h1 : (y 1).val < 1024 := (y 1).isLt
  have hN : cfg0.N = 8 := N_0
  have hq : run2Of y = 0 := by show 1 * ((y 0).val / 1024 - 0) + 1 * ((y 1).val / 1024 - 0) = _; omega
  have hl : loc2Of y = (ix2 (y 0) (y 1) : S1024x1024.Idx) := by
    funext a
    apply Fin.ext
    match a with
    | ⟨0, _⟩ => show (y 0).val % 1024 = (y 0).val; omega
    | ⟨1, _⟩ => show (y 1).val % 1024 = (y 1).val; omega
  unfold G2
  rw [dif_pos (by rw [hq]; omega), hl]
  generalize_proofs hp
  revert hp
  rw [hq]
  intro hp
  refine (acc_at m c (y 0) (y 1) 7 (by omega) hp).trans ?_
  exact upTo_all _

end Weights.Query

namespace Weights.QueryRef

open Cert.DwQRefIdeal Cert.DwQRefIdeal.Gen Idealize.ShloMosaic Idealize.ShloMosaic.TcCoe

/-! ## The reference -/

/-- The product before the transpose. -/
def prod (A : FVec Ideal S4096x1024 .bf16) (X : FVec Ideal S4096x1024 .bf16) : FVec Ideal S1024x1024 .f32 :=
  Host.dotGeneral dot_S4096x1024_S4096x1024_S1024x1024_0_0_1_1_n_n none (extf .f32 X bitsLt_bf16_f32) (extf .f32 A bitsLt_bf16_f32)

def out (A : FVec Ideal S4096x1024 .bf16) (X : FVec Ideal S4096x1024 .bf16) : FVec Ideal S1024x1024 .f32 :=
  transpose S1024x1024 [1, 0] (prod A X) transposes_S1024x1024_S1024x1024_1_0

theorem prod_at (A : FVec Ideal S4096x1024 .bf16) (X : FVec Ideal S4096x1024 .bf16) (j : Fin 1024) (i : Fin 1024) :
    prod A X (ix2 j i) = ∑ r : Fin 4096, X (ix2 r j) * A (ix2 r i) := by
  unfold prod
  pointwise []

theorem out_at (A : FVec Ideal S4096x1024 .bf16) (X : FVec Ideal S4096x1024 .bf16) (i : Fin 1024) (j : Fin 1024) :
    out A X (ix2 i j) = ∑ r : Fin 4096, X (ix2 r j) * A (ix2 r i) := by
  rw [← prod_at]
  unfold out
  generalize prod A X = P
  pointwise []

theorem out_match (m : (ℓ : Loc Cert.DwQIdeal.nD Cert.DwQIdeal.τ Cert.DwQIdeal.sig) → Buf (Elt Ideal) ℓ) (c : Dev Cert.DwQIdeal.nD) :
    out (Query.argA m c) (Query.argX m c) = Query.res m c := by
  funext y
  obtain ⟨i, j, rfl⟩ : ∃ (i : Fin 1024) (j : Fin 1024), y = ix2 i j := ⟨y 0, y 1, ValueIdx.eq_ix2 y⟩
  refine (out_at _ _ i j).trans ?_
  exact Finset.sum_congr rfl fun r _ => mul_comm _ _

end Weights.QueryRef

end
-- ==== Proof.Norm.Mix.lean ====
/- The gradient through the mixer's input norm: the kernel's rows and gain, each of the eight grid points leaving 512 rows and adding its
   part of the gain's gradient, and the reference's as them. -/
module

public import proofs.«01_k».proof.Proof.Norm.Row
public import proofs.«01_k».proof.Proof.Math.RowSums
public import proofs.«01_k».proof.Proof.Gen.MixDhIdeal.Value
public import proofs.«01_k».proof.Proof.Gen.MixDhRefIdeal.Run
public import Idealize.ShloMosaic.Lib.Pointwise

@[expose] public section

set_option maxRecDepth 16384

noncomputable section

namespace Norm.Mix

open Cert.MixDhIdeal Cert.MixDhIdeal.Gen Cert.MixDhIdeal.Value Idealize.ShloMosaic Idealize.ShloMosaic.TcCoe Idealize.ShloMosaic.Tactic
open Idealize.SL.Sem RowSums

/-! ## A tile -/

/-- The gradient of a normalised entry: along a row of the mixer's projection' gradients and a row of the weights. -/
def tileP (z : FVec Ideal S512x2048 .bf16) (w : FVec Ideal S1024x2048 .bf16) (r : Fin 512) (k : Fin 1024) : EReal :=
  ∑ n : Fin 2048, z (ix2 r n) * w (ix2 k n)

variable (z : FVec Ideal S512x2048 .bf16) (w : FVec Ideal S1024x2048 .bf16) (x o : FVec Ideal S512x1024 .f32) (g : FVec Ideal S1x1024 .f32)

theorem pull_at (r : Fin 512) (k : Fin 1024) : (k0_pay3 z w : FVec Ideal S512x1024 .f32) (ix2 r k) = tileP z w r k := by
  unfold k0_pay3
  pointwise []
  rfl

theorem rs_at (r : Fin 512) : (k0_pay4 x : FVec Ideal S512x1 .f32) (ix2 r 0) = rs (fun k : Fin 1024 => x (ix2 r k)) := by
  unfold k0_pay4
  pointwise []
  rfl

theorem scaled_at (r : Fin 512) (k : Fin 1024) :
    (k0_pay5 x : FVec Ideal S512x1024 .f32) (ix2 r k) = x (ix2 r k) * rs (fun k : Fin 1024 => x (ix2 r k)) := by
  rw [← rs_at]
  unfold k0_pay5
  generalize (k0_pay4 x : FVec Ideal S512x1 .f32) = v
  pointwise []

theorem gained_at (r : Fin 512) (k : Fin 1024) :
    (k0_pay7 z w g : FVec Ideal S512x1024 .f32) (ix2 r k) = tileP z w r k * g (ix2 0 k) := by
  rw [← pull_at]
  unfold k0_pay7
  generalize (k0_pay3 z w : FVec Ideal S512x1024 .f32) = P
  pointwise []

theorem overlap_at (r : Fin 512) :
    (k0_pay8 z w x g : FVec Ideal S512x1 .f32) (ix2 r 0)
      = ∑ j : Fin 1024, tileP z w r j * g (ix2 0 j) * (x (ix2 r j) * rs (fun k : Fin 1024 => x (ix2 r k))) := by
  simp only [← gained_at, ← scaled_at]
  unfold k0_pay8
  generalize (k0_pay7 z w g : FVec Ideal S512x1024 .f32) = P
  generalize (k0_pay5 x : FVec Ideal S512x1024 .f32) = Y
  pointwise []

theorem first_at (k : Fin 1024) : (k0_pay2 : FVec Ideal S1x1024 .f32) (ix2 0 k) = 0 := by
  unfold k0_pay2
  pointwise []

theorem sum_at (acc : FVec Ideal S1x1024 .f32) (k : Fin 1024) :
    (k0_pay6 z w x acc : FVec Ideal S1x1024 .f32) (ix2 0 k)
      = acc (ix2 0 k) + ∑ r : Fin 512, tileP z w r k * (x (ix2 r k) * rs (fun k : Fin 1024 => x (ix2 r k))) := by
  simp only [← pull_at, ← scaled_at]
  unfold k0_pay6
  generalize (k0_pay3 z w : FVec Ideal S512x1024 .f32) = P
  generalize (k0_pay5 x : FVec Ideal S512x1024 .f32) = Y
  pointwise []

theorem back_at (v : FVec Ideal S512x1 .f32) (Y D : FVec Ideal S512x1024 .f32) (s : FVec Ideal S512x1 .f32) (r : Fin 512) (k : Fin 1024) :
    (k0_pay1 (F := Ideal) v Y D o s width : FVec Ideal S512x1024 .f32) (ix2 r k)
      = o (ix2 r k) + v (ix2 r 0) * (D (ix2 r k) - Y (ix2 r k) * Ideal.div (s (ix2 r 0)) width) := by
  unfold k0_pay1
  pointwise []

/-- What the kernel leaves of a tile's rows. -/
def tileX : FVec Ideal S512x1024 .f32 :=
  k0_pay1 (F := Ideal) (k0_pay4 (F := Ideal) x) (k0_pay5 (F := Ideal) x) (k0_pay7 (F := Ideal) z w g) o (k0_pay8 (F := Ideal) z w x g)
    (Scalar.ofBits .f32 0x44800000#32)

/-- A row's gradient. -/
theorem row_at (r : Fin 512) (k : Fin 1024) :
    tileX z w x o g (ix2 r k)
      = project (fun j : Fin 1024 => x (ix2 r j)) (fun j => tileP z w r j * g (ix2 0 j)) (o (ix2 r k)) k := by
  refine (back_at o _ _ _ _ r k).trans ?_
  unfold project
  simp only [gained_at, rs_at, scaled_at, overlap_at]

/-! ## What a point leaves -/

theorem hz : (![0, 0] : Fin 2 → Nat) = fun _ => 0 := funext fun a => by fin_cases a <;> rfl

theorem out_A_5 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2048 .bf16) (h4 : a4.IsWhole) (a5 : Memref sig .tc .vmem S1024x2048 .bf16) (h5 : a5.IsWhole) (a6 : Memref sig .tc .vmem S512x1024 .f32) (h6 : a6.IsWhole) (a7 : Memref sig .tc .vmem S1x1024 .f32) (h7 : a7.IsWhole) (hc0 : cond0_0 i)
    (x0 x1 : Vec Ideal S512x1024 .f32) (x2 : Vec Ideal S1x1024 .f32) (x3 : Vec Ideal S512x2048 .bf16) (x4 : Vec Ideal S1024x2048 .bf16) :
    out0_A_5 (F := Ideal) c i a1 h1 a2 h2 a3 h3 a4 h4 a5 h5 a6 h6 a7 h7 hc0 x0 x1 x2 x3 x4 = tileX x3 x4 x0 x1 x2 := by
  unfold out0_A_5 tileX
  rw [View.read_writes_eq_canon _ _ _ (cover0_A_5 c i a1 h1 a2 h2 a3 h3 a4 h4 a5 h5 a6 h6 a7 h7 hc0 x0 x1 x2 x3 x4)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x2048) hz, View.ld_unit_zero (S := S1024x2048) hz, View.ld_unit_zero (S := S1x1024) hz, shapeCast_self]

theorem out_A_6 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2048 .bf16) (h4 : a4.IsWhole) (a5 : Memref sig .tc .vmem S1024x2048 .bf16) (h5 : a5.IsWhole) (a6 : Memref sig .tc .vmem S512x1024 .f32) (h6 : a6.IsWhole) (a7 : Memref sig .tc .vmem S1x1024 .f32) (h7 : a7.IsWhole) (hc0 : cond0_0 i)
    (x0 x1 : Vec Ideal S512x1024 .f32) (x2 : Vec Ideal S1x1024 .f32) (x3 : Vec Ideal S512x2048 .bf16) (x4 : Vec Ideal S1024x2048 .bf16) :
    out0_A_6 (F := Ideal) c i a1 h1 a2 h2 a3 h3 a4 h4 a5 h5 a6 h6 a7 h7 hc0 x0 x1 x2 x3 x4 = k0_pay6 (F := Ideal) x3 x4 x0 (k0_pay2 (F := Ideal)) := by
  unfold out0_A_6
  rw [View.read_writes_eq_canon _ _ _ (cover0_A_6 c i a1 h1 a2 h2 a3 h3 a4 h4 a5 h5 a6 h6 a7 h7 hc0 x0 x1 x2 x3 x4)]
  unfold kernelRun0_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, View.ld_unit_zero (S := S512x1024) hz, View.ld_unit_zero (S := S512x2048) hz, View.ld_unit_zero (S := S1024x2048) hz, View.ld_unit_zero (S := S1x1024) hz, shapeCast_self]

theorem out_B_5 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2048 .bf16) (h4 : a4.IsWhole) (a5 : Memref sig .tc .vmem S1024x2048 .bf16) (h5 : a5.IsWhole) (a6 : Memref sig .tc .vmem S512x1024 .f32) (h6 : a6.IsWhole) (a7 : Memref sig .tc .vmem S1x1024 .f32) (h7 : a7.IsWhole) (hc0 : ¬cond0_0 i)
    (x0 x1 : Vec Ideal S512x1024 .f32) (x2 : Vec Ideal S1x1024 .f32) (x3 : Vec Ideal S512x2048 .bf16) (x4 : Vec Ideal S1024x2048 .bf16) (acc : Vec Ideal S1x1024 .f32) :
    out0_B_5 (F := Ideal) c i a1 h1 a2 h2 a3 h3 a4 h4 a5 h5 a6 h6 a7 h7 hc0 x0 x1 x2 x3 x4 acc = tileX x3 x4 x0 x1 x2 := by
  unfold out0_B_5 tileX
  rw [View.read_writes_eq_canon _ _ _ (cover0_B_5 c i a1 h1 a2 h2 a3 h3 a4 h4 a5 h5 a6 h6 a7 h7 hc0 x0 x1 x2 x3 x4 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x2048) hz, View.ld_unit_zero (S := S1024x2048) hz, View.ld_unit_zero (S := S1x1024) hz, shapeCast_self]

theorem out_B_6 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x2048 .bf16) (h4 : a4.IsWhole) (a5 : Memref sig .tc .vmem S1024x2048 .bf16) (h5 : a5.IsWhole) (a6 : Memref sig .tc .vmem S512x1024 .f32) (h6 : a6.IsWhole) (a7 : Memref sig .tc .vmem S1x1024 .f32) (h7 : a7.IsWhole) (hc0 : ¬cond0_0 i)
    (x0 x1 : Vec Ideal S512x1024 .f32) (x2 : Vec Ideal S1x1024 .f32) (x3 : Vec Ideal S512x2048 .bf16) (x4 : Vec Ideal S1024x2048 .bf16) (acc : Vec Ideal S1x1024 .f32) :
    out0_B_6 (F := Ideal) c i a1 h1 a2 h2 a3 h3 a4 h4 a5 h5 a6 h6 a7 h7 hc0 x0 x1 x2 x3 x4 acc = k0_pay6 (F := Ideal) x3 x4 x0 acc := by
  unfold out0_B_6
  rw [View.read_writes_eq_canon _ _ _ (cover0_B_6 c i a1 h1 a2 h2 a3 h3 a4 h4 a5 h5 a6 h6 a7 h7 hc0 x0 x1 x2 x3 x4 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x2048) hz, View.ld_unit_zero (S := S1024x2048) hz, View.ld_unit_zero (S := S1x1024) hz, shapeCast_self]

/-! ## The arrays -/

section Arrays

variable (m : (ℓ : Loc nD τ sig) → Buf (Elt Ideal) ℓ) (c : Dev nD)

/-- The arguments: the rows, the output's cotangent, the gain, the mixer's projection' gradients, the weights. -/
abbrev argX : FVec Ideal S4096x1024 .f32 := m ((c.tc : Thread nD τ).loc main_arg0)
abbrev argO : FVec Ideal S4096x1024 .f32 := m ((c.tc : Thread nD τ).loc main_arg1)
abbrev argG : FVec Ideal S1x1024 .f32 := m ((c.tc : Thread nD τ).loc main_arg2)
abbrev argZ : FVec Ideal S4096x2048 .bf16 := m ((c.tc : Thread nD τ).loc main_arg3)
abbrev argW : FVec Ideal S1024x2048 .bf16 := m ((c.tc : Thread nD τ).loc main_arg4)

abbrev blkX (t : Fin cfg0.N) : FVec Ideal S512x1024 .f32 := iblk m c 0 t
abbrev blkO (t : Fin cfg0.N) : FVec Ideal S512x1024 .f32 := iblk m c 1 t
abbrev blkG (t : Fin cfg0.N) : FVec Ideal S1x1024 .f32 := iblk m c 2 t
abbrev blkZ (t : Fin cfg0.N) : FVec Ideal S512x2048 .bf16 := iblk m c 3 t
abbrev blkW (t : Fin cfg0.N) : FVec Ideal S1024x2048 .bf16 := iblk m c 4 t

/-- The gradient of the normalised entry at a row and column. -/
def pulled (r : Fin 4096) (k : Fin 1024) : EReal := ∑ n : Fin 2048, argZ m c (ix2 r n) * argW m c (ix2 k n)

/-- The rows' gradients. -/
def resX : FVec Ideal S4096x1024 .f32 := fun y =>
  project (fun j : Fin 1024 => argX m c (ix2 (y 0) j)) (fun j => pulled m c (y 0) j * argG m c (ix2 0 j)) (argO m c y) (y 1)

/-- A row's term of the gain's gradient. -/
def term (k : Fin 1024) (r : Fin 4096) : EReal :=
  pulled m c r k * (argX m c (ix2 r k) * rs (fun j : Fin 1024 => argX m c (ix2 r j)))

/-- The gain's gradient. -/
def resG : FVec Ideal S1x1024 .f32 := fun y => ∑ r, term m c (y 1) r

/-! ## The blocks a point reads -/

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkO_at (t : Fin cfg0.N) (r : Fin 512) (k : Fin 1024) :
    blkO m c t (ix2 r k) = argO m c (ix2 ⟨512 * t.val + r.val, by have := lt8 t; omega⟩ k) := by
  unfold blkO iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

theorem blkG_at (t : Fin cfg0.N) (r : Fin 1) (k : Fin 1024) :
    blkG m c t (ix2 r k) = argG m c (ix2 r k) := by
  unfold blkG iblk
  rw [View.read_apply]
  show V m c main_arg2 _ = m _ _
  unfold V
  congr 1
  funext a
  apply Fin.ext
  match a with
  | ⟨0, _⟩ => show win0_2.index t 0 * 1 + 1 * r.val = r.val; rw [(index2 t).1]; omega
  | ⟨1, _⟩ => show win0_2.index t 1 * 1024 + 1 * k.val = k.val; rw [(index2 t).2]; omega

theorem blkZ_at (t : Fin cfg0.N) (r : Fin 512) (k : Fin 2048) :
    blkZ m c t (ix2 r k) = argZ m c (ix2 ⟨512 * t.val + r.val, by have := lt8 t; omega⟩ k) := by
  unfold blkZ iblk
  rw [View.read_apply]
  show V m c main_arg3 _ = m _ _
  unfold V
  congr 1
  funext a
  apply Fin.ext
  match a with
  | ⟨0, _⟩ => show win0_3.index t 0 * 512 + 1 * r.val = 512 * t.val + r.val; rw [(index3 t).1]; omega
  | ⟨1, _⟩ => show win0_3.index t 1 * 2048 + 1 * k.val = k.val; rw [(index3 t).2]; omega

theorem blkW_at (t : Fin cfg0.N) (r : Fin 1024) (k : Fin 2048) :
    blkW m c t (ix2 r k) = argW m c (ix2 r k) := by
  unfold blkW iblk
  rw [View.read_apply]
  show V m c main_arg4 _ = m _ _
  unfold V
  congr 1
  funext a
  apply Fin.ext
  match a with
  | ⟨0, _⟩ => show win0_4.index t 0 * 1024 + 1 * r.val = r.val; rw [(index4 t).1]; omega
  | ⟨1, _⟩ => show win0_4.index t 1 * 2048 + 1 * k.val = k.val; rw [(index4 t).2]; omega

/-- The row of the whole array a point's row is. -/
abbrev rowOf (t : Fin cfg0.N) (r : Fin 512) : Fin 4096 := ⟨512 * t.val + r.val, by have := lt8 t; omega⟩

theorem tileP_at (t : Fin cfg0.N) (r : Fin 512) (k : Fin 1024) :
    tileP (blkZ m c t) (blkW m c t) r k = pulled m c (rowOf t r) k := by
  exact Finset.sum_congr rfl fun n _ => congrArg₂ (· * ·) (blkZ_at m c t r n) (blkW_at m c t k n)

theorem blkX_row (t : Fin cfg0.N) (r : Fin 512) :
    (fun j : Fin 1024 => blkX m c t (ix2 r j)) = fun j => argX m c (ix2 (rowOf t r) j) := funext fun j => blkX_at m c t r j

theorem term_at (t : Fin cfg0.N) (k : Fin 1024) (r : Fin 512) :
    tileP (blkZ m c t) (blkW m c t) r k * (blkX m c t (ix2 r k) * rs (fun j : Fin 1024 => blkX m c t (ix2 r j)))
      = term m c k (rowOf t r) := by
  unfold term
  rw [tileP_at, blkX_row, blkX_at]

/-! ## What a point leaves -/

theorem outs_x (t : Fin cfg0.N) : (outsAt0 m c t.val t.isLt).1
    = tileX (blkZ m c t) (blkW m c t) (blkX m c t) (blkO m c t) (blkG m c t) := by
  by_cases h : t.val % 8 = 0
  · rw [outsAt0_A m c t h]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _
  · rw [outsAt0_B m c t h]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _ _

theorem outs_x_at (t : Fin cfg0.N) (r : Fin 512) (k : Fin 1024) :
    (outsAt0 m c t.val t.isLt).1 (ix2 r k) = resX m c (ix2 (rowOf t r) k) := by
  rw [outs_x]
  refine (row_at _ _ _ _ _ r k).trans ?_
  show _ = project (fun j : Fin 1024 => argX m c (ix2 (rowOf t r) j)) (fun j => pulled m c (rowOf t r) j * argG m c (ix2 0 j)) (argO m c (ix2 (rowOf t r) k)) k
  rw [blkX_row, blkO_at]
  congr 1
  funext j
  rw [tileP_at, blkG_at]

theorem outs_first (t : Fin cfg0.N) (h : t.val % 8 = 0) : (outsAt0 m c t.val t.isLt).2
    = k0_pay6 (F := Ideal) (blkZ m c t) (blkW m c t) (blkX m c t) (k0_pay2 (F := Ideal)) := by
  rw [outsAt0_A m c t h]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _

theorem outs_next (t : Fin cfg0.N) (h : ¬t.val % 8 = 0) : (outsAt0 m c t.val t.isLt).2
    = k0_pay6 (F := Ideal) (blkZ m c t) (blkW m c t) (blkX m c t)
      (outsAt0 m c (t.val - 1) (Nat.lt_of_le_of_lt (Nat.sub_le _ _) t.isLt)).2 := by
  rw [outsAt0_B m c t h]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _ _

theorem outs_g_at (k : Fin 1024) : ∀ (n : ℕ) (h : n < cfg0.N), (outsAt0 m c n h).2 (ix2 0 k) = upTo (term m c k) (512 * (n + 1))
  | 0, h => by
    rw [outs_first m c ⟨0, h⟩ rfl]
    refine (sum_at _ _ _ _ k).trans ?_
    rw [first_at]
    exact upTo_first _ _ fun r => term_at m c ⟨0, h⟩ k r
  | n + 1, h => by
    have hN : cfg0.N = 8 := N_0
    rw [outs_next m c ⟨n + 1, h⟩ (by dsimp only; omega)]
    refine (sum_at _ _ _ _ k).trans ?_
    have e : (outsAt0 m c (n + 1 - 1) (Nat.lt_of_le_of_lt (Nat.sub_le _ _) h)).2 (ix2 0 k) = _ := outs_g_at k n (by omega)
    dsimp only
    rw [e]
    exact upTo_step _ _ (n + 1) (by omega) fun r => term_at m c ⟨n + 1, h⟩ k r

/-! ## The arrays -/

theorem final_x : (dats m 0 c).arrAt 5 cfg0.N = resX m c :=
  (dats m 0 c).arrAt_eq_of_cover 5 (resX m c)
    (fun t hf => by
      rw [flushed5]
      funext j
      rw [View.read_apply]
      have e : ((cfg0.win 5).blk t).view.emb j = (ix2 (rowOf t (j 0)) (j 1) : S4096x1024.Idx) := by
        funext a
        apply Fin.ext
        match a with
        | ⟨0, _⟩ => show win0_5.index t 0 * 512 + 1 * (j 0).val = 512 * t.val + (j 0).val; rw [(index5 t).1]; omega
        | ⟨1, _⟩ => show win0_5.index t 1 * 1024 + 1 * (j 1).val = (j 1).val; rw [(index5 t).2]; omega
      rw [e]
      exact (congrArg (outsAt0 m c t.val t.isLt).1 (ValueIdx.eq_ix2 (n0 := 512) (n1 := 1024) j)).trans (outs_x_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_5 _, ?_⟩
      show (i : S4096x1024.Idx) ∈ ((View.whole main_v0_0).slice (win0_5.rect ⟨(i 0 : ℕ) / 512, hp⟩)).set
      rw [View.set_slice_whole, Rect.mem_set_unit]
      intro a
      match a with
      | ⟨0, _⟩ =>
        show win0_5.index _ 0 * 512 ≤ (i 0 : ℕ) ∧ (i 0 : ℕ) < win0_5.index _ 0 * 512 + 512
        rw [(index5 _).1]; dsimp only; omega
      | ⟨1, _⟩ =>
        show win0_5.index _ 1 * 1024 ≤ (i 1 : ℕ) ∧ (i 1 : ℕ) < win0_5.index _ 1 * 1024 + 1024
        rw [(index5 _).2]; omega)

theorem final_g : (dats m 0 c).arrAt 6 cfg0.N = resG m c :=
  (dats m 0 c).arrAt_eq_of_cover 6 (resG m c)
    (fun t hf => by
      have h7 : t.val = 7 := by have := (flush0_6 t).mp hf; have := lt8 t; omega
      rw [flushed6]
      funext j
      have hj : (j 0).val < 1 := (j 0).isLt
      rw [View.read_apply]
      have e : ((cfg0.win 6).blk t).view.emb j = (ix2 0 (j 1) : S1x1024.Idx) := by
        funext a
        apply Fin.ext
        match a with
        | ⟨0, _⟩ => show win0_6.index t 0 * 1 + 1 * (j 0).val = 0; rw [(index6 t).1]; omega
        | ⟨1, _⟩ => show win0_6.index t 1 * 1024 + 1 * (j 1).val = (j 1).val; rw [(index6 t).2]; omega
      have e' : (j : S1x1024.Idx) = ix2 0 (j 1) := by
        funext a
        apply Fin.ext
        match a with
        | ⟨0, _⟩ => show (j 0).val = 0; omega
        | ⟨1, _⟩ => rfl
      rw [e]
      refine ((congrArg (outsAt0 m c t.val t.isLt).2 e').trans (outs_g_at m c (j 1) t.val t.isLt)).trans ?_
      rw [h7]
      exact upTo_all _)
    (fun i => by
      have h0 : (i 0 : ℕ) < 1 := (i 0).isLt
      have h1 : (i 1 : ℕ) < 1024 := (i 1).isLt
      have hN : cfg0.N = 8 := N_0
      have hp : 7 < cfg0.N := by omega
      refine ⟨⟨7, hp⟩, (flush0_6 _).mpr rfl, ?_⟩
      show (i : S1x1024.Idx) ∈ ((View.whole main_v0_1).slice (win0_6.rect ⟨7, hp⟩)).set
      rw [View.set_slice_whole, Rect.mem_set_unit]
      intro a
      match a with
      | ⟨0, _⟩ =>
        show win0_6.index _ 0 * 1 ≤ (i 0 : ℕ) ∧ (i 0 : ℕ) < win0_6.index _ 0 * 1 + 1
        rw [(index6 _).1]; omega
      | ⟨1, _⟩ =>
        show win0_6.index _ 1 * 1024 ≤ (i 1 : ℕ) ∧ (i 1 : ℕ) < win0_6.index _ 1 * 1024 + 1024
        rw [(index6 _).2]; omega)

end Arrays

end Norm.Mix

namespace Norm.MixRef

open Cert.MixDhRefIdeal Cert.MixDhRefIdeal.Gen Idealize.ShloMosaic Idealize.ShloMosaic.TcCoe RowSums

variable (X O : FVec Ideal S4096x1024 .f32) (G : FVec Ideal S1x1024 .f32) (Z : FVec Ideal S4096x2048 .bf16) (W : FVec Ideal S1024x2048 .bf16)

/-! ## The reference's arrays -/

def prod : FVec Ideal S4096x1024 .f32 :=
  Host.dotGeneral dot_S4096x2048_S1024x2048_S4096x1024_1_1_0_0_n_n none (extf .f32 Z bitsLt_bf16_f32) (extf .f32 W bitsLt_bf16_f32)

def shiftedA : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def rsA (M : FVec Ideal S4096x1 .f32) : FVec Ideal S4096x1 .f32 := Host.rsqrt M

/-- A column at every entry of its row. -/
def across (R : FVec Ideal S4096x1 .f32) : FVec Ideal S4096x1024 .f32 := broadcastInDim S4096x1024 ![0, 1] bcast_S4096x1_S4096x1024_0_1 R

def gained (P : FVec Ideal S4096x1024 .f32) : FVec Ideal S4096x1024 .f32 := mulf P (broadcastInDim S4096x1024 ![0, 1] bcast_S1x1024_S4096x1024_0_1 G)

def overlap (D : FVec Ideal S4096x1024 .f32) : FVec Ideal S4096x1 .f32 :=
  shapeCast _ (Host.reduceAdd (mulf X D) (constant S_ .f32 0x00000000#32) reducesTo_S4096x1024_S4096_d1 h_S_) shapeCasts_S4096_S4096x1

def slopeA (R M K : FVec Ideal S4096x1 .f32) : FVec Ideal S4096x1 .f32 :=
  Host.divf (mulf K (mulf (broadcastInDim S4096x1 ![] bcast_S_S4096x1 (constant S_ .f32 0xBF000000#32)) (Host.divf R M))) (broadcastInDim S4096x1 ![] bcast_S_S4096x1 (constant S_ .f32 0x44800000#32))

def spread (C : FVec Ideal S4096x1 .f32) : FVec Ideal S4096x1024 .f32 :=
  broadcastInDim S4096x1024 ![0] bcast_S4096_S4096x1024_0 (Host.reduceAdd C (constant S_ .f32 0x00000000#32) reducesTo_S4096x1_S4096_d1 h_S_)

def rows (D R C : FVec Ideal S4096x1024 .f32) : FVec Ideal S4096x1024 .f32 := addf (addf (addf O (mulf D R)) (mulf X C)) (mulf C X)

def gains (P R : FVec Ideal S4096x1024 .f32) : FVec Ideal S1x1024 .f32 :=
  shapeCast _ (Host.reduceAdd (mulf (mulf X R) P) (constant S_ .f32 0x00000000#32) reducesTo_S4096x1024_S1024_d0 h_S_) shapeCasts_S1024_S1x1024

/-- The rows' gradients. -/
def outX : FVec Ideal S4096x1024 .f32 :=
  rows X O (gained G (prod Z W)) (across (rsA (shiftedA X)))
    (spread (slopeA (rsA (shiftedA X)) (shiftedA X) (overlap X (gained G (prod Z W)))))

/-- The gain's gradient. -/
def outG : FVec Ideal S1x1024 .f32 := gains X (prod Z W) (across (rsA (shiftedA X)))

/-! ## The arrays at an index -/

theorem prod_at (r : Fin 4096) (k : Fin 1024) : prod Z W (ix2 r k) = ∑ n : Fin 2048, Z (ix2 r n) * W (ix2 k n) := by
  unfold prod
  pointwise []

theorem shifted_at (r : Fin 4096) : shiftedA X (ix2 r 0) = shifted (fun k : Fin 1024 => X (ix2 r k)) := by
  unfold shiftedA
  pointwise []
  rfl

theorem rs_at (r : Fin 4096) : rsA (shiftedA X) (ix2 r 0) = rs (fun k : Fin 1024 => X (ix2 r k)) := by
  unfold rs
  rw [← shifted_at]
  generalize shiftedA X = M
  unfold rsA
  pointwise []

theorem across_at (R : FVec Ideal S4096x1 .f32) (r : Fin 4096) (k : Fin 1024) : across R (ix2 r k) = R (ix2 r 0) := by
  unfold across
  pointwise []

theorem gained_at (P : FVec Ideal S4096x1024 .f32) (r : Fin 4096) (k : Fin 1024) : gained G P (ix2 r k) = P (ix2 r k) * G (ix2 0 k) := by
  unfold gained
  pointwise []

theorem overlap_at (D : FVec Ideal S4096x1024 .f32) (r : Fin 4096) : overlap X D (ix2 r 0) = ∑ j : Fin 1024, X (ix2 r j) * D (ix2 r j) := by
  unfold overlap
  pointwise []

theorem slope_at (R M K : FVec Ideal S4096x1 .f32) (r : Fin 4096) :
    slopeA R M K (ix2 r 0) = Ideal.div (K (ix2 r 0) * (negHalf * Ideal.div (R (ix2 r 0)) (M (ix2 r 0)))) width := by
  unfold slopeA
  pointwise []

theorem spread_at (C : FVec Ideal S4096x1 .f32) (r : Fin 4096) (k : Fin 1024) : spread C (ix2 r k) = C (ix2 r 0) := by
  unfold spread
  pointwise []
  exact Fin.sum_univ_one _

theorem rows_at (D R C : FVec Ideal S4096x1024 .f32) (r : Fin 4096) (k : Fin 1024) :
    rows X O D R C (ix2 r k) = O (ix2 r k) + D (ix2 r k) * R (ix2 r k) + X (ix2 r k) * C (ix2 r k) + C (ix2 r k) * X (ix2 r k) := by
  unfold rows
  pointwise []

theorem gains_at (P R : FVec Ideal S4096x1024 .f32) (k : Fin 1024) :
    gains X P R (ix2 0 k) = ∑ r : Fin 4096, X (ix2 r k) * R (ix2 r k) * P (ix2 r k) := by
  unfold gains
  pointwise []

/-! ## The kernel's arrays -/

theorem outX_match (m : (ℓ : Loc Cert.MixDhIdeal.nD Cert.MixDhIdeal.τ Cert.MixDhIdeal.sig) → Buf (Elt Ideal) ℓ) (c : Dev Cert.MixDhIdeal.nD) :
    outX (Mix.argX m c) (Mix.argO m c) (Mix.argG m c) (Mix.argZ m c) (Mix.argW m c) = Mix.resX m c := by
  funext y
  obtain ⟨r, k, rfl⟩ : ∃ (r : Fin 4096) (k : Fin 1024), y = ix2 r k := ⟨y 0, y 1, ValueIdx.eq_ix2 y⟩
  refine (rows_at _ _ _ _ _ r k).trans ?_
  rw [across_at, spread_at, slope_at, rs_at, shifted_at, overlap_at]
  simp only [gained_at, prod_at]
  exact direct_eq (fun j : Fin 1024 => Mix.argX m c (ix2 r j)) (fun j => Mix.pulled m c r j * Mix.argG m c (ix2 0 j)) (Mix.argO m c (ix2 r k)) k

theorem outG_match (m : (ℓ : Loc Cert.MixDhIdeal.nD Cert.MixDhIdeal.τ Cert.MixDhIdeal.sig) → Buf (Elt Ideal) ℓ) (c : Dev Cert.MixDhIdeal.nD) :
    outG (Mix.argX m c) (Mix.argZ m c) (Mix.argW m c) = Mix.resG m c := by
  funext y
  obtain ⟨i, k, rfl⟩ : ∃ (i : Fin 1) (k : Fin 1024), y = ix2 i k := ⟨y 0, y 1, ValueIdx.eq_ix2 y⟩
  obtain rfl : i = 0 := Fin.ext (by omega)
  refine (gains_at _ _ _ k).trans ?_
  show _ = ∑ r, Mix.term m c k r
  refine Finset.sum_congr rfl fun r _ => ?_
  rw [across_at, rs_at, prod_at]
  exact mul_comm _ _

end Norm.MixRef

end
-- ==== Proof.Norm.Query.lean ====
/- The gradient through the attention's input norm: the kernel's rows and gain, each of the eight grid points leaving 512 rows and adding its
   part of the gain's gradient, and the reference's as them. -/
module

public import proofs.«01_k».proof.Proof.Norm.Row
public import proofs.«01_k».proof.Proof.Math.RowSums
public import proofs.«01_k».proof.Proof.Gen.AttnDhIdeal.Value
public import proofs.«01_k».proof.Proof.Gen.AttnDhRefIdeal.Run
public import Idealize.ShloMosaic.Lib.Pointwise

@[expose] public section

set_option maxRecDepth 16384

noncomputable section

namespace Norm.Query

open Cert.AttnDhIdeal Cert.AttnDhIdeal.Gen Cert.AttnDhIdeal.Value Idealize.ShloMosaic Idealize.ShloMosaic.TcCoe Idealize.ShloMosaic.Tactic
open Idealize.SL.Sem RowSums

/-! ## A tile -/

/-- The gradient of a normalised entry: along a row of the queries' gradients and a row of the weights. -/
def tileP (z : FVec Ideal S512x1024 .bf16) (w : FVec Ideal S1024x1024 .bf16) (r : Fin 512) (k : Fin 1024) : EReal :=
  ∑ n : Fin 1024, z (ix2 r n) * w (ix2 k n)

variable (z : FVec Ideal S512x1024 .bf16) (w : FVec Ideal S1024x1024 .bf16) (x o : FVec Ideal S512x1024 .f32) (g : FVec Ideal S1x1024 .f32)

theorem pull_at (r : Fin 512) (k : Fin 1024) : (k0_pay3 z w : FVec Ideal S512x1024 .f32) (ix2 r k) = tileP z w r k := by
  unfold k0_pay3
  pointwise []
  rfl

theorem rs_at (r : Fin 512) : (k0_pay4 x : FVec Ideal S512x1 .f32) (ix2 r 0) = rs (fun k : Fin 1024 => x (ix2 r k)) := by
  unfold k0_pay4
  pointwise []
  rfl

theorem scaled_at (r : Fin 512) (k : Fin 1024) :
    (k0_pay5 x : FVec Ideal S512x1024 .f32) (ix2 r k) = x (ix2 r k) * rs (fun k : Fin 1024 => x (ix2 r k)) := by
  rw [← rs_at]
  unfold k0_pay5
  generalize (k0_pay4 x : FVec Ideal S512x1 .f32) = v
  pointwise []

theorem gained_at (r : Fin 512) (k : Fin 1024) :
    (k0_pay7 z w g : FVec Ideal S512x1024 .f32) (ix2 r k) = tileP z w r k * g (ix2 0 k) := by
  rw [← pull_at]
  unfold k0_pay7
  generalize (k0_pay3 z w : FVec Ideal S512x1024 .f32) = P
  pointwise []

theorem overlap_at (r : Fin 512) :
    (k0_pay8 z w x g : FVec Ideal S512x1 .f32) (ix2 r 0)
      = ∑ j : Fin 1024, tileP z w r j * g (ix2 0 j) * (x (ix2 r j) * rs (fun k : Fin 1024 => x (ix2 r k))) := by
  simp only [← gained_at, ← scaled_at]
  unfold k0_pay8
  generalize (k0_pay7 z w g : FVec Ideal S512x1024 .f32) = P
  generalize (k0_pay5 x : FVec Ideal S512x1024 .f32) = Y
  pointwise []

theorem first_at (k : Fin 1024) : (k0_pay2 : FVec Ideal S1x1024 .f32) (ix2 0 k) = 0 := by
  unfold k0_pay2
  pointwise []

theorem sum_at (acc : FVec Ideal S1x1024 .f32) (k : Fin 1024) :
    (k0_pay6 z w x acc : FVec Ideal S1x1024 .f32) (ix2 0 k)
      = acc (ix2 0 k) + ∑ r : Fin 512, tileP z w r k * (x (ix2 r k) * rs (fun k : Fin 1024 => x (ix2 r k))) := by
  simp only [← pull_at, ← scaled_at]
  unfold k0_pay6
  generalize (k0_pay3 z w : FVec Ideal S512x1024 .f32) = P
  generalize (k0_pay5 x : FVec Ideal S512x1024 .f32) = Y
  pointwise []

theorem back_at (v : FVec Ideal S512x1 .f32) (Y D : FVec Ideal S512x1024 .f32) (s : FVec Ideal S512x1 .f32) (r : Fin 512) (k : Fin 1024) :
    (k0_pay1 (F := Ideal) v Y D o s width : FVec Ideal S512x1024 .f32) (ix2 r k)
      = o (ix2 r k) + v (ix2 r 0) * (D (ix2 r k) - Y (ix2 r k) * Ideal.div (s (ix2 r 0)) width) := by
  unfold k0_pay1
  pointwise []

/-- What the kernel leaves of a tile's rows. -/
def tileX : FVec Ideal S512x1024 .f32 :=
  k0_pay1 (F := Ideal) (k0_pay4 (F := Ideal) x) (k0_pay5 (F := Ideal) x) (k0_pay7 (F := Ideal) z w g) o (k0_pay8 (F := Ideal) z w x g)
    (Scalar.ofBits .f32 0x44800000#32)

/-- A row's gradient. -/
theorem row_at (r : Fin 512) (k : Fin 1024) :
    tileX z w x o g (ix2 r k)
      = project (fun j : Fin 1024 => x (ix2 r j)) (fun j => tileP z w r j * g (ix2 0 j)) (o (ix2 r k)) k := by
  refine (back_at o _ _ _ _ r k).trans ?_
  unfold project
  simp only [gained_at, rs_at, scaled_at, overlap_at]

/-! ## What a point leaves -/

theorem hz : (![0, 0] : Fin 2 → Nat) = fun _ => 0 := funext fun a => by fin_cases a <;> rfl

theorem out_A_5 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S1024x1024 .bf16) (h5 : a5.IsWhole) (a6 : Memref sig .tc .vmem S512x1024 .f32) (h6 : a6.IsWhole) (a7 : Memref sig .tc .vmem S1x1024 .f32) (h7 : a7.IsWhole) (hc0 : cond0_0 i)
    (x0 x1 : Vec Ideal S512x1024 .f32) (x2 : Vec Ideal S1x1024 .f32) (x3 : Vec Ideal S512x1024 .bf16) (x4 : Vec Ideal S1024x1024 .bf16) :
    out0_A_5 (F := Ideal) c i a1 h1 a2 h2 a3 h3 a4 h4 a5 h5 a6 h6 a7 h7 hc0 x0 x1 x2 x3 x4 = tileX x3 x4 x0 x1 x2 := by
  unfold out0_A_5 tileX
  rw [View.read_writes_eq_canon _ _ _ (cover0_A_5 c i a1 h1 a2 h2 a3 h3 a4 h4 a5 h5 a6 h6 a7 h7 hc0 x0 x1 x2 x3 x4)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x1024) hz, View.ld_unit_zero (S := S1024x1024) hz, View.ld_unit_zero (S := S1x1024) hz, shapeCast_self]

theorem out_A_6 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S1024x1024 .bf16) (h5 : a5.IsWhole) (a6 : Memref sig .tc .vmem S512x1024 .f32) (h6 : a6.IsWhole) (a7 : Memref sig .tc .vmem S1x1024 .f32) (h7 : a7.IsWhole) (hc0 : cond0_0 i)
    (x0 x1 : Vec Ideal S512x1024 .f32) (x2 : Vec Ideal S1x1024 .f32) (x3 : Vec Ideal S512x1024 .bf16) (x4 : Vec Ideal S1024x1024 .bf16) :
    out0_A_6 (F := Ideal) c i a1 h1 a2 h2 a3 h3 a4 h4 a5 h5 a6 h6 a7 h7 hc0 x0 x1 x2 x3 x4 = k0_pay6 (F := Ideal) x3 x4 x0 (k0_pay2 (F := Ideal)) := by
  unfold out0_A_6
  rw [View.read_writes_eq_canon _ _ _ (cover0_A_6 c i a1 h1 a2 h2 a3 h3 a4 h4 a5 h5 a6 h6 a7 h7 hc0 x0 x1 x2 x3 x4)]
  unfold kernelRun0_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, View.ld_unit_zero (S := S512x1024) hz, View.ld_unit_zero (S := S512x1024) hz, View.ld_unit_zero (S := S1024x1024) hz, View.ld_unit_zero (S := S1x1024) hz, shapeCast_self]

theorem out_B_5 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S1024x1024 .bf16) (h5 : a5.IsWhole) (a6 : Memref sig .tc .vmem S512x1024 .f32) (h6 : a6.IsWhole) (a7 : Memref sig .tc .vmem S1x1024 .f32) (h7 : a7.IsWhole) (hc0 : ¬cond0_0 i)
    (x0 x1 : Vec Ideal S512x1024 .f32) (x2 : Vec Ideal S1x1024 .f32) (x3 : Vec Ideal S512x1024 .bf16) (x4 : Vec Ideal S1024x1024 .bf16) (acc : Vec Ideal S1x1024 .f32) :
    out0_B_5 (F := Ideal) c i a1 h1 a2 h2 a3 h3 a4 h4 a5 h5 a6 h6 a7 h7 hc0 x0 x1 x2 x3 x4 acc = tileX x3 x4 x0 x1 x2 := by
  unfold out0_B_5 tileX
  rw [View.read_writes_eq_canon _ _ _ (cover0_B_5 c i a1 h1 a2 h2 a3 h3 a4 h4 a5 h5 a6 h6 a7 h7 hc0 x0 x1 x2 x3 x4 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x1024) hz, View.ld_unit_zero (S := S1024x1024) hz, View.ld_unit_zero (S := S1x1024) hz, shapeCast_self]

theorem out_B_6 (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .bf16) (h4 : a4.IsWhole) (a5 : Memref sig .tc .vmem S1024x1024 .bf16) (h5 : a5.IsWhole) (a6 : Memref sig .tc .vmem S512x1024 .f32) (h6 : a6.IsWhole) (a7 : Memref sig .tc .vmem S1x1024 .f32) (h7 : a7.IsWhole) (hc0 : ¬cond0_0 i)
    (x0 x1 : Vec Ideal S512x1024 .f32) (x2 : Vec Ideal S1x1024 .f32) (x3 : Vec Ideal S512x1024 .bf16) (x4 : Vec Ideal S1024x1024 .bf16) (acc : Vec Ideal S1x1024 .f32) :
    out0_B_6 (F := Ideal) c i a1 h1 a2 h2 a3 h3 a4 h4 a5 h5 a6 h6 a7 h7 hc0 x0 x1 x2 x3 x4 acc = k0_pay6 (F := Ideal) x3 x4 x0 acc := by
  unfold out0_B_6
  rw [View.read_writes_eq_canon _ _ _ (cover0_B_6 c i a1 h1 a2 h2 a3 h3 a4 h4 a5 h5 a6 h6 a7 h7 hc0 x0 x1 x2 x3 x4 acc)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S512x1024) hz, View.ld_unit_zero (S := S1024x1024) hz, View.ld_unit_zero (S := S1x1024) hz, shapeCast_self]

/-! ## The arrays -/

section Arrays

variable (m : (ℓ : Loc nD τ sig) → Buf (Elt Ideal) ℓ) (c : Dev nD)

/-- The arguments: the rows, the output's cotangent, the gain, the queries' gradients, the weights. -/
abbrev argX : FVec Ideal S4096x1024 .f32 := m ((c.tc : Thread nD τ).loc main_arg0)
abbrev argO : FVec Ideal S4096x1024 .f32 := m ((c.tc : Thread nD τ).loc main_arg1)
abbrev argG : FVec Ideal S1x1024 .f32 := m ((c.tc : Thread nD τ).loc main_arg2)
abbrev argZ : FVec Ideal S4096x1024 .bf16 := m ((c.tc : Thread nD τ).loc main_arg3)
abbrev argW : FVec Ideal S1024x1024 .bf16 := m ((c.tc : Thread nD τ).loc main_arg4)

abbrev blkX (t : Fin cfg0.N) : FVec Ideal S512x1024 .f32 := iblk m c 0 t
abbrev blkO (t : Fin cfg0.N) : FVec Ideal S512x1024 .f32 := iblk m c 1 t
abbrev blkG (t : Fin cfg0.N) : FVec Ideal S1x1024 .f32 := iblk m c 2 t
abbrev blkZ (t : Fin cfg0.N) : FVec Ideal S512x1024 .bf16 := iblk m c 3 t
abbrev blkW (t : Fin cfg0.N) : FVec Ideal S1024x1024 .bf16 := iblk m c 4 t

/-- The gradient of the normalised entry at a row and column. -/
def pulled (r : Fin 4096) (k : Fin 1024) : EReal := ∑ n : Fin 1024, argZ m c (ix2 r n) * argW m c (ix2 k n)

/-- The rows' gradients. -/
def resX : FVec Ideal S4096x1024 .f32 := fun y =>
  project (fun j : Fin 1024 => argX m c (ix2 (y 0) j)) (fun j => pulled m c (y 0) j * argG m c (ix2 0 j)) (argO m c y) (y 1)

/-- A row's term of the gain's gradient. -/
def term (k : Fin 1024) (r : Fin 4096) : EReal :=
  pulled m c r k * (argX m c (ix2 r k) * rs (fun j : Fin 1024 => argX m c (ix2 r j)))

/-- The gain's gradient. -/
def resG : FVec Ideal S1x1024 .f32 := fun y => ∑ r, term m c (y 1) r

/-! ## The blocks a point reads -/

theorem lt8 (t : Fin cfg0.N) : t.val < 8 := by
  have h : cfg0.N = 8 := N_0
  have := t.isLt
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel

theorem blkX_at (t : Fin cfg0.N) (r : Fin 512) (k : Fin 1024) :
    blkX m c t (ix2 r k) = argX m c (ix2 ⟨512 * t.val + r.val, by have := lt8 t; omega⟩ k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkO_at (t : Fin cfg0.N) (r : Fin 512) (k : Fin 1024) :
    blkO m c t (ix2 r k) = argO m c (ix2 ⟨512 * t.val + r.val, by have := lt8 t; omega⟩ k) := by
  unfold blkO iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

theorem blkG_at (t : Fin cfg0.N) (r : Fin 1) (k : Fin 1024) :
    blkG m c t (ix2 r k) = argG m c (ix2 r k) := by
  unfold blkG iblk
  rw [View.read_apply]
  show V m c main_arg2 _ = m _ _
  unfold V
  congr 1
  funext a
  apply Fin.ext
  match a with
  | ⟨0, _⟩ => show win0_2.index t 0 * 1 + 1 * r.val = r.val; rw [(index2 t).1]; omega
  | ⟨1, _⟩ => show win0_2.index t 1 * 1024 + 1 * k.val = k.val; rw [(index2 t).2]; omega

theorem blkZ_at (t : Fin cfg0.N) (r : Fin 512) (k : Fin 1024) :
    blkZ m c t (ix2 r k) = argZ m c (ix2 ⟨512 * t.val + r.val, by have := lt8 t; omega⟩ k) := by
  unfold blkZ iblk
  rw [View.read_apply]
  show V m c main_arg3 _ = m _ _
  unfold V
  congr 1
  funext a
  apply Fin.ext
  match a with
  | ⟨0, _⟩ => show win0_3.index t 0 * 512 + 1 * r.val = 512 * t.val + r.val; rw [(index3 t).1]; omega
  | ⟨1, _⟩ => show win0_3.index t 1 * 1024 + 1 * k.val = k.val; rw [(index3 t).2]; omega

theorem blkW_at (t : Fin cfg0.N) (r : Fin 1024) (k : Fin 1024) :
    blkW m c t (ix2 r k) = argW m c (ix2 r k) := by
  unfold blkW iblk
  rw [View.read_apply]
  show V m c main_arg4 _ = m _ _
  unfold V
  congr 1
  funext a
  apply Fin.ext
  match a with
  | ⟨0, _⟩ => show win0_4.index t 0 * 1024 + 1 * r.val = r.val; rw [(index4 t).1]; omega
  | ⟨1, _⟩ => show win0_4.index t 1 * 1024 + 1 * k.val = k.val; rw [(index4 t).2]; omega

/-- The row of the whole array a point's row is. -/
abbrev rowOf (t : Fin cfg0.N) (r : Fin 512) : Fin 4096 := ⟨512 * t.val + r.val, by have := lt8 t; omega⟩

theorem tileP_at (t : Fin cfg0.N) (r : Fin 512) (k : Fin 1024) :
    tileP (blkZ m c t) (blkW m c t) r k = pulled m c (rowOf t r) k := by
  exact Finset.sum_congr rfl fun n _ => congrArg₂ (· * ·) (blkZ_at m c t r n) (blkW_at m c t k n)

theorem blkX_row (t : Fin cfg0.N) (r : Fin 512) :
    (fun j : Fin 1024 => blkX m c t (ix2 r j)) = fun j => argX m c (ix2 (rowOf t r) j) := funext fun j => blkX_at m c t r j

theorem term_at (t : Fin cfg0.N) (k : Fin 1024) (r : Fin 512) :
    tileP (blkZ m c t) (blkW m c t) r k * (blkX m c t (ix2 r k) * rs (fun j : Fin 1024 => blkX m c t (ix2 r j)))
      = term m c k (rowOf t r) := by
  unfold term
  rw [tileP_at, blkX_row, blkX_at]

/-! ## What a point leaves -/

theorem outs_x (t : Fin cfg0.N) : (outsAt0 m c t.val t.isLt).1
    = tileX (blkZ m c t) (blkW m c t) (blkX m c t) (blkO m c t) (blkG m c t) := by
  by_cases h : t.val % 8 = 0
  · rw [outsAt0_A m c t h]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _
  · rw [outsAt0_B m c t h]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _ _

theorem outs_x_at (t : Fin cfg0.N) (r : Fin 512) (k : Fin 1024) :
    (outsAt0 m c t.val t.isLt).1 (ix2 r k) = resX m c (ix2 (rowOf t r) k) := by
  rw [outs_x]
  refine (row_at _ _ _ _ _ r k).trans ?_
  show _ = project (fun j : Fin 1024 => argX m c (ix2 (rowOf t r) j)) (fun j => pulled m c (rowOf t r) j * argG m c (ix2 0 j)) (argO m c (ix2 (rowOf t r) k)) k
  rw [blkX_row, blkO_at]
  congr 1
  funext j
  rw [tileP_at, blkG_at]

theorem outs_first (t : Fin cfg0.N) (h : t.val % 8 = 0) : (outsAt0 m c t.val t.isLt).2
    = k0_pay6 (F := Ideal) (blkZ m c t) (blkW m c t) (blkX m c t) (k0_pay2 (F := Ideal)) := by
  rw [outsAt0_A m c t h]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _

theorem outs_next (t : Fin cfg0.N) (h : ¬t.val % 8 = 0) : (outsAt0 m c t.val t.isLt).2
    = k0_pay6 (F := Ideal) (blkZ m c t) (blkW m c t) (blkX m c t)
      (outsAt0 m c (t.val - 1) (Nat.lt_of_le_of_lt (Nat.sub_le _ _) t.isLt)).2 := by
  rw [outsAt0_B m c t h]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) _ _ _ _ _ _ _

theorem outs_g_at (k : Fin 1024) : ∀ (n : ℕ) (h : n < cfg0.N), (outsAt0 m c n h).2 (ix2 0 k) = upTo (term m c k) (512 * (n + 1))
  | 0, h => by
    rw [outs_first m c ⟨0, h⟩ rfl]
    refine (sum_at _ _ _ _ k).trans ?_
    rw [first_at]
    exact upTo_first _ _ fun r => term_at m c ⟨0, h⟩ k r
  | n + 1, h => by
    have hN : cfg0.N = 8 := N_0
    rw [outs_next m c ⟨n + 1, h⟩ (by dsimp only; omega)]
    refine (sum_at _ _ _ _ k).trans ?_
    have e : (outsAt0 m c (n + 1 - 1) (Nat.lt_of_le_of_lt (Nat.sub_le _ _) h)).2 (ix2 0 k) = _ := outs_g_at k n (by omega)
    dsimp only
    rw [e]
    exact upTo_step _ _ (n + 1) (by omega) fun r => term_at m c ⟨n + 1, h⟩ k r

/-! ## The arrays -/

theorem final_x : (dats m 0 c).arrAt 5 cfg0.N = resX m c :=
  (dats m 0 c).arrAt_eq_of_cover 5 (resX m c)
    (fun t hf => by
      rw [flushed5]
      funext j
      rw [View.read_apply]
      have e : ((cfg0.win 5).blk t).view.emb j = (ix2 (rowOf t (j 0)) (j 1) : S4096x1024.Idx) := by
        funext a
        apply Fin.ext
        match a with
        | ⟨0, _⟩ => show win0_5.index t 0 * 512 + 1 * (j 0).val = 512 * t.val + (j 0).val; rw [(index5 t).1]; omega
        | ⟨1, _⟩ => show win0_5.index t 1 * 1024 + 1 * (j 1).val = (j 1).val; rw [(index5 t).2]; omega
      rw [e]
      exact (congrArg (outsAt0 m c t.val t.isLt).1 (ValueIdx.eq_ix2 (n0 := 512) (n1 := 1024) j)).trans (outs_x_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_5 _, ?_⟩
      show (i : S4096x1024.Idx) ∈ ((View.whole main_v0_0).slice (win0_5.rect ⟨(i 0 : ℕ) / 512, hp⟩)).set
      rw [View.set_slice_whole, Rect.mem_set_unit]
      intro a
      match a with
      | ⟨0, _⟩ =>
        show win0_5.index _ 0 * 512 ≤ (i 0 : ℕ) ∧ (i 0 : ℕ) < win0_5.index _ 0 * 512 + 512
        rw [(index5 _).1]; dsimp only; omega
      | ⟨1, _⟩ =>
        show win0_5.index _ 1 * 1024 ≤ (i 1 : ℕ) ∧ (i 1 : ℕ) < win0_5.index _ 1 * 1024 + 1024
        rw [(index5 _).2]; omega)

theorem final_g : (dats m 0 c).arrAt 6 cfg0.N = resG m c :=
  (dats m 0 c).arrAt_eq_of_cover 6 (resG m c)
    (fun t hf => by
      have h7 : t.val = 7 := by have := (flush0_6 t).mp hf; have := lt8 t; omega
      rw [flushed6]
      funext j
      have hj : (j 0).val < 1 := (j 0).isLt
      rw [View.read_apply]
      have e : ((cfg0.win 6).blk t).view.emb j = (ix2 0 (j 1) : S1x1024.Idx) := by
        funext a
        apply Fin.ext
        match a with
        | ⟨0, _⟩ => show win0_6.index t 0 * 1 + 1 * (j 0).val = 0; rw [(index6 t).1]; omega
        | ⟨1, _⟩ => show win0_6.index t 1 * 1024 + 1 * (j 1).val = (j 1).val; rw [(index6 t).2]; omega
      have e' : (j : S1x1024.Idx) = ix2 0 (j 1) := by
        funext a
        apply Fin.ext
        match a with
        | ⟨0, _⟩ => show (j 0).val = 0; omega
        | ⟨1, _⟩ => rfl
      rw [e]
      refine ((congrArg (outsAt0 m c t.val t.isLt).2 e').trans (outs_g_at m c (j 1) t.val t.isLt)).trans ?_
      rw [h7]
      exact upTo_all _)
    (fun i => by
      have h0 : (i 0 : ℕ) < 1 := (i 0).isLt
      have h1 : (i 1 : ℕ) < 1024 := (i 1).isLt
      have hN : cfg0.N = 8 := N_0
      have hp : 7 < cfg0.N := by omega
      refine ⟨⟨7, hp⟩, (flush0_6 _).mpr rfl, ?_⟩
      show (i : S1x1024.Idx) ∈ ((View.whole main_v0_1).slice (win0_6.rect ⟨7, hp⟩)).set
      rw [View.set_slice_whole, Rect.mem_set_unit]
      intro a
      match a with
      | ⟨0, _⟩ =>
        show win0_6.index _ 0 * 1 ≤ (i 0 : ℕ) ∧ (i 0 : ℕ) < win0_6.index _ 0 * 1 + 1
        rw [(index6 _).1]; omega
      | ⟨1, _⟩ =>
        show win0_6.index _ 1 * 1024 ≤ (i 1 : ℕ) ∧ (i 1 : ℕ) < win0_6.index _ 1 * 1024 + 1024
        rw [(index6 _).2]; omega)

end Arrays

end Norm.Query

namespace Norm.QueryRef

open Cert.AttnDhRefIdeal Cert.AttnDhRefIdeal.Gen Idealize.ShloMosaic Idealize.ShloMosaic.TcCoe RowSums

variable (X O : FVec Ideal S4096x1024 .f32) (G : FVec Ideal S1x1024 .f32) (Z : FVec Ideal S4096x1024 .bf16) (W : FVec Ideal S1024x1024 .bf16)

/-! ## The reference's arrays -/

def prod : FVec Ideal S4096x1024 .f32 :=
  Host.dotGeneral dot_S4096x1024_S1024x1024_S4096x1024_1_1_0_0_n_n none (extf .f32 Z bitsLt_bf16_f32) (extf .f32 W bitsLt_bf16_f32)

def shiftedA : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def rsA (M : FVec Ideal S4096x1 .f32) : FVec Ideal S4096x1 .f32 := Host.rsqrt M

/-- A column at every entry of its row. -/
def across (R : FVec Ideal S4096x1 .f32) : FVec Ideal S4096x1024 .f32 := broadcastInDim S4096x1024 ![0, 1] bcast_S4096x1_S4096x1024_0_1 R

def gained (P : FVec Ideal S4096x1024 .f32) : FVec Ideal S4096x1024 .f32 := mulf P (broadcastInDim S4096x1024 ![0, 1] bcast_S1x1024_S4096x1024_0_1 G)

def overlap (D : FVec Ideal S4096x1024 .f32) : FVec Ideal S4096x1 .f32 :=
  shapeCast _ (Host.reduceAdd (mulf X D) (constant S_ .f32 0x00000000#32) reducesTo_S4096x1024_S4096_d1 h_S_) shapeCasts_S4096_S4096x1

def slopeA (R M K : FVec Ideal S4096x1 .f32) : FVec Ideal S4096x1 .f32 :=
  Host.divf (mulf K (mulf (broadcastInDim S4096x1 ![] bcast_S_S4096x1 (constant S_ .f32 0xBF000000#32)) (Host.divf R M))) (broadcastInDim S4096x1 ![] bcast_S_S4096x1 (constant S_ .f32 0x44800000#32))

def spread (C : FVec Ideal S4096x1 .f32) : FVec Ideal S4096x1024 .f32 :=
  broadcastInDim S4096x1024 ![0] bcast_S4096_S4096x1024_0 (Host.reduceAdd C (constant S_ .f32 0x00000000#32) reducesTo_S4096x1_S4096_d1 h_S_)

def rows (D R C : FVec Ideal S4096x1024 .f32) : FVec Ideal S4096x1024 .f32 := addf (addf (addf O (mulf D R)) (mulf X C)) (mulf C X)

def gains (P R : FVec Ideal S4096x1024 .f32) : FVec Ideal S1x1024 .f32 :=
  shapeCast _ (Host.reduceAdd (mulf (mulf X R) P) (constant S_ .f32 0x00000000#32) reducesTo_S4096x1024_S1024_d0 h_S_) shapeCasts_S1024_S1x1024

/-- The rows' gradients. -/
def outX : FVec Ideal S4096x1024 .f32 :=
  rows X O (gained G (prod Z W)) (across (rsA (shiftedA X)))
    (spread (slopeA (rsA (shiftedA X)) (shiftedA X) (overlap X (gained G (prod Z W)))))

/-- The gain's gradient. -/
def outG : FVec Ideal S1x1024 .f32 := gains X (prod Z W) (across (rsA (shiftedA X)))

/-! ## The arrays at an index -/

theorem prod_at (r : Fin 4096) (k : Fin 1024) : prod Z W (ix2 r k) = ∑ n : Fin 1024, Z (ix2 r n) * W (ix2 k n) := by
  unfold prod
  pointwise []

theorem shifted_at (r : Fin 4096) : shiftedA X (ix2 r 0) = shifted (fun k : Fin 1024 => X (ix2 r k)) := by
  unfold shiftedA
  pointwise []
  rfl

theorem rs_at (r : Fin 4096) : rsA (shiftedA X) (ix2 r 0) = rs (fun k : Fin 1024 => X (ix2 r k)) := by
  unfold rs
  rw [← shifted_at]
  generalize shiftedA X = M
  unfold rsA
  pointwise []

theorem across_at (R : FVec Ideal S4096x1 .f32) (r : Fin 4096) (k : Fin 1024) : across R (ix2 r k) = R (ix2 r 0) := by
  unfold across
  pointwise []

theorem gained_at (P : FVec Ideal S4096x1024 .f32) (r : Fin 4096) (k : Fin 1024) : gained G P (ix2 r k) = P (ix2 r k) * G (ix2 0 k) := by
  unfold gained
  pointwise []

theorem overlap_at (D : FVec Ideal S4096x1024 .f32) (r : Fin 4096) : overlap X D (ix2 r 0) = ∑ j : Fin 1024, X (ix2 r j) * D (ix2 r j) := by
  unfold overlap
  pointwise []

theorem slope_at (R M K : FVec Ideal S4096x1 .f32) (r : Fin 4096) :
    slopeA R M K (ix2 r 0) = Ideal.div (K (ix2 r 0) * (negHalf * Ideal.div (R (ix2 r 0)) (M (ix2 r 0)))) width := by
  unfold slopeA
  pointwise []

theorem spread_at (C : FVec Ideal S4096x1 .f32) (r : Fin 4096) (k : Fin 1024) : spread C (ix2 r k) = C (ix2 r 0) := by
  unfold spread
  pointwise []
  exact Fin.sum_univ_one _

theorem rows_at (D R C : FVec Ideal S4096x1024 .f32) (r : Fin 4096) (k : Fin 1024) :
    rows X O D R C (ix2 r k) = O (ix2 r k) + D (ix2 r k) * R (ix2 r k) + X (ix2 r k) * C (ix2 r k) + C (ix2 r k) * X (ix2 r k) := by
  unfold rows
  pointwise []

theorem gains_at (P R : FVec Ideal S4096x1024 .f32) (k : Fin 1024) :
    gains X P R (ix2 0 k) = ∑ r : Fin 4096, X (ix2 r k) * R (ix2 r k) * P (ix2 r k) := by
  unfold gains
  pointwise []

/-! ## The kernel's arrays -/

theorem outX_match (m : (ℓ : Loc Cert.AttnDhIdeal.nD Cert.AttnDhIdeal.τ Cert.AttnDhIdeal.sig) → Buf (Elt Ideal) ℓ) (c : Dev Cert.AttnDhIdeal.nD) :
    outX (Query.argX m c) (Query.argO m c) (Query.argG m c) (Query.argZ m c) (Query.argW m c) = Query.resX m c := by
  funext y
  obtain ⟨r, k, rfl⟩ : ∃ (r : Fin 4096) (k : Fin 1024), y = ix2 r k := ⟨y 0, y 1, ValueIdx.eq_ix2 y⟩
  refine (rows_at _ _ _ _ _ r k).trans ?_
  rw [across_at, spread_at, slope_at, rs_at, shifted_at, overlap_at]
  simp only [gained_at, prod_at]
  exact direct_eq (fun j : Fin 1024 => Query.argX m c (ix2 r j)) (fun j => Query.pulled m c r j * Query.argG m c (ix2 0 j)) (Query.argO m c (ix2 r k)) k

theorem outG_match (m : (ℓ : Loc Cert.AttnDhIdeal.nD Cert.AttnDhIdeal.τ Cert.AttnDhIdeal.sig) → Buf (Elt Ideal) ℓ) (c : Dev Cert.AttnDhIdeal.nD) :
    outG (Query.argX m c) (Query.argZ m c) (Query.argW m c) = Query.resG m c := by
  funext y
  obtain ⟨i, k, rfl⟩ : ∃ (i : Fin 1) (k : Fin 1024), y = ix2 i k := ⟨y 0, y 1, ValueIdx.eq_ix2 y⟩
  obtain rfl : i = 0 := Fin.ext (by omega)
  refine (gains_at _ _ _ k).trans ?_
  show _ = ∑ r, Query.term m c k r
  refine Finset.sum_congr rfl fun r _ => ?_
  rw [across_at, rs_at, prod_at]
  exact mul_comm _ _

end Norm.QueryRef

end
-- ==== Proof.Products.Dy.lean ====
/- The gradient of the mixer's output: the residual stream's cotangent times the transposed output weights, 512 rows a point. -/
module

public import proofs.«01_k».proof.Proof.Gen.MixDyIdeal.Value
public import proofs.«01_k».proof.Proof.Gen.MixDyRefIdeal.Run
public import Idealize.ShloMosaic.Lib.Pointwise

@[expose] public section

set_option maxRecDepth 16384

noncomputable section

namespace Products.Dy

open Cert.MixDyIdeal Cert.MixDyIdeal.Gen Cert.MixDyIdeal.Value Idealize.ShloMosaic Idealize.ShloMosaic.TcCoe Idealize.ShloMosaic.Tactic
open Idealize.SL.Sem

/-! ## A tile -/

/-- The product with the transposed weights, at a row and column. -/
def tile (x : FVec Ideal S512x1024 .f32) (w : FVec Ideal S1024x1024 .bf16) : FVec Ideal S512x1024 .f32 := fun y =>
  ∑ n : Fin 1024, x (ix2 (y 0) n) * w (ix2 (y 1) n)

theorem prod_at (x : FVec Ideal S512x1024 .f32) (w : FVec Ideal S1024x1024 .bf16) (r k : _) :
    (k0_pay1 x w : FVec Ideal S512x1024 .f32) (ix2 r k) = tile x w (ix2 r k) := by
  unfold k0_pay1
  pointwise []
  rfl

theorem hz : (![0, 0] : Fin 2 → Nat) = fun _ => 0 := funext fun a => by fin_cases a <;> rfl

theorem out_eq (x : FVec Ideal S512x1024 .f32) (w : FVec Ideal S1024x1024 .bf16) : out0_2 (F := Ideal) x w = tile x w := by
  unfold out0_2
  rw [View.canon_unit_zero hz]
  simp only [View.ld_unit_zero (S := S512x1024) hz, View.ld_unit_zero (S := S1024x1024) hz]
  funext y
  rw [ValueIdx.eq_ix2 (n0 := 512) (n1 := 1024) y]
  exact prod_at x w _ _

/-! ## The array -/

variable (m : (ℓ : Loc nD τ sig) → Buf (Elt Ideal) ℓ) (c : Dev nD)

/-- The arguments: the cotangent and the weights. -/
abbrev argX : FVec Ideal S4096x1024 .f32 := m ((c.tc : Thread nD τ).loc main_arg0)
abbrev argW : FVec Ideal S1024x1024 .bf16 := m ((c.tc : Thread nD τ).loc main_arg1)

abbrev blkX (t : Fin cfg0.N) : FVec Ideal S512x1024 .f32 := iblk m c 0 t
abbrev blkW (t : Fin cfg0.N) : FVec Ideal S1024x1024 .bf16 := iblk m c 1 t

/-- The gradient. -/
def res : FVec Ideal S4096x1024 .f32 := fun y => ∑ n : Fin 1024, argX m c (ix2 (y 0) n) * argW m c (ix2 (y 1) n)

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem blkX_at (t : Fin cfg0.N) (r : Fin 512) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkW_at (t : Fin cfg0.N) (r : Fin 1024) (k : Fin 1024) : blkW m c t (ix2 r k) = argW m c (ix2 r k) := by
  unfold blkW iblk
  rw [View.read_apply]
  show V m c main_arg1 _ = m _ _
  unfold V
  congr 1
  funext a
  apply Fin.ext
  match a with
  | ⟨0, _⟩ => show win0_1.index t 0 * 1024 + 1 * r.val = r.val; rw [(index1 t).1]; omega
  | ⟨1, _⟩ => show win0_1.index t 1 * 1024 + 1 * k.val = k.val; rw [(index1 t).2]; omega

theorem tile_at (t : Fin cfg0.N) (r : Fin 512) (k : Fin 1024) :
    tile (blkX m c t) (blkW m c t) (ix2 r k) = res m c (ix2 (rowOf t r) k) :=
  Finset.sum_congr rfl fun n _ => congrArg₂ (· * ·) (blkX_at m c t r n) (blkW_at m c t k n)

theorem final : (dats m 0 c).arrAt 2 cfg0.N = res m c :=
  (dats m 0 c).arrAt_eq_of_cover 2 (res m c)
    (fun t hf => by
      rw [flushed2, out_eq]
      funext j
      rw [View.read_apply]
      have e : ((cfg0.win 2).blk t).view.emb j = (ix2 (rowOf t (j 0)) (j 1) : S4096x1024.Idx) := by
        funext a
        apply Fin.ext
        match a with
        | ⟨0, _⟩ => show win0_2.index t 0 * 512 + 1 * (j 0).val = 512 * t.val + (j 0).val; rw [(index2 t).1]; omega
        | ⟨1, _⟩ => show win0_2.index t 1 * 1024 + 1 * (j 1).val = (j 1).val; rw [(index2 t).2]; omega
      rw [e]
      exact (congrArg (tile (blkX m c t) (blkW m c t)) (ValueIdx.eq_ix2 (n0 := 512) (n1 := 1024) j)).trans (tile_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_2 _, ?_⟩
      show (i : S4096x1024.Idx) ∈ ((View.whole main_v0).slice (win0_2.rect ⟨(i 0 : ℕ) / 512, hp⟩)).set
      rw [View.set_slice_whole, Rect.mem_set_unit]
      intro a
      match a with
      | ⟨0, _⟩ =>
        show win0_2.index _ 0 * 512 ≤ (i 0 : ℕ) ∧ (i 0 : ℕ) < win0_2.index _ 0 * 512 + 512
        rw [(index2 _).1]; dsimp only; omega
      | ⟨1, _⟩ =>
        show win0_2.index _ 1 * 1024 ≤ (i 1 : ℕ) ∧ (i 1 : ℕ) < win0_2.index _ 1 * 1024 + 1024
        rw [(index2 _).2]; omega)

end Products.Dy

namespace Products.DyRef

open Cert.MixDyRefIdeal Cert.MixDyRefIdeal.Gen Idealize.ShloMosaic Idealize.ShloMosaic.TcCoe

/-! ## The reference -/

def out (X : FVec Ideal S4096x1024 .f32) (W : FVec Ideal S1024x1024 .bf16) : FVec Ideal S4096x1024 .f32 :=
  Host.dotGeneral dot_S4096x1024_S1024x1024_S4096x1024_1_1_0_0_n_n none X (extf .f32 W bitsLt_bf16_f32)

theorem out_at (X : FVec Ideal S4096x1024 .f32) (W : FVec Ideal S1024x1024 .bf16) (r : Fin 4096) (k : Fin 1024) :
    out X W (ix2 r k) = ∑ n : Fin 1024, X (ix2 r n) * W (ix2 k n) := by
  unfold out
  pointwise []

theorem out_match (m : (ℓ : Loc Cert.MixDyIdeal.nD Cert.MixDyIdeal.τ Cert.MixDyIdeal.sig) → Buf (Elt Ideal) ℓ) (c : Dev Cert.MixDyIdeal.nD) :
    out (Dy.argX m c) (Dy.argW m c) = Dy.res m c := by
  funext y
  obtain ⟨r, k, rfl⟩ : ∃ (r : Fin 4096) (k : Fin 1024), y = ix2 r k := ⟨y 0, y 1, ValueIdx.eq_ix2 y⟩
  exact out_at _ _ r k

end Products.DyRef

end
-- ==== Proof.Products.Do.lean ====
/- The gradient of the attention's output: the residual stream's cotangent times the transposed output weights, 512 rows a
   point. -/
module

public import proofs.«01_k».proof.Proof.Gen.AttnDoIdeal.Value
public import proofs.«01_k».proof.Proof.Gen.AttnDoRefIdeal.Run
public import Idealize.ShloMosaic.Lib.Pointwise

@[expose] public section

set_option maxRecDepth 16384

noncomputable section

namespace Products.Do

open Cert.AttnDoIdeal Cert.AttnDoIdeal.Gen Cert.AttnDoIdeal.Value Idealize.ShloMosaic Idealize.ShloMosaic.TcCoe Idealize.ShloMosaic.Tactic
open Idealize.SL.Sem

/-! ## A tile -/

/-- The product with the transposed weights, at a row and column. -/
def tile (x : FVec Ideal S512x1024 .f32) (w : FVec Ideal S1024x1024 .bf16) : FVec Ideal S512x1024 .bf16 := fun y =>
  ∑ n : Fin 1024, x (ix2 (y 0) n) * w (ix2 (y 1) n)

theorem prod_at (x : FVec Ideal S512x1024 .f32) (w : FVec Ideal S1024x1024 .bf16) (r k : _) :
    (k0_pay1 x w : FVec Ideal S512x1024 .bf16) (ix2 r k) = tile x w (ix2 r k) := by
  unfold k0_pay1
  pointwise []
  rfl

theorem hz : (![0, 0] : Fin 2 → Nat) = fun _ => 0 := funext fun a => by fin_cases a <;> rfl

theorem out_eq (x : FVec Ideal S512x1024 .f32) (w : FVec Ideal S1024x1024 .bf16) : out0_2 (F := Ideal) x w = tile x w := by
  unfold out0_2
  rw [View.canon_unit_zero hz]
  simp only [View.ld_unit_zero (S := S512x1024) hz, View.ld_unit_zero (S := S1024x1024) hz]
  funext y
  rw [ValueIdx.eq_ix2 (n0 := 512) (n1 := 1024) y]
  exact prod_at x w _ _

/-! ## The array -/

variable (m : (ℓ : Loc nD τ sig) → Buf (Elt Ideal) ℓ) (c : Dev nD)

/-- The arguments: the cotangent and the weights. -/
abbrev argX : FVec Ideal S4096x1024 .f32 := m ((c.tc : Thread nD τ).loc main_arg0)
abbrev argW : FVec Ideal S1024x1024 .bf16 := m ((c.tc : Thread nD τ).loc main_arg1)

abbrev blkX (t : Fin cfg0.N) : FVec Ideal S512x1024 .f32 := iblk m c 0 t
abbrev blkW (t : Fin cfg0.N) : FVec Ideal S1024x1024 .bf16 := iblk m c 1 t

/-- The gradient. -/
def res : FVec Ideal S4096x1024 .bf16 := fun y => ∑ n : Fin 1024, argX m c (ix2 (y 0) n) * argW m c (ix2 (y 1) n)

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem blkX_at (t : Fin cfg0.N) (r : Fin 512) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkW_at (t : Fin cfg0.N) (r : Fin 1024) (k : Fin 1024) : blkW m c t (ix2 r k) = argW m c (ix2 r k) := by
  unfold blkW iblk
  rw [View.read_apply]
  show V m c main_arg1 _ = m _ _
  unfold V
  congr 1
  funext a
  apply Fin.ext
  match a with
  | ⟨0, _⟩ => show win0_1.index t 0 * 1024 + 1 * r.val = r.val; rw [(index1 t).1]; omega
  | ⟨1, _⟩ => show win0_1.index t 1 * 1024 + 1 * k.val = k.val; rw [(index1 t).2]; omega

theorem tile_at (t : Fin cfg0.N) (r : Fin 512) (k : Fin 1024) :
    tile (blkX m c t) (blkW m c t) (ix2 r k) = res m c (ix2 (rowOf t r) k) :=
  Finset.sum_congr rfl fun n _ => congrArg₂ (· * ·) (blkX_at m c t r n) (blkW_at m c t k n)

theorem final : (dats m 0 c).arrAt 2 cfg0.N = res m c :=
  (dats m 0 c).arrAt_eq_of_cover 2 (res m c)
    (fun t hf => by
      rw [flushed2, out_eq]
      funext j
      rw [View.read_apply]
      have e : ((cfg0.win 2).blk t).view.emb j = (ix2 (rowOf t (j 0)) (j 1) : S4096x1024.Idx) := by
        funext a
        apply Fin.ext
        match a with
        | ⟨0, _⟩ => show win0_2.index t 0 * 512 + 1 * (j 0).val = 512 * t.val + (j 0).val; rw [(index2 t).1]; omega
        | ⟨1, _⟩ => show win0_2.index t 1 * 1024 + 1 * (j 1).val = (j 1).val; rw [(index2 t).2]; omega
      rw [e]
      exact (congrArg (tile (blkX m c t) (blkW m c t)) (ValueIdx.eq_ix2 (n0 := 512) (n1 := 1024) j)).trans (tile_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_2 _, ?_⟩
      show (i : S4096x1024.Idx) ∈ ((View.whole main_v0).slice (win0_2.rect ⟨(i 0 : ℕ) / 512, hp⟩)).set
      rw [View.set_slice_whole, Rect.mem_set_unit]
      intro a
      match a with
      | ⟨0, _⟩ =>
        show win0_2.index _ 0 * 512 ≤ (i 0 : ℕ) ∧ (i 0 : ℕ) < win0_2.index _ 0 * 512 + 512
        rw [(index2 _).1]; dsimp only; omega
      | ⟨1, _⟩ =>
        show win0_2.index _ 1 * 1024 ≤ (i 1 : ℕ) ∧ (i 1 : ℕ) < win0_2.index _ 1 * 1024 + 1024
        rw [(index2 _).2]; omega)

end Products.Do

namespace Products.DoRef

open Cert.AttnDoRefIdeal Cert.AttnDoRefIdeal.Gen Idealize.ShloMosaic Idealize.ShloMosaic.TcCoe

/-! ## The reference -/

def out (X : FVec Ideal S4096x1024 .f32) (W : FVec Ideal S1024x1024 .bf16) : FVec Ideal S4096x1024 .bf16 :=
  truncf .bf16 (Host.dotGeneral dot_S4096x1024_S1024x1024_S4096x1024_1_1_0_0_n_n none X (extf .f32 W bitsLt_bf16_f32)) bitsLt_bf16_f32

theorem out_at (X : FVec Ideal S4096x1024 .f32) (W : FVec Ideal S1024x1024 .bf16) (r : Fin 4096) (k : Fin 1024) :
    out X W (ix2 r k) = ∑ n : Fin 1024, X (ix2 r n) * W (ix2 k n) := by
  unfold out
  pointwise []

theorem out_match (m : (ℓ : Loc Cert.AttnDoIdeal.nD Cert.AttnDoIdeal.τ Cert.AttnDoIdeal.sig) → Buf (Elt Ideal) ℓ) (c : Dev Cert.AttnDoIdeal.nD) :
    out (Do.argX m c) (Do.argW m c) = Do.res m c := by
  funext y
  obtain ⟨r, k, rfl⟩ : ∃ (r : Fin 4096) (k : Fin 1024), y = ix2 r k := ⟨y 0, y 1, ValueIdx.eq_ix2 y⟩
  exact out_at _ _ r k

end Products.DoRef

end
-- ==== Proof.Products.MixIn.lean ====
/- The mixer's input: the normalised rows and their projection, 512 rows a point. -/
module

public import proofs.«01_k».proof.Proof.Norm.Row
public import proofs.«01_k».proof.Proof.Gen.MixInIdeal.Value
public import proofs.«01_k».proof.Proof.Gen.MixInRefIdeal.Run
public import Idealize.ShloMosaic.Lib.Pointwise

@[expose] public section

set_option maxRecDepth 16384

noncomputable section

namespace Products.MixIn

open Cert.MixInIdeal Cert.MixInIdeal.Gen Cert.MixInIdeal.Value Idealize.ShloMosaic Idealize.ShloMosaic.TcCoe Idealize.ShloMosaic.Tactic
open Idealize.SL.Sem

/-! ## A tile -/

/-- A normalised entry. -/
def normed (x : Fin 1024 → EReal) (g : EReal) (k : Fin 1024) : EReal := x k * Norm.rs x * g

/-- The normalised rows. -/
def tileH (x : FVec Ideal S512x1024 .f32) (g : FVec Ideal S1x1024 .f32) : FVec Ideal S512x1024 .bf16 := fun y =>
  normed (fun n => x (ix2 (y 0) n)) (g (ix2 0 (y 1))) (y 1)

/-- Rows times the weights. -/
def tile (h : FVec Ideal S512x1024 .bf16) (w : FVec Ideal S1024x2048 .bf16) : FVec Ideal S512x2048 .f32 := fun y =>
  ∑ n : Fin 1024, h (ix2 (y 0) n) * w (ix2 n (y 1))

theorem normed_at (x : FVec Ideal S512x1024 .f32) (g : FVec Ideal S1x1024 .f32) (r : Fin 512) (k : Fin 1024) :
    (k0_pay1 x g : FVec Ideal S512x1024 .bf16) (ix2 r k) = tileH x g (ix2 r k) := by
  unfold k0_pay1
  pointwise []
  rfl

theorem prod_at (h : FVec Ideal S512x1024 .bf16) (w : FVec Ideal S1024x2048 .bf16) (r : Fin 512) (k : Fin 2048) :
    (k0_pay2 h w : FVec Ideal S512x2048 .f32) (ix2 r k) = tile h w (ix2 r k) := by
  unfold k0_pay2
  pointwise []
  rfl

theorem normed_eq (x : FVec Ideal S512x1024 .f32) (g : FVec Ideal S1x1024 .f32) : k0_pay1 (F := Ideal) x g = tileH x g := by
  funext y
  rw [ValueIdx.eq_ix2 (n0 := 512) (n1 := 1024) y]
  exact normed_at x g _ _

theorem prod_eq (h : FVec Ideal S512x1024 .bf16) (w : FVec Ideal S1024x2048 .bf16) : k0_pay2 (F := Ideal) h w = tile h w := by
  funext y
  rw [ValueIdx.eq_ix2 (n0 := 512) (n1 := 2048) y]
  exact prod_at h w _ _

/-! ## What a point leaves -/

theorem hz : (![0, 0] : Fin 2 → Nat) = fun _ => 0 := funext fun a => by fin_cases a <;> rfl

theorem out_h (c : Dev nD) (i : grid0.Coords) (a2 : Memref sig .tc .vmem S512x1024 .f32) (h2 : a2.IsWhole) (a3 : Memref sig .tc .vmem S1x1024 .f32) (h3 : a3.IsWhole) (a4 : Memref sig .tc .vmem S1024x2048 .bf16) (h4 : a4.IsWhole) (a5 : Memref sig .tc .vmem S512x2048 .f32) (h5 : a5.IsWhole) (a6 : Memref sig .tc .vmem S512x1024 .bf16) (h6 : a6.IsWhole) (hc0 : cond0_0 i)
    (x0 : Vec Ideal S512x1024 .f32) (x1 : Vec Ideal S1x1024 .f32) (x2 : Vec Ideal S1024x2048 .bf16) :
    out0_A_4 (F := Ideal) c i a2 h2 a3 h3 a4 h4 a5 h5 a6 h6 hc0 x0 x1 x2 = tileH x0 x1 := by
  rw [← normed_eq]
  unfold out0_A_4
  rw [View.read_writes_eq_canon _ _ _ (cover0_A_4 c i a2 h2 a3 h3 a4 h4 a5 h5 a6 h6 hc0 x0 x1 x2)]
  unfold kernelRun0_A
  dsimp only
  try sl_unfold_words
  rw [View.canon_unit_zero hz]
  simp only [View.readAt_eq_ld, h2.read_unread, h3.read_unread, h4.read_unread, h5.read_unread, h6.read_unread, View.ld_unit_zero (S := S512x1024) hz, View.ld_unit_zero (S := S1024x2048) hz, View.ld_unit_zero (S := S1x1024) hz, shapeCast_self]

theorem out_o (c : Dev nD) (i : grid0.Coords) (a2 : Memref sig .tc .vmem S512x1024 .f32) (h2 : a2.IsWhole) (a3 : Memref sig .tc .vmem S1x1024 .f32) (h3 : a3.IsWhole) (a4 : Memref sig .tc .vmem S1024x2048 .bf16) (h4 : a4.IsWhole) (a5 : Memref sig .tc .vmem S512x2048 .f32) (h5 : a5.IsWhole) (a6 : Memref sig .tc .vmem S512x1024 .bf16) (h6 : a6.IsWhole) (hc0 : cond0_0 i)
    (x0 : Vec Ideal S512x1024 .f32) (x1 : Vec Ideal S1x1024 .f32) (x2 : Vec Ideal S1024x2048 .bf16) :
    out0_A_3 (F := Ideal) c i a2 h2 a3 h3 a4 h4 a5 h5 a6 h6 hc0 x0 x1 x2 = tile (tileH x0 x1) x2 := by
  rw [← prod_eq, ← normed_eq]
  unfold out0_A_3
  rw [View.read_writes_eq_canon _ _ _ (cover0_A_3 c i a2 h2 a3 h3 a4 h4 a5 h5 a6 h6 hc0 x0 x1 x2)]
  unfold kernelRun0_A
  dsimp only
  try sl_unfold_words
  rw [View.canon_unit_zero hz, View.readCov_unit_zero (S := S512x1024) _ hz]
  simp only [View.readAt_eq_ld, h2.read_unread, h3.read_unread, h4.read_unread, h5.read_unread, h6.read_unread, View.ld_unit_zero (S := S512x1024) hz, View.ld_unit_zero (S := S1024x2048) hz, View.ld_unit_zero (S := S1x1024) hz, shapeCast_self]

/-! ## The arrays -/

variable (m : (ℓ : Loc nD τ sig) → Buf (Elt Ideal) ℓ) (c : Dev nD)

/-- The arguments: the rows, their gain and the weights. -/
abbrev argX : FVec Ideal S4096x1024 .f32 := m ((c.tc : Thread nD τ).loc main_arg0)
abbrev argG : FVec Ideal S1x1024 .f32 := m ((c.tc : Thread nD τ).loc main_arg1)
abbrev argW : FVec Ideal S1024x2048 .bf16 := m ((c.tc : Thread nD τ).loc main_arg2)

abbrev blkX (t : Fin cfg0.N) : FVec Ideal S512x1024 .f32 := iblk m c 0 t
abbrev blkG (t : Fin cfg0.N) : FVec Ideal S1x1024 .f32 := iblk m c 1 t
abbrev blkW (t : Fin cfg0.N) : FVec Ideal S1024x2048 .bf16 := iblk m c 2 t

/-- The normalised rows. -/
def resH : FVec Ideal S4096x1024 .bf16 := fun y => normed (fun n => argX m c (ix2 (y 0) n)) (argG m c (ix2 0 (y 1))) (y 1)

/-- Their projection. -/
def res : FVec Ideal S4096x2048 .f32 := fun y => ∑ n : Fin 1024, resH m c (ix2 (y 0) n) * argW m c (ix2 n (y 1))

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

theorem blkX_at (t : Fin cfg0.N) (r : Fin 512) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkG_at (t : Fin cfg0.N) (r : Fin 1) (k : Fin 1024) : blkG m c t (ix2 r k) = argG m c (ix2 r k) := by
  unfold blkG iblk
  rw [View.read_apply]
  show V m c main_arg1 _ = m _ _
  unfold V
  congr 1
  funext a
  apply Fin.ext
  match a with
  | ⟨0, _⟩ => show win0_1.index t 0 * 1 + 1 * r.val = r.val; rw [(index1 t).1]; omega
  | ⟨1, _⟩ => show win0_1.index t 1 * 1024 + 1 * k.val = k.val; rw [(index1 t).2]; omega

theorem blkW_at (t : Fin cfg0.N) (r : Fin 1024) (k : Fin 2048) : blkW m c t (ix2 r k) = argW m c (ix2 r k) := by
  unfold blkW iblk
  rw [View.read_apply]
  show V m c main_arg2 _ = m _ _
  unfold V
  congr 1
  funext a
  apply Fin.ext
  match a with
  | ⟨0, _⟩ => show win0_2.index t 0 * 1024 + 1 * r.val = r.val; rw [(index2 t).1]; omega
  | ⟨1, _⟩ => show win0_2.index t 1 * 2048 + 1 * k.val = k.val; rw [(index2 t).2]; omega

theorem tileH_at (t : Fin cfg0.N) (r : Fin 512) (k : Fin 1024) :
    tileH (blkX m c t) (blkG m c t) (ix2 r k) = resH m c (ix2 (rowOf t r) k) :=
  congrArg₂ (fun x g => normed x g k) (funext fun n => blkX_at m c t r n) (blkG_at m c t 0 k)

theorem tile_at (t : Fin cfg0.N) (r : Fin 512) (k : Fin 2048) :
    tile (tileH (blkX m c t) (blkG m c t)) (blkW m c t) (ix2 r k) = res m c (ix2 (rowOf t r) k) :=
  Finset.sum_congr rfl fun n _ => congrArg₂ (· * ·) (tileH_at m c t r n) (blkW_at m c t n k)

theorem final_h : (dats m 0 c).arrAt 4 cfg0.N = resH m c :=
  (dats m 0 c).arrAt_eq_of_cover 4 (resH m c)
    (fun t hf => by
      rw [flushed4_A, out_h]
      funext j
      rw [View.read_apply]
      have e : ((cfg0.win 4).blk t).view.emb j = (ix2 (rowOf t (j 0)) (j 1) : S4096x1024.Idx) := by
        funext a
        apply Fin.ext
        match a with
        | ⟨0, _⟩ => show win0_4.index t 0 * 512 + 1 * (j 0).val = 512 * t.val + (j 0).val; rw [(index4 t).1]; omega
        | ⟨1, _⟩ => show win0_4.index t 1 * 1024 + 1 * (j 1).val = (j 1).val; rw [(index4 t).2]; omega
      rw [e]
      exact (congrArg (tileH (blkX m c t) (blkG m c t)) (ValueIdx.eq_ix2 (n0 := 512) (n1 := 1024) j)).trans (tileH_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_4 _, ?_⟩
      show (i : S4096x1024.Idx) ∈ ((View.whole main_v0_1).slice (win0_4.rect ⟨(i 0 : ℕ) / 512, hp⟩)).set
      rw [View.set_slice_whole, Rect.mem_set_unit]
      intro a
      match a with
      | ⟨0, _⟩ =>
        show win0_4.index _ 0 * 512 ≤ (i 0 : ℕ) ∧ (i 0 : ℕ) < win0_4.index _ 0 * 512 + 512
        rw [(index4 _).1]; dsimp only; omega
      | ⟨1, _⟩ =>
        show win0_4.index _ 1 * 1024 ≤ (i 1 : ℕ) ∧ (i 1 : ℕ) < win0_4.index _ 1 * 1024 + 1024
        rw [(index4 _).2]; omega)

theorem final_o : (dats m 0 c).arrAt 3 cfg0.N = res m c :=
  (dats m 0 c).arrAt_eq_of_cover 3 (res m c)
    (fun t hf => by
      rw [flushed3_A, out_o]
      funext j
      rw [View.read_apply]
      have e : ((cfg0.win 3).blk t).view.emb j = (ix2 (rowOf t (j 0)) (j 1) : S4096x2048.Idx) := by
        funext a
        apply Fin.ext
        match a with
        | ⟨0, _⟩ => show win0_3.index t 0 * 512 + 1 * (j 0).val = 512 * t.val + (j 0).val; rw [(index3 t).1]; omega
        | ⟨1, _⟩ => show win0_3.index t 1 * 2048 + 1 * (j 1).val = (j 1).val; rw [(index3 t).2]; omega
      rw [e]
      exact (congrArg (tile (tileH (blkX m c t) (blkG m c t)) (blkW m c t)) (ValueIdx.eq_ix2 (n0 := 512) (n1 := 2048) j)).trans (tile_at m c t (j 0) (j 1)))
    (fun i => by
      have h0 : (i 0 : ℕ) < 4096 := (i 0).isLt
      have h1 : (i 1 : ℕ) < 2048 := (i 1).isLt
      have hN : cfg0.N = 8 := N_0
      have hp : (i 0 : ℕ) / 512 < cfg0.N := by omega
      refine ⟨⟨(i 0 : ℕ) / 512, hp⟩, flush0_3 _, ?_⟩
      show (i : S4096x2048.Idx) ∈ ((View.whole main_v0_0).slice (win0_3.rect ⟨(i 0 : ℕ) / 512, hp⟩)).set
      rw [View.set_slice_whole, Rect.mem_set_unit]
      intro a
      match a with
      | ⟨0, _⟩ =>
        show win0_3.index _ 0 * 512 ≤ (i 0 : ℕ) ∧ (i 0 : ℕ) < win0_3.index _ 0 * 512 + 512
        rw [(index3 _).1]; dsimp only; omega
      | ⟨1, _⟩ =>
        show win0_3.index _ 1 * 2048 ≤ (i 1 : ℕ) ∧ (i 1 : ℕ) < win0_3.index _ 1 * 2048 + 2048
        rw [(index3 _).2]; omega)

end Products.MixIn

namespace Products.MixInRef

open Cert.MixInRefIdeal Cert.MixInRefIdeal.Gen Idealize.ShloMosaic Idealize.ShloMosaic.TcCoe

variable (X : FVec Ideal S4096x1024 .f32) (G : FVec Ideal S1x1024 .f32) (W : FVec Ideal S1024x2048 .bf16)

/-! ## The reference -/

/-- Every row's scale. -/
def scale : FVec Ideal S4096x1 .f32 :=
  Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

def rows (R : FVec Ideal S4096x1 .f32) : FVec Ideal S4096x1024 .f32 :=
  mulf (mulf X (broadcastInDim S4096x1024 ![0, 1] bcast_S4096x1_S4096x1024_0_1 R)) (broadcastInDim S4096x1024 ![0, 1] bcast_S1x1024_S4096x1024_0_1 G)

def prod (H : FVec Ideal S4096x1024 .f32) : FVec Ideal S4096x2048 .f32 :=
  Host.dotGeneral dot_S4096x1024_S1024x2048_S4096x2048_1_0_0_1_n_n none H (extf .f32 W bitsLt_bf16_f32)

def outO : FVec Ideal S4096x2048 .f32 := prod W (rows X G (scale X))

def outH : FVec Ideal S4096x1024 .bf16 := truncf .bf16 (rows X G (scale X)) bitsLt_bf16_f32

theorem scale_at (r : Fin 4096) : scale X (ix2 r 0) = Norm.rs (fun k : Fin 1024 => X (ix2 r k)) := by
  unfold scale
  pointwise []
  rfl

theorem rows_at (R : FVec Ideal S4096x1 .f32) (r : Fin 4096) (k : Fin 1024) : rows X G R (ix2 r k) = X (ix2 r k) * R (ix2 r 0) * G (ix2 0 k) := by
  unfold rows
  pointwise []

theorem prod_at (H : FVec Ideal S4096x1024 .f32) (r : Fin 4096) (k : Fin 2048) : prod W H (ix2 r k) = ∑ n : Fin 1024, H (ix2 r n) * W (ix2 n k) := by
  unfold prod
  pointwise []

theorem normed_at (r : Fin 4096) (k : Fin 1024) :
    rows X G (scale X) (ix2 r k) = MixIn.normed (fun n : Fin 1024 => X (ix2 r n)) (G (ix2 0 k)) k := by
  rw [rows_at, scale_at]
  rfl

theorem outH_match (m : (ℓ : Loc Cert.MixInIdeal.nD Cert.MixInIdeal.τ Cert.MixInIdeal.sig) → Buf (Elt Ideal) ℓ) (c : Dev Cert.MixInIdeal.nD) :
    outH (MixIn.argX m c) (MixIn.argG m c) = MixIn.resH m c := by
  funext y
  obtain ⟨r, k, rfl⟩ : ∃ (r : Fin 4096) (k : Fin 1024), y = ix2 r k := ⟨y 0, y 1, ValueIdx.eq_ix2 y⟩
  exact normed_at _ _ r k

theorem outO_match (m : (ℓ : Loc Cert.MixInIdeal.nD Cert.MixInIdeal.τ Cert.MixInIdeal.sig) → Buf (Elt Ideal) ℓ) (c : Dev Cert.MixInIdeal.nD) :
    outO (MixIn.argX m c) (MixIn.argG m c) (MixIn.argW m c) = MixIn.res m c := by
  funext y
  obtain ⟨r, k, rfl⟩ : ∃ (r : Fin 4096) (k : Fin 2048), y = ix2 r k := ⟨y 0, y 1, ValueIdx.eq_ix2 y⟩
  refine (prod_at _ _ r k).trans ?_
  exact Finset.sum_congr rfl fun n _ => congrArg (· * _) (normed_at _ _ r n)

end Products.MixInRef

end
-- ==== Proof.Products.Query.lean ====
/- The attention's queries: the normalised rows and their projection, 512 rows a point. -/
module

public import proofs.«01_k».proof.Proof.Norm.Row
public import proofs.«01_k».proof.Proof.Gen.AttnQIdeal.Value
public import proofs.«01_k».proof.Proof.Gen.AttnQRefIdeal.Run
public import Idealize.ShloMosaic.Lib.Pointwise

@[expose] public section

set_option maxRecDepth 16384

noncomputable section

namespace Products.Query

open Cert.AttnQIdeal Cert.AttnQIdeal.Gen Cert.AttnQIdeal.Value Idealize.ShloMosaic Idealize.ShloMosaic.TcCoe Idealize.ShloMosaic.Tactic
open Idealize.SL.Sem

/-! ## A tile -/

/-- A normalised entry. -/
def normed (x : Fin 1024 → EReal) (g : EReal) (k : Fin 1024) : EReal := x k * Norm.rs x * g

/-- The normalised rows. -/
def tileH (x : FVec Ideal S512x1024 .f32) (g : FVec Ideal S1x1024 .f32) : FVec Ideal S512x1024 .bf16 := fun y =>
  normed (fun n => x (ix2 (y 0) n)) (g (ix2 0 (y 1))) (y 1)

/-- Rows times the weights. -/
def tile (h : FVec Ideal S512x1024 .bf16) (w : FVec Ideal S1024x1024 .bf16) : FVec Ideal S512x1024 .bf16 := fun y =>
  ∑ n : Fin 1024, h (ix2 (y 0) n) * w (ix2 n (y 1))

theorem normed_at (x : FVec Ideal S512x1024 .f32) (g : FVec Ideal S1x1024 .f32) (r : Fin 512) (k : Fin 1024) :
    (k0_pay1 x g : FVec Ideal S512x1024 .bf16) (ix2 r k) = tileH x g (ix2 r k) := by
  unfold k0_pay1
  pointwise []
  rfl

theorem prod_at (h : FVec Ideal S512x1024 .bf16) (w : FVec Ideal S1024x1024 .bf16) (r : Fin 512) (k : Fin 1024) :
    (k0_pay2 h w : FVec Ideal S512x1024 .bf16) (ix2 r k) = tile h w (ix2 r k) := by
  unfold k0_pay2
  pointwise []
  rfl

theorem normed_eq (x : FVec Ideal S512x1024 .f32) (g : FVec Ideal S1x1024 .f32) : k0_pay1 (F := Ideal) x g = tileH x g := by
  funext y
  rw [ValueIdx.eq_ix2 (n0 := 512) (n1 := 1024) y]
  exact normed_at x g _ _

theorem prod_eq (h : FVec Ideal S512x1024 .bf16) (w : FVec Ideal S1024x1024 .bf16) : k0_pay2 (F := Ideal) h w = tile h w := by
  funext y
  rw [ValueIdx.eq_ix2 (n0 := 512) (n1 := 1024) y]
  exact prod_at h w _ _

/-! ## What a point leaves -/

theorem hz : (![0, 0] : Fin 2 → Nat) = fun _ => 0 := funext fun a => by fin_cases a <;> rfl

theorem out_h (c : Dev nD) (i : grid0.Coords) (a2 : Memref sig .tc .vmem S512x1024 .f32) (h2 : a2.IsWhole) (a3 : Memref sig .tc .vmem S1x1024 .f32) (h3 : a3.IsWhole) (a4 : Memref sig .tc .vmem S1024x1024 .bf16) (h4 : a4.IsWhole) (a5 : Memref sig .tc .vmem S512x1024 .bf16) (h5 : a5.IsWhole) (a6 : Memref sig .tc .vmem S512x1024 .bf16) (h6 : a6.IsWhole) (hc0 : cond0_0 i)
    (x0 : Vec Ideal S512x1024 .f32) (x1 : Vec Ideal S1x1024 .f32) (x2 : Vec Ideal S1024x1024 .bf16) :
    out0_A_4 (F := Ideal) c i a2 h2 a3 h3 a4 h4 a5 h5 a6 h6 hc0 x0 x1 x2 = tileH x0 x1 := by
  rw [← normed_eq]
  unfold out0_A_4
  rw [View.read_writes_eq_canon _ _ _ (cover0_A_4 c i a2 h2 a3 h3 a4 h4 a5 h5 a6 h6 hc0 x0 x1 x2)]
  unfold kernelRun0_A
  dsimp only
  try sl_unfold_words
  rw [View.canon_unit_zero hz]
  simp only [View.readAt_eq_ld, h2.read_unread, h3.read_unread, h4.read_unread, h5.read_unread, h6.read_unread, View.ld_unit_zero (S := S512x1024) hz, View.ld_unit_zero (S := S1024x1024) hz, View.ld_unit_zero (S := S1x1024) hz, shapeCast_self]

theorem out_o (c : Dev nD) (i : grid0.Coords) (a2 : Memref sig .tc .vmem S512x1024 .f32) (h2 : a2.IsWhole) (a3 : Memref sig .tc .vmem S1x1024 .f32) (h3 : a3.IsWhole) (a4 : Memref sig .tc .vmem S1024x1024 .bf16) (h4 : a4.IsWhole) (a5 : Memref sig .tc .vmem S512x1024 .bf16) (h5 : a5.IsWhole) (a6 : Memref sig .tc .vmem S512x1024 .bf16) (h6 : a6.IsWhole) (hc0 : cond0_0 i)
    (x0 : Vec Ideal S512x1024 .f32) (x1 : Vec Ideal S1x1024 .f32) (x2 : Vec Ideal S1024x1024 .bf16) :
    out0_A_3 (F := Ideal) c i a2 h2 a3 h3 a4 h4 a5 h5 a6 h6 hc0 x0 x1 x2 = tile (tileH x0 x1) x2 := by
  rw [← prod_eq, ← normed_eq]
  unfold out0_A_3
  rw [View.read_writes_eq_canon _ _ _ (cover0_A_3 c i a2 h2 a3 h3 a4 h4 a5 h5 a6 h6 hc0 x0 x1 x2)]
  unfold kernelRun0_A
  dsimp only
  try sl_unfold_words
  rw [View.canon_unit_zero hz, View.readCov_unit_zero (S := S512x1024) _ hz]
  simp only [View.readAt_eq_ld, h2.read_unread, h3.read_unread, h4.read_unread, h5.read_unread, h6.read_unread, View.ld_unit_zero (S := S512x1024) hz, View.ld_unit_zero (S := S1024x1024) hz, View.ld_unit_zero (S := S1x1024) hz, shapeCast_self]

/-! ## The arrays -/

variable (m : (ℓ : Loc nD τ sig) → Buf (Elt Ideal) ℓ) (c : Dev nD)

/-- The arguments: the rows, their gain and the weights. -/
abbrev argX : FVec Ideal S4096x1024 .f32 := m ((c.tc : Thread nD τ).loc main_arg0)
abbrev argG : FVec Ideal S1x1024 .f32 := m ((c.tc : Thread nD τ).loc main_arg1)
abbrev argW : FVec Ideal S1024x1024 .bf16 := m ((c.tc : Thread nD τ).loc main_arg2)

abbrev blkX (t : Fin cfg0.N) : FVec Ideal S512x1024 .f32 := iblk m c 0 t
abbrev blkG (t : Fin cfg0.N) : FVec Ideal S1x1024 .f32 := iblk m c 1 t
abbrev blkW (t : Fin cfg0.N) : FVec Ideal S1024x1024 .bf16 := iblk m c 2 t

/-- The normalised rows. -/
def resH : FVec Ideal S4096x1024 .bf16 := fun y => normed (fun n => argX m c (ix2 (y 0) n)) (argG m c (ix2 0 (y 1))) (y 1)

/-- Their projection. -/
def res : FVec Ideal S4096x1024 .bf16 := fun y => ∑ n : Fin 1024, resH m c (ix2 (y 0) n) * argW m c (ix2 n (y 1))

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

theorem blkX_at (t : Fin cfg0.N) (r : Fin 512) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkG_at (t : Fin cfg0.N) (r : Fin 1) (k : Fin 1024) : blkG m c t (ix2 r k) = argG m c (ix2 r k) := by
  unfold blkG iblk
  rw [View.read_apply]
  show V m c main_arg1 _ = m _ _
  unfold V
  congr 1
  funext a
  apply Fin.ext
  match a with
  | ⟨0, _⟩ => show win0_1.index t 0 * 1 + 1 * r.val = r.val; rw [(index1 t).1]; omega
  | ⟨1, _⟩ => show win0_1.index t 1 * 1024 + 1 * k.val = k.val; rw [(index1 t).2]; omega

theorem blkW_at (t : Fin cfg0.N) (r : Fin 1024) (k : Fin 1024) : blkW m c t (ix2 r k) = argW m c (ix2 r k) := by
  unfold blkW iblk
  rw [View.read_apply]
  show V m c main_arg2 _ = m _ _
  unfold V
  congr 1
  funext a
  apply Fin.ext
  match a with
  | ⟨0, _⟩ => show win0_2.index t 0 * 1024 + 1 * r.val = r.val; rw [(index2 t).1]; omega
  | ⟨1, _⟩ => show win0_2.index t 1 * 1024 + 1 * k.val = k.val; rw [(index2 t).2]; omega

theorem tileH_at (t : Fin cfg0.N) (r : Fin 512) (k : Fin 1024) :
    tileH (blkX m c t) (blkG m c t) (ix2 r k) = resH m c (ix2 (rowOf t r) k) :=
  congrArg₂ (fun x g => normed x g k) (funext fun n => blkX_at m c t r n) (blkG_at m c t 0 k)

theorem tile_at (t : Fin cfg0.N) (r : Fin 512) (k : Fin 1024) :
    tile (tileH (blkX m c t) (blkG m c t)) (blkW m c t) (ix2 r k) = res m c (ix2 (rowOf t r) k) :=
  Finset.sum_congr rfl fun n _ => congrArg₂ (· * ·) (tileH_at m c t r n) (blkW_at m c t n k)

theorem final_h : (dats m 0 c).arrAt 4 cfg0.N = resH m c :=
  (dats m 0 c).arrAt_eq_of_cover 4 (resH m c)
    (fun t hf => by
      rw [flushed4_A, out_h]
      funext j
      rw [View.read_apply]
      have e : ((cfg0.win 4).blk t).view.emb j = (ix2 (rowOf t (j 0)) (j 1) : S4096x1024.Idx) := by
        funext a
        apply Fin.ext
        match a with
        | ⟨0, _⟩ => show win0_4.index t 0 * 512 + 1 * (j 0).val = 512 * t.val + (j 0).val; rw [(index4 t).1]; omega
        | ⟨1, _⟩ => show win0_4.index t 1 * 1024 + 1 * (j 1).val = (j 1).val; rw [(index4 t).2]; omega
      rw [e]
      exact (congrArg (tileH (blkX m c t) (blkG m c t)) (ValueIdx.eq_ix2 (n0 := 512) (n1 := 1024) j)).trans (tileH_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_4 _, ?_⟩
      show (i : S4096x1024.Idx) ∈ ((View.whole main_v0_1).slice (win0_4.rect ⟨(i 0 : ℕ) / 512, hp⟩)).set
      rw [View.set_slice_whole, Rect.mem_set_unit]
      intro a
      match a with
      | ⟨0, _⟩ =>
        show win0_4.index _ 0 * 512 ≤ (i 0 : ℕ) ∧ (i 0 : ℕ) < win0_4.index _ 0 * 512 + 512
        rw [(index4 _).1]; dsimp only; omega
      | ⟨1, _⟩ =>
        show win0_4.index _ 1 * 1024 ≤ (i 1 : ℕ) ∧ (i 1 : ℕ) < win0_4.index _ 1 * 1024 + 1024
        rw [(index4 _).2]; omega)

theorem final_o : (dats m 0 c).arrAt 3 cfg0.N = res m c :=
  (dats m 0 c).arrAt_eq_of_cover 3 (res m c)
    (fun t hf => by
      rw [flushed3_A, out_o]
      funext j
      rw [View.read_apply]
      have e : ((cfg0.win 3).blk t).view.emb j = (ix2 (rowOf t (j 0)) (j 1) : S4096x1024.Idx) := by
        funext a
        apply Fin.ext
        match a with
        | ⟨0, _⟩ => show win0_3.index t 0 * 512 + 1 * (j 0).val = 512 * t.val + (j 0).val; rw [(index3 t).1]; omega
        | ⟨1, _⟩ => show win0_3.index t 1 * 1024 + 1 * (j 1).val = (j 1).val; rw [(index3 t).2]; omega
      rw [e]
      exact (congrArg (tile (tileH (blkX m c t) (blkG m c t)) (blkW m c t)) (ValueIdx.eq_ix2 (n0 := 512) (n1 := 1024) j)).trans (tile_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_3 _, ?_⟩
      show (i : S4096x1024.Idx) ∈ ((View.whole main_v0_0).slice (win0_3.rect ⟨(i 0 : ℕ) / 512, hp⟩)).set
      rw [View.set_slice_whole, Rect.mem_set_unit]
      intro a
      match a with
      | ⟨0, _⟩ =>
        show win0_3.index _ 0 * 512 ≤ (i 0 : ℕ) ∧ (i 0 : ℕ) < win0_3.index _ 0 * 512 + 512
        rw [(index3 _).1]; dsimp only; omega
      | ⟨1, _⟩ =>
        show win0_3.index _ 1 * 1024 ≤ (i 1 : ℕ) ∧ (i 1 : ℕ) < win0_3.index _ 1 * 1024 + 1024
        rw [(index3 _).2]; omega)

end Products.Query

namespace Products.QueryRef

open Cert.AttnQRefIdeal Cert.AttnQRefIdeal.Gen Idealize.ShloMosaic Idealize.ShloMosaic.TcCoe

variable (X : FVec Ideal S4096x1024 .f32) (G : FVec Ideal S1x1024 .f32) (W : FVec Ideal S1024x1024 .bf16)

/-! ## The reference -/

/-- Every row's scale. -/
def scale : FVec Ideal S4096x1 .f32 :=
  Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

def rows (R : FVec Ideal S4096x1 .f32) : FVec Ideal S4096x1024 .f32 :=
  mulf (mulf X (broadcastInDim S4096x1024 ![0, 1] bcast_S4096x1_S4096x1024_0_1 R)) (broadcastInDim S4096x1024 ![0, 1] bcast_S1x1024_S4096x1024_0_1 G)

def prod (H : FVec Ideal S4096x1024 .f32) : FVec Ideal S4096x1024 .bf16 :=
  truncf .bf16 (Host.dotGeneral dot_S4096x1024_S1024x1024_S4096x1024_1_0_0_1_n_n none H (extf .f32 W bitsLt_bf16_f32)) bitsLt_bf16_f32

def outO : FVec Ideal S4096x1024 .bf16 := prod W (rows X G (scale X))

def outH : FVec Ideal S4096x1024 .bf16 := truncf .bf16 (rows X G (scale X)) bitsLt_bf16_f32

theorem scale_at (r : Fin 4096) : scale X (ix2 r 0) = Norm.rs (fun k : Fin 1024 => X (ix2 r k)) := by
  unfold scale
  pointwise []
  rfl

theorem rows_at (R : FVec Ideal S4096x1 .f32) (r : Fin 4096) (k : Fin 1024) : rows X G R (ix2 r k) = X (ix2 r k) * R (ix2 r 0) * G (ix2 0 k) := by
  unfold rows
  pointwise []

theorem prod_at (H : FVec Ideal S4096x1024 .f32) (r : Fin 4096) (k : Fin 1024) : prod W H (ix2 r k) = ∑ n : Fin 1024, H (ix2 r n) * W (ix2 n k) := by
  unfold prod
  pointwise []

theorem normed_at (r : Fin 4096) (k : Fin 1024) :
    rows X G (scale X) (ix2 r k) = Query.normed (fun n : Fin 1024 => X (ix2 r n)) (G (ix2 0 k)) k := by
  rw [rows_at, scale_at]
  rfl

theorem outH_match (m : (ℓ : Loc Cert.AttnQIdeal.nD Cert.AttnQIdeal.τ Cert.AttnQIdeal.sig) → Buf (Elt Ideal) ℓ) (c : Dev Cert.AttnQIdeal.nD) :
    outH (Query.argX m c) (Query.argG m c) = Query.resH m c := by
  funext y
  obtain ⟨r, k, rfl⟩ : ∃ (r : Fin 4096) (k : Fin 1024), y = ix2 r k := ⟨y 0, y 1, ValueIdx.eq_ix2 y⟩
  exact normed_at _ _ r k

theorem outO_match (m : (ℓ : Loc Cert.AttnQIdeal.nD Cert.AttnQIdeal.τ Cert.AttnQIdeal.sig) → Buf (Elt Ideal) ℓ) (c : Dev Cert.AttnQIdeal.nD) :
    outO (Query.argX m c) (Query.argG m c) (Query.argW m c) = Query.res m c := by
  funext y
  obtain ⟨r, k, rfl⟩ : ∃ (r : Fin 4096) (k : Fin 1024), y = ix2 r k := ⟨y 0, y 1, ValueIdx.eq_ix2 y⟩
  refine (prod_at _ _ r k).trans ?_
  exact Finset.sum_congr rfl fun n _ => congrArg (· * _) (normed_at _ _ r n)

end Products.QueryRef

end
-- ==== Proof.Products.Residual.lean ====
/- The residual stream after a square output projection: the stream plus the rows times the weights, 512 rows a point. -/
module

public import proofs.«01_k».proof.Proof.Gen.MixOutIdeal.Value
public import proofs.«01_k».proof.Proof.Gen.MixOutRefIdeal.Run
public import Idealize.ShloMosaic.Lib.Pointwise

@[expose] public section

set_option maxRecDepth 16384

noncomputable section

namespace Products.Residual

open Cert.MixOutIdeal Cert.MixOutIdeal.Gen Cert.MixOutIdeal.Value Idealize.ShloMosaic Idealize.ShloMosaic.TcCoe Idealize.ShloMosaic.Tactic
open Idealize.SL.Sem

/-! ## A tile -/

/-- The stream plus the product, at a row and column. -/
def tile (s : FVec Ideal S512x1024 .f32) (x : FVec Ideal S512x1024 .bf16) (w : FVec Ideal S1024x1024 .bf16) : FVec Ideal S512x1024 .f32 := fun y =>
  s y + ∑ n : Fin 1024, x (ix2 (y 0) n) * w (ix2 n (y 1))

theorem sum_at (s : FVec Ideal S512x1024 .f32) (x : FVec Ideal S512x1024 .bf16) (w : FVec Ideal S1024x1024 .bf16) (r k : _) :
    (k0_pay1 s x w : FVec Ideal S512x1024 .f32) (ix2 r k) = tile s x w (ix2 r k) := by
  unfold k0_pay1
  pointwise []
  rfl

theorem hz : (![0, 0] : Fin 2 → Nat) = fun _ => 0 := funext fun a => by fin_cases a <;> rfl

theorem out_eq (s : FVec Ideal S512x1024 .f32) (x : FVec Ideal S512x1024 .bf16) (w : FVec Ideal S1024x1024 .bf16) :
    out0_3 (F := Ideal) s x w = tile s x w := by
  unfold out0_3
  rw [View.canon_unit_zero hz]
  simp only [View.ld_unit_zero (S := S512x1024) hz, View.ld_unit_zero (S := S1024x1024) hz]
  funext y
  rw [ValueIdx.eq_ix2 (n0 := 512) (n1 := 1024) y]
  exact sum_at s x w _ _

/-! ## The array -/

variable (m : (ℓ : Loc nD τ sig) → Buf (Elt Ideal) ℓ) (c : Dev nD)

/-- The arguments: the stream, the rows and the weights. -/
abbrev argS : FVec Ideal S4096x1024 .f32 := m ((c.tc : Thread nD τ).loc main_arg0)
abbrev argX : FVec Ideal S4096x1024 .bf16 := m ((c.tc : Thread nD τ).loc main_arg1)
abbrev argW : FVec Ideal S1024x1024 .bf16 := m ((c.tc : Thread nD τ).loc main_arg2)

abbrev blkS (t : Fin cfg0.N) : FVec Ideal S512x1024 .f32 := iblk m c 0 t
abbrev blkX (t : Fin cfg0.N) : FVec Ideal S512x1024 .bf16 := iblk m c 1 t
abbrev blkW (t : Fin cfg0.N) : FVec Ideal S1024x1024 .bf16 := iblk m c 2 t

/-- The stream after the projection. -/
def res : FVec Ideal S4096x1024 .f32 := fun y => argS m c y + ∑ n : Fin 1024, argX m c (ix2 (y 0) n) * argW m c (ix2 n (y 1))

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

theorem blkS_at (t : Fin cfg0.N) (r : Fin 512) (k : Fin 1024) : blkS m c t (ix2 r k) = argS m c (ix2 (rowOf t r) k) := by
  unfold blkS iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkX_at (t : Fin cfg0.N) (r : Fin 512) (k : Fin 1024) : blkX m c t (ix2 r k) = argX m c (ix2 (rowOf t r) k) := by
  unfold blkX iblk
  rw [View.read_apply]
  show V m c main_arg1 _ = m _ _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * k.val = k.val; rw [(index1 t).2]; omega

theorem blkW_at (t : Fin cfg0.N) (r : Fin 1024) (k : Fin 1024) : blkW m c t (ix2 r k) = argW m c (ix2 r k) := by
  unfold blkW iblk
  rw [View.read_apply]
  show V m c main_arg2 _ = m _ _
  unfold V
  congr 1
  funext a
  apply Fin.ext
  match a with
  | ⟨0, _⟩ => show win0_2.index t 0 * 1024 + 1 * r.val = r.val; rw [(index2 t).1]; omega
  | ⟨1, _⟩ => show win0_2.index t 1 * 1024 + 1 * k.val = k.val; rw [(index2 t).2]; omega

theorem tile_at (t : Fin cfg0.N) (r : Fin 512) (k : Fin 1024) :
    tile (blkS m c t) (blkX m c t) (blkW m c t) (ix2 r k) = res m c (ix2 (rowOf t r) k) :=
  congrArg₂ (· + ·) (blkS_at m c t r k)
    (Finset.sum_congr rfl fun n _ => congrArg₂ (· * ·) (blkX_at m c t r n) (blkW_at m c t n k))

theorem final : (dats m 0 c).arrAt 3 cfg0.N = res m c :=
  (dats m 0 c).arrAt_eq_of_cover 3 (res m c)
    (fun t hf => by
      rw [flushed3, out_eq]
      funext j
      rw [View.read_apply]
      have e : ((cfg0.win 3).blk t).view.emb j = (ix2 (rowOf t (j 0)) (j 1) : S4096x1024.Idx) := by
        funext a
        apply Fin.ext
        match a with
        | ⟨0, _⟩ => show win0_3.index t 0 * 512 + 1 * (j 0).val = 512 * t.val + (j 0).val; rw [(index3 t).1]; omega
        | ⟨1, _⟩ => show win0_3.index t 1 * 1024 + 1 * (j 1).val = (j 1).val; rw [(index3 t).2]; omega
      rw [e]
      exact (congrArg (tile (blkS m c t) (blkX m c t) (blkW m c t)) (ValueIdx.eq_ix2 (n0 := 512) (n1 := 1024) j)).trans (tile_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_3 _, ?_⟩
      show (i : S4096x1024.Idx) ∈ ((View.whole main_v0).slice (win0_3.rect ⟨(i 0 : ℕ) / 512, hp⟩)).set
      rw [View.set_slice_whole, Rect.mem_set_unit]
      intro a
      match a with
      | ⟨0, _⟩ =>
        show win0_3.index _ 0 * 512 ≤ (i 0 : ℕ) ∧ (i 0 : ℕ) < win0_3.index _ 0 * 512 + 512
        rw [(index3 _).1]; dsimp only; omega
      | ⟨1, _⟩ =>
        show win0_3.index _ 1 * 1024 ≤ (i 1 : ℕ) ∧ (i 1 : ℕ) < win0_3.index _ 1 * 1024 + 1024
        rw [(index3 _).2]; omega)

end Products.Residual

namespace Products.ResidualRef

open Cert.MixOutRefIdeal Cert.MixOutRefIdeal.Gen Idealize.ShloMosaic Idealize.ShloMosaic.TcCoe

/-! ## The reference -/

def out (S : FVec Ideal S4096x1024 .f32) (X : FVec Ideal S4096x1024 .bf16) (W : FVec Ideal S1024x1024 .bf16) : FVec Ideal S4096x1024 .f32 :=
  addf S (Host.dotGeneral dot_S4096x1024_S1024x1024_S4096x1024_1_0_0_1_n_n none (extf .f32 X bitsLt_bf16_f32) (extf .f32 W bitsLt_bf16_f32))

theorem out_at (S : FVec Ideal S4096x1024 .f32) (X : FVec Ideal S4096x1024 .bf16) (W : FVec Ideal S1024x1024 .bf16) (r : Fin 4096) (k : Fin 1024) :
    out S X W (ix2 r k) = S (ix2 r k) + ∑ n : Fin 1024, X (ix2 r n) * W (ix2 n k) := by
  unfold out
  pointwise []

theorem out_match (m : (ℓ : Loc Cert.MixOutIdeal.nD Cert.MixOutIdeal.τ Cert.MixOutIdeal.sig) → Buf (Elt Ideal) ℓ) (c : Dev Cert.MixOutIdeal.nD) :
    out (Residual.argS m c) (Residual.argX m c) (Residual.argW m c) = Residual.res m c := by
  funext y
  obtain ⟨r, k, rfl⟩ : ∃ (r : Fin 4096) (k : Fin 1024), y = ix2 r k := ⟨y 0, y 1, ValueIdx.eq_ix2 y⟩
  exact out_at _ _ _ r k

end Products.ResidualRef

end
-- ==== Proof.Forward.PointIdeal.lean ====
/- One point of the feed-forward kernel: what its body leaves in each buffer. -/
module

public import proofs.«01_k».proof.Proof.Gen.FfnFwdIdeal.Frame
public import proofs.«01_k».proof.Proof.Gen.FfnFwdIdeal.Skeleton
public import Idealize.ShloMosaic.Lib.Pipeline.Value

@[expose] public section

set_option maxRecDepth 16384

noncomputable section

namespace Forward.FfnFwdIdeal

open Cert.FfnFwdIdeal Cert.FfnFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

theorem hz : (![0, 0] : Fin 2 → Nat) = fun _ => 0 := funext fun a => by fin_cases a <;> rfl

/-- A buffer stored over whole reads as what was stored last. -/
theorem read_stored {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, by
    subst h; show y ∈ (Rect.whole S).set; rw [Rect.set_whole]; exact Finset.mem_univ y⟩).trans (View.canon_cons_unit_zero h inb w L)

set_option maxHeartbeats 2000000 in
/-- The first of a tile's two points: the rows are normalised, the running sum is started. -/
theorem first (c : Dev nD) (i : grid0.Coords) (a2 : Memref sig .tc .vmem S512x1024 .f32) (h2 : a2.IsWhole) (a3 : Memref sig .tc .vmem S1x1024 .f32) (h3 : a3.IsWhole) (a4 : Memref sig .tc .vmem S1024x1408 .bf16) (h4 : a4.IsWhole) (a5 : Memref sig .tc .vmem S1024x1408 .bf16) (h5 : a5.IsWhole) (a6 : Memref sig .tc .vmem S1408x1024 .bf16) (h6 : a6.IsWhole) (a7 : Memref sig .tc .vmem S512x1024 .f32) (h7 : a7.IsWhole) (a8 : Memref sig .tc .vmem S512x1024 .bf16) (h8 : a8.IsWhole) (a9 : Memref sig .tc .vmem S512x1408 .bf16) (h9 : a9.IsWhole) (a10 : Memref sig .tc .vmem S512x1408 .bf16) (h10 : a10.IsWhole) (a11 : Memref sig .tc .vmem S512x1024 .f32) (h11 : a11.IsWhole) (hc1 : k0_cond1 i = 1#1) (hc2 : ¬k0_cond2 i = 1#1)
    (x0 : Vec F S512x1024 .f32) (x1 : Vec F S1x1024 .f32) (x2 : Vec F S1024x1408 .bf16) (x3 : Vec F S1024x1408 .bf16) (x4 : Vec F S1408x1024 .bf16) (E : Set ℕ) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a8 fullShare (k0_pay2 x0 x1) ∗ owns (c : Thread nD τ) a9 fullShare (k0_pay7 (k0_pay2 x0 x1) x2) ∗ owns (c : Thread nD τ) a10 fullShare (k0_pay8 (k0_pay2 x0 x1) x3) ∗ owns (c : Thread nD τ) a11 fullShare (k0_pay9 (k0_pay2 x0 x1) x2 x3 (k0_pay3 (F := F)) x4)) -∗ K ⟨⟩))
      ⊢ wp frame (wpE (defs₀ (F := F)) Variants.none c none) E (cc0_ffn_fwd i a2 h2 a3 h3 a4 h4 a5 h5 a6 h6 a7 h7 a8 h8 a9 h9 a10 h10 a11 h11) K := by
  simp only [cc0_ffn_fwd_eq_skeleton, k0_part1_eq_skeleton]; unfold cc0_ffn_fwd_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, %hf8, H8⟩, ⟨%d9, %f9, %hf9, H9⟩, ⟨%d10, %f10, %hf10, H10⟩, ⟨%d11, %f11, %hf11, H11⟩, Hk⟩
  obtain rfl := h2.eq_unread hf2; obtain rfl := h3.eq_unread hf3; obtain rfl := h4.eq_unread hf4; obtain rfl := h5.eq_unread hf5; obtain rfl := h6.eq_unread hf6
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H8]
  · iexists _; isplitr
    swap; · iexact H8
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, View.ld_unit_zero (S := S512x1024) hz, View.ld_unit_zero (S := S1x1024) hz, View.ld_unit_zero (S := S1024x1408) hz, View.ld_unit_zero (S := S1408x1024) hz]
  isplitl [H9]
  · iexists _; isplitr
    swap; · iexact H9
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, View.ld_unit_zero (S := S512x1024) hz, View.ld_unit_zero (S := S1x1024) hz, View.ld_unit_zero (S := S1024x1408) hz, View.ld_unit_zero (S := S1408x1024) hz]
  isplitl [H10]
  · iexists _; isplitr
    swap; · iexact H10
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, View.ld_unit_zero (S := S512x1024) hz, View.ld_unit_zero (S := S1x1024) hz, View.ld_unit_zero (S := S1024x1408) hz, View.ld_unit_zero (S := S1408x1024) hz]
  iexists _; isplitr
  swap; · iexact H11
  ipureintro
  (try sl_unfold_words)
  refine (read_stored _ _ hz _ _ _).trans ?_
  simp only [View.readCov_unit_zero (S := S512x1024) _ hz, View.readAt_eq_ld, h2.read_unread, h3.read_unread, h4.read_unread, h5.read_unread, h6.read_unread, View.ld_unit_zero (S := S512x1024) hz, View.ld_unit_zero (S := S1x1024) hz, View.ld_unit_zero (S := S1024x1408) hz, View.ld_unit_zero (S := S1408x1024) hz]

set_option maxHeartbeats 2000000 in
/-- The second point: the rows are read back, the sum is finished and the tile is stored. -/
theorem second (c : Dev nD) (i : grid0.Coords) (a2 : Memref sig .tc .vmem S512x1024 .f32) (h2 : a2.IsWhole) (a3 : Memref sig .tc .vmem S1x1024 .f32) (h3 : a3.IsWhole) (a4 : Memref sig .tc .vmem S1024x1408 .bf16) (h4 : a4.IsWhole) (a5 : Memref sig .tc .vmem S1024x1408 .bf16) (h5 : a5.IsWhole) (a6 : Memref sig .tc .vmem S1408x1024 .bf16) (h6 : a6.IsWhole) (a7 : Memref sig .tc .vmem S512x1024 .f32) (h7 : a7.IsWhole) (a8 : Memref sig .tc .vmem S512x1024 .bf16) (h8 : a8.IsWhole) (a9 : Memref sig .tc .vmem S512x1408 .bf16) (h9 : a9.IsWhole) (a10 : Memref sig .tc .vmem S512x1408 .bf16) (h10 : a10.IsWhole) (a11 : Memref sig .tc .vmem S512x1024 .f32) (h11 : a11.IsWhole) (hc1 : ¬k0_cond1 i = 1#1) (hc2 : k0_cond2 i = 1#1)
    (x0 : Vec F S512x1024 .f32) (x1 : Vec F S1x1024 .f32) (x2 : Vec F S1024x1408 .bf16) (x3 : Vec F S1024x1408 .bf16) (x4 : Vec F S1408x1024 .bf16) (h : Vec F S512x1024 .bf16) (s : Vec F S512x1024 .f32) (E : Set ℕ) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare h ∗ (∃ d, owns (c : Thread nD τ) a9 fullShare d) ∗ (∃ d, owns (c : Thread nD τ) a10 fullShare d) ∗ owns (c : Thread nD τ) a11 fullShare s
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (k0_pay1 x0 (k0_pay9 h x2 x3 s x4)) ∗ owns (c : Thread nD τ) a8 fullShare h ∗ owns (c : Thread nD τ) a9 fullShare (k0_pay7 h x2) ∗ owns (c : Thread nD τ) a10 fullShare (k0_pay8 h x3) ∗ owns (c : Thread nD τ) a11 fullShare (k0_pay9 h x2 x3 s x4)) -∗ K ⟨⟩))
      ⊢ wp frame (wpE (defs₀ (F := F)) Variants.none c none) E (cc0_ffn_fwd i a2 h2 a3 h3 a4 h4 a5 h5 a6 h6 a7 h7 a8 h8 a9 h9 a10 h10 a11 h11) K := by
  simp only [cc0_ffn_fwd_eq_skeleton, k0_part1_eq_skeleton]; unfold cc0_ffn_fwd_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%d9, %f9, %hf9, H9⟩, ⟨%d10, %f10, %hf10, H10⟩, ⟨%f11, %hf11, H11⟩, Hk⟩
  obtain rfl := h2.eq_unread hf2; obtain rfl := h3.eq_unread hf3; obtain rfl := h4.eq_unread hf4; obtain rfl := h5.eq_unread hf5; obtain rfl := h6.eq_unread hf6; obtain rfl := h8.eq_unread hf8; obtain rfl := h11.eq_unread hf11
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, h8.read_unread, h11.read_unread, View.ld_unit_zero (S := S512x1024) hz, View.ld_unit_zero (S := S1x1024) hz, View.ld_unit_zero (S := S1024x1408) hz, View.ld_unit_zero (S := S1408x1024) hz]
  isplitl [H8]
  · iexists _; isplitr; · ipureintro; exact h8.read_unread _
    iexact H8
  isplitl [H9]
  · iexists _; isplitr
    swap; · iexact H9
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, h8.read_unread, h11.read_unread, View.ld_unit_zero (S := S512x1024) hz, View.ld_unit_zero (S := S1x1024) hz, View.ld_unit_zero (S := S1024x1408) hz, View.ld_unit_zero (S := S1408x1024) hz]
  isplitl [H10]
  · iexists _; isplitr
    swap; · iexact H10
    ipureintro
    (try sl_unfold_words)
    refine (read_stored _ _ hz _ _ _).trans ?_
    simp only [View.readCov_unit_zero (S := S512x1024) _ hz, View.readAt_eq_ld, h2.read_unread, h3.read_unread, h4.read_unread, h5.read_unread, h6.read_unread, h8.read_unread, h11.read_unread, View.ld_unit_zero (S := S512x1024) hz, View.ld_unit_zero (S := S1x1024) hz, View.ld_unit_zero (S := S1024x1408) hz, View.ld_unit_zero (S := S1408x1024) hz]
  iexists _; isplitr
  swap; · iexact H11
  ipureintro
  (try sl_unfold_words)
  refine (read_stored _ _ hz _ _ _).trans ?_
  simp only [View.readCov_unit_zero (S := S512x1024) _ hz, View.readAt_eq_ld, h2.read_unread, h3.read_unread, h4.read_unread, h5.read_unread, h6.read_unread, h8.read_unread, h11.read_unread, View.ld_unit_zero (S := S512x1024) hz, View.ld_unit_zero (S := S1x1024) hz, View.ld_unit_zero (S := S1024x1408) hz, View.ld_unit_zero (S := S1408x1024) hz]

end Forward.FfnFwdIdeal

end
-- ==== Proof.Forward.BodyIdeal.lean ====
/- The feed-forward kernel's whole run: what its buffers hold at every point, and its frame. -/
module

public import proofs.«01_k».proof.Proof.Forward.PointIdeal
public import Idealize.ShloMosaic.Lib.Claim

@[expose] public section

set_option maxRecDepth 16384

noncomputable section

namespace Forward.FfnFwdIdeal

open Cert.FfnFwdIdeal Cert.FfnFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable (m : (ℓ : Loc nD τ sig) → Buf (Elt F) ℓ) (ρ : Dev nD → PrngReg)

/-- The first branch is taken at the even points, -/
theorem start_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- and the last one at the odd points. -/
theorem stop_iff : ∀ t : Fin cfg0.N, k0_cond2 (grid0.coords t) = 1#1 ↔ t.val % 2 = 1 :=
  (by decide +kernel : ∀ t : Fin grid0.N, k0_cond2 (grid0.coords t) = 1#1 ↔ t.val % 2 = 1)

theorem idle5 (t : Fin cfg0.N) : cfg0.idle 5 (grid0.coords t) = !(k0_cond2 (grid0.coords t) == 1#1) := rfl
theorem idle6 (t : Fin cfg0.N) : cfg0.idle 6 (grid0.coords t) = !(k0_cond1 (grid0.coords t) == 1#1) := rfl

theorem idle5_even (t : Fin cfg0.N) (h : t.val % 2 = 0) : cfg0.idle 5 (grid0.coords t) = true := by
  rw [idle5, beq_eq_false_iff_ne.mpr (fun e => by have := (stop_iff t).mp e; omega)]; rfl
theorem idle5_odd (t : Fin cfg0.N) (h : t.val % 2 = 1) : cfg0.idle 5 (grid0.coords t) = false := by
  rw [idle5, beq_iff_eq.mpr ((stop_iff t).mpr h)]; rfl
theorem idle6_even (t : Fin cfg0.N) (h : t.val % 2 = 0) : cfg0.idle 6 (grid0.coords t) = false := by
  rw [idle6, beq_iff_eq.mpr ((start_iff t).mpr h)]; rfl
theorem idle6_odd (t : Fin cfg0.N) (h : t.val % 2 = 1) : cfg0.idle 6 (grid0.coords t) = true := by
  rw [idle6, beq_eq_false_iff_ne.mpr (fun e => by have := (start_iff t).mp e; omega)]; rfl
theorem flush5_even (t : Fin cfg0.N) (h : t.val % 2 = 0) : (cfg0.win 5).flush t = false :=
  Bool.eq_false_iff.mpr fun e => by have := (flush0_5 t).mp e; omega
theorem flush6_even (t : Fin cfg0.N) (h : t.val % 2 = 0) : (cfg0.win 6).flush t = false :=
  Bool.eq_false_iff.mpr fun e => by have := (flush0_6 t).mp e; omega

/-- The first point of the tile that point `t` works on. -/
def head (t : Fin cfg0.N) : Fin cfg0.N := ⟨t.val / 2 * 2, by have := t.isLt; omega⟩
theorem head_even (t : Fin cfg0.N) (h : t.val % 2 = 0) : head t = t := Fin.ext (by show t.val / 2 * 2 = t.val; omega)
theorem head_odd (t : Fin cfg0.N) (h : t.val % 2 = 1) : (head t).val = t.val - 1 := by show t.val / 2 * 2 = _; omega

/-- The tile's normalised rows. -/
def rows (c : Dev nD) (t : Fin cfg0.N) : Vec F S512x1024 .bf16 := k0_pay2 (iblk m c 0 (head t)) (iblk m c 1 (head t))
/-- The running sum after the first point of the tile. -/
def part (c : Dev nD) (t : Fin cfg0.N) : Vec F S512x1024 .f32 :=
  k0_pay9 (rows m c t) (iblk m c 2 t) (iblk m c 3 t) (k0_pay3 (F := F)) (iblk m c 4 t)
/-- The running sum after the second. -/
def total (c : Dev nD) (t : Fin cfg0.N) : Vec F S512x1024 .f32 :=
  k0_pay9 (rows m c t) (iblk m c 2 t) (iblk m c 3 t) (part m c (head t)) (iblk m c 4 t)

theorem rows_head (c : Dev nD) (t : Fin cfg0.N) : rows m c (head t) = rows m c t := by
  unfold rows; rw [head_even (head t) (by show t.val / 2 * 2 % 2 = 0; omega)]

/-- What is kept between two points: after the first point of a tile the running sum. -/
def between (c : Dev nD) (n : Fin (cfg0.N + 1)) : sProp (MT nD τ sig Unit (Elt F) ℕ (UR sig nD τ) ℕ) :=
  if h : n.val % 2 = 1 then
    iprop(owns (c : Thread nD τ) (Memref.whole cc0_scratch0) fullShare (part m c ⟨n.val - 1, by have := n.isLt; omega⟩) ∗ ∃ r, prngReg c r)
  else Pipeline.ΦA spec0 c

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 0 t) (total m c t)
    | ⟨6, _⟩ => rows m c t
    | ⟨7, _⟩ => k0_pay7 (rows m c t) (iblk m c 2 t)
    | ⟨8, _⟩ => k0_pay8 (rows m c t) (iblk m c 3 t)
  Φ n := between m c n
  q w := Pipeline.shareOf spec0 w
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := rfl
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := rfl
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := rfl
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := rfl
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := rfl
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = k0_pay1 (iblk m c 0 t) (total m c t) := rfl
theorem after6 (c : Dev nD) (t : Fin cfg0.N) : (dats m 0 c).after 6 t = rows m c t := rfl
theorem after7 (c : Dev nD) (t : Fin cfg0.N) : (dats m 0 c).after 7 t = k0_pay7 (rows m c t) (iblk m c 2 t) := rfl
theorem after8 (c : Dev nD) (t : Fin cfg0.N) : (dats m 0 c).after 8 t = k0_pay8 (rows m c t) (iblk m c 3 t) := rfl

/-- At a tile's second point the buffer of the normalised rows holds what the first point left. -/
theorem before6_odd (c : Dev nD) (t : Fin cfg0.N) (h : t.val % 2 = 1) (d) : (dats m 0 c).before 6 t d = rows m c t := by
  have ht : t.val ≠ 0 := by omega
  have e : head t = ⟨t.val - 1, by have := t.isLt; omega⟩ := Fin.ext (head_odd t h)
  have hp : (⟨t.val - 1, by have := t.isLt; omega⟩ : Fin cfg0.N).val % 2 = 0 := by show (t.val - 1) % 2 = 0; omega
  rw [(dats m 0 c).before_of_pos 6 t ht ((cfg0.win 6).fetch_out rfl t), flush6_even _ hp, if_neg Bool.false_ne_true]
  unfold Dat.left
  rw [idle6_even _ hp]
  unfold Dat.kept
  dsimp only
  rw [Pipeline.fill_of_clip_none 6 _ (fun _ => rfl) d ((dats m 0 c).after 6 _), Window.fill_cut, after6, ← rows_head m c t, e]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem between_even (c : Dev nD) (n : Fin (cfg0.N + 1)) (h : n.val % 2 = 0) : between m c n = Pipeline.ΦA spec0 c :=
  dif_neg (by omega)
theorem between_odd (c : Dev nD) (n : Fin (cfg0.N + 1)) (t : Fin cfg0.N) (h : n.val % 2 = 1) (e : t.val = n.val - 1) : between m c n
    = iprop(owns (c : Thread nD τ) (Memref.whole cc0_scratch0) fullShare (part m c t) ∗ ∃ r, prngReg c r) := by
  have e' : (⟨n.val - 1, by have := n.isLt; omega⟩ : Fin cfg0.N) = t := Fin.ext e.symm
  rw [← e']
  exact dif_pos h

theorem leaves0 (c : Dev nD) (t : Fin cfg0.N) : (dats m 0 c).leavesExact 0 t
    = owns (c : Thread nD τ) (st0_0 t) fullShare ((dats m 0 c).after 0 t) := rfl
theorem leaves1 (c : Dev nD) (t : Fin cfg0.N) : (dats m 0 c).leavesExact 1 t
    = owns (c : Thread nD τ) (st0_1 t) fullShare ((dats m 0 c).after 1 t) := rfl
theorem leaves2 (c : Dev nD) (t : Fin cfg0.N) : (dats m 0 c).leavesExact 2 t
    = owns (c : Thread nD τ) (st0_2 t) fullShare ((dats m 0 c).after 2 t) := rfl
theorem leaves3 (c : Dev nD) (t : Fin cfg0.N) : (dats m 0 c).leavesExact 3 t
    = owns (c : Thread nD τ) (st0_3 t) fullShare ((dats m 0 c).after 3 t) := rfl
theorem leaves4 (c : Dev nD) (t : Fin cfg0.N) : (dats m 0 c).leavesExact 4 t
    = owns (c : Thread nD τ) (st0_4 t) fullShare ((dats m 0 c).after 4 t) := rfl
theorem leaves7 (c : Dev nD) (t : Fin cfg0.N) : (dats m 0 c).leavesExact 7 t
    = owns (c : Thread nD τ) (st0_7 t) fullShare ((dats m 0 c).after 7 t) := rfl
theorem leaves8 (c : Dev nD) (t : Fin cfg0.N) : (dats m 0 c).leavesExact 8 t
    = owns (c : Thread nD τ) (st0_8 t) fullShare ((dats m 0 c).after 8 t) := rfl
theorem leaves5_even (c : Dev nD) (t : Fin cfg0.N) (h : t.val % 2 = 0) : (dats m 0 c).leavesExact 5 t
    = iprop(∃ d, owns (c : Thread nD τ) (st0_5 t) fullShare ((dats m 0 c).before 5 t d)) := by
  unfold Dat.leavesExact; rw [idle5_even t h, flush5_even t h]
theorem leaves5_odd (c : Dev nD) (t : Fin cfg0.N) (h : t.val % 2 = 1) : (dats m 0 c).leavesExact 5 t
    = owns (c : Thread nD τ) (st0_5 t) fullShare ((dats m 0 c).after 5 t) := by
  unfold Dat.leavesExact; rw [idle5_odd t h]
theorem leaves6_even (c : Dev nD) (t : Fin cfg0.N) (h : t.val % 2 = 0) : (dats m 0 c).leavesExact 6 t
    = owns (c : Thread nD τ) (st0_6 t) fullShare ((dats m 0 c).after 6 t) := by
  unfold Dat.leavesExact; rw [idle6_even t h]
theorem leaves6_odd (c : Dev nD) (t : Fin cfg0.N) (h : t.val % 2 = 1) : (dats m 0 c).leavesExact 6 t
    = owns (c : Thread nD τ) (st0_6 t) fullShare ((dats m 0 c).after 6 t) := by
  unfold Dat.leavesExact; rw [idle6_odd t h, (flush0_6 t).mpr h]

set_option maxHeartbeats 2000000 in
/-- The body at a tile's first point. -/
theorem sound_even (c : Dev nD) (t : Fin cfg0.N) (h : t.val % 2 = 0) :
    bodyPre m c t ⊢ wp frame (wpE (defs₀ (F := F)) Variants.none c none) Set.univ (bodyAt0 t) (fun _ => bodyPost m c t) := by
  have hr : rows m c t = k0_pay2 (iblk m c 0 t) (iblk m c 1 t) := by unfold rows; rw [head_even t h]
  unfold bodyPre bodyPost bodyAt0
  simp only [before0, before1, before2, before3, before4]
  rw [leaves0, leaves1, leaves2, leaves3, leaves4, leaves5_even m c t h, leaves6_even m c t h, leaves7, leaves8,
    after0, after1, after2, after3, after4, after6, after7, after8,
    show (dats m 0 c).owesAt () t.succ = (dats m 0 c).owesAt () t.castSucc from rfl,
    show (dats m 0 c).Φ t.castSucc = _ from between_even m c t.castSucc h,
    show (dats m 0 c).Φ t.succ = _ from between_odd m c t.succ t (by show (t.val + 1) % 2 = 1; omega) rfl]
  unfold Pipeline.ΦA part
  rw [scopedRest0_eq, hr]
  iintro ⟨⟨⟨%f, Hs⟩, Hp⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
  iapply (first c (grid0.coords t) _ _ _ _ _ _ _ _ _ _ _ (hstage0_5 ((cfg0.slots t 5).cast nbuf0_5)) _ _ _ _ _ _ _ _ ((start_iff t).mpr h) (fun e => by have := (stop_iff t).mp e; omega) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [H8]; · iexists _; iexact H8
  isplitl [Hs]
  · iexists f
    rw [owns_whole]
    iexact Hs
  iintro ⟨H0, H1, H2, H3, H4, H6, H7, H8, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body at a tile's second point. -/
theorem sound_odd (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0, before1, before2, before3, before4, before6_odd m c t h]
  rw [leaves0, leaves1, leaves2, leaves3, leaves4, leaves5_odd m c t h, leaves6_odd m c t h, leaves7, leaves8,
    after0, after1, after2, after3, after4, after5, after6, after7, after8,
    show (dats m 0 c).owesAt () t.succ = (dats m 0 c).owesAt () t.castSucc from rfl,
    show (dats m 0 c).Φ t.castSucc = _ from between_odd m c t.castSucc (head t) h (head_odd t h),
    show (dats m 0 c).Φ t.succ = _ from between_even m c t.succ (by show (t.val + 1) % 2 = 0; omega)]
  unfold Pipeline.ΦA total
  rw [scopedRest0_eq]
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (second c (grid0.coords t) _ _ _ _ _ _ _ _ _ _ _ _ _ _ _ _ _ _ _ _ (fun e => by have := (start_iff t).mp e; omega) ((stop_iff t).mpr h) (iblk m c 0 t) (iblk m c 1 t) (iblk m c 2 t) (iblk m c 3 t) (iblk m c 4 t) (rows m c t) (part m c (head t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [Hs]; · iexact Hs
  iintro ⟨H0, H1, H2, H3, H4, H5, H6, H7, H8, Hs⟩
  isplitl [Hs Hp]
  · isplitl [Hs]
    · iexists _
      rw [← owns_whole]
      iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row (t : Fin cfg0.N) : defs₀ (F := F) .tc cfg0.body (cfg0.bodyArgs t (cfg0.slots t)) = bodyAt0 t := by
  unfold defs₀; rw [Defs.onTc_tc]

/-- The body keeps its promise at every point. -/
theorem body_sound (c : Dev nD) : BodyObligation (dats (F := F) m 0 c) (defs₀ (F := F)) Variants.none () Set.univ := fun t => by
  rw [bigSep_W0, bigSep_W0, row]
  rcases Nat.mod_two_eq_zero_or_one t.val with h | h
  · exact triple_restated (sound_even m c t h) rfl .rfl fun _ => .rfl
  · exact triple_restated (sound_odd m c t h) rfl .rfl fun _ => .rfl

theorem enter (c : Dev nD) : Pipeline.ΦA spec0 c ⊢ (dats m 0 c).Φ 0 := by
  exact Eq.subst (motive := fun X => Pipeline.ΦA spec0 c ⊢ X) (between_even m c 0 rfl).symm .rfl
theorem leave (c : Dev nD) : (dats m 0 c).Φ (Fin.last cfg0.N) ⊢ Pipeline.ΦA spec0 c := by
  exact Eq.subst (motive := fun X => X ⊢ Pipeline.ΦA spec0 c) (between_even m c (Fin.last cfg0.N) (by show cfg0.N % 2 = 0; rw [show cfg0.N = 16 from N_0])).symm .rfl

set_option backward.isDefEq.respectTransparency.types false in
/-- Every run ends, with each array at what the points left and every counter at zero. -/
theorem ran : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_sound m c).loose) (hq := fun _ _ _ => rfl)
    (howed := fun _ _ => rfl) (V := V m) (hmain := hmain m Variants.none) (hA := A_eq m) (hin := enter m) (hout := leave m)

theorem ran_arrays : θ_run defs (onTc (τ := τ) (main (F := F))) (s₀ m ρ) (Pipeline.FramePost cfgs (dats m) 0 (V m)) :=
  (θ_run defs _ _).mono (fun _ h => h.1) (ran m ρ)

/-- The arguments end as they began, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (ran_arrays m ρ)) ((θ_run defs _ _).mono (fun _ h => h.2) (ran m ρ))

end Forward.FfnFwdIdeal

end
-- ==== Proof.Forward.Arrays.lean ====
/- The feed-forward kernel's four results as arrays: the normalised rows, the two projections and the residual sum. -/
module

public import proofs.«01_k».proof.Proof.Forward.BodyIdeal
public import proofs.«01_k».proof.Proof.Norm.Row
public import proofs.«01_k».proof.Proof.Ffn.Gate
public import Idealize.ShloMosaic.Lib.Pointwise

@[expose] public section

set_option maxRecDepth 16384

noncomputable section

namespace Forward.Arrays

open Cert.FfnFwdIdeal Cert.FfnFwdIdeal.Gen Forward.FfnFwdIdeal Idealize.ShloMosaic Idealize.ShloMosaic.TcCoe Idealize.ShloMosaic.Tactic
open Idealize.SL.Sem

/-! ## A tile -/

/-- A normalised entry. -/
def normed (x : Fin 1024 → EReal) (g : EReal) (k : Fin 1024) : EReal := x k * Norm.rs x * g

/-- The normalised rows. -/
def tileH (x : FVec Ideal S512x1024 .f32) (g : FVec Ideal S1x1024 .f32) : FVec Ideal S512x1024 .bf16 := fun y =>
  normed (fun n => x (ix2 (y 0) n)) (g (ix2 0 (y 1))) (y 1)

/-- Rows times a block of the weights. -/
def tileZ (h : FVec Ideal S512x1024 .bf16) (w : FVec Ideal S1024x1408 .bf16) : FVec Ideal S512x1408 .f32 := fun y =>
  ∑ n : Fin 1024, h (ix2 (y 0) n) * w (ix2 n (y 1))

theorem normed_at (x : FVec Ideal S512x1024 .f32) (g : FVec Ideal S1x1024 .f32) (r : Fin 512) (k : Fin 1024) :
    (k0_pay2 x g : FVec Ideal S512x1024 .bf16) (ix2 r k) = tileH x g (ix2 r k) := by
  unfold k0_pay2
  pointwise []
  rfl

theorem rows_unchanged (h : FVec Ideal S512x1024 .bf16) : k0_pay4 (F := Ideal) h = h := shapeCast_self _ _

theorem gate_eq (h : FVec Ideal S512x1024 .bf16) (w : FVec Ideal S1024x1408 .bf16) : k0_pay5 (F := Ideal) h w = tileZ h w := by
  funext y
  rw [ValueIdx.eq_ix2 (n0 := 512) (n1 := 1408) y]
  unfold k0_pay5
  rw [rows_unchanged]
  pointwise []
  rfl

theorem up_eq (h : FVec Ideal S512x1024 .bf16) (w : FVec Ideal S1024x1408 .bf16) : k0_pay6 (F := Ideal) h w = tileZ h w := by
  funext y
  rw [ValueIdx.eq_ix2 (n0 := 512) (n1 := 1408) y]
  unfold k0_pay6
  rw [rows_unchanged]
  pointwise []
  rfl

/-- A block's share of the down projection, added to the sum so far. -/
theorem add_at (h : FVec Ideal S512x1024 .bf16) (wg wu : FVec Ideal S1024x1408 .bf16) (s : FVec Ideal S512x1024 .f32) (wo : FVec Ideal S1408x1024 .bf16)
    (r : Fin 512) (k : Fin 1024) : (k0_pay9 h wg wu s wo : FVec Ideal S512x1024 .f32) (ix2 r k)
      = s (ix2 r k) + ∑ n : Fin 1408, Ffn.act (tileZ h wg (ix2 r n)) (tileZ h wu (ix2 r n)) * wo (ix2 n k) := by
  unfold k0_pay9
  rw [gate_eq, up_eq]
  generalize tileZ h wg = p
  generalize tileZ h wu = q
  pointwise []
  rfl

theorem zero_at (y : S512x1024.Idx) : (k0_pay3 : FVec Ideal S512x1024 .f32) y = 0 := by
  rw [ValueIdx.eq_ix2 (n0 := 512) (n1 := 1024) y]
  unfold k0_pay3
  pointwise []

theorem sum_at (x a : FVec Ideal S512x1024 .f32) (r : Fin 512) (k : Fin 1024) :
    (k0_pay1 x a : FVec Ideal S512x1024 .f32) (ix2 r k) = x (ix2 r k) + Ffn.half * a (ix2 r k) := by
  unfold k0_pay1
  pointwise []

/-! ## The arrays -/

variable (m : (ℓ : Loc nD τ sig) → Buf (Elt Ideal) ℓ) (c : Dev nD)

/-- The arguments: the rows, their gain, the weights of the gate and of the linear half side by side, and the weights back. -/
abbrev argX : FVec Ideal S4096x1024 .f32 := m ((c.tc : Thread nD τ).loc main_arg0)
abbrev argG : FVec Ideal S1x1024 .f32 := m ((c.tc : Thread nD τ).loc main_arg1)
abbrev argW : FVec Ideal S1024x5632 .bf16 := m ((c.tc : Thread nD τ).loc main_arg2)
abbrev argO : FVec Ideal S2816x1024 .bf16 := m ((c.tc : Thread nD τ).loc main_arg3)

abbrev blkX (t : Fin cfg0.N) : FVec Ideal S512x1024 .f32 := iblk m c 0 t
abbrev blkG (t : Fin cfg0.N) : FVec Ideal S1x1024 .f32 := iblk m c 1 t
abbrev blkA (t : Fin cfg0.N) : FVec Ideal S1024x1408 .bf16 := iblk m c 2 t
abbrev blkB (t : Fin cfg0.N) : FVec Ideal S1024x1408 .bf16 := iblk m c 3 t
abbrev blkO (t : Fin cfg0.N) : FVec Ideal S1408x1024 .bf16 := iblk m c 4 t

/-- The normalised rows. -/
def resH : FVec Ideal S4096x1024 .bf16 := fun y => normed (fun n => argX m c (ix2 (y 0) n)) (argG m c (ix2 0 (y 1))) (y 1)

/-- An entry of their projection. -/
def proj (r : Fin 4096) (q : Fin 5632) : EReal := ∑ n : Fin 1024, resH m c (ix2 r n) * argW m c (ix2 n q)

/-- The gate and the linear half. -/
def resG : FVec Ideal S4096x2816 .bf16 := fun y => proj m c (y 0) ⟨(y 1).val, by have h : (y 1).val < 2816 := (y 1).isLt; omega⟩
def resU : FVec Ideal S4096x2816 .bf16 := fun y => proj m c (y 0) ⟨2816 + (y 1).val, by have h : (y 1).val < 2816 := (y 1).isLt; omega⟩

/-- One unit's share of an entry of the output. -/
def term (r : Fin 4096) (k : Fin 1024) (n : Fin 2816) : EReal :=
  Ffn.act (resG m c (ix2 r n)) (resU m c (ix2 r n)) * argO m c (ix2 n k)

/-- The residual sum. -/
def resO : FVec Ideal S4096x1024 .f32 := fun y =>
  argX m c (ix2 (y 0) (y 1)) + Ffn.half * ∑ n : Fin 2816, term m c (y 0) (y 1) n

theorem lt16 (t : Fin cfg0.N) : t.val < 16 := by
  have h : cfg0.N = 16 := N_0
  have := t.isLt
  omega

/-- The row of the whole array a tile's row is, and the column a block's column is. -/
abbrev rowOf (t : Fin cfg0.N) (r : Fin 512) : Fin 4096 := ⟨512 * (t.val / 2) + r.val, by have := lt16 t; omega⟩
abbrev colOf (t : Fin cfg0.N) (k : Fin 1408) : Fin 2816 := ⟨1408 * (t.val % 2) + k.val, by omega⟩

theorem rowOf_head (t : Fin cfg0.N) (r : Fin 512) : rowOf (head t) r = rowOf t r :=
  Fin.ext (by show 512 * (t.val / 2 * 2 / 2) + r.val = 512 * (t.val / 2) + r.val; omega)

theorem index0 : ∀ t : Fin grid0.N, win0_0.index t 0 = t.val / 2 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 2 := by decide +kernel
theorem index3 : ∀ t : Fin grid0.N, win0_3.index t 0 = 0 ∧ win0_3.index t 1 = t.val % 2 + 2 := by decide +kernel
theorem index4 : ∀ t : Fin grid0.N, win0_4.index t 0 = t.val % 2 ∧ win0_4.index t 1 = 0 := by decide +kernel
theorem index5 : ∀ t : Fin grid0.N, win0_5.index t 0 = t.val / 2 ∧ win0_5.index t 1 = 0 := by decide +kernel
theorem index6 : ∀ t : Fin grid0.N, win0_6.index t 0 = t.val / 2 ∧ win0_6.index t 1 = 0 := by decide +kernel
theorem index7 : ∀ t : Fin grid0.N, win0_7.index t 0 = t.val / 2 ∧ win0_7.index t 1 = t.val % 2 := by decide +kernel
theorem index8 : ∀ t : Fin grid0.N, win0_8.index t 0 = t.val / 2 ∧ win0_8.index t 1 = t.val % 2 := by decide +kernel

theorem blkX_at (t : Fin cfg0.N) (r : Fin 512) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * (t.val / 2) + r.val; rw [(index0 t).1]; omega
  | ⟨1, _⟩ => show win0_0.index t 1 * 1024 + 1 * k.val = k.val; rw [(index0 t).2]; omega

theorem blkG_at (t : Fin cfg0.N) (r : Fin 1) (k : Fin 1024) : blkG m c t (ix2 r k) = argG m c (ix2 r k) := by
  unfold blkG iblk
  rw [View.read_apply]
  show V m c main_arg1 _ = m _ _
  unfold V
  congr 1
  funext a
  apply Fin.ext
  match a with
  | ⟨0, _⟩ => show win0_1.index t 0 * 1 + 1 * r.val = r.val; rw [(index1 t).1]; omega
  | ⟨1, _⟩ => show win0_1.index t 1 * 1024 + 1 * k.val = k.val; rw [(index1 t).2]; omega

theorem blkA_at (t : Fin cfg0.N) (r : Fin 1024) (k : Fin 1408) : blkA m c t (ix2 r k) = argW m c (ix2 r ⟨(colOf t k).val, by have := (colOf t k).isLt; omega⟩) := by
  unfold blkA iblk
  rw [View.read_apply]
  show V m c main_arg2 _ = m _ _
  unfold V
  congr 1
  funext a
  apply Fin.ext
  match a with
  | ⟨0, _⟩ => show win0_2.index t 0 * 1024 + 1 * r.val = r.val; rw [(index2 t).1]; omega
  | ⟨1, _⟩ => show win0_2.index t 1 * 1408 + 1 * k.val = 1408 * (t.val % 2) + k.val; rw [(index2 t).2]; omega

theorem blkB_at (t : Fin cfg0.N) (r : Fin 1024) (k : Fin 1408) : blkB m c t (ix2 r k) = argW m c (ix2 r ⟨2816 + (colOf t k).val, by have := (colOf t k).isLt; omega⟩) := by
  unfold blkB iblk
  rw [View.read_apply]
  show V m c main_arg2 _ = m _ _
  unfold V
  congr 1
  funext a
  apply Fin.ext
  match a with
  | ⟨0, _⟩ => show win0_3.index t 0 * 1024 + 1 * r.val = r.val; rw [(index3 t).1]; omega
  | ⟨1, _⟩ => show win0_3.index t 1 * 1408 + 1 * k.val = 2816 + (1408 * (t.val % 2) + k.val); rw [(index3 t).2]; omega

theorem blkO_at (t : Fin cfg0.N) (r : Fin 1408) (k : Fin 1024) : blkO m c t (ix2 r k) = argO m c (ix2 (colOf t r) k) := by
  unfold blkO iblk
  rw [View.read_apply]
  show V m c main_arg3 _ = m _ _
  unfold V
  congr 1
  funext a
  apply Fin.ext
  match a with
  | ⟨0, _⟩ => show win0_4.index t 0 * 1408 + 1 * r.val = 1408 * (t.val % 2) + r.val; rw [(index4 t).1]; omega
  | ⟨1, _⟩ => show win0_4.index t 1 * 1024 + 1 * k.val = k.val; rw [(index4 t).2]; omega

theorem rows_at (t : Fin cfg0.N) (r : Fin 512) (k : Fin 1024) : rows m c t (ix2 r k) = resH m c (ix2 (rowOf t r) k) := by
  refine (normed_at (blkX m c (head t)) (blkG m c (head t)) r k).trans ?_
  rw [← rowOf_head t r]
  exact congrArg₂ (fun x g => normed x g k) (funext fun n => blkX_at m c (head t) r n) (blkG_at m c (head t) 0 k)

theorem gate_at (t : Fin cfg0.N) (r : Fin 512) (k : Fin 1408) :
    tileZ (rows m c t) (blkA m c t) (ix2 r k) = resG m c (ix2 (rowOf t r) (colOf t k)) :=
  Finset.sum_congr rfl fun n _ => congrArg₂ (· * ·) (rows_at m c t r n) (blkA_at m c t n k)

theorem up_at (t : Fin cfg0.N) (r : Fin 512) (k : Fin 1408) :
    tileZ (rows m c t) (blkB m c t) (ix2 r k) = resU m c (ix2 (rowOf t r) (colOf t k)) :=
  Finset.sum_congr rfl fun n _ => congrArg₂ (· * ·) (rows_at m c t r n) (blkB_at m c t n k)

/-- A block's share of the down projection. -/
theorem share_at (t : Fin cfg0.N) (s : FVec Ideal S512x1024 .f32) (r : Fin 512) (k : Fin 1024) :
    (k0_pay9 (rows m c t) (blkA m c t) (blkB m c t) s (blkO m c t) : FVec Ideal S512x1024 .f32) (ix2 r k)
      = s (ix2 r k) + ∑ n : Fin 1408, term m c (rowOf t r) k (colOf t n) :=
  (add_at _ _ _ _ _ r k).trans (congrArg (s (ix2 r k) + ·) (Finset.sum_congr rfl fun n _ =>
    congrArg₂ (· * ·) (congrArg₂ Ffn.act (gate_at m c t r n) (up_at m c t r n)) (blkO_at m c t n k)))

theorem part_at (t : Fin cfg0.N) (r : Fin 512) (k : Fin 1024) :
    part m c t (ix2 r k) = ∑ n : Fin 1408, term m c (rowOf t r) k (colOf t n) := by
  refine (share_at m c t _ r k).trans ?_
  rw [zero_at, zero_add]

/-- The two halves make the whole sum. -/
theorem total_at (t : Fin cfg0.N) (h : t.val % 2 = 1) (r : Fin 512) (k : Fin 1024) :
    total m c t (ix2 r k) = ∑ n : Fin 2816, term m c (rowOf t r) k n := by
  refine (share_at m c t _ r k).trans ?_
  rw [part_at, rowOf_head]
  refine Eq.trans ?_ (Fin.sum_univ_add (a := 1408) (b := 1408) (term m c (rowOf t r) k)).symm
  refine congrArg₂ (· + ·) (Finset.sum_congr rfl fun n _ => congrArg _ (Fin.ext ?_)) (Finset.sum_congr rfl fun n _ => congrArg _ (Fin.ext ?_))
  · show 1408 * (t.val / 2 * 2 % 2) + n.val = n.val
    omega
  · show 1408 * (t.val % 2) + n.val = 1408 + n.val
    omega

theorem out_at (t : Fin cfg0.N) (h : t.val % 2 = 1) (r : Fin 512) (k : Fin 1024) :
    (k0_pay1 (blkX m c t) (total m c t) : FVec Ideal S512x1024 .f32) (ix2 r k) = resO m c (ix2 (rowOf t r) k) :=
  (sum_at _ _ r k).trans (congrArg₂ (fun a b => a + Ffn.half * b) (blkX_at m c t r k) (total_at m c t h r k))

theorem zg_at (t : Fin cfg0.N) (r : Fin 512) (k : Fin 1408) :
    (k0_pay7 (rows m c t) (blkA m c t) : FVec Ideal S512x1408 .bf16) (ix2 r k) = resG m c (ix2 (rowOf t r) (colOf t k)) :=
  (congrFun (gate_eq (rows m c t) (blkA m c t)) (ix2 r k)).trans (gate_at m c t r k)

theorem zu_at (t : Fin cfg0.N) (r : Fin 512) (k : Fin 1408) :
    (k0_pay8 (rows m c t) (blkB m c t) : FVec Ideal S512x1408 .bf16) (ix2 r k) = resU m c (ix2 (rowOf t r) (colOf t k)) :=
  (congrFun (up_eq (rows m c t) (blkB m c t)) (ix2 r k)).trans (up_at m c t r k)

theorem final_o : (dats m 0 c).arrAt 5 cfg0.N = resO m c :=
  (dats m 0 c).arrAt_eq_of_cover 5 (resO m c)
    (fun t hf => by
      show (cfg0.win 5).cut (grid0.coords t) ((dats m 0 c).after 5 t) = _
      rw [after5]
      funext j
      rw [View.read_apply]
      have e : ((cfg0.win 5).blk t).view.emb j = (ix2 (rowOf t (j 0)) (j 1) : S4096x1024.Idx) := by
        funext a
        apply Fin.ext
        match a with
        | ⟨0, _⟩ => show win0_5.index t 0 * 512 + 1 * (j 0).val = 512 * (t.val / 2) + (j 0).val; rw [(index5 t).1]; omega
        | ⟨1, _⟩ => show win0_5.index t 1 * 1024 + 1 * (j 1).val = (j 1).val; rw [(index5 t).2]; omega
      rw [e]
      exact (congrArg ((k0_pay1 (blkX m c t) (total m c t) : FVec Ideal S512x1024 .f32)) (ValueIdx.eq_ix2 (n0 := 512) (n1 := 1024) j)).trans (out_at m c t ((flush0_5 t).mp hf) (j 0) (j 1)))
    (fun i => by
      have h0 : (i 0 : ℕ) < 4096 := (i 0).isLt
      have h1 : (i 1 : ℕ) < 1024 := (i 1).isLt
      have hN : cfg0.N = 16 := N_0
      have hp : (i 0 : ℕ) / 512 * 2 + 1 < cfg0.N := by omega
      refine ⟨⟨(i 0 : ℕ) / 512 * 2 + 1, hp⟩, (flush0_5 _).mpr (by show ((i 0 : ℕ) / 512 * 2 + 1) % 2 = 1; omega), ?_⟩
      show (i : S4096x1024.Idx) ∈ ((View.whole main_v0_0).slice (win0_5.rect ⟨(i 0 : ℕ) / 512 * 2 + 1, hp⟩)).set
      rw [View.set_slice_whole, Rect.mem_set_unit]
      intro a
      match a with
      | ⟨0, _⟩ =>
        show win0_5.index _ 0 * 512 ≤ (i 0 : ℕ) ∧ (i 0 : ℕ) < win0_5.index _ 0 * 512 + 512
        rw [(index5 _).1]; dsimp only; omega
      | ⟨1, _⟩ =>
        show win0_5.index _ 1 * 1024 ≤ (i 1 : ℕ) ∧ (i 1 : ℕ) < win0_5.index _ 1 * 1024 + 1024
        rw [(index5 _).2]; dsimp only; omega)

theorem final_h : (dats m 0 c).arrAt 6 cfg0.N = resH m c :=
  (dats m 0 c).arrAt_eq_of_cover 6 (resH m c)
    (fun t hf => by
      show (cfg0.win 6).cut (grid0.coords t) ((dats m 0 c).after 6 t) = _
      rw [after6]
      funext j
      rw [View.read_apply]
      have e : ((cfg0.win 6).blk t).view.emb j = (ix2 (rowOf t (j 0)) (j 1) : S4096x1024.Idx) := by
        funext a
        apply Fin.ext
        match a with
        | ⟨0, _⟩ => show win0_6.index t 0 * 512 + 1 * (j 0).val = 512 * (t.val / 2) + (j 0).val; rw [(index6 t).1]; omega
        | ⟨1, _⟩ => show win0_6.index t 1 * 1024 + 1 * (j 1).val = (j 1).val; rw [(index6 t).2]; omega
      rw [e]
      exact (congrArg ((rows m c t : FVec Ideal S512x1024 .bf16)) (ValueIdx.eq_ix2 (n0 := 512) (n1 := 1024) j)).trans (rows_at m c t (j 0) (j 1)))
    (fun i => by
      have h0 : (i 0 : ℕ) < 4096 := (i 0).isLt
      have h1 : (i 1 : ℕ) < 1024 := (i 1).isLt
      have hN : cfg0.N = 16 := N_0
      have hp : (i 0 : ℕ) / 512 * 2 + 1 < cfg0.N := by omega
      refine ⟨⟨(i 0 : ℕ) / 512 * 2 + 1, hp⟩, (flush0_6 _).mpr (by show ((i 0 : ℕ) / 512 * 2 + 1) % 2 = 1; omega), ?_⟩
      show (i : S4096x1024.Idx) ∈ ((View.whole main_v0_1).slice (win0_6.rect ⟨(i 0 : ℕ) / 512 * 2 + 1, hp⟩)).set
      rw [View.set_slice_whole, Rect.mem_set_unit]
      intro a
      match a with
      | ⟨0, _⟩ =>
        show win0_6.index _ 0 * 512 ≤ (i 0 : ℕ) ∧ (i 0 : ℕ) < win0_6.index _ 0 * 512 + 512
        rw [(index6 _).1]; dsimp only; omega
      | ⟨1, _⟩ =>
        show win0_6.index _ 1 * 1024 ≤ (i 1 : ℕ) ∧ (i 1 : ℕ) < win0_6.index _ 1 * 1024 + 1024
        rw [(index6 _).2]; dsimp only; omega)

theorem final_g : (dats m 0 c).arrAt 7 cfg0.N = resG m c :=
  (dats m 0 c).arrAt_eq_of_cover 7 (resG m c)
    (fun t hf => by
      show (cfg0.win 7).cut (grid0.coords t) ((dats m 0 c).after 7 t) = _
      rw [after7]
      funext j
      rw [View.read_apply]
      have e : ((cfg0.win 7).blk t).view.emb j = (ix2 (rowOf t (j 0)) (colOf t (j 1)) : S4096x2816.Idx) := by
        funext a
        apply Fin.ext
        match a with
        | ⟨0, _⟩ => show win0_7.index t 0 * 512 + 1 * (j 0).val = 512 * (t.val / 2) + (j 0).val; rw [(index7 t).1]; omega
        | ⟨1, _⟩ => show win0_7.index t 1 * 1408 + 1 * (j 1).val = 1408 * (t.val % 2) + (j 1).val; rw [(index7 t).2]; omega
      rw [e]
      exact (congrArg ((k0_pay7 (rows m c t) (blkA m c t) : FVec Ideal S512x1408 .bf16)) (ValueIdx.eq_ix2 (n0 := 512) (n1 := 1408) j)).trans (zg_at m c t (j 0) (j 1)))
    (fun i => by
      have h0 : (i 0 : ℕ) < 4096 := (i 0).isLt
      have h1 : (i 1 : ℕ) < 2816 := (i 1).isLt
      have hN : cfg0.N = 16 := N_0
      have hp : (i 0 : ℕ) / 512 * 2 + (i 1 : ℕ) / 1408 < cfg0.N := by omega
      refine ⟨⟨(i 0 : ℕ) / 512 * 2 + (i 1 : ℕ) / 1408, hp⟩, flush0_7 _, ?_⟩
      show (i : S4096x2816.Idx) ∈ ((View.whole main_v0_2).slice (win0_7.rect ⟨(i 0 : ℕ) / 512 * 2 + (i 1 : ℕ) / 1408, hp⟩)).set
      rw [View.set_slice_whole, Rect.mem_set_unit]
      intro a
      match a with
      | ⟨0, _⟩ =>
        show win0_7.index _ 0 * 512 ≤ (i 0 : ℕ) ∧ (i 0 : ℕ) < win0_7.index _ 0 * 512 + 512
        rw [(index7 _).1]; dsimp only; omega
      | ⟨1, _⟩ =>
        show win0_7.index _ 1 * 1408 ≤ (i 1 : ℕ) ∧ (i 1 : ℕ) < win0_7.index _ 1 * 1408 + 1408
        rw [(index7 _).2]; dsimp only; omega)

theorem final_u : (dats m 0 c).arrAt 8 cfg0.N = resU m c :=
  (dats m 0 c).arrAt_eq_of_cover 8 (resU m c)
    (fun t hf => by
      show (cfg0.win 8).cut (grid0.coords t) ((dats m 0 c).after 8 t) = _
      rw [after8]
      funext j
      rw [View.read_apply]
      have e : ((cfg0.win 8).blk t).view.emb j = (ix2 (rowOf t (j 0)) (colOf t (j 1)) : S4096x2816.Idx) := by
        funext a
        apply Fin.ext
        match a with
        | ⟨0, _⟩ => show win0_8.index t 0 * 512 + 1 * (j 0).val = 512 * (t.val / 2) + (j 0).val; rw [(index8 t).1]; omega
        | ⟨1, _⟩ => show win0_8.index t 1 * 1408 + 1 * (j 1).val = 1408 * (t.val % 2) + (j 1).val; rw [(index8 t).2]; omega
      rw [e]
      exact (congrArg ((k0_pay8 (rows m c t) (blkB m c t) : FVec Ideal S512x1408 .bf16)) (ValueIdx.eq_ix2 (n0 := 512) (n1 := 1408) j)).trans (zu_at m c t (j 0) (j 1)))
    (fun i => by
      have h0 : (i 0 : ℕ) < 4096 := (i 0).isLt
      have h1 : (i 1 : ℕ) < 2816 := (i 1).isLt
      have hN : cfg0.N = 16 := N_0
      have hp : (i 0 : ℕ) / 512 * 2 + (i 1 : ℕ) / 1408 < cfg0.N := by omega
      refine ⟨⟨(i 0 : ℕ) / 512 * 2 + (i 1 : ℕ) / 1408, hp⟩, flush0_8 _, ?_⟩
      show (i : S4096x2816.Idx) ∈ ((View.whole main_v0_3).slice (win0_8.rect ⟨(i 0 : ℕ) / 512 * 2 + (i 1 : ℕ) / 1408, hp⟩)).set
      rw [View.set_slice_whole, Rect.mem_set_unit]
      intro a
      match a with
      | ⟨0, _⟩ =>
        show win0_8.index _ 0 * 512 ≤ (i 0 : ℕ) ∧ (i 0 : ℕ) < win0_8.index _ 0 * 512 + 512
        rw [(index8 _).1]; dsimp only; omega
      | ⟨1, _⟩ =>
        show win0_8.index _ 1 * 1408 ≤ (i 1 : ℕ) ∧ (i 1 : ℕ) < win0_8.index _ 1 * 1408 + 1408
        rw [(index8 _).2]; dsimp only; omega)

end Forward.Arrays

end
-- ==== Proof.Forward.Reference.lean ====
/- The feed-forward reference's four results, entry by entry, and that they are the kernel's. -/
module

public import proofs.«01_k».proof.Proof.Forward.Arrays
public import proofs.«01_k».proof.Proof.Gen.FfnFwdRefIdeal.Run

@[expose] public section

set_option maxRecDepth 16384

noncomputable section

namespace Forward.Reference

open Cert.FfnFwdRefIdeal Cert.FfnFwdRefIdeal.Gen Idealize.ShloMosaic Idealize.ShloMosaic.TcCoe

variable (X : FVec Ideal S4096x1024 .f32) (G : FVec Ideal S1x1024 .f32) (W : FVec Ideal S1024x5632 .bf16) (O : FVec Ideal S2816x1024 .bf16)

/-- Every row's scale. -/
def scale : FVec Ideal S4096x1 .f32 :=
  Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

def rows (R : FVec Ideal S4096x1 .f32) : FVec Ideal S4096x1024 .f32 :=
  mulf (mulf X (broadcastInDim S4096x1024 ![0, 1] bcast_S4096x1_S4096x1024_0_1 R)) (broadcastInDim S4096x1024 ![0, 1] bcast_S1x1024_S4096x1024_0_1 G)

/-- Rows times both weights, then its halves. -/
def prod (H : FVec Ideal S4096x1024 .f32) : FVec Ideal S4096x5632 .f32 :=
  Host.dotGeneral dot_S4096x1024_S1024x5632_S4096x5632_1_0_0_1_n_n none H (extf .f32 W bitsLt_bf16_f32)

def lower (P : FVec Ideal S4096x5632 .f32) : FVec Ideal S4096x2816 .f32 := extractStridedSlice S4096x2816 ![0, 0] P slices_S4096x5632_S4096x2816_0_0
def upper (P : FVec Ideal S4096x5632 .f32) : FVec Ideal S4096x2816 .f32 := extractStridedSlice S4096x2816 ![0, 2816] P slices_S4096x5632_S4096x2816_0_2816

/-- The gated unit. -/
def unit (A B : FVec Ideal S4096x2816 .f32) : FVec Ideal S4096x2816 .f32 :=
  mulf (mulf A (Host.divf (broadcastInDim S4096x2816 ![] bcast_S_S4096x2816 (constant S_ .f32 0x3F800000#32)) (addf (broadcastInDim S4096x2816 ![] bcast_S_S4096x2816 (constant S_ .f32 0x3F800000#32)) (Host.exp (Host.negf A))))) B

/-- The residual sum. -/
def back (U : FVec Ideal S4096x2816 .f32) : FVec Ideal S4096x1024 .f32 :=
  addf X (mulf (broadcastInDim S4096x1024 ![] bcast_S_S4096x1024 (constant S_ .f32 0x3F000000#32)) (Host.dotGeneral dot_S4096x2816_S2816x1024_S4096x1024_1_0_0_1_n_n none U (extf .f32 O bitsLt_bf16_f32)))

/-- The product. -/
def both : FVec Ideal S4096x5632 .f32 := prod W (rows X G (scale X))

def outO : FVec Ideal S4096x1024 .f32 := back X O (unit (lower (both X G W)) (upper (both X G W)))
def outH : FVec Ideal S4096x1024 .bf16 := truncf .bf16 (rows X G (scale X)) bitsLt_bf16_f32
def outG : FVec Ideal S4096x2816 .bf16 := truncf .bf16 (lower (both X G W)) bitsLt_bf16_f32
def outU : FVec Ideal S4096x2816 .bf16 := truncf .bf16 (upper (both X G W)) bitsLt_bf16_f32

theorem scale_at (r : Fin 4096) : scale X (ix2 r 0) = Norm.rs (fun k : Fin 1024 => X (ix2 r k)) := by
  unfold scale
  pointwise []
  rfl

theorem rows_at (R : FVec Ideal S4096x1 .f32) (r : Fin 4096) (k : Fin 1024) : rows X G R (ix2 r k) = X (ix2 r k) * R (ix2 r 0) * G (ix2 0 k) := by
  unfold rows
  pointwise []

theorem prod_at (H : FVec Ideal S4096x1024 .f32) (r : Fin 4096) (k : Fin 5632) : prod W H (ix2 r k) = ∑ n : Fin 1024, H (ix2 r n) * W (ix2 n k) := by
  unfold prod
  pointwise []

theorem lower_at (P : FVec Ideal S4096x5632 .f32) (r : Fin 4096) (k : Fin 2816) : lower P (ix2 r k) = P (ix2 r ⟨k.val, by omega⟩) := by
  unfold lower
  exact extractStridedSlice_apply ![0, 0] P slices_S4096x5632_S4096x2816_0_0 (ix2 r k) (ix2 r ⟨k.val, by omega⟩) fun a => by
    match a with
    | ⟨0, _⟩ => show r.val = 0 + r.val; omega
    | ⟨1, _⟩ => show k.val = 0 + k.val; omega

theorem upper_at (P : FVec Ideal S4096x5632 .f32) (r : Fin 4096) (k : Fin 2816) : upper P (ix2 r k) = P (ix2 r ⟨2816 + k.val, by omega⟩) := by
  unfold upper
  exact extractStridedSlice_apply ![0, 2816] P slices_S4096x5632_S4096x2816_0_2816 (ix2 r k) (ix2 r ⟨2816 + k.val, by omega⟩) fun a => by
    match a with
    | ⟨0, _⟩ => show r.val = 0 + r.val; omega
    | ⟨1, _⟩ => show 2816 + k.val = 2816 + k.val; rfl

theorem unit_at (A B : FVec Ideal S4096x2816 .f32) (r : Fin 4096) (k : Fin 2816) :
    unit A B (ix2 r k) = Ffn.act (A (ix2 r k)) (B (ix2 r k)) := by
  unfold unit Ffn.act
  rw [Ffn.gsig_eq]
  unfold Ffn.logi
  rw [Ffn.one_one]
  pointwise []

theorem back_at (U : FVec Ideal S4096x2816 .f32) (r : Fin 4096) (k : Fin 1024) :
    back X O U (ix2 r k) = X (ix2 r k) + Ffn.half * ∑ n : Fin 2816, U (ix2 r n) * O (ix2 n k) := by
  unfold back
  pointwise []

theorem normed_at (r : Fin 4096) (k : Fin 1024) :
    rows X G (scale X) (ix2 r k) = Arrays.normed (fun n : Fin 1024 => X (ix2 r n)) (G (ix2 0 k)) k := by
  rw [rows_at, scale_at]
  rfl

variable (m : (ℓ : Loc Cert.FfnFwdIdeal.nD Cert.FfnFwdIdeal.τ Cert.FfnFwdIdeal.sig) → Buf (Elt Ideal) ℓ) (c : Dev Cert.FfnFwdIdeal.nD)

theorem outH_match : outH (Arrays.argX m c) (Arrays.argG m c) = Arrays.resH m c := by
  funext y
  obtain ⟨r, k, rfl⟩ : ∃ (r : Fin 4096) (k : Fin 1024), y = ix2 r k := ⟨y 0, y 1, ValueIdx.eq_ix2 y⟩
  exact normed_at _ _ r k

theorem both_match (r : Fin 4096) (q : Fin 5632) :
    both (Arrays.argX m c) (Arrays.argG m c) (Arrays.argW m c) (ix2 r q) = Arrays.proj m c r q := by
  refine (prod_at _ _ r q).trans ?_
  exact Finset.sum_congr rfl fun n _ => congrArg (· * _) (normed_at _ _ r n)

theorem lower_match (r : Fin 4096) (k : Fin 2816) :
    lower (both (Arrays.argX m c) (Arrays.argG m c) (Arrays.argW m c)) (ix2 r k) = Arrays.resG m c (ix2 r k) :=
  (lower_at _ r k).trans (both_match m c r _)

theorem upper_match (r : Fin 4096) (k : Fin 2816) :
    upper (both (Arrays.argX m c) (Arrays.argG m c) (Arrays.argW m c)) (ix2 r k) = Arrays.resU m c (ix2 r k) :=
  (upper_at _ r k).trans (both_match m c r _)

theorem outG_match : outG (Arrays.argX m c) (Arrays.argG m c) (Arrays.argW m c) = Arrays.resG m c := by
  funext y
  obtain ⟨r, k, rfl⟩ : ∃ (r : Fin 4096) (k : Fin 2816), y = ix2 r k := ⟨y 0, y 1, ValueIdx.eq_ix2 y⟩
  exact lower_match m c r k

theorem outU_match : outU (Arrays.argX m c) (Arrays.argG m c) (Arrays.argW m c) = Arrays.resU m c := by
  funext y
  obtain ⟨r, k, rfl⟩ : ∃ (r : Fin 4096) (k : Fin 2816), y = ix2 r k := ⟨y 0, y 1, ValueIdx.eq_ix2 y⟩
  exact upper_match m c r k

theorem outO_match : outO (Arrays.argX m c) (Arrays.argG m c) (Arrays.argW m c) (Arrays.argO m c) = Arrays.resO m c := by
  funext y
  obtain ⟨r, k, rfl⟩ : ∃ (r : Fin 4096) (k : Fin 1024), y = ix2 r k := ⟨y 0, y 1, ValueIdx.eq_ix2 y⟩
  refine (back_at _ _ _ r k).trans ?_
  refine congrArg (fun s => Arrays.argX m c (ix2 r k) + Ffn.half * s) (Finset.sum_congr rfl fun n _ => congrArg (· * _) ?_)
  exact (unit_at _ _ r n).trans (congrArg₂ Ffn.act (lower_match m c r n) (upper_match m c r n))

end Forward.Reference

end
-- ==== Proof.Attn.Forward.lean ====
/- The attention between its projections, forward: a grid point takes 512 rows, head after head; the reference takes all
   rows at once. -/
module

public import proofs.«01_k».proof.Proof.Attn.Tile
public import proofs.«01_k».proof.Proof.Attn.Grad
public import proofs.«01_k».proof.Proof.Gen.AttnFwdIdeal.Value
public import Idealize.ShloMosaic.Lib.Pointwise

@[expose] public section

set_option maxRecDepth 16384

noncomputable section

namespace Attn

/-- The output at row `r` and column `c`: the values of the column's head, weighted by the row's probabilities. -/
def outAt {n : ℕ} (Q : Mat n) (K V : Mat 256) (r : Fin n) (c : Fin 1024) : EReal := ∑ m, prob (scoreRow Q K c r) m * V m c

/-- It depends on no other row. -/
theorem outAt_congr {n n' : ℕ} {Q : Mat n} {Q' : Mat n'} (K V : Mat 256) (k : Fin 1024) (r : Fin n) (r' : Fin n')
    (hq : Q r = Q' r') : outAt Q K V r k = outAt Q' K V r' k := by
  unfold outAt scoreRow
  rw [hq]

end Attn

namespace Attn.Fwd

open Cert.AttnFwdIdeal Cert.AttnFwdIdeal.Gen Cert.AttnFwdIdeal.Value Idealize.ShloMosaic Idealize.ShloMosaic.TcCoe Idealize.ShloMosaic.Tactic
open Idealize.SL.Sem

/-! ## A head's block -/

/-- A head's output, at a row and a column of the head. -/
def headAt (q : FVec Ideal S512x256 .bf16) (k v : FVec Ideal S256x256 .f32) (r : Fin 512) (d : Fin 256) : EReal :=
  ∑ m, prob (score (fun x => q (ix2 r x)) fun j x => k (ix2 j x)) m * v (ix2 m d)

section Payload

variable (q : FVec Ideal S512x256 .bf16) (k v : FVec Ideal S256x256 .f32) (r : Fin 512) (d : Fin 256)

theorem head0 : (k0_pay2 q k v : FVec Ideal S512x256 .bf16) (ix2 r d) = headAt q k v r d := by
  pointwise [k0_pay2]
  rfl

theorem head1 : (k0_pay4 (k0_pay3 q k) v : FVec Ideal S512x256 .bf16) (ix2 r d) = headAt q k v r d := by
  pointwise [k0_pay4, k0_pay3]
  rfl

theorem head2 : (k0_pay5 q k v : FVec Ideal S512x256 .bf16) (ix2 r d) = headAt q k v r d := by
  pointwise [k0_pay5]
  rfl

theorem head3 : (k0_pay1 (k0_pay6 q k) (k0_pay7 q k) v : FVec Ideal S512x256 .bf16) (ix2 r d) = headAt q k v r d := by
  pointwise [k0_pay1, k0_pay7, k0_pay6]
  rfl

end Payload

/-! ## A tile -/

/-- The tile's rows of the output. -/
def tile (x0 : FVec Ideal S512x1024 .bf16) (x1 x2 : FVec Ideal S256x1024 .f32) : FVec Ideal S512x1024 .bf16 := fun y =>
  outAt (mat x0) (mat x1) (mat x2) (y 0) (y 1)

/-- A head's block is the tile's. -/
theorem head_tile (x0 : FVec Ideal S512x1024 .bf16) (x1 x2 : FVec Ideal S256x1024 .f32) (o : ℕ) (ho : o % 256 = 0) (hb : o + 256 ≤ 1024)
    (i512 : ∀ a, (![0, o] : Fin 2 → ℕ) a + (![512, 256] : Fin 2 → ℕ) a ≤ S512x1024.size a)
    (i256 : ∀ a, (![0, o] : Fin 2 → ℕ) a + (![256, 256] : Fin 2 → ℕ) a ≤ S256x1024.size a) (r : Fin 512) (d : Fin 256) :
    headAt (ldQ o i512 x0) (ldM o i256 x1) (ldM o i256 x2) r d = tile x0 x1 x2 (ix2 r ⟨o + d.val, by omega⟩) := by
  show _ = outAt (mat x0) (mat x1) (mat x2) r ⟨o + d.val, _⟩
  unfold headAt outAt
  refine Finset.sum_congr rfl fun m _ => ?_
  have e := scores_ld x0 x1 o ho hb i512 i256 r d
  exact congrArg₂ (· * ·) (congrArg (fun s : Row => prob s m) e) (ldM_at o hb i256 x2 m d)

theorem out_eq (x0 : FVec Ideal S512x1024 .bf16) (x1 x2 : FVec Ideal S256x1024 .f32) : out0_3 (F := Ideal) x0 x1 x2 = tile x0 x1 x2 := by
  unfold out0_3
  refine canon_heads (R := 512) (e := .bf16) (Val := Elt Ideal) (tile x0 x1 x2) _ _ _ _ _ _ _ _ [] ?_ ?_ ?_ ?_
  · intro r d
    exact (head0 _ _ _ r d).trans (head_tile x0 x1 x2 0 (by omega) (by omega) _ _ r d)
  · intro r d
    exact (head1 _ _ _ r d).trans (head_tile x0 x1 x2 256 (by omega) (by omega) _ _ r d)
  · intro r d
    exact (head2 _ _ _ r d).trans (head_tile x0 x1 x2 512 (by omega) (by omega) _ _ r d)
  · intro r d
    exact (head3 _ _ _ r d).trans (head_tile x0 x1 x2 768 (by omega) (by omega) _ _ r d)

/-! ## The array -/

variable (m : (ℓ : Loc nD τ sig) → Buf (Elt Ideal) ℓ) (c : Dev nD)

/-- The arguments: the queries, and the keys and values side by side. -/
abbrev argQ : FVec Ideal S4096x1024 .bf16 := m ((c.tc : Thread nD τ).loc main_arg0)
abbrev argKV : FVec Ideal S256x2048 .f32 := m ((c.tc : Thread nD τ).loc main_arg1)

abbrev rowsQ : Mat 4096 := fun r k => argQ m c (ix2 r k)
abbrev rowsK : Mat 256 := fun r k => argKV m c (ix2 r ⟨k.val, by omega⟩)
abbrev rowsV : Mat 256 := fun r k => argKV m c (ix2 r ⟨1024 + k.val, by omega⟩)

abbrev blkQ (t : Fin cfg0.N) : FVec Ideal S512x1024 .bf16 := iblk m c 0 t
abbrev blkK (t : Fin cfg0.N) : FVec Ideal S256x1024 .f32 := iblk m c 1 t
abbrev blkV (t : Fin cfg0.N) : FVec Ideal S256x1024 .f32 := iblk m c 2 t

/-- The output. -/
def res : FVec Ideal S4096x1024 .bf16 := fun y => outAt (rowsQ m c) (rowsK m c) (rowsV m c) (y 0) (y 1)

theorem lt8 (t : Fin cfg0.N) : t.val < 8 := by
  have h : cfg0.N = 8 := N_0
  have := t.isLt
  omega

/-- The row of the whole array a point's row is. -/
abbrev rowAt (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 1 := by decide +kernel
theorem index3 : ∀ t : Fin grid0.N, win0_3.index t 0 = t.val ∧ win0_3.index t 1 = 0 := by decide +kernel

theorem blkQ_at (t : Fin cfg0.N) (r : Fin 512) (k : Fin 1024) : blkQ m c t (ix2 r k) = rowsQ m c (rowAt t r) k := by
  unfold blkQ iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkK_eq (t : Fin cfg0.N) : mat (blkK m c t) = rowsK m c := by
  funext r k
  show blkK m c t (ix2 r k) = _
  unfold blkK iblk
  rw [View.read_apply]
  show V m c main_arg1 _ = m _ _
  unfold V
  congr 1
  funext a
  apply Fin.ext
  match a with
  | ⟨0, _⟩ => show win0_1.index t 0 * 256 + 1 * r.val = r.val; rw [(index1 t).1]; omega
  | ⟨1, _⟩ => show win0_1.index t 1 * 1024 + 1 * k.val = k.val; rw [(index1 t).2]; omega

theorem blkV_eq (t : Fin cfg0.N) : mat (blkV m c t) = rowsV m c := by
  funext r k
  show blkV m c t (ix2 r k) = _
  unfold blkV iblk
  rw [View.read_apply]
  show V m c main_arg1 _ = m _ _
  unfold V
  congr 1
  funext a
  apply Fin.ext
  match a with
  | ⟨0, _⟩ => show win0_2.index t 0 * 256 + 1 * r.val = r.val; rw [(index2 t).1]; omega
  | ⟨1, _⟩ => show win0_2.index t 1 * 1024 + 1 * k.val = 1024 + k.val; rw [(index2 t).2]; omega

theorem tile_at (t : Fin cfg0.N) (r : Fin 512) (k : Fin 1024) :
    tile (blkQ m c t) (blkK m c t) (blkV m c t) (ix2 r k) = res m c (ix2 (rowAt t r) k) := by
  show outAt (mat (blkQ m c t)) (mat (blkK m c t)) (mat (blkV m c t)) r k = outAt _ _ _ (rowAt t r) k
  rw [blkK_eq, blkV_eq]
  exact outAt_congr _ _ k r _ (funext fun x => blkQ_at m c t r x)

theorem final : (dats m 0 c).arrAt 3 cfg0.N = res m c :=
  (dats m 0 c).arrAt_eq_of_cover 3 (res m c)
    (fun t hf => by
      rw [flushed3, out_eq]
      funext j
      rw [View.read_apply]
      have e : ((cfg0.win 3).blk t).view.emb j = (ix2 (rowAt t (j 0)) (j 1) : S4096x1024.Idx) := by
        funext a
        apply Fin.ext
        match a with
        | ⟨0, _⟩ => show win0_3.index t 0 * 512 + 1 * (j 0).val = 512 * t.val + (j 0).val; rw [(index3 t).1]; omega
        | ⟨1, _⟩ => show win0_3.index t 1 * 1024 + 1 * (j 1).val = (j 1).val; rw [(index3 t).2]; omega
      rw [e]
      exact (congrArg (tile (blkQ m c t) (blkK m c t) (blkV m c t)) (ValueIdx.eq_ix2 (n0 := 512) (n1 := 1024) j)).trans (tile_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_3 _, ?_⟩
      show (i : S4096x1024.Idx) ∈ ((View.whole main_v0).slice (win0_3.rect ⟨(i 0 : ℕ) / 512, hp⟩)).set
      rw [View.set_slice_whole, Rect.mem_set_unit]
      intro a
      match a with
      | ⟨0, _⟩ =>
        show win0_3.index _ 0 * 512 ≤ (i 0 : ℕ) ∧ (i 0 : ℕ) < win0_3.index _ 0 * 512 + 512
        rw [(index3 _).1]; dsimp only; omega
      | ⟨1, _⟩ =>
        show win0_3.index _ 1 * 1024 ≤ (i 1 : ℕ) ∧ (i 1 : ℕ) < win0_3.index _ 1 * 1024 + 1024
        rw [(index3 _).2]; omega)

end Attn.Fwd

end
-- ==== Proof.Attn.ForwardRef.lean ====
/- The forward attention's reference at an index: the kernel's array, for any arguments. -/
module

public import proofs.«01_k».proof.Proof.Attn.Forward
public import proofs.«01_k».proof.Proof.Gen.AttnFwdRefIdeal.Run

@[expose] public section

set_option maxRecDepth 16384

noncomputable section

namespace Attn.FwdRef

open Cert.AttnFwdRefIdeal Cert.AttnFwdRefIdeal.Gen Cert.AttnFwdRefIdeal.Value Idealize.ShloMosaic Idealize.ShloMosaic.TcCoe Idealize.SL.Sem

/-! ## The intermediate arrays, a head to each leading index -/

/-- The scores. -/
def hS (Q : FVec Ideal S4096x1024 .bf16) (KV : FVec Ideal S256x2048 .f32) : FVec Ideal S4x4096x256 .f32 :=
  Host.divf (Host.dotGeneral dot_S4096x4x256_S256x4x256_S4x4096x256_2_2_0_0_1_1 none (shapeCast _ (extf .f32 Q bitsLt_bf16_f32) shapeCasts_S4096x1024_S4096x4x256) (shapeCast _ (extractStridedSlice S256x1024 ![0, 0] KV slices_S256x2048_S256x1024_0_0) shapeCasts_S256x1024_S256x4x256)) (broadcastInDim S4x4096x256 ![] bcast_S_S4x4096x256 (constant S_ .f32 0x41800000#32))

/-- The rows' largest scores. -/
def hM (Q : FVec Ideal S4096x1024 .bf16) (KV : FVec Ideal S256x2048 .f32) : FVec Ideal S4x4096 .f32 :=
  Host.reduce FloatOps.maximumf (hS Q KV) (constant S_ .f32 0xFF800000#32) reducesTo_S4x4096x256_S4x4096_d2 h_S_

/-- The unnormalised weights. -/
def hE (Q : FVec Ideal S4096x1024 .bf16) (KV : FVec Ideal S256x2048 .f32) : FVec Ideal S4x4096x256 .f32 :=
  Host.exp (subf (hS Q KV) (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) (hM Q KV)))))

/-- Their sums. -/
def hL (Q : FVec Ideal S4096x1024 .bf16) (KV : FVec Ideal S256x2048 .f32) : FVec Ideal S4x4096 .f32 :=
  Host.reduceAdd (hE Q KV) (constant S_ .f32 0x00000000#32) reducesTo_S4x4096x256_S4x4096_d2 h_S_

variable (Q : FVec Ideal S4096x1024 .bf16) (KV : FVec Ideal S256x2048 .f32)

/-- A row's scores in head `h`. -/
abbrev sRow (h : Fin 4) (r : Fin 4096) : Row :=
  rscore (fun x => Q (ix2 r ⟨h.val * 256 + x.val, by omega⟩)) fun j x => KV (ix2 j ⟨h.val * 256 + x.val, by omega⟩)

theorem hS_at (h : Fin 4) (r : Fin 4096) (j : Fin 256) : hS Q KV (ix3 h r j) = sRow Q KV h r j := by
  unfold hS
  pointwise []
  rfl

/-- A host maximum along the last of three axes. -/
theorem hostMax_at {n0 n1 n2 : ℕ} (h : (⟨3, ![n0, n1, n2]⟩ : Shape).ReducesTo [2] ⟨2, ![n0, n1]⟩)
    (S : FVec Ideal ⟨3, ![n0, n1, n2]⟩ .f32) (c : FVec Ideal ⟨0, ![]⟩ .f32) (hu) (i : Fin n0) (j : Fin n1) :
    Host.reduce FloatOps.maximumf S c h hu (ix2 i j)
      = Finset.univ.fold max (c (Shape.Idx.first hu)) fun x : Fin n2 => S (ix3 i j x) := by
  rw [Host.reduce_eq_fold, Shape.ReducesTo.fold_fiber_r3_a2]
  rfl

theorem hM_at (h : Fin 4) (r : Fin 4096) : hM Q KV (ix2 h r)
    = Finset.univ.fold max (Ideal.ofBits .f32 0xFF800000#32) fun x : Fin 256 => hS Q KV (ix3 h r x) := by
  unfold hM
  rw [hostMax_at, ValueIdx.constant_apply]

theorem weights_at (S : FVec Ideal S4x4096x256 .f32) (X : FVec Ideal S4x4096 .f32) (h : Fin 4) (r : Fin 4096) (j : Fin 256) :
    Host.exp (subf S (broadcastInDim S4x4096x256 ![0, 1, 2] bcast_S4x4096x1_S4x4096x256_0_1_2
      (broadcastInDim S4x4096x1 ![0, 1] bcast_S4x4096_S4x4096x1_0_1 X))) (ix3 h r j)
      = Ideal.exp (S (ix3 h r j) - X (ix2 h r)) := by
  pointwise []

theorem max_at (X : FVec Ideal S4x4096 .f32) (w : BitVec (FTy.bits .f32)) (i : S4x4096.Idx) :
    maximumf (broadcastInDim S4x4096 ![] bcast_S_S4x4096 (constant S_ .f32 w)) X i = max (Ideal.ofBits .f32 w) (X i) := by
  rfl

theorem hE_eq (h : Fin 4) (r : Fin 4096) (j : Fin 256) : hE Q KV (ix3 h r j)
    = Ideal.exp (hS Q KV (ix3 h r j) - max (Ideal.ofBits .f32 0xFF800000#32) (hM Q KV (ix2 h r))) := by
  unfold hE
  rw [weights_at, max_at]

theorem hE_at (h : Fin 4) (r : Fin 4096) (j : Fin 256) : hE Q KV (ix3 h r j) = rweight (sRow Q KV h r) j := by
  rw [hE_eq, hM_at]
  unfold rweight
  simp only [hS_at]

theorem hL_at (h : Fin 4) (r : Fin 4096) : hL Q KV (ix2 h r) = ∑ j, rweight (sRow Q KV h r) j := by
  unfold hL
  pointwise []
  exact Finset.sum_congr rfl fun j _ => hE_at Q KV h r j

/-! ## The result -/

abbrev matQ : Mat 4096 := fun r k => Q (ix2 r k)
abbrev matK : Mat 256 := fun r k => KV (ix2 r ⟨k.val, by omega⟩)
abbrev matV : Mat 256 := fun r k => KV (ix2 r ⟨1024 + k.val, by omega⟩)

def out : FVec Ideal S4096x1024 .bf16 :=
  truncf .bf16 (shapeCast _ (transpose S4096x4x256 [2, 0, 1] (Host.dotGeneral dot_S256x4x256_S4x4096x256_S4x256x4096_0_2_2_1_1_0 none (shapeCast _ (extractStridedSlice S256x1024 ![0, 1024] KV slices_S256x2048_S256x1024_0_1024) shapeCasts_S256x1024_S256x4x256) (Host.divf (hE Q KV) (broadcastInDim S4x4096x256 ![0, 1, 2] bcast_S4x4096x1_S4x4096x256_0_1_2 (broadcastInDim S4x4096x1 ![0, 1] bcast_S4x4096_S4x4096x1_0_1 (hL Q KV))))) transposes_S4x256x4096_S4096x4x256_2_0_1) shapeCasts_S4096x4x256_S4096x1024) bitsLt_bf16_f32

theorem out_at (r : Fin 4096) (k : Fin 1024) : out Q KV (ix2 r k)
    = ∑ j, matV KV j k * rprob (rscoreRow (matQ Q) (matK KV) k r) j := by
  unfold out
  pointwise []
  refine Finset.sum_congr rfl fun j _ => ?_
  rw [hE_at, hL_at]
  rfl

theorem out_match (m : (ℓ : Loc Cert.AttnFwdIdeal.nD Cert.AttnFwdIdeal.τ Cert.AttnFwdIdeal.sig) → Buf (Elt Ideal) ℓ) (c : Dev Cert.AttnFwdIdeal.nD) :
    out (Fwd.argQ m c) (Fwd.argKV m c) = Fwd.res m c := by
  funext y
  obtain ⟨i, j, rfl⟩ : ∃ (i : Fin 4096) (j : Fin 1024), y = ix2 i j := ⟨y 0, y 1, ValueIdx.eq_ix2 y⟩
  refine (out_at _ _ i j).trans ?_
  show _ = ∑ x, prob (scoreRow (Fwd.rowsQ m c) (Fwd.rowsK m c) j i) x * Fwd.rowsV m c x j
  refine Finset.sum_congr rfl fun x _ => ?_
  rw [rscoreRow_eq, rprob_eq, mul_comm]

end Attn.FwdRef

end
-- ==== Proof.Products.Memory.lean ====
/- The keys and values of the attention: the normalised memory rows and their projection, at one point. -/
module

public import proofs.«01_k».proof.Proof.Norm.Row
public import proofs.«01_k».proof.Proof.Gen.AttnKvIdeal.Value
public import proofs.«01_k».proof.Proof.Gen.AttnKvRefIdeal.Run
public import Idealize.ShloMosaic.Lib.Pointwise

@[expose] public section

set_option maxRecDepth 16384

noncomputable section

namespace Products.AttnKv

open Cert.AttnKvIdeal Cert.AttnKvIdeal.Gen Cert.AttnKvIdeal.Value Idealize.ShloMosaic Idealize.ShloMosaic.TcCoe Idealize.ShloMosaic.Tactic
open Idealize.SL.Sem

/-! ## A tile -/

/-- A normalised entry. -/
def normed (x : Fin 1024 → EReal) (g : EReal) (k : Fin 1024) : EReal := x k * Norm.rs x * g

/-- The normalised rows. -/
def tileH (x : FVec Ideal S256x1024 .f32) (g : FVec Ideal S1x1024 .f32) : FVec Ideal S256x1024 .bf16 := fun y =>
  normed (fun n => x (ix2 (y 0) n)) (g (ix2 0 (y 1))) (y 1)

/-- Rows times the weights. -/
def tile (h : FVec Ideal S256x1024 .bf16) (w : FVec Ideal S1024x2048 .bf16) : FVec Ideal S256x2048 .f32 := fun y =>
  ∑ n : Fin 1024, h (ix2 (y 0) n) * w (ix2 n (y 1))

theorem normed_at (x : FVec Ideal S256x1024 .f32) (g : FVec Ideal S1x1024 .f32) (r : Fin 256) (k : Fin 1024) :
    (k0_pay1 x g : FVec Ideal S256x1024 .bf16) (ix2 r k) = tileH x g (ix2 r k) := by
  unfold k0_pay1
  pointwise []
  rfl

theorem prod_at (h : FVec Ideal S256x1024 .bf16) (w : FVec Ideal S1024x2048 .bf16) (r : Fin 256) (k : Fin 2048) :
    (k0_pay2 h w : FVec Ideal S256x2048 .f32) (ix2 r k) = tile h w (ix2 r k) := by
  unfold k0_pay2
  pointwise []
  rfl

theorem normed_eq (x : FVec Ideal S256x1024 .f32) (g : FVec Ideal S1x1024 .f32) : k0_pay1 (F := Ideal) x g = tileH x g := by
  funext y
  rw [ValueIdx.eq_ix2 (n0 := 256) (n1 := 1024) y]
  exact normed_at x g _ _

theorem prod_eq (h : FVec Ideal S256x1024 .bf16) (w : FVec Ideal S1024x2048 .bf16) : k0_pay2 (F := Ideal) h w = tile h w := by
  funext y
  rw [ValueIdx.eq_ix2 (n0 := 256) (n1 := 2048) y]
  exact prod_at h w _ _

/-! ## What a point leaves -/

theorem hz : (![0, 0] : Fin 2 → Nat) = fun _ => 0 := funext fun a => by fin_cases a <;> rfl

theorem out_h (c : Dev nD) (i : grid0.Coords) (a2 : Memref sig .tc .vmem S256x1024 .f32) (h2 : a2.IsWhole) (a3 : Memref sig .tc .vmem S1x1024 .f32) (h3 : a3.IsWhole) (a4 : Memref sig .tc .vmem S1024x2048 .bf16) (h4 : a4.IsWhole) (a5 : Memref sig .tc .vmem S256x2048 .f32) (h5 : a5.IsWhole) (a6 : Memref sig .tc .vmem S256x1024 .bf16) (h6 : a6.IsWhole) (hc0 : cond0_0 i)
    (x0 : Vec Ideal S256x1024 .f32) (x1 : Vec Ideal S1x1024 .f32) (x2 : Vec Ideal S1024x2048 .bf16) :
    out0_A_4 (F := Ideal) c i a2 h2 a3 h3 a4 h4 a5 h5 a6 h6 hc0 x0 x1 x2 = tileH x0 x1 := by
  rw [← normed_eq]
  unfold out0_A_4
  rw [View.read_writes_eq_canon _ _ _ (cover0_A_4 c i a2 h2 a3 h3 a4 h4 a5 h5 a6 h6 hc0 x0 x1 x2)]
  unfold kernelRun0_A
  dsimp only
  try sl_unfold_words
  rw [View.canon_unit_zero hz]
  simp only [View.readAt_eq_ld, h2.read_unread, h3.read_unread, h4.read_unread, h5.read_unread, h6.read_unread, View.ld_unit_zero (S := S256x1024) hz, View.ld_unit_zero (S := S1024x2048) hz, View.ld_unit_zero (S := S1x1024) hz, shapeCast_self]

theorem out_o (c : Dev nD) (i : grid0.Coords) (a2 : Memref sig .tc .vmem S256x1024 .f32) (h2 : a2.IsWhole) (a3 : Memref sig .tc .vmem S1x1024 .f32) (h3 : a3.IsWhole) (a4 : Memref sig .tc .vmem S1024x2048 .bf16) (h4 : a4.IsWhole) (a5 : Memref sig .tc .vmem S256x2048 .f32) (h5 : a5.IsWhole) (a6 : Memref sig .tc .vmem S256x1024 .bf16) (h6 : a6.IsWhole) (hc0 : cond0_0 i)
    (x0 : Vec Ideal S256x1024 .f32) (x1 : Vec Ideal S1x1024 .f32) (x2 : Vec Ideal S1024x2048 .bf16) :
    out0_A_3 (F := Ideal) c i a2 h2 a3 h3 a4 h4 a5 h5 a6 h6 hc0 x0 x1 x2 = tile (tileH x0 x1) x2 := by
  rw [← prod_eq, ← normed_eq]
  unfold out0_A_3
  rw [View.read_writes_eq_canon _ _ _ (cover0_A_3 c i a2 h2 a3 h3 a4 h4 a5 h5 a6 h6 hc0 x0 x1 x2)]
  unfold kernelRun0_A
  dsimp only
  try sl_unfold_words
  rw [View.canon_unit_zero hz, View.readCov_unit_zero (S := S256x1024) _ hz]
  simp only [View.readAt_eq_ld, h2.read_unread, h3.read_unread, h4.read_unread, h5.read_unread, h6.read_unread, View.ld_unit_zero (S := S256x1024) hz, View.ld_unit_zero (S := S1024x2048) hz, View.ld_unit_zero (S := S1x1024) hz, shapeCast_self]

/-! ## The arrays -/

variable (m : (ℓ : Loc nD τ sig) → Buf (Elt Ideal) ℓ) (c : Dev nD)

/-- The arguments: the rows, their gain and the weights. -/
abbrev argX : FVec Ideal S256x1024 .f32 := m ((c.tc : Thread nD τ).loc main_arg0)
abbrev argG : FVec Ideal S1x1024 .f32 := m ((c.tc : Thread nD τ).loc main_arg1)
abbrev argW : FVec Ideal S1024x2048 .bf16 := m ((c.tc : Thread nD τ).loc main_arg2)

abbrev blkX (t : Fin cfg0.N) : FVec Ideal S256x1024 .f32 := iblk m c 0 t
abbrev blkG (t : Fin cfg0.N) : FVec Ideal S1x1024 .f32 := iblk m c 1 t
abbrev blkW (t : Fin cfg0.N) : FVec Ideal S1024x2048 .bf16 := iblk m c 2 t

/-- The normalised rows. -/
def resH : FVec Ideal S256x1024 .bf16 := fun y => normed (fun n => argX m c (ix2 (y 0) n)) (argG m c (ix2 0 (y 1))) (y 1)

/-- Their projection. -/
def res : FVec Ideal S256x2048 .f32 := fun y => ∑ n : Fin 1024, resH m c (ix2 (y 0) n) * argW m c (ix2 n (y 1))

theorem lt1 (t : Fin cfg0.N) : t.val < 1 := by
  have h : cfg0.N = 1 := N_0
  have := t.isLt
  omega

/-- The row of the whole array a point's row is. -/
abbrev rowOf (t : Fin cfg0.N) (r : Fin 256) : Fin 256 := ⟨256 * t.val + r.val, by have := lt1 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

theorem blkX_at (t : Fin cfg0.N) (r : Fin 256) (k : Fin 1024) : blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 256 + 1 * r.val = 256 * t.val + r.val; rw [(index0 t).1]; omega
  | ⟨1, _⟩ => show win0_0.index t 1 * 1024 + 1 * k.val = k.val; rw [(index0 t).2]; omega

theorem blkG_at (t : Fin cfg0.N) (r : Fin 1) (k : Fin 1024) : blkG m c t (ix2 r k) = argG m c (ix2 r k) := by
  unfold blkG iblk
  rw [View.read_apply]
  show V m c main_arg1 _ = m _ _
  unfold V
  congr 1
  funext a
  apply Fin.ext
  match a with
  | ⟨0, _⟩ => show win0_1.index t 0 * 1 + 1 * r.val = r.val; rw [(index1 t).1]; omega
  | ⟨1, _⟩ => show win0_1.index t 1 * 1024 + 1 * k.val = k.val; rw [(index1 t).2]; omega

theorem blkW_at (t : Fin cfg0.N) (r : Fin 1024) (k : Fin 2048) : blkW m c t (ix2 r k) = argW m c (ix2 r k) := by
  unfold blkW iblk
  rw [View.read_apply]
  show V m c main_arg2 _ = m _ _
  unfold V
  congr 1
  funext a
  apply Fin.ext
  match a with
  | ⟨0, _⟩ => show win0_2.index t 0 * 1024 + 1 * r.val = r.val; rw [(index2 t).1]; omega
  | ⟨1, _⟩ => show win0_2.index t 1 * 2048 + 1 * k.val = k.val; rw [(index2 t).2]; omega

theorem tileH_at (t : Fin cfg0.N) (r : Fin 256) (k : Fin 1024) :
    tileH (blkX m c t) (blkG m c t) (ix2 r k) = resH m c (ix2 (rowOf t r) k) :=
  congrArg₂ (fun x g => normed x g k) (funext fun n => blkX_at m c t r n) (blkG_at m c t 0 k)

theorem tile_at (t : Fin cfg0.N) (r : Fin 256) (k : Fin 2048) :
    tile (tileH (blkX m c t) (blkG m c t)) (blkW m c t) (ix2 r k) = res m c (ix2 (rowOf t r) k) :=
  Finset.sum_congr rfl fun n _ => congrArg₂ (· * ·) (tileH_at m c t r n) (blkW_at m c t n k)

theorem final_h : (dats m 0 c).arrAt 4 cfg0.N = resH m c :=
  (dats m 0 c).arrAt_eq_of_cover 4 (resH m c)
    (fun t hf => by
      rw [flushed4_A, out_h]
      funext j
      rw [View.read_apply]
      have e : ((cfg0.win 4).blk t).view.emb j = (ix2 (rowOf t (j 0)) (j 1) : S256x1024.Idx) := by
        funext a
        apply Fin.ext
        match a with
        | ⟨0, _⟩ => show win0_4.index t 0 * 256 + 1 * (j 0).val = 256 * t.val + (j 0).val; rw [(index4 t).1]; omega
        | ⟨1, _⟩ => show win0_4.index t 1 * 1024 + 1 * (j 1).val = (j 1).val; rw [(index4 t).2]; omega
      rw [e]
      exact (congrArg (tileH (blkX m c t) (blkG m c t)) (ValueIdx.eq_ix2 (n0 := 256) (n1 := 1024) j)).trans (tileH_at m c t (j 0) (j 1)))
    (fun i => by
      have h0 : (i 0 : ℕ) < 256 := (i 0).isLt
      have h1 : (i 1 : ℕ) < 1024 := (i 1).isLt
      have hN : cfg0.N = 1 := N_0
      have hp : (i 0 : ℕ) / 256 < cfg0.N := by omega
      refine ⟨⟨(i 0 : ℕ) / 256, hp⟩, flush0_4 _, ?_⟩
      show (i : S256x1024.Idx) ∈ ((View.whole main_v0_1).slice (win0_4.rect ⟨(i 0 : ℕ) / 256, hp⟩)).set
      rw [View.set_slice_whole, Rect.mem_set_unit]
      intro a
      match a with
      | ⟨0, _⟩ =>
        show win0_4.index _ 0 * 256 ≤ (i 0 : ℕ) ∧ (i 0 : ℕ) < win0_4.index _ 0 * 256 + 256
        rw [(index4 _).1]; dsimp only; omega
      | ⟨1, _⟩ =>
        show win0_4.index _ 1 * 1024 ≤ (i 1 : ℕ) ∧ (i 1 : ℕ) < win0_4.index _ 1 * 1024 + 1024
        rw [(index4 _).2]; omega)

theorem final_o : (dats m 0 c).arrAt 3 cfg0.N = res m c :=
  (dats m 0 c).arrAt_eq_of_cover 3 (res m c)
    (fun t hf => by
      rw [flushed3_A, out_o]
      funext j
      rw [View.read_apply]
      have e : ((cfg0.win 3).blk t).view.emb j = (ix2 (rowOf t (j 0)) (j 1) : S256x2048.Idx) := by
        funext a
        apply Fin.ext
        match a with
        | ⟨0, _⟩ => show win0_3.index t 0 * 256 + 1 * (j 0).val = 256 * t.val + (j 0).val; rw [(index3 t).1]; omega
        | ⟨1, _⟩ => show win0_3.index t 1 * 2048 + 1 * (j 1).val = (j 1).val; rw [(index3 t).2]; omega
      rw [e]
      exact (congrArg (tile (tileH (blkX m c t) (blkG m c t)) (blkW m c t)) (ValueIdx.eq_ix2 (n0 := 256) (n1 := 2048) j)).trans (tile_at m c t (j 0) (j 1)))
    (fun i => by
      have h0 : (i 0 : ℕ) < 256 := (i 0).isLt
      have h1 : (i 1 : ℕ) < 2048 := (i 1).isLt
      have hN : cfg0.N = 1 := N_0
      have hp : (i 0 : ℕ) / 256 < cfg0.N := by omega
      refine ⟨⟨(i 0 : ℕ) / 256, hp⟩, flush0_3 _, ?_⟩
      show (i : S256x2048.Idx) ∈ ((View.whole main_v0_0).slice (win0_3.rect ⟨(i 0 : ℕ) / 256, hp⟩)).set
      rw [View.set_slice_whole, Rect.mem_set_unit]
      intro a
      match a with
      | ⟨0, _⟩ =>
        show win0_3.index _ 0 * 256 ≤ (i 0 : ℕ) ∧ (i 0 : ℕ) < win0_3.index _ 0 * 256 + 256
        rw [(index3 _).1]; dsimp only; omega
      | ⟨1, _⟩ =>
        show win0_3.index _ 1 * 2048 ≤ (i 1 : ℕ) ∧ (i 1 : ℕ) < win0_3.index _ 1 * 2048 + 2048
        rw [(index3 _).2]; omega)

end Products.AttnKv

namespace Products.AttnKvRef

open Cert.AttnKvRefIdeal Cert.AttnKvRefIdeal.Gen Idealize.ShloMosaic Idealize.ShloMosaic.TcCoe

variable (X : FVec Ideal S256x1024 .f32) (G : FVec Ideal S1x1024 .f32) (W : FVec Ideal S1024x2048 .bf16)

/-! ## The reference -/

/-- Every row's scale. -/
def scale : FVec Ideal S256x1 .f32 :=
  Host.rsqrt (addf (Host.divf (broadcastInDim S256x1 ![0] bcast_S256_S256x1_0 (Host.reduceAdd (mulf X X) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))

def rows (R : FVec Ideal S256x1 .f32) : FVec Ideal S256x1024 .f32 :=
  mulf (mulf X (broadcastInDim S256x1024 ![0, 1] bcast_S256x1_S256x1024_0_1 R)) (broadcastInDim S256x1024 ![0, 1] bcast_S1x1024_S256x1024_0_1 G)

def prod (H : FVec Ideal S256x1024 .f32) : FVec Ideal S256x2048 .f32 :=
  Host.dotGeneral dot_S256x1024_S1024x2048_S256x2048_1_0_0_1_n_n none H (extf .f32 W bitsLt_bf16_f32)

def outO : FVec Ideal S256x2048 .f32 := prod W (rows X G (scale X))

def outH : FVec Ideal S256x1024 .bf16 := truncf .bf16 (rows X G (scale X)) bitsLt_bf16_f32

theorem scale_at (r : Fin 256) : scale X (ix2 r 0) = Norm.rs (fun k : Fin 1024 => X (ix2 r k)) := by
  unfold scale
  pointwise []
  rfl

theorem rows_at (R : FVec Ideal S256x1 .f32) (r : Fin 256) (k : Fin 1024) : rows X G R (ix2 r k) = X (ix2 r k) * R (ix2 r 0) * G (ix2 0 k) := by
  unfold rows
  pointwise []

theorem prod_at (H : FVec Ideal S256x1024 .f32) (r : Fin 256) (k : Fin 2048) : prod W H (ix2 r k) = ∑ n : Fin 1024, H (ix2 r n) * W (ix2 n k) := by
  unfold prod
  pointwise []

theorem normed_at (r : Fin 256) (k : Fin 1024) :
    rows X G (scale X) (ix2 r k) = AttnKv.normed (fun n : Fin 1024 => X (ix2 r n)) (G (ix2 0 k)) k := by
  rw [rows_at, scale_at]
  rfl

theorem outH_match (m : (ℓ : Loc Cert.AttnKvIdeal.nD Cert.AttnKvIdeal.τ Cert.AttnKvIdeal.sig) → Buf (Elt Ideal) ℓ) (c : Dev Cert.AttnKvIdeal.nD) :
    outH (AttnKv.argX m c) (AttnKv.argG m c) = AttnKv.resH m c := by
  funext y
  obtain ⟨r, k, rfl⟩ : ∃ (r : Fin 256) (k : Fin 1024), y = ix2 r k := ⟨y 0, y 1, ValueIdx.eq_ix2 y⟩
  exact normed_at _ _ r k

theorem outO_match (m : (ℓ : Loc Cert.AttnKvIdeal.nD Cert.AttnKvIdeal.τ Cert.AttnKvIdeal.sig) → Buf (Elt Ideal) ℓ) (c : Dev Cert.AttnKvIdeal.nD) :
    outO (AttnKv.argX m c) (AttnKv.argG m c) (AttnKv.argW m c) = AttnKv.res m c := by
  funext y
  obtain ⟨r, k, rfl⟩ : ∃ (r : Fin 256) (k : Fin 2048), y = ix2 r k := ⟨y 0, y 1, ValueIdx.eq_ix2 y⟩
  refine (prod_at _ _ r k).trans ?_
  exact Finset.sum_congr rfl fun n _ => congrArg (· * _) (normed_at _ _ r n)

end Products.AttnKvRef

end
-- ==== Proof.Products.MemoryDn.lean ====
/- The gradient of the normalised memory rows: the keys' and values' gradients times the transposed weights, at one
   point. -/
module

public import proofs.«01_k».proof.Proof.Gen.AttnDmnIdeal.Value
public import proofs.«01_k».proof.Proof.Gen.AttnDmnRefIdeal.Run
public import Idealize.ShloMosaic.Lib.Pointwise

@[expose] public section

set_option maxRecDepth 16384

noncomputable section

namespace Products.Dmn

open Cert.AttnDmnIdeal Cert.AttnDmnIdeal.Gen Cert.AttnDmnIdeal.Value Idealize.ShloMosaic Idealize.ShloMosaic.TcCoe

/-- The product with the transposed weights. -/
theorem prod_at (x : FVec Ideal S256x2048 .f32) (w : FVec Ideal S1024x2048 .bf16) (r : Fin 256) (k : Fin 1024) :
    (k0_pay1 x w : FVec Ideal S256x1024 .f32) (ix2 r k) = ∑ n : Fin 2048, x (ix2 r n) * w (ix2 k n) := by
  unfold k0_pay1
  pointwise []

end Products.Dmn

namespace Products.DmnRef

open Cert.AttnDmnRefIdeal Cert.AttnDmnRefIdeal.Gen Idealize.ShloMosaic Idealize.ShloMosaic.TcCoe

/-! ## The reference -/

def out (X : FVec Ideal S256x2048 .f32) (W : FVec Ideal S1024x2048 .bf16) : FVec Ideal S256x1024 .f32 :=
  Host.dotGeneral dot_S256x2048_S1024x2048_S256x1024_1_1_0_0_n_n none X (extf .f32 W bitsLt_bf16_f32)

theorem out_at (X : FVec Ideal S256x2048 .f32) (W : FVec Ideal S1024x2048 .bf16) (r : Fin 256) (k : Fin 1024) :
    out X W (ix2 r k) = ∑ n : Fin 2048, X (ix2 r n) * W (ix2 k n) := by
  unfold out
  pointwise []

theorem out_match (X : FVec Ideal S256x2048 .f32) (W : FVec Ideal S1024x2048 .bf16) :
    out X W = Cert.AttnDmnIdeal.Value.G2 (F := Ideal) X W := by
  funext y
  obtain ⟨r, k, rfl⟩ : ∃ (r : Fin 256) (k : Fin 1024), y = ix2 r k := ⟨y 0, y 1, ValueIdx.eq_ix2 y⟩
  exact (out_at X W r k).trans (Dmn.prod_at X W r k).symm

end Products.DmnRef

end
-- ==== Proof.Weights.Memory.lean ====
/- The gradient of the keys' and values' weights: one point takes all 256 memory rows. -/
module

public import proofs.«01_k».proof.Proof.Gen.DwKvIdeal.Value
public import proofs.«01_k».proof.Proof.Gen.DwKvRefIdeal.Run
public import Idealize.ShloMosaic.Lib.Pointwise

@[expose] public section

set_option maxRecDepth 16384

noncomputable section

namespace Weights.Memory

open Cert.DwKvIdeal Cert.DwKvIdeal.Gen Cert.DwKvIdeal.Value Idealize.ShloMosaic Idealize.ShloMosaic.TcCoe Idealize.ShloMosaic.Tactic
open Idealize.SL.Sem

/-! ## The point's values -/

theorem first_at (i : Fin 1024) (j : Fin 2048) : (k0_pay1 : FVec Ideal S1024x2048 .f32) (ix2 i j) = 0 := by
  unfold k0_pay1
  pointwise []

theorem add_at (x0 : FVec Ideal S256x1024 .bf16) (acc : FVec Ideal S1024x2048 .f32) (x1 : FVec Ideal S256x2048 .f32) (i : Fin 1024) (j : Fin 2048) :
    (k0_pay2 x0 acc x1 : FVec Ideal S1024x2048 .f32) (ix2 i j) = acc (ix2 i j) + ∑ r : Fin 256, x0 (ix2 r i) * x1 (ix2 r j) := by
  unfold k0_pay2
  pointwise []

/-- Transposed rows times rows. -/
def tile (x0 : FVec Ideal S256x1024 .bf16) (x1 : FVec Ideal S256x2048 .f32) : FVec Ideal S1024x2048 .f32 := fun y =>
  ∑ r : Fin 256, x0 (ix2 r (y 0)) * x1 (ix2 r (y 1))

theorem sum_eq (x0 : FVec Ideal S256x1024 .bf16) (x1 : FVec Ideal S256x2048 .f32) :
    k0_pay2 (F := Ideal) x0 (k0_pay1 (F := Ideal)) x1 = tile x0 x1 := by
  funext y
  obtain ⟨i, j, rfl⟩ : ∃ (i : Fin 1024) (j : Fin 2048), y = ix2 i j := ⟨y 0, y 1, ValueIdx.eq_ix2 y⟩
  refine (add_at x0 _ x1 i j).trans ?_
  rw [first_at, zero_add]
  rfl

theorem hz : (![0, 0] : Fin 2 → Nat) = fun _ => 0 := funext fun a => by fin_cases a <;> rfl

theorem out_eq (c : Dev nD) (i : grid0.Coords) (a3 : Memref sig .tc .vmem S256x1024 .bf16) (h3 : a3.IsWhole) (a4 : Memref sig .tc .vmem S256x2048 .f32) (h4 : a4.IsWhole) (a5 : Memref sig .tc .vmem S1024x2048 .f32) (h5 : a5.IsWhole) (hc0 : cond0_0 i)
    (x0 : Vec Ideal S256x1024 .bf16) (x1 : Vec Ideal S256x2048 .f32) :
    out0_A_2 (F := Ideal) c i a3 h3 a4 h4 a5 h5 hc0 x0 x1 = tile x0 x1 := by
  rw [← sum_eq]
  unfold out0_A_2
  rw [View.read_writes_eq_canon _ _ _ (cover0_A_2 c i a3 h3 a4 h4 a5 h5 hc0 x0 x1)]
  unfold kernelRun0_A
  dsimp only
  try sl_unfold_words
  rw [View.canon_cons_unit_zero (S := S1024x2048) hz, View.readCov_unit_zero (S := S1024x2048) _ hz]
  simp only [View.readAt_eq_ld, h3.read_unread, h4.read_unread, h5.read_unread, View.ld_unit_zero (S := S256x1024) hz, View.ld_unit_zero (S := S256x2048) hz, View.ld_unit_zero (S := S1024x2048) hz, shapeCast_self]

/-! ## The array -/

variable (m : (ℓ : Loc nD τ sig) → Buf (Elt Ideal) ℓ) (c : Dev nD)

/-- The arguments: the normalised memory rows and the keys' and values' gradients. -/
abbrev argA : FVec Ideal S256x1024 .bf16 := m ((c.tc : Thread nD τ).loc main_arg0)
abbrev argX : FVec Ideal S256x2048 .f32 := m ((c.tc : Thread nD τ).loc main_arg1)

abbrev blkA (t : Fin cfg0.N) : FVec Ideal S256x1024 .bf16 := iblk m c 0 t
abbrev blkX (t : Fin cfg0.N) : FVec Ideal S256x2048 .f32 := iblk m c 1 t

/-- The gradient of the weights. -/
def res : FVec Ideal S1024x2048 .f32 := tile (argA m c) (argX m c)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

theorem blkA_at (t : Fin cfg0.N) (r : Fin 256) (k : Fin 1024) : blkA m c t (ix2 r k) = argA m c (ix2 r k) := by
  unfold blkA iblk
  rw [View.read_apply]
  show V m c main_arg0 _ = m _ _
  unfold V
  congr 1
  funext a
  apply Fin.ext
  match a with
  | ⟨0, _⟩ => show win0_0.index t 0 * 256 + 1 * r.val = r.val; rw [(index0 t).1]; omega
  | ⟨1, _⟩ => show win0_0.index t 1 * 1024 + 1 * k.val = k.val; rw [(index0 t).2]; omega

theorem blkX_at (t : Fin cfg0.N) (r : Fin 256) (k : Fin 2048) : blkX m c t (ix2 r k) = argX m c (ix2 r k) := by
  unfold blkX iblk
  rw [View.read_apply]
  show V m c main_arg1 _ = m _ _
  unfold V
  congr 1
  funext a
  apply Fin.ext
  match a with
  | ⟨0, _⟩ => show win0_1.index t 0 * 256 + 1 * r.val = r.val; rw [(index1 t).1]; omega
  | ⟨1, _⟩ => show win0_1.index t 1 * 2048 + 1 * k.val = k.val; rw [(index1 t).2]; omega

theorem tile_at (t : Fin cfg0.N) (i : Fin 1024) (j : Fin 2048) : tile (blkA m c t) (blkX m c t) (ix2 i j) = res m c (ix2 i j) :=
  Finset.sum_congr rfl fun r _ => congrArg₂ (· * ·) (blkA_at m c t r i) (blkX_at m c t r j)

theorem final : (dats m 0 c).arrAt 2 cfg0.N = res m c :=
  (dats m 0 c).arrAt_eq_of_cover 2 (res m c)
    (fun t hf => by
      rw [flushed2_A, out_eq]
      funext j
      rw [View.read_apply]
      have e : ((cfg0.win 2).blk t).view.emb j = (ix2 (j 0) (j 1) : S1024x2048.Idx) := by
        funext a
        apply Fin.ext
        match a with
        | ⟨0, _⟩ => show win0_2.index t 0 * 1024 + 1 * (j 0).val = (j 0).val; rw [(index2 t).1]; omega
        | ⟨1, _⟩ => show win0_2.index t 1 * 2048 + 1 * (j 1).val = (j 1).val; rw [(index2 t).2]; omega
      rw [e]
      exact (congrArg (tile (blkA m c t) (blkX m c t)) (ValueIdx.eq_ix2 (n0 := 1024) (n1 := 2048) j)).trans (tile_at m c t (j 0) (j 1)))
    (fun i => by
      have h0 : (i 0 : ℕ) < 1024 := (i 0).isLt
      have h1 : (i 1 : ℕ) < 2048 := (i 1).isLt
      have hN : cfg0.N = 1 := N_0
      have hp : 0 < cfg0.N := by omega
      refine ⟨⟨0, hp⟩, flush0_2 _, ?_⟩
      show (i : S1024x2048.Idx) ∈ ((View.whole main_v0).slice (win0_2.rect ⟨0, hp⟩)).set
      rw [View.set_slice_whole, Rect.mem_set_unit]
      intro a
      match a with
      | ⟨0, _⟩ =>
        show win0_2.index _ 0 * 1024 ≤ (i 0 : ℕ) ∧ (i 0 : ℕ) < win0_2.index _ 0 * 1024 + 1024
        rw [(index2 _).1]; omega
      | ⟨1, _⟩ =>
        show win0_2.index _ 1 * 2048 ≤ (i 1 : ℕ) ∧ (i 1 : ℕ) < win0_2.index _ 1 * 2048 + 2048
        rw [(index2 _).2]; omega)

end Weights.Memory

namespace Weights.MemoryRef

open Cert.DwKvRefIdeal Cert.DwKvRefIdeal.Gen Idealize.ShloMosaic Idealize.ShloMosaic.TcCoe

/-! ## The reference -/

/-- The product before the transpose. -/
def prod (A : FVec Ideal S256x1024 .bf16) (X : FVec Ideal S256x2048 .f32) : FVec Ideal S2048x1024 .f32 :=
  Host.dotGeneral dot_S256x2048_S256x1024_S2048x1024_0_0_1_1_n_n none X (extf .f32 A bitsLt_bf16_f32)

def out (A : FVec Ideal S256x1024 .bf16) (X : FVec Ideal S256x2048 .f32) : FVec Ideal S1024x2048 .f32 :=
  transpose S1024x2048 [1, 0] (prod A X) transposes_S2048x1024_S1024x2048_1_0

theorem prod_at (A : FVec Ideal S256x1024 .bf16) (X : FVec Ideal S256x2048 .f32) (j : Fin 2048) (i : Fin 1024) :
    prod A X (ix2 j i) = ∑ r : Fin 256, X (ix2 r j) * A (ix2 r i) := by
  unfold prod
  pointwise []

theorem out_at (A : FVec Ideal S256x1024 .bf16) (X : FVec Ideal S256x2048 .f32) (i : Fin 1024) (j : Fin 2048) :
    out A X (ix2 i j) = ∑ r : Fin 256, X (ix2 r j) * A (ix2 r i) := by
  rw [← prod_at]
  unfold out
  generalize prod A X = P
  pointwise []

theorem out_match (m : (ℓ : Loc Cert.DwKvIdeal.nD Cert.DwKvIdeal.τ Cert.DwKvIdeal.sig) → Buf (Elt Ideal) ℓ) (c : Dev Cert.DwKvIdeal.nD) :
    out (Memory.argA m c) (Memory.argX m c) = Memory.res m c := by
  funext y
  obtain ⟨i, j, rfl⟩ : ∃ (i : Fin 1024) (j : Fin 2048), y = ix2 i j := ⟨y 0, y 1, ValueIdx.eq_ix2 y⟩
  refine (out_at _ _ i j).trans ?_
  exact Finset.sum_congr rfl fun r _ => mul_comm _ _

end Weights.MemoryRef

end
-- ==== Proof.Norm.Memory.lean ====
/- The gradient through the memory's norm: the kernel's rows and gain, at one point, and the reference's as them. -/
module

public import proofs.«01_k».proof.Proof.Norm.Row
public import proofs.«01_k».proof.Proof.Gen.NormMemIdeal.Value
public import proofs.«01_k».proof.Proof.Gen.NormMemRefIdeal.Run
public import Idealize.ShloMosaic.Lib.Pointwise

@[expose] public section

set_option maxRecDepth 16384

noncomputable section

namespace Norm.Memory

open Cert.NormMemIdeal Cert.NormMemIdeal.Gen Cert.NormMemIdeal.Value Idealize.ShloMosaic Idealize.ShloMosaic.TcCoe Idealize.ShloMosaic.Tactic
open Idealize.SL.Sem

/-! ## The point's values -/

variable (x d : FVec Ideal S256x1024 .f32) (g : FVec Ideal S1x1024 .f32)

theorem rs_at (r : Fin 256) : (k0_pay2 x : FVec Ideal S256x1 .f32) (ix2 r 0) = rs (fun k : Fin 1024 => x (ix2 r k)) := by
  unfold k0_pay2
  pointwise []
  rfl

theorem scaled_at (r : Fin 256) (k : Fin 1024) :
    (k0_pay3 x : FVec Ideal S256x1024 .f32) (ix2 r k) = x (ix2 r k) * rs (fun k : Fin 1024 => x (ix2 r k)) := by
  rw [← rs_at]
  unfold k0_pay3
  generalize (k0_pay2 x : FVec Ideal S256x1 .f32) = v
  pointwise []

theorem first_at (k : Fin 1024) : (k0_pay1 : FVec Ideal S1x1024 .f32) (ix2 0 k) = 0 := by
  unfold k0_pay1
  pointwise []

theorem sum_at (acc : FVec Ideal S1x1024 .f32) (k : Fin 1024) :
    (k0_pay4 x d acc : FVec Ideal S1x1024 .f32) (ix2 0 k)
      = acc (ix2 0 k) + ∑ r : Fin 256, d (ix2 r k) * (x (ix2 r k) * rs (fun k : Fin 1024 => x (ix2 r k))) := by
  simp only [← scaled_at]
  unfold k0_pay4
  generalize (k0_pay3 x : FVec Ideal S256x1024 .f32) = Y
  pointwise []

theorem back_at (r : Fin 256) (k : Fin 1024) :
    (k0_pay5 x d g : FVec Ideal S256x1024 .f32) (ix2 r k)
      = rs (fun k : Fin 1024 => x (ix2 r k)) * (d (ix2 r k) * g (ix2 0 k)
        - x (ix2 r k) * rs (fun k : Fin 1024 => x (ix2 r k))
          * Ideal.div (∑ j : Fin 1024, d (ix2 r j) * g (ix2 0 j) * (x (ix2 r j) * rs (fun k : Fin 1024 => x (ix2 r k)))) width) := by
  simp only [← scaled_at]
  rw [← rs_at]
  unfold k0_pay5
  generalize (k0_pay3 x : FVec Ideal S256x1024 .f32) = Y
  generalize (k0_pay2 x : FVec Ideal S256x1 .f32) = v
  pointwise []

/-- The rows' gradients. -/
def tileX : FVec Ideal S256x1024 .f32 := fun y =>
  project (fun j : Fin 1024 => x (ix2 (y 0) j)) (fun j => d (ix2 (y 0) j) * g (ix2 0 j)) 0 (y 1)

/-- The gain's gradient. -/
def tileG : FVec Ideal S1x1024 .f32 := fun y =>
  ∑ r : Fin 256, d (ix2 r (y 1)) * (x (ix2 r (y 1)) * rs (fun k : Fin 1024 => x (ix2 r k)))

theorem back_eq : k0_pay5 (F := Ideal) x d g = tileX x d g := by
  funext y
  rw [ValueIdx.eq_ix2 (n0 := 256) (n1 := 1024) y]
  exact (back_at x d g _ _).trans (zero_add _).symm

theorem sum_eq : k0_pay4 (F := Ideal) x d (k0_pay1 (F := Ideal)) = tileG x d := by
  funext y
  obtain ⟨i, k, rfl⟩ : ∃ (i : Fin 1) (k : Fin 1024), y = ix2 i k := ⟨y 0, y 1, ValueIdx.eq_ix2 y⟩
  obtain rfl : i = 0 := Fin.ext (by omega)
  refine (sum_at x d _ k).trans ?_
  rw [first_at, zero_add]
  rfl

/-! ## What the point leaves -/

theorem hz : (![0, 0] : Fin 2 → Nat) = fun _ => 0 := funext fun a => by fin_cases a <;> rfl

theorem out_x (c : Dev nD) (i : grid0.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (hc0 : cond0_0 i)
    (x0 x1 : Vec Ideal S256x1024 .f32) (x2 : Vec Ideal S1x1024 .f32) :
    out0_A_3 (F := Ideal) c i a1 h1 a2 h2 a3 h3 a4 h4 a5 h5 hc0 x0 x1 x2 = tileX x1 x0 x2 := by
  rw [← back_eq]
  unfold out0_A_3
  rw [View.read_writes_eq_canon _ _ _ (cover0_A_3 c i a1 h1 a2 h2 a3 h3 a4 h4 a5 h5 hc0 x0 x1 x2)]
  unfold kernelRun0_A
  dsimp only
  try sl_unfold_words
  rw [View.canon_unit_zero hz]
  simp only [View.readAt_eq_ld, h1.read_unread, h2.read_unread, h3.read_unread, h4.read_unread, h5.read_unread, View.ld_unit_zero (S := S256x1024) hz, View.ld_unit_zero (S := S1x1024) hz, shapeCast_self]

theorem out_g (c : Dev nD) (i : grid0.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (hc0 : cond0_0 i)
    (x0 x1 : Vec Ideal S256x1024 .f32) (x2 : Vec Ideal S1x1024 .f32) :
    out0_A_4 (F := Ideal) c i a1 h1 a2 h2 a3 h3 a4 h4 a5 h5 hc0 x0 x1 x2 = tileG x1 x0 := by
  rw [← sum_eq]
  unfold out0_A_4
  rw [View.read_writes_eq_canon _ _ _ (cover0_A_4 c i a1 h1 a2 h2 a3 h3 a4 h4 a5 h5 hc0 x0 x1 x2)]
  unfold kernelRun0_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h5.read_unread, View.ld_unit_zero (S := S256x1024) hz, View.ld_unit_zero (S := S1x1024) hz, shapeCast_self]

/-! ## The arrays -/

section Arrays

variable (m : (ℓ : Loc nD τ sig) → Buf (Elt Ideal) ℓ) (c : Dev nD)

/-- The arguments: the normalised rows' gradients, the memory rows, their gain. -/
abbrev argD : FVec Ideal S256x1024 .f32 := m ((c.tc : Thread nD τ).loc main_arg0)
abbrev argX : FVec Ideal S256x1024 .f32 := m ((c.tc : Thread nD τ).loc main_arg1)
abbrev argG : FVec Ideal S1x1024 .f32 := m ((c.tc : Thread nD τ).loc main_arg2)

abbrev blkD (t : Fin cfg0.N) : FVec Ideal S256x1024 .f32 := iblk m c 0 t
abbrev blkX (t : Fin cfg0.N) : FVec Ideal S256x1024 .f32 := iblk m c 1 t
abbrev blkG (t : Fin cfg0.N) : FVec Ideal S1x1024 .f32 := iblk m c 2 t

def resX : FVec Ideal S256x1024 .f32 := tileX (argX m c) (argD m c) (argG m c)

def resG : FVec Ideal S1x1024 .f32 := tileG (argX m c) (argD m c)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

theorem blkD_eq (t : Fin cfg0.N) : blkD m c t = argD m c := by
  funext y
  obtain ⟨r, k, rfl⟩ : ∃ (r : Fin 256) (k : Fin 1024), y = ix2 r k := ⟨y 0, y 1, ValueIdx.eq_ix2 y⟩
  unfold blkD iblk
  rw [View.read_apply]
  show V m c main_arg0 _ = m _ _
  unfold V
  congr 1
  funext a
  apply Fin.ext
  match a with
  | ⟨0, _⟩ => show win0_0.index t 0 * 256 + 1 * r.val = r.val; rw [(index0 t).1]; omega
  | ⟨1, _⟩ => show win0_0.index t 1 * 1024 + 1 * k.val = k.val; rw [(index0 t).2]; omega

theorem blkX_eq (t : Fin cfg0.N) : blkX m c t = argX m c := by
  funext y
  obtain ⟨r, k, rfl⟩ : ∃ (r : Fin 256) (k : Fin 1024), y = ix2 r k := ⟨y 0, y 1, ValueIdx.eq_ix2 y⟩
  unfold blkX iblk
  rw [View.read_apply]
  show V m c main_arg1 _ = m _ _
  unfold V
  congr 1
  funext a
  apply Fin.ext
  match a with
  | ⟨0, _⟩ => show win0_1.index t 0 * 256 + 1 * r.val = r.val; rw [(index1 t).1]; omega
  | ⟨1, _⟩ => show win0_1.index t 1 * 1024 + 1 * k.val = k.val; rw [(index1 t).2]; omega

theorem blkG_eq (t : Fin cfg0.N) : blkG m c t = argG m c := by
  funext y
  obtain ⟨r, k, rfl⟩ : ∃ (r : Fin 1) (k : Fin 1024), y = ix2 r k := ⟨y 0, y 1, ValueIdx.eq_ix2 y⟩
  unfold blkG iblk
  rw [View.read_apply]
  show V m c main_arg2 _ = m _ _
  unfold V
  congr 1
  funext a
  apply Fin.ext
  match a with
  | ⟨0, _⟩ => show win0_2.index t 0 * 1 + 1 * r.val = r.val; rw [(index2 t).1]; omega
  | ⟨1, _⟩ => show win0_2.index t 1 * 1024 + 1 * k.val = k.val; rw [(index2 t).2]; omega

theorem tileX_eq (t : Fin cfg0.N) : tileX (blkX m c t) (blkD m c t) (blkG m c t) = resX m c := by
  rw [blkX_eq, blkD_eq, blkG_eq]
  rfl

theorem tileG_eq (t : Fin cfg0.N) : tileG (blkX m c t) (blkD m c t) = resG m c := by
  rw [blkX_eq, blkD_eq]
  rfl

theorem final_x : (dats m 0 c).arrAt 3 cfg0.N = resX m c :=
  (dats m 0 c).arrAt_eq_of_cover 3 (resX m c)
    (fun t hf => by
      rw [flushed3_A, out_x]
      funext j
      rw [View.read_apply]
      have e : ((cfg0.win 3).blk t).view.emb j = (j : S256x1024.Idx) := by
        funext a
        apply Fin.ext
        match a with
        | ⟨0, _⟩ => show win0_3.index t 0 * 256 + 1 * (j 0).val = (j 0).val; rw [(index3 t).1]; omega
        | ⟨1, _⟩ => show win0_3.index t 1 * 1024 + 1 * (j 1).val = (j 1).val; rw [(index3 t).2]; omega
      rw [e]
      exact congrFun (tileX_eq m c t) j)
    (fun i => by
      have h0 : (i 0 : ℕ) < 256 := (i 0).isLt
      have h1 : (i 1 : ℕ) < 1024 := (i 1).isLt
      have hN : cfg0.N = 1 := N_0
      have hp : 0 < cfg0.N := by omega
      refine ⟨⟨0, hp⟩, flush0_3 _, ?_⟩
      show (i : S256x1024.Idx) ∈ ((View.whole main_v0_0).slice (win0_3.rect ⟨0, hp⟩)).set
      rw [View.set_slice_whole, Rect.mem_set_unit]
      intro a
      match a with
      | ⟨0, _⟩ =>
        show win0_3.index _ 0 * 256 ≤ (i 0 : ℕ) ∧ (i 0 : ℕ) < win0_3.index _ 0 * 256 + 256
        rw [(index3 _).1]; omega
      | ⟨1, _⟩ =>
        show win0_3.index _ 1 * 1024 ≤ (i 1 : ℕ) ∧ (i 1 : ℕ) < win0_3.index _ 1 * 1024 + 1024
        rw [(index3 _).2]; omega)

theorem final_g : (dats m 0 c).arrAt 4 cfg0.N = resG m c :=
  (dats m 0 c).arrAt_eq_of_cover 4 (resG m c)
    (fun t hf => by
      rw [flushed4_A, out_g]
      funext j
      rw [View.read_apply]
      have e : ((cfg0.win 4).blk t).view.emb j = (j : S1x1024.Idx) := by
        funext a
        apply Fin.ext
        match a with
        | ⟨0, _⟩ => show win0_4.index t 0 * 1 + 1 * (j 0).val = (j 0).val; rw [(index4 t).1]; omega
        | ⟨1, _⟩ => show win0_4.index t 1 * 1024 + 1 * (j 1).val = (j 1).val; rw [(index4 t).2]; omega
      rw [e]
      exact congrFun (tileG_eq m c t) j)
    (fun i => by
      have h0 : (i 0 : ℕ) < 1 := (i 0).isLt
      have h1 : (i 1 : ℕ) < 1024 := (i 1).isLt
      have hN : cfg0.N = 1 := N_0
      have hp : 0 < cfg0.N := by omega
      refine ⟨⟨0, hp⟩, flush0_4 _, ?_⟩
      show (i : S1x1024.Idx) ∈ ((View.whole main_v0_1).slice (win0_4.rect ⟨0, hp⟩)).set
      rw [View.set_slice_whole, Rect.mem_set_unit]
      intro a
      match a with
      | ⟨0, _⟩ =>
        show win0_4.index _ 0 * 1 ≤ (i 0 : ℕ) ∧ (i 0 : ℕ) < win0_4.index _ 0 * 1 + 1
        rw [(index4 _).1]; omega
      | ⟨1, _⟩ =>
        show win0_4.index _ 1 * 1024 ≤ (i 1 : ℕ) ∧ (i 1 : ℕ) < win0_4.index _ 1 * 1024 + 1024
        rw [(index4 _).2]; omega)

end Arrays

end Norm.Memory

namespace Norm.MemoryRef

open Cert.NormMemRefIdeal Cert.NormMemRefIdeal.Gen Idealize.ShloMosaic Idealize.ShloMosaic.TcCoe

variable (X P : FVec Ideal S256x1024 .f32) (G : FVec Ideal S1x1024 .f32)

/-! ## The reference's arrays -/

def shiftedA : FVec Ideal S256x1 .f32 :=
  addf (Host.divf (broadcastInDim S256x1 ![0] bcast_S256_S256x1_0 (Host.reduceAdd (mulf X X) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

def rsA (M : FVec Ideal S256x1 .f32) : FVec Ideal S256x1 .f32 := Host.rsqrt M

/-- A column at every entry of its row. -/
def across (R : FVec Ideal S256x1 .f32) : FVec Ideal S256x1024 .f32 := broadcastInDim S256x1024 ![0, 1] bcast_S256x1_S256x1024_0_1 R

def gained : FVec Ideal S256x1024 .f32 := mulf P (broadcastInDim S256x1024 ![0, 1] bcast_S1x1024_S256x1024_0_1 G)

def overlap (D : FVec Ideal S256x1024 .f32) : FVec Ideal S256x1 .f32 :=
  shapeCast _ (Host.reduceAdd (mulf X D) (constant S_ .f32 0x00000000#32) reducesTo_S256x1024_S256_d1 h_S_) shapeCasts_S256_S256x1

def slopeA (R M K : FVec Ideal S256x1 .f32) : FVec Ideal S256x1 .f32 :=
  Host.divf (mulf K (mulf (broadcastInDim S256x1 ![] bcast_S_S256x1 (constant S_ .f32 0xBF000000#32)) (Host.divf R M))) (broadcastInDim S256x1 ![] bcast_S_S256x1 (constant S_ .f32 0x44800000#32))

def spread (C : FVec Ideal S256x1 .f32) : FVec Ideal S256x1024 .f32 :=
  broadcastInDim S256x1024 ![0] bcast_S256_S256x1024_0 (Host.reduceAdd C (constant S_ .f32 0x00000000#32) reducesTo_S256x1_S256_d1 h_S_)

def rows (D R C : FVec Ideal S256x1024 .f32) : FVec Ideal S256x1024 .f32 := addf (addf (mulf D R) (mulf X C)) (mulf C X)

def gains (R : FVec Ideal S256x1024 .f32) : FVec Ideal S1x1024 .f32 :=
  shapeCast _ (Host.reduceAdd (mulf (mulf X R) P) (constant S_ .f32 0x00000000#32) reducesTo_S256x1024_S1024_d0 h_S_) shapeCasts_S1024_S1x1024

/-- The rows' gradients. -/
def outX : FVec Ideal S256x1024 .f32 :=
  rows X (gained P G) (across (rsA (shiftedA X)))
    (spread (slopeA (rsA (shiftedA X)) (shiftedA X) (overlap X (gained P G))))

/-- The gain's gradient. -/
def outG : FVec Ideal S1x1024 .f32 := gains X P (across (rsA (shiftedA X)))

/-! ## The arrays at an index -/

theorem shifted_at (r : Fin 256) : shiftedA X (ix2 r 0) = shifted (fun k : Fin 1024 => X (ix2 r k)) := by
  unfold shiftedA
  pointwise []
  rfl

theorem rs_at (r : Fin 256) : rsA (shiftedA X) (ix2 r 0) = rs (fun k : Fin 1024 => X (ix2 r k)) := by
  unfold rs
  rw [← shifted_at]
  generalize shiftedA X = M
  unfold rsA
  pointwise []

theorem across_at (R : FVec Ideal S256x1 .f32) (r : Fin 256) (k : Fin 1024) : across R (ix2 r k) = R (ix2 r 0) := by
  unfold across
  pointwise []

theorem gained_at (r : Fin 256) (k : Fin 1024) : gained P G (ix2 r k) = P (ix2 r k) * G (ix2 0 k) := by
  unfold gained
  pointwise []

theorem overlap_at (D : FVec Ideal S256x1024 .f32) (r : Fin 256) : overlap X D (ix2 r 0) = ∑ j : Fin 1024, X (ix2 r j) * D (ix2 r j) := by
  unfold overlap
  pointwise []

theorem slope_at (R M K : FVec Ideal S256x1 .f32) (r : Fin 256) :
    slopeA R M K (ix2 r 0) = Ideal.div (K (ix2 r 0) * (negHalf * Ideal.div (R (ix2 r 0)) (M (ix2 r 0)))) width := by
  unfold slopeA
  pointwise []

theorem spread_at (C : FVec Ideal S256x1 .f32) (r : Fin 256) (k : Fin 1024) : spread C (ix2 r k) = C (ix2 r 0) := by
  unfold spread
  pointwise []
  exact Fin.sum_univ_one _

theorem rows_at (D R C : FVec Ideal S256x1024 .f32) (r : Fin 256) (k : Fin 1024) :
    rows X D R C (ix2 r k) = D (ix2 r k) * R (ix2 r k) + X (ix2 r k) * C (ix2 r k) + C (ix2 r k) * X (ix2 r k) := by
  unfold rows
  pointwise []

theorem gains_at (R : FVec Ideal S256x1024 .f32) (k : Fin 1024) :
    gains X P R (ix2 0 k) = ∑ r : Fin 256, X (ix2 r k) * R (ix2 r k) * P (ix2 r k) := by
  unfold gains
  pointwise []

/-! ## The kernel's arrays -/

/-- The mean's derivative with nothing added. -/
theorem direct_zero {n : ℕ} (x d : Fin n → EReal) (k : Fin n) : d k * rs x + x k * slope x d + slope x d * x k = project x d 0 k := by
  rw [← direct_eq]
  unfold direct
  rw [zero_add]

theorem outX_match (m : (ℓ : Loc Cert.NormMemIdeal.nD Cert.NormMemIdeal.τ Cert.NormMemIdeal.sig) → Buf (Elt Ideal) ℓ) (c : Dev Cert.NormMemIdeal.nD) :
    outX (Memory.argX m c) (Memory.argD m c) (Memory.argG m c) = Memory.resX m c := by
  funext y
  obtain ⟨r, k, rfl⟩ : ∃ (r : Fin 256) (k : Fin 1024), y = ix2 r k := ⟨y 0, y 1, ValueIdx.eq_ix2 y⟩
  refine (rows_at _ _ _ _ r k).trans ?_
  rw [across_at, spread_at, slope_at, rs_at, shifted_at, overlap_at]
  simp only [gained_at]
  exact direct_zero (fun j : Fin 1024 => Memory.argX m c (ix2 r j)) (fun j => Memory.argD m c (ix2 r j) * Memory.argG m c (ix2 0 j)) k

theorem outG_match (m : (ℓ : Loc Cert.NormMemIdeal.nD Cert.NormMemIdeal.τ Cert.NormMemIdeal.sig) → Buf (Elt Ideal) ℓ) (c : Dev Cert.NormMemIdeal.nD) :
    outG (Memory.argX m c) (Memory.argD m c) = Memory.resG m c := by
  funext y
  obtain ⟨i, k, rfl⟩ : ∃ (i : Fin 1) (k : Fin 1024), y = ix2 i k := ⟨y 0, y 1, ValueIdx.eq_ix2 y⟩
  obtain rfl : i = 0 := Fin.ext (by omega)
  refine (gains_at _ _ _ k).trans ?_
  show _ = ∑ r : Fin 256, Memory.argD m c (ix2 r k) * (Memory.argX m c (ix2 r k) * rs (fun j : Fin 1024 => Memory.argX m c (ix2 r j)))
  refine Finset.sum_congr rfl fun r _ => ?_
  rw [across_at, rs_at]
  exact mul_comm _ _

end Norm.MemoryRef

end
-- ==== Proof.Loss.Tile.lean ====
/- The loss head's values at a grid point: the loss of the point's rows, their gradients and the gain's. -/
module

public import proofs.«01_k».proof.Proof.Norm.Row
public import proofs.«01_k».proof.Proof.Math.RowSums
public import proofs.«01_k».proof.Proof.Gen.LossHeadIdeal.Value
public import Idealize.ShloMosaic.Lib.Pointwise

@[expose] public section

set_option maxRecDepth 16384

noncomputable section

namespace Loss

open Norm Reals Idealize.ShloMosaic

/-! ## A row -/

abbrev half : EReal := Ideal.ofBits .f32 0x3F000000#32
abbrev perWidth : EReal := Ideal.ofBits .f32 0x3A800000#32

theorem half_eq : half = ((1 / 2 : ℝ) : EReal) := by
  simp [half, Ideal.ofBits, Ideal.ieee, -EReal.coe_mul]; norm_num

theorem perWidth_eq : perWidth = ((1 / 1024 : ℝ) : EReal) := by
  simp [perWidth, Ideal.ofBits, Ideal.ieee, -EReal.coe_mul]; norm_num

/-- The error: the normalised row with its gain, less the target. -/
def err {n : ℕ} (x g t : Fin n → EReal) (k : Fin n) : EReal := x k * rs x * g k - t k

/-- The row's loss: half its mean square error. -/
def rowLoss {n : ℕ} (x g t : Fin n → EReal) : EReal := half * Ideal.div (∑ k, err x g t k * err x g t k) width

/-- The cotangent of the normalised row with its gain. -/
def pull {n : ℕ} (x g t : Fin n → EReal) (k : Fin n) : EReal := err x g t k * perWidth

/-- The half goes into any sum. -/
theorem half_sum {n : ℕ} (f : Fin n → EReal) : half * ∑ r, f r = ∑ r, half * f r := by
  rw [mul_comm, half_eq, sum_mul_coe _ _ (by norm_num)]
  exact Finset.sum_congr rfl fun r _ => mul_comm _ _

open Cert.LossHeadIdeal Cert.LossHeadIdeal.Gen Cert.LossHeadIdeal.Value Idealize.ShloMosaic.TcCoe Idealize.ShloMosaic.Tactic
open Idealize.SL.Sem RowSums

/-! ## The point's values -/

variable (x : FVec Ideal S512x1024 .f32) (g : FVec Ideal S1x1024 .f32) (t : FVec Ideal S512x1024 .f32)

/-- A row of a tile, and the gain. -/
abbrev row (x : FVec Ideal S512x1024 .f32) (r : Fin 512) : Fin 1024 → EReal := fun k => x (ix2 r k)
abbrev gain (g : FVec Ideal S1x1024 .f32) : Fin 1024 → EReal := fun k => g (ix2 0 k)

theorem rs_at (r : Fin 512) : (k0_pay5 x : FVec Ideal S512x1 .f32) (ix2 r 0) = rs (row x r) := by
  unfold k0_pay5
  pointwise []
  rfl

theorem scaled_at (r : Fin 512) (k : Fin 1024) :
    (k0_pay6 x : FVec Ideal S512x1024 .f32) (ix2 r k) = x (ix2 r k) * rs (row x r) := by
  rw [← rs_at]
  unfold k0_pay6
  generalize (k0_pay5 x : FVec Ideal S512x1 .f32) = v
  pointwise []

theorem err_at (r : Fin 512) (k : Fin 1024) :
    (k0_pay7 x g t : FVec Ideal S512x1024 .f32) (ix2 r k) = err (row x r) (gain g) (row t r) k := by
  unfold err
  rw [← scaled_at]
  unfold k0_pay7
  generalize (k0_pay6 x : FVec Ideal S512x1024 .f32) = Y
  pointwise []

theorem pull_at (r : Fin 512) (k : Fin 1024) :
    (k0_pay9 x g t : FVec Ideal S512x1024 .f32) (ix2 r k) = pull (row x r) (gain g) (row t r) k := by
  unfold pull
  rw [← err_at]
  unfold k0_pay9
  generalize (k0_pay7 x g t : FVec Ideal S512x1024 .f32) = E
  pointwise []

theorem firstL_at (l : Fin 128) : (k0_pay3 : FVec Ideal S1x128 .f32) (ix2 0 l) = 0 := by
  unfold k0_pay3
  pointwise []

theorem firstG_at (k : Fin 1024) : (k0_pay4 : FVec Ideal S1x1024 .f32) (ix2 0 k) = 0 := by
  unfold k0_pay4
  pointwise []

theorem loss_at (acc : FVec Ideal S1x128 .f32) (l : Fin 128) :
    (k0_pay8 x g t acc : FVec Ideal S1x128 .f32) (ix2 0 l) = acc (ix2 0 l) + ∑ r : Fin 512, rowLoss (row x r) (gain g) (row t r) := by
  unfold rowLoss
  rw [← half_sum]
  simp only [← err_at]
  unfold k0_pay8
  generalize (k0_pay7 x g t : FVec Ideal S512x1024 .f32) = E
  pointwise []

theorem sum_at (Y P : FVec Ideal S512x1024 .f32) (acc : FVec Ideal S1x1024 .f32) (k : Fin 1024) :
    (k0_pay1 Y P acc : FVec Ideal S1x1024 .f32) (ix2 0 k) = acc (ix2 0 k) + ∑ r : Fin 512, P (ix2 r k) * Y (ix2 r k) := by
  unfold k0_pay1
  pointwise []

theorem back_at (v : FVec Ideal S512x1 .f32) (Y P : FVec Ideal S512x1024 .f32) (r : Fin 512) (k : Fin 1024) :
    (k0_pay2 v Y P g : FVec Ideal S512x1024 .f32) (ix2 r k)
      = v (ix2 r 0) * (P (ix2 r k) * g (ix2 0 k) - Y (ix2 r k) * Ideal.div (∑ j : Fin 1024, P (ix2 r j) * g (ix2 0 j) * Y (ix2 r j)) width) := by
  unfold k0_pay2
  pointwise []

/-- A row's gradient. -/
theorem row_at (r : Fin 512) (k : Fin 1024) :
    (k0_pay2 (k0_pay5 x) (k0_pay6 x) (k0_pay9 x g t) g : FVec Ideal S512x1024 .f32) (ix2 r k)
      = project (row x r) (fun j => pull (row x r) (gain g) (row t r) j * g (ix2 0 j)) 0 k := by
  refine (back_at g _ _ _ r k).trans ?_
  unfold project
  simp only [pull_at, rs_at, scaled_at]
  rw [zero_add]

/-- The gain's gradient over the tile's rows. -/
theorem gain_at (acc : FVec Ideal S1x1024 .f32) (k : Fin 1024) :
    (k0_pay1 (k0_pay6 x) (k0_pay9 x g t) acc : FVec Ideal S1x1024 .f32) (ix2 0 k)
      = acc (ix2 0 k) + ∑ r : Fin 512, pull (row x r) (gain g) (row t r) k * (x (ix2 r k) * rs (row x r)) := by
  refine (sum_at _ _ _ k).trans ?_
  simp only [pull_at, scaled_at]

/-! ## What a point leaves -/

theorem hz : (![0, 0] : Fin 2 → Nat) = fun _ => 0 := funext fun a => by fin_cases a <;> rfl

theorem out_A_3 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : cond0_0 i)
    (x0 : Vec Ideal S512x1024 .f32) (x1 : Vec Ideal S1x1024 .f32) (x2 : Vec Ideal S512x1024 .f32) :
    out0_A_3 (F := Ideal) c i a1 h1 a2 h2 a3 h3 a4 h4 a5 h5 a6 h6 hc0 x0 x1 x2 = k0_pay8 (F := Ideal) x0 x1 x2 (k0_pay3 (F := Ideal)) := by
  unfold out0_A_3
  rw [View.read_writes_eq_canon _ _ _ (cover0_A_3 c i a1 h1 a2 h2 a3 h3 a4 h4 a5 h5 a6 h6 hc0 x0 x1 x2)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

theorem out_A_4 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : cond0_0 i)
    (x0 : Vec Ideal S512x1024 .f32) (x1 : Vec Ideal S1x1024 .f32) (x2 : Vec Ideal S512x1024 .f32) :
    out0_A_4 (F := Ideal) c i a1 h1 a2 h2 a3 h3 a4 h4 a5 h5 a6 h6 hc0 x0 x1 x2 = k0_pay2 (F := Ideal) (k0_pay5 (F := Ideal) x0) (k0_pay6 (F := Ideal) x0) (k0_pay9 (F := Ideal) x0 x1 x2) x1 := by
  unfold out0_A_4
  rw [View.read_writes_eq_canon _ _ _ (cover0_A_4 c i a1 h1 a2 h2 a3 h3 a4 h4 a5 h5 a6 h6 hc0 x0 x1 x2)]
  unfold kernelRun0_A
  dsimp only
  try sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

theorem out_A_5 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : cond0_0 i)
    (x0 : Vec Ideal S512x1024 .f32) (x1 : Vec Ideal S1x1024 .f32) (x2 : Vec Ideal S512x1024 .f32) :
    out0_A_5 (F := Ideal) c i a1 h1 a2 h2 a3 h3 a4 h4 a5 h5 a6 h6 hc0 x0 x1 x2 = k0_pay1 (F := Ideal) (k0_pay6 (F := Ideal) x0) (k0_pay9 (F := Ideal) x0 x1 x2) (k0_pay4 (F := Ideal)) := by
  unfold out0_A_5
  rw [View.read_writes_eq_canon _ _ _ (cover0_A_5 c i a1 h1 a2 h2 a3 h3 a4 h4 a5 h5 a6 h6 hc0 x0 x1 x2)]
  unfold kernelRun0_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

theorem out_B_3 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : ¬cond0_0 i)
    (x0 : Vec Ideal S512x1024 .f32) (x1 : Vec Ideal S1x1024 .f32) (x2 : Vec Ideal S512x1024 .f32) (l : Vec Ideal S1x128 .f32) (acc : Vec Ideal S1x1024 .f32) :
    out0_B_3 (F := Ideal) c i a1 h1 a2 h2 a3 h3 a4 h4 a5 h5 a6 h6 hc0 x0 x1 x2 l acc = k0_pay8 (F := Ideal) x0 x1 x2 l := by
  unfold out0_B_3
  rw [View.read_writes_eq_canon _ _ _ (cover0_B_3 c i a1 h1 a2 h2 a3 h3 a4 h4 a5 h5 a6 h6 hc0 x0 x1 x2 l acc)]
  unfold kernelRun0_B
  dsimp only
  try sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

theorem out_B_4 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : ¬cond0_0 i)
    (x0 : Vec Ideal S512x1024 .f32) (x1 : Vec Ideal S1x1024 .f32) (x2 : Vec Ideal S512x1024 .f32) (l : Vec Ideal S1x128 .f32) (acc : Vec Ideal S1x1024 .f32) :
    out0_B_4 (F := Ideal) c i a1 h1 a2 h2 a3 h3 a4 h4 a5 h5 a6 h6 hc0 x0 x1 x2 l acc = k0_pay2 (F := Ideal) (k0_pay5 (F := Ideal) x0) (k0_pay6 (F := Ideal) x0) (k0_pay9 (F := Ideal) x0 x1 x2) x1 := by
  unfold out0_B_4
  rw [View.read_writes_eq_canon _ _ _ (cover0_B_4 c i a1 h1 a2 h2 a3 h3 a4 h4 a5 h5 a6 h6 hc0 x0 x1 x2 l acc)]
  unfold kernelRun0_B
  dsimp only
  try sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

theorem out_B_5 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S1x128 .f32) (h4 : a4.IsWhole) (a5 : Memref sig .tc .vmem S512x1024 .f32) (h5 : a5.IsWhole) (a6 : Memref sig .tc .vmem S1x1024 .f32) (h6 : a6.IsWhole) (hc0 : ¬cond0_0 i)
    (x0 : Vec Ideal S512x1024 .f32) (x1 : Vec Ideal S1x1024 .f32) (x2 : Vec Ideal S512x1024 .f32) (l : Vec Ideal S1x128 .f32) (acc : Vec Ideal S1x1024 .f32) :
    out0_B_5 (F := Ideal) c i a1 h1 a2 h2 a3 h3 a4 h4 a5 h5 a6 h6 hc0 x0 x1 x2 l acc = k0_pay1 (F := Ideal) (k0_pay6 (F := Ideal) x0) (k0_pay9 (F := Ideal) x0 x1 x2) acc := by
  unfold out0_B_5
  rw [View.read_writes_eq_canon _ _ _ (cover0_B_5 c i a1 h1 a2 h2 a3 h3 a4 h4 a5 h5 a6 h6 hc0 x0 x1 x2 l acc)]
  unfold kernelRun0_B
  dsimp only
  try sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1x128) hz, shapeCast_self]

end Loss

end
-- ==== Proof.Loss.Array.lean ====
/- The loss head's arrays at an index: the loss and the gain's gradient, gathered over the eight grid points, and the rows'
   gradients, each point leaving 512 rows. -/
module

public import proofs.«01_k».proof.Proof.Loss.Tile

@[expose] public section

set_option maxRecDepth 16384

noncomputable section

namespace Loss

open Cert.LossHeadIdeal Cert.LossHeadIdeal.Gen Cert.LossHeadIdeal.Value Idealize.ShloMosaic Idealize.ShloMosaic.TcCoe Idealize.SL.Sem RowSums Norm

variable (m : (ℓ : Loc nD τ sig) → Buf (Elt Ideal) ℓ) (c : Dev nD)

/-- The arguments: the rows, the gain, the target. -/
abbrev argX : FVec Ideal S4096x1024 .f32 := m ((c.tc : Thread nD τ).loc main_arg0)
abbrev argG : FVec Ideal S1x1024 .f32 := m ((c.tc : Thread nD τ).loc main_arg1)
abbrev argT : FVec Ideal S4096x1024 .f32 := m ((c.tc : Thread nD τ).loc main_arg2)

abbrev blkX (t : Fin cfg0.N) : FVec Ideal S512x1024 .f32 := iblk m c 0 t
abbrev blkG (t : Fin cfg0.N) : FVec Ideal S1x1024 .f32 := iblk m c 1 t
abbrev blkT (t : Fin cfg0.N) : FVec Ideal S512x1024 .f32 := iblk m c 2 t

/-! ## The results -/

abbrev rowX (r : Fin 4096) : Fin 1024 → EReal := fun k => argX m c (ix2 r k)
abbrev rowT (r : Fin 4096) : Fin 1024 → EReal := fun k => argT m c (ix2 r k)
abbrev allG : Fin 1024 → EReal := fun k => argG m c (ix2 0 k)

/-- A row's loss. -/
def lossTerm (r : Fin 4096) : EReal := rowLoss (rowX m c r) (allG m c) (rowT m c r)

/-- A row's term of the gain's gradient. -/
def gainTerm (k : Fin 1024) (r : Fin 4096) : EReal :=
  pull (rowX m c r) (allG m c) (rowT m c r) k * (argX m c (ix2 r k) * rs (rowX m c r))

/-- The loss, in every lane. -/
def resL : FVec Ideal S1x128 .f32 := fun _ => ∑ r, lossTerm m c r

/-- The rows' gradients. -/
def resX : FVec Ideal S4096x1024 .f32 := fun y =>
  project (rowX m c (y 0)) (fun j => pull (rowX m c (y 0)) (allG m c) (rowT m c (y 0)) j * argG m c (ix2 0 j)) 0 (y 1)

/-- The gain's gradient. -/
def resG : FVec Ideal S1x1024 .f32 := fun y => ∑ r, gainTerm m c (y 1) r

/-! ## The blocks a point reads -/

theorem lt8 (t : Fin cfg0.N) : t.val < 8 := by
  have h : cfg0.N = 8 := N_0
  have := t.isLt
  omega

/-- The row of the whole array a point's row is. -/
abbrev rowOf (t : Fin cfg0.N) (r : Fin 512) : Fin 4096 := ⟨512 * t.val + r.val, by have := lt8 t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel

theorem blkX_at (t : Fin cfg0.N) (r : Fin 512) (k : Fin 1024) :
    blkX m c t (ix2 r k) = argX m c (ix2 (rowOf t r) k) := by
  unfold blkX iblk
  rw [View.read_apply]
  show V m c main_arg0 _ = m _ _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem blkG_at (t : Fin cfg0.N) (r : Fin 1) (k : Fin 1024) :
    blkG m c t (ix2 r k) = argG m c (ix2 r k) := by
  unfold blkG iblk
  rw [View.read_apply]
  show V m c main_arg1 _ = m _ _
  unfold V
  congr 1
  funext a
  apply Fin.ext
  match a with
  | ⟨0, _⟩ => show win0_1.index t 0 * 1 + 1 * r.val = r.val; rw [(index1 t).1]; omega
  | ⟨1, _⟩ => show win0_1.index t 1 * 1024 + 1 * k.val = k.val; rw [(index1 t).2]; omega

theorem blkT_at (t : Fin cfg0.N) (r : Fin 512) (k : Fin 1024) :
    blkT m c t (ix2 r k) = argT m c (ix2 (rowOf t r) k) := by
  unfold blkT iblk
  rw [View.read_apply]
  show V m c main_arg2 _ = m _ _
  unfold V
  congr 1
  funext a
  apply Fin.ext
  match a with
  | ⟨0, _⟩ => show win0_2.index t 0 * 512 + 1 * r.val = 512 * t.val + r.val; rw [(index2 t).1]; omega
  | ⟨1, _⟩ => show win0_2.index t 1 * 1024 + 1 * k.val = k.val; rw [(index2 t).2]; omega

theorem rowX_eq (t : Fin cfg0.N) (r : Fin 512) : row (blkX m c t) r = rowX m c (rowOf t r) := funext fun j => blkX_at m c t r j
theorem rowT_eq (t : Fin cfg0.N) (r : Fin 512) : row (blkT m c t) r = rowT m c (rowOf t r) := funext fun j => blkT_at m c t r j
theorem gain_eq (t : Fin cfg0.N) : gain (blkG m c t) = allG m c := funext fun j => blkG_at m c t 0 j

theorem lossTerm_at (t : Fin cfg0.N) (r : Fin 512) :
    rowLoss (row (blkX m c t) r) (gain (blkG m c t)) (row (blkT m c t) r) = lossTerm m c (rowOf t r) := by
  unfold lossTerm
  rw [rowX_eq, rowT_eq, gain_eq]

theorem gainTerm_at (k : Fin 1024) (t : Fin cfg0.N) (r : Fin 512) :
    pull (row (blkX m c t) r) (gain (blkG m c t)) (row (blkT m c t) r) k * (blkX m c t (ix2 r k) * rs (row (blkX m c t) r))
      = gainTerm m c k (rowOf t r) := by
  unfold gainTerm
  rw [rowX_eq, rowT_eq, gain_eq, blkX_at]

/-! ## What a point leaves -/

theorem outs_x (t : Fin cfg0.N) : (outsAt0 m c t.val t.isLt).2.1
    = k0_pay2 (F := Ideal) (k0_pay5 (F := Ideal) (blkX m c t)) (k0_pay6 (F := Ideal) (blkX m c t))
      (k0_pay9 (F := Ideal) (blkX m c t) (blkG m c t) (blkT m c t)) (blkG m c t) := by
  by_cases h : t.val % 8 = 0
  · rw [outsAt0_A m c t h]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _
  · rw [outsAt0_B m c t h]
    dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _ _ _

theorem outs_x_at (t : Fin cfg0.N) (r : Fin 512) (k : Fin 1024) :
    (outsAt0 m c t.val t.isLt).2.1 (ix2 r k) = resX m c (ix2 (rowOf t r) k) := by
  rw [outs_x]
  refine (row_at _ _ _ r k).trans ?_
  show _ = project (rowX m c (rowOf t r)) (fun j => pull (rowX m c (rowOf t r)) (allG m c) (rowT m c (rowOf t r)) j * argG m c (ix2 0 j)) 0 k
  rw [rowX_eq, rowT_eq, gain_eq]
  congr 1
  funext j
  rw [blkG_at]

theorem outs_l_first (t : Fin cfg0.N) (h : t.val % 8 = 0) : (outsAt0 m c t.val t.isLt).1 = k0_pay8 (F := Ideal) (blkX m c t) (blkG m c t) (blkT m c t) (k0_pay3 (F := Ideal)) := by
  rw [outsAt0_A m c t h]
  dsimp only
  exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _

theorem outs_l_next (t : Fin cfg0.N) (h : ¬t.val % 8 = 0) : (outsAt0 m c t.val t.isLt).1
    = k0_pay8 (F := Ideal) (blkX m c t) (blkG m c t) (blkT m c t) (outsAt0 m c (t.val - 1) (Nat.lt_of_le_of_lt (Nat.sub_le _ _) t.isLt)).1 := by
  rw [outsAt0_B m c t h]
  dsimp only
  exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _ _ _

theorem outs_l_at (k : Fin 128) : ∀ (n : ℕ) (h : n < cfg0.N), (outsAt0 m c n h).1 (ix2 0 k) = upTo (lossTerm m c) (512 * (n + 1))
  | 0, h => by
    rw [outs_l_first m c ⟨0, h⟩ rfl]
    refine (loss_at _ _ _ _ k).trans ?_
    rw [firstL_at]
    exact upTo_first _ _ fun r => lossTerm_at m c ⟨0, h⟩ r
  | n + 1, h => by
    have hN : cfg0.N = 8 := N_0
    rw [outs_l_next m c ⟨n + 1, h⟩ (by dsimp only; omega)]
    refine (loss_at _ _ _ _ k).trans ?_
    have e : (outsAt0 m c (n + 1 - 1) (Nat.lt_of_le_of_lt (Nat.sub_le _ _) h)).1 (ix2 0 k) = _ := outs_l_at k n (by omega)
    dsimp only
    rw [e]
    exact upTo_step _ _ (n + 1) (by omega) fun r => lossTerm_at m c ⟨n + 1, h⟩ r

theorem outs_g_first (t : Fin cfg0.N) (h : t.val % 8 = 0) : (outsAt0 m c t.val t.isLt).2.2 = k0_pay1 (F := Ideal) (k0_pay6 (F := Ideal) (blkX m c t)) (k0_pay9 (F := Ideal) (blkX m c t) (blkG m c t) (blkT m c t)) (k0_pay4 (F := Ideal)) := by
  rw [outsAt0_A m c t h]
  dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _

theorem outs_g_next (t : Fin cfg0.N) (h : ¬t.val % 8 = 0) : (outsAt0 m c t.val t.isLt).2.2
    = k0_pay1 (F := Ideal) (k0_pay6 (F := Ideal) (blkX m c t)) (k0_pay9 (F := Ideal) (blkX m c t) (blkG m c t) (blkT m c t)) (outsAt0 m c (t.val - 1) (Nat.lt_of_le_of_lt (Nat.sub_le _ _) t.isLt)).2.2 := by
  rw [outsAt0_B m c t h]
  dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _ _ _

theorem outs_g_at (k : Fin 1024) : ∀ (n : ℕ) (h : n < cfg0.N), (outsAt0 m c n h).2.2 (ix2 0 k) = upTo (gainTerm m c k) (512 * (n + 1))
  | 0, h => by
    rw [outs_g_first m c ⟨0, h⟩ rfl]
    refine (gain_at _ _ _ _ k).trans ?_
    rw [firstG_at]
    exact upTo_first _ _ fun r => gainTerm_at m c k ⟨0, h⟩ r
  | n + 1, h => by
    have hN : cfg0.N = 8 := N_0
    rw [outs_g_next m c ⟨n + 1, h⟩ (by dsimp only; omega)]
    refine (gain_at _ _ _ _ k).trans ?_
    have e : (outsAt0 m c (n + 1 - 1) (Nat.lt_of_le_of_lt (Nat.sub_le _ _) h)).2.2 (ix2 0 k) = _ := outs_g_at k n (by omega)
    dsimp only
    rw [e]
    exact upTo_step _ _ (n + 1) (by omega) fun r => gainTerm_at m c k ⟨n + 1, h⟩ r

/-! ## The arrays -/

theorem final_l : (dats m 0 c).arrAt 3 cfg0.N = resL m c :=
  (dats m 0 c).arrAt_eq_of_cover 3 (resL m c)
    (fun t hf => by
      have h7 : t.val = 7 := by have := (flush0_3 t).mp hf; have := lt8 t; omega
      rw [flushed3]
      funext j
      have hj : (j 0).val < 1 := (j 0).isLt
      rw [View.read_apply]
      have e : ((cfg0.win 3).blk t).view.emb j = (ix2 0 (j 1) : S1x128.Idx) := by
        funext a
        apply Fin.ext
        match a with
        | ⟨0, _⟩ => show win0_3.index t 0 * 1 + 1 * (j 0).val = 0; rw [(index3 t).1]; omega
        | ⟨1, _⟩ => show win0_3.index t 1 * 128 + 1 * (j 1).val = (j 1).val; rw [(index3 t).2]; omega
      have e' : (j : S1x128.Idx) = ix2 0 (j 1) := by
        funext a
        apply Fin.ext
        match a with
        | ⟨0, _⟩ => show (j 0).val = 0; omega
        | ⟨1, _⟩ => rfl
      rw [e]
      refine ((congrArg (outsAt0 m c t.val t.isLt).1 e').trans (outs_l_at m c (j 1) t.val t.isLt)).trans ?_
      rw [h7]
      exact upTo_all _)
    (fun i => by
      have h0 : (i 0 : ℕ) < 1 := (i 0).isLt
      have h1 : (i 1 : ℕ) < 128 := (i 1).isLt
      have hN : cfg0.N = 8 := N_0
      have hp : 7 < cfg0.N := by omega
      refine ⟨⟨7, hp⟩, (flush0_3 _).mpr rfl, ?_⟩
      show (i : S1x128.Idx) ∈ ((View.whole main_v0_0).slice (win0_3.rect ⟨7, hp⟩)).set
      rw [View.set_slice_whole, Rect.mem_set_unit]
      intro a
      match a with
      | ⟨0, _⟩ =>
        show win0_3.index _ 0 * 1 ≤ (i 0 : ℕ) ∧ (i 0 : ℕ) < win0_3.index _ 0 * 1 + 1
        rw [(index3 _).1]; omega
      | ⟨1, _⟩ =>
        show win0_3.index _ 1 * 128 ≤ (i 1 : ℕ) ∧ (i 1 : ℕ) < win0_3.index _ 1 * 128 + 128
        rw [(index3 _).2]; omega)

theorem final_g : (dats m 0 c).arrAt 5 cfg0.N = resG m c :=
  (dats m 0 c).arrAt_eq_of_cover 5 (resG m c)
    (fun t hf => by
      have h7 : t.val = 7 := by have := (flush0_5 t).mp hf; have := lt8 t; omega
      rw [flushed5]
      funext j
      have hj : (j 0).val < 1 := (j 0).isLt
      rw [View.read_apply]
      have e : ((cfg0.win 5).blk t).view.emb j = (ix2 0 (j 1) : S1x1024.Idx) := by
        funext a
        apply Fin.ext
        match a with
        | ⟨0, _⟩ => show win0_5.index t 0 * 1 + 1 * (j 0).val = 0; rw [(index5 t).1]; omega
        | ⟨1, _⟩ => show win0_5.index t 1 * 1024 + 1 * (j 1).val = (j 1).val; rw [(index5 t).2]; omega
      have e' : (j : S1x1024.Idx) = ix2 0 (j 1) := by
        funext a
        apply Fin.ext
        match a with
        | ⟨0, _⟩ => show (j 0).val = 0; omega
        | ⟨1, _⟩ => rfl
      rw [e]
      refine ((congrArg (outsAt0 m c t.val t.isLt).2.2 e').trans (outs_g_at m c (j 1) t.val t.isLt)).trans ?_
      rw [h7]
      exact upTo_all _)
    (fun i => by
      have h0 : (i 0 : ℕ) < 1 := (i 0).isLt
      have h1 : (i 1 : ℕ) < 1024 := (i 1).isLt
      have hN : cfg0.N = 8 := N_0
      have hp : 7 < cfg0.N := by omega
      refine ⟨⟨7, hp⟩, (flush0_5 _).mpr rfl, ?_⟩
      show (i : S1x1024.Idx) ∈ ((View.whole main_v0_2).slice (win0_5.rect ⟨7, hp⟩)).set
      rw [View.set_slice_whole, Rect.mem_set_unit]
      intro a
      match a with
      | ⟨0, _⟩ =>
        show win0_5.index _ 0 * 1 ≤ (i 0 : ℕ) ∧ (i 0 : ℕ) < win0_5.index _ 0 * 1 + 1
        rw [(index5 _).1]; omega
      | ⟨1, _⟩ =>
        show win0_5.index _ 1 * 1024 ≤ (i 1 : ℕ) ∧ (i 1 : ℕ) < win0_5.index _ 1 * 1024 + 1024
        rw [(index5 _).2]; omega)

theorem final_x : (dats m 0 c).arrAt 4 cfg0.N = resX m c :=
  (dats m 0 c).arrAt_eq_of_cover 4 (resX m c)
    (fun t hf => by
      rw [flushed4]
      funext j
      rw [View.read_apply]
      have e : ((cfg0.win 4).blk t).view.emb j = (ix2 (rowOf t (j 0)) (j 1) : S4096x1024.Idx) := by
        funext a
        apply Fin.ext
        match a with
        | ⟨0, _⟩ => show win0_4.index t 0 * 512 + 1 * (j 0).val = 512 * t.val + (j 0).val; rw [(index4 t).1]; omega
        | ⟨1, _⟩ => show win0_4.index t 1 * 1024 + 1 * (j 1).val = (j 1).val; rw [(index4 t).2]; omega
      rw [e]
      exact (congrArg (outsAt0 m c t.val t.isLt).2.1 (ValueIdx.eq_ix2 (n0 := 512) (n1 := 1024) j)).trans (outs_x_at m c t (j 0) (j 1)))
    (fun i => by
      have h0 : (i 0 : ℕ) < 4096 := (i 0).isLt
      have h1 : (i 1 : ℕ) < 1024 := (i 1).isLt
      have hN : cfg0.N = 8 := N_0
      have hp : (i 0 : ℕ) / 512 < cfg0.N := by omega
      refine ⟨⟨(i 0 : ℕ) / 512, hp⟩, flush0_4 _, ?_⟩
      show (i : S4096x1024.Idx) ∈ ((View.whole main_v0_1).slice (win0_4.rect ⟨(i 0 : ℕ) / 512, hp⟩)).set
      rw [View.set_slice_whole, Rect.mem_set_unit]
      intro a
      match a with
      | ⟨0, _⟩ =>
        show win0_4.index _ 0 * 512 ≤ (i 0 : ℕ) ∧ (i 0 : ℕ) < win0_4.index _ 0 * 512 + 512
        rw [(index4 _).1]; dsimp only; omega
      | ⟨1, _⟩ =>
        show win0_4.index _ 1 * 1024 ≤ (i 1 : ℕ) ∧ (i 1 : ℕ) < win0_4.index _ 1 * 1024 + 1024
        rw [(index4 _).2]; omega)

end Loss

end
-- ==== Proof.Loss.Reference.lean ====
/- The loss and its gradients as the reference writes them, array by array, and each of them as the kernel's. -/
module

public import proofs.«01_k».proof.Proof.Loss.Array
public import proofs.«01_k».proof.Proof.Gen.LossHeadRefIdeal.Run

@[expose] public section

set_option maxRecDepth 16384

noncomputable section

namespace Loss.Ref

open Cert.LossHeadRefIdeal Cert.LossHeadRefIdeal.Gen Idealize.ShloMosaic Idealize.ShloMosaic.TcCoe Norm Reals

variable (X T P : FVec Ideal S4096x1024 .f32) (G : FVec Ideal S1x1024 .f32)

/-! ## The arrays -/

def shiftedA : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def rsA (M : FVec Ideal S4096x1 .f32) : FVec Ideal S4096x1 .f32 := Host.rsqrt M

/-- A column at every entry of its row. -/
def across (R : FVec Ideal S4096x1 .f32) : FVec Ideal S4096x1024 .f32 := broadcastInDim S4096x1024 ![0, 1] bcast_S4096x1_S4096x1024_0_1 R

def gained : FVec Ideal S4096x1024 .f32 := mulf P (broadcastInDim S4096x1024 ![0, 1] bcast_S1x1024_S4096x1024_0_1 G)

/-- The error, of the normalised rows `Y`. -/
def errA (Y : FVec Ideal S4096x1024 .f32) : FVec Ideal S4096x1024 .f32 := subf (gained Y G) T

/-- The loss, in every lane. -/
def total (E : FVec Ideal S4096x1024 .f32) : FVec Ideal S1x128 .f32 :=
  broadcastInDim S1x128 ![] bcast_S_S1x128 (mulf (constant S_ .f32 0x3F000000#32) (Host.reduceAdd (Host.divf (Host.reduceAdd (mulf E E) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- The error's cotangent. -/
def pulled (E : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) E)

def overlap (D : FVec Ideal S4096x1024 .f32) : FVec Ideal S4096x1 .f32 :=
  shapeCast _ (Host.reduceAdd (mulf X D) (constant S_ .f32 0x00000000#32) reducesTo_S4096x1024_S4096_d1 h_S_) shapeCasts_S4096_S4096x1

def slopeA (R M K : FVec Ideal S4096x1 .f32) : FVec Ideal S4096x1 .f32 :=
  Host.divf (mulf K (mulf (broadcastInDim S4096x1 ![] bcast_S_S4096x1 (constant S_ .f32 0xBF000000#32)) (Host.divf R M))) (broadcastInDim S4096x1 ![] bcast_S_S4096x1 (constant S_ .f32 0x44800000#32))

def spread (C : FVec Ideal S4096x1 .f32) : FVec Ideal S4096x1024 .f32 :=
  broadcastInDim S4096x1024 ![0] bcast_S4096_S4096x1024_0 (Host.reduceAdd C (constant S_ .f32 0x00000000#32) reducesTo_S4096x1_S4096_d1 h_S_)

def rows (D R C : FVec Ideal S4096x1024 .f32) : FVec Ideal S4096x1024 .f32 := addf (addf (mulf D R) (mulf X C)) (mulf C X)

def gains (Y : FVec Ideal S4096x1024 .f32) : FVec Ideal S1x1024 .f32 :=
  shapeCast _ (Host.reduceAdd (mulf Y P) (constant S_ .f32 0x00000000#32) reducesTo_S4096x1024_S1024_d0 h_S_) shapeCasts_S1024_S1x1024

/-- The normalised rows. -/
def normed : FVec Ideal S4096x1024 .f32 := mulf X (across (rsA (shiftedA X)))

def outL : FVec Ideal S1x128 .f32 := total (errA T G (normed X))

def outX : FVec Ideal S4096x1024 .f32 :=
  rows X (gained (pulled (errA T G (normed X))) G) (across (rsA (shiftedA X)))
    (spread (slopeA (rsA (shiftedA X)) (shiftedA X) (overlap X (gained (pulled (errA T G (normed X))) G))))

def outG : FVec Ideal S1x1024 .f32 := gains (pulled (errA T G (normed X))) (normed X)

/-! ## The arrays at an index -/

theorem shifted_at (r : Fin 4096) : shiftedA X (ix2 r 0) = shifted (fun k : Fin 1024 => X (ix2 r k)) := by
  unfold shiftedA
  pointwise []
  rfl

theorem rs_at (r : Fin 4096) : rsA (shiftedA X) (ix2 r 0) = rs (fun k : Fin 1024 => X (ix2 r k)) := by
  unfold rs
  rw [← shifted_at]
  generalize shiftedA X = M
  unfold rsA
  pointwise []

theorem across_at (R : FVec Ideal S4096x1 .f32) (r : Fin 4096) (k : Fin 1024) : across R (ix2 r k) = R (ix2 r 0) := by
  unfold across
  pointwise []

theorem gained_at (r : Fin 4096) (k : Fin 1024) : gained P G (ix2 r k) = P (ix2 r k) * G (ix2 0 k) := by
  unfold gained
  pointwise []

theorem normed_at (r : Fin 4096) (k : Fin 1024) : normed X (ix2 r k) = X (ix2 r k) * rs (fun k : Fin 1024 => X (ix2 r k)) := by
  rw [← rs_at, ← across_at (rsA (shiftedA X)) r k]
  unfold normed
  generalize across (rsA (shiftedA X)) = R
  pointwise []

theorem err_at (r : Fin 4096) (k : Fin 1024) : errA T G (normed X) (ix2 r k)
    = err (fun j : Fin 1024 => X (ix2 r j)) (fun j => G (ix2 0 j)) (fun j => T (ix2 r j)) k := by
  unfold err
  rw [← normed_at, ← gained_at]
  unfold errA
  generalize gained (normed X) G = Y
  pointwise []

theorem total_at (E : FVec Ideal S4096x1024 .f32) (l : Fin 128) : total E (ix2 0 l)
    = half * ∑ r : Fin 4096, Ideal.div (∑ k : Fin 1024, E (ix2 r k) * E (ix2 r k)) width := by
  unfold total
  pointwise []

abbrev one : EReal := Ideal.ofBits .f32 0x3F800000#32
abbrev two : EReal := Ideal.ofBits .f32 0x40000000#32

theorem pulled_at (E : FVec Ideal S4096x1024 .f32) (r : Fin 4096) (k : Fin 1024) :
    pulled E (ix2 r k) = Ideal.div (half * one) width * (two * E (ix2 r k)) := by
  unfold pulled
  pointwise []

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

/-- The cotangent's constants: twice a half over the width. -/
theorem scale_eq (e : EReal) : Ideal.div (half * one) width * (two * e) = e * perWidth := by
  rw [half_eq, one_eq, two_eq, width_eq, perWidth_eq, Ideal.div_coe (by norm_num), ← EReal.coe_mul, ← EReal.coe_mul, ← mul_assoc,
    ← EReal.coe_mul, mul_comm e]
  congr 2
  norm_num

theorem pull_at (r : Fin 4096) (k : Fin 1024) : pulled (errA T G (normed X)) (ix2 r k)
    = pull (fun j : Fin 1024 => X (ix2 r j)) (fun j => G (ix2 0 j)) (fun j => T (ix2 r j)) k := by
  rw [pulled_at, scale_eq, err_at]
  rfl

theorem overlap_at (D : FVec Ideal S4096x1024 .f32) (r : Fin 4096) : overlap X D (ix2 r 0) = ∑ j : Fin 1024, X (ix2 r j) * D (ix2 r j) := by
  unfold overlap
  pointwise []

theorem slope_at (R M K : FVec Ideal S4096x1 .f32) (r : Fin 4096) :
    slopeA R M K (ix2 r 0) = Ideal.div (K (ix2 r 0) * (negHalf * Ideal.div (R (ix2 r 0)) (M (ix2 r 0)))) width := by
  unfold slopeA
  pointwise []

theorem spread_at (C : FVec Ideal S4096x1 .f32) (r : Fin 4096) (k : Fin 1024) : spread C (ix2 r k) = C (ix2 r 0) := by
  unfold spread
  pointwise []
  exact Fin.sum_univ_one _

theorem rows_at (D R C : FVec Ideal S4096x1024 .f32) (r : Fin 4096) (k : Fin 1024) :
    rows X D R C (ix2 r k) = D (ix2 r k) * R (ix2 r k) + X (ix2 r k) * C (ix2 r k) + C (ix2 r k) * X (ix2 r k) := by
  unfold rows
  pointwise []

theorem gains_at (Y : FVec Ideal S4096x1024 .f32) (k : Fin 1024) :
    gains P Y (ix2 0 k) = ∑ r : Fin 4096, Y (ix2 r k) * P (ix2 r k) := by
  unfold gains
  pointwise []

/-! ## The kernel's arrays -/

/-- The mean's derivative with nothing added. -/
theorem direct_zero {n : ℕ} (x d : Fin n → EReal) (k : Fin n) : d k * rs x + x k * slope x d + slope x d * x k = project x d 0 k := by
  rw [← direct_eq]
  unfold direct
  rw [zero_add]

variable (m : (ℓ : Loc Cert.LossHeadIdeal.nD Cert.LossHeadIdeal.τ Cert.LossHeadIdeal.sig) → Buf (Elt Ideal) ℓ) (c : Dev Cert.LossHeadIdeal.nD)

theorem outL_match : outL (argX m c) (argT m c) (argG m c) = resL m c := by
  funext y
  obtain ⟨i, l, rfl⟩ : ∃ (i : Fin 1) (l : Fin 128), y = ix2 i l := ⟨y 0, y 1, ValueIdx.eq_ix2 y⟩
  obtain rfl : i = 0 := Fin.ext (by omega)
  refine (total_at _ l).trans ?_
  rw [half_sum]
  show _ = ∑ r, lossTerm m c r
  refine Finset.sum_congr rfl fun r _ => ?_
  simp only [err_at]
  rfl

theorem outX_match : outX (argX m c) (argT m c) (argG m c) = resX m c := by
  funext y
  obtain ⟨r, k, rfl⟩ : ∃ (r : Fin 4096) (k : Fin 1024), y = ix2 r k := ⟨y 0, y 1, ValueIdx.eq_ix2 y⟩
  refine (rows_at _ _ _ _ r k).trans ?_
  rw [across_at, spread_at, slope_at, rs_at, shifted_at, overlap_at]
  simp only [gained_at, pull_at]
  exact direct_zero (rowX m c r) (fun j => pull (rowX m c r) (allG m c) (rowT m c r) j * argG m c (ix2 0 j)) k

theorem outG_match : outG (argX m c) (argT m c) (argG m c) = resG m c := by
  funext y
  obtain ⟨i, k, rfl⟩ : ∃ (i : Fin 1) (k : Fin 1024), y = ix2 i k := ⟨y 0, y 1, ValueIdx.eq_ix2 y⟩
  obtain rfl : i = 0 := Fin.ext (by omega)
  refine (gains_at _ _ k).trans ?_
  show _ = ∑ r, gainTerm m c k r
  refine Finset.sum_congr rfl fun r _ => ?_
  rw [normed_at, pull_at]
  exact mul_comm _ _

end Loss.Ref

end
-- ==== Proof.lean ====
/- The proof of the certificate's claims: the generated frames, and the value claims of the modules imported here. -/
module

public import proofs.«01_k».proof.Defs
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdIdeal.Value
public import proofs.«01_k».proof.Proof.Gen.Pre_finite_qk
public import proofs.«01_k».proof.Proof.Gen.FfnDz
public import proofs.«01_k».proof.Proof.Gen.FfnDz.Frame
public import proofs.«01_k».proof.Proof.Gen.FfnDzIdeal
public import proofs.«01_k».proof.Proof.Gen.FfnDzIdeal.Frame
public import proofs.«01_k».proof.Proof.Gen.FfnDzIdeal.Value
public import proofs.«01_k».proof.Proof.Gen.FfnDzRefIdeal
public import proofs.«01_k».proof.Proof.Gen.FfnDzRefIdeal.Run
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.FfnDh
public import proofs.«01_k».proof.Proof.Gen.FfnDh.Frame
public import proofs.«01_k».proof.Proof.Gen.FfnDhIdeal
public import proofs.«01_k».proof.Proof.Gen.FfnDhIdeal.Frame
public import proofs.«01_k».proof.Proof.Gen.FfnDhIdeal.Value
public import proofs.«01_k».proof.Proof.Gen.FfnDhRefIdeal
public import proofs.«01_k».proof.Proof.Gen.FfnDhRefIdeal.Run
public import proofs.«01_k».proof.Proof.Gen.MixDw
public import proofs.«01_k».proof.Proof.Gen.MixDw.Frame
public import proofs.«01_k».proof.Proof.Gen.MixDwIdeal
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDh
public import proofs.«01_k».proof.Proof.Gen.MixDh.Frame
public import proofs.«01_k».proof.Proof.Gen.MixDhIdeal
public import proofs.«01_k».proof.Proof.Gen.MixDhIdeal.Frame
public import proofs.«01_k».proof.Proof.Gen.MixDhIdeal.Value
public import proofs.«01_k».proof.Proof.Gen.MixDhRefIdeal
public import proofs.«01_k».proof.Proof.Gen.MixDhRefIdeal.Run
public import proofs.«01_k».proof.Proof.Gen.MixDy
public import proofs.«01_k».proof.Proof.Gen.MixDy.Frame
public import proofs.«01_k».proof.Proof.Gen.MixDyIdeal
public import proofs.«01_k».proof.Proof.Gen.MixDyIdeal.Frame
public import proofs.«01_k».proof.Proof.Gen.MixDyIdeal.Value
public import proofs.«01_k».proof.Proof.Gen.MixDyRefIdeal
public import proofs.«01_k».proof.Proof.Gen.MixDyRefIdeal.Run
public import proofs.«01_k».proof.Proof.Gen.DwSq
public import proofs.«01_k».proof.Proof.Gen.DwSq.Frame
public import proofs.«01_k».proof.Proof.Gen.DwSqIdeal
public import proofs.«01_k».proof.Proof.Gen.DwSqIdeal.Frame
public import proofs.«01_k».proof.Proof.Gen.DwSqIdeal.Value
public import proofs.«01_k».proof.Proof.Gen.DwSqRefIdeal
public import proofs.«01_k».proof.Proof.Gen.DwSqRefIdeal.Run
public import proofs.«01_k».proof.Proof.Gen.DwQ
public import proofs.«01_k».proof.Proof.Gen.DwQ.Frame
public import proofs.«01_k».proof.Proof.Gen.DwQIdeal
public import proofs.«01_k».proof.Proof.Gen.DwQIdeal.Frame
public import proofs.«01_k».proof.Proof.Gen.DwQIdeal.Value
public import proofs.«01_k».proof.Proof.Gen.DwQRefIdeal
public import proofs.«01_k».proof.Proof.Gen.DwQRefIdeal.Run
public import proofs.«01_k».proof.Proof.Gen.AttnDh
public import proofs.«01_k».proof.Proof.Gen.AttnDh.Frame
public import proofs.«01_k».proof.Proof.Gen.AttnDhIdeal
public import proofs.«01_k».proof.Proof.Gen.AttnDhIdeal.Frame
public import proofs.«01_k».proof.Proof.Gen.AttnDhIdeal.Value
public import proofs.«01_k».proof.Proof.Gen.AttnDhRefIdeal
public import proofs.«01_k».proof.Proof.Gen.AttnDhRefIdeal.Run
public import proofs.«01_k».proof.Proof.Gen.AttnDo
public import proofs.«01_k».proof.Proof.Gen.AttnDo.Frame
public import proofs.«01_k».proof.Proof.Gen.AttnDoIdeal
public import proofs.«01_k».proof.Proof.Gen.AttnDoIdeal.Frame
public import proofs.«01_k».proof.Proof.Gen.AttnDoIdeal.Value
public import proofs.«01_k».proof.Proof.Gen.AttnDoRefIdeal
public import proofs.«01_k».proof.Proof.Gen.AttnDoRefIdeal.Run
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.AttnQ
public import proofs.«01_k».proof.Proof.Gen.AttnQ.Frame
public import proofs.«01_k».proof.Proof.Gen.AttnQIdeal
public import proofs.«01_k».proof.Proof.Gen.AttnQIdeal.Frame
public import proofs.«01_k».proof.Proof.Gen.AttnQIdeal.Value
public import proofs.«01_k».proof.Proof.Gen.AttnQRefIdeal
public import proofs.«01_k».proof.Proof.Gen.AttnQRefIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.FfnFwd
public import proofs.«01_k».proof.Proof.Gen.FfnFwd.Frame
public import proofs.«01_k».proof.Proof.Gen.FfnFwd.Skeleton
public import proofs.«01_k».proof.Proof.Gen.FfnFwdIdeal
public import proofs.«01_k».proof.Proof.Gen.FfnFwdIdeal.Frame
public import proofs.«01_k».proof.Proof.Gen.FfnFwdIdeal.Skeleton
public import proofs.«01_k».proof.Proof.Gen.FfnFwdRefIdeal
public import proofs.«01_k».proof.Proof.Gen.FfnFwdRefIdeal.Run
public import proofs.«01_k».proof.Proof.Gen.Pre_finite_dz
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnKv
public import proofs.«01_k».proof.Proof.Gen.AttnKv.Frame
public import proofs.«01_k».proof.Proof.Gen.AttnKvIdeal
public import proofs.«01_k».proof.Proof.Gen.AttnKvIdeal.Frame
public import proofs.«01_k».proof.Proof.Gen.AttnKvIdeal.Value
public import proofs.«01_k».proof.Proof.Gen.AttnKvRefIdeal
public import proofs.«01_k».proof.Proof.Gen.AttnKvRefIdeal.Run
public import proofs.«01_k».proof.Proof.Gen.DwKv
public import proofs.«01_k».proof.Proof.Gen.DwKv.Frame
public import proofs.«01_k».proof.Proof.Gen.DwKvIdeal
public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import proofs.«01_k».proof.Proof.Gen.AttnDmn
public import proofs.«01_k».proof.Proof.Gen.AttnDmn.Frame
public import proofs.«01_k».proof.Proof.Gen.AttnDmnIdeal
public import proofs.«01_k».proof.Proof.Gen.AttnDmnIdeal.Frame
public import proofs.«01_k».proof.Proof.Gen.AttnDmnIdeal.Value
public import proofs.«01_k».proof.Proof.Gen.AttnDmnRefIdeal
public import proofs.«01_k».proof.Proof.Gen.AttnDmnRefIdeal.Run
public import proofs.«01_k».proof.Proof.Gen.NormMem
public import proofs.«01_k».proof.Proof.Gen.NormMem.Frame
public import proofs.«01_k».proof.Proof.Gen.NormMemIdeal
public import proofs.«01_k».proof.Proof.Gen.NormMemIdeal.Frame
public import proofs.«01_k».proof.Proof.Gen.NormMemIdeal.Value
public import proofs.«01_k».proof.Proof.Gen.NormMemRefIdeal
public import proofs.«01_k».proof.Proof.Gen.NormMemRefIdeal.Run
public import proofs.«01_k».proof.Proof.Attn.Match
public import proofs.«01_k».proof.Proof.Ffn.DzReference
public import proofs.«01_k».proof.Proof.Weights.InRef
public import proofs.«01_k».proof.Proof.Weights.Out
public import proofs.«01_k».proof.Proof.Norm.Reference
public import proofs.«01_k».proof.Proof.Weights.Mix
public import proofs.«01_k».proof.Proof.Weights.Square
public import proofs.«01_k».proof.Proof.Weights.Query
public import proofs.«01_k».proof.Proof.Norm.Mix
public import proofs.«01_k».proof.Proof.Norm.Query
public import proofs.«01_k».proof.Proof.Products.Dy
public import proofs.«01_k».proof.Proof.Products.Do
public import proofs.«01_k».proof.Proof.Products.MixIn
public import proofs.«01_k».proof.Proof.Products.Query
public import proofs.«01_k».proof.Proof.Products.Residual
public import proofs.«01_k».proof.Proof.Forward.Body
public import proofs.«01_k».proof.Proof.Forward.Reference
public import Idealize.ShloMosaic.Adequacy
public import Idealize.ShloMosaic.Init
public import proofs.«01_k».proof.Proof.Attn.ForwardRef
public import proofs.«01_k».proof.Proof.Products.Memory
public import proofs.«01_k».proof.Proof.Products.MemoryDn
public import proofs.«01_k».proof.Proof.Weights.Memory
public import proofs.«01_k».proof.Proof.Norm.Memory
public import proofs.«01_k».proof.Proof.Gen.LossHead.Frame
public import proofs.«01_k».proof.Proof.Gen.LossHeadIdeal.Value
public import proofs.«01_k».proof.Proof.Gen.LossHeadRefIdeal.Run
public import proofs.«01_k».proof.Proof.Loss.Reference

@[expose] public section

noncomputable section

namespace Cert.Proof

open Idealize.ShloMosaic Idealize.SL.Sem Cert.AttnBwd

/-- The attention reference has no kernel and no semaphore. -/
theorem attn_ref_frame : Cert.quiescent_AttnBwdRefIdeal (hAttnBwdRefIdeal := Cert.AttnBwdRefIdeal.Gen.facts) := fun m ρ _ =>
  (θ_run Cert.AttnBwdRefIdeal.defs _ _).mono (fun r h => ⟨fun c => (h c).2.2.2, sem_eq_zero_of_no_sems (by decide) r.2⟩)
    (Cert.AttnBwdRefIdeal.Value.run (F := Ideal) m ρ)

/-- The kernel's and the reference's gradients agree, where the queries and keys are finite. -/
theorem attn_algebraic : Cert.algebraic_AttnBwdIdeal_AttnBwdRefIdeal_pre_finite_qk (hAttnBwdIdeal := Cert.AttnBwdIdeal.Gen.facts)
    (hAttnBwdRefIdeal := Cert.AttnBwdRefIdeal.Gen.facts) (hPre_finite_qk := Cert.Pre_finite_qk.Gen.facts) := by
  intro m g m' g' hpre hargs
  refine ⟨Attn.resQ m, Attn.resK m, Attn.resV m, ?_, ?_⟩
  · refine (θ_run _ _ _).mono (fun r h c => ?_) (Cert.AttnBwdIdeal.Value.run_blocks m g)
    obtain ⟨hq, hk, hv, rest⟩ := h c
    exact ⟨hq.trans (Attn.final_q m c), hk.trans (Attn.final_k m c), hv.trans (Attn.final_v m c), rest⟩
  · refine (θ_run _ _ _).mono (fun r h c => ?_) (Cert.AttnBwdRefIdeal.Value.run m' g')
    obtain ⟨hq, hk, hv, rest⟩ := h c
    obtain ⟨a0, a1, a2⟩ := hargs c
    have rq := Attn.pre_q _ _ _ (hpre c).1
    have rk := Attn.pre_k _ _ _ (hpre c).2
    refine ⟨hq.trans (Eq.trans ?_ (Attn.outQ_match m c rq rk)), hk.trans (Eq.trans ?_ (Attn.outK_match m c rq rk)),
      hv.trans (Eq.trans ?_ (Attn.outV_match m c)), rest⟩
    · unfold Cert.AttnBwdRefIdeal.Value.res_main_v67
      rw [a0, a1, a2]
      rfl
    · unfold Cert.AttnBwdRefIdeal.Value.res_main_v65
      rw [a0, a1, a2]
      rfl
    · rw [a0, a1, a2]
      rfl

/-- The gated unit's reference has no kernel and no semaphore. -/
theorem ffnDz_ref_frame : Cert.quiescent_FfnDzRefIdeal (hFfnDzRefIdeal := Cert.FfnDzRefIdeal.Gen.facts) := fun m ρ _ =>
  (θ_run Cert.FfnDzRefIdeal.defs _ _).mono (fun r h => ⟨fun c => (h c).2.2.2, sem_eq_zero_of_no_sems (by decide) r.2⟩)
    (Cert.FfnDzRefIdeal.Value.run (F := Ideal) m ρ)

/-- The gated unit's gradients agree, where the cotangent, the linear half and the output weights are finite. -/
theorem ffnDz_algebraic : Cert.algebraic_FfnDzIdeal_FfnDzRefIdeal_pre_finite_dz (hFfnDzIdeal := Cert.FfnDzIdeal.Gen.facts)
    (hFfnDzRefIdeal := Cert.FfnDzRefIdeal.Gen.facts) (hPre_finite_dz := Cert.Pre_finite_dz.Gen.facts) := by
  intro m g m' g' hpre hargs
  refine ⟨Ffn.resA m, Ffn.resG m, Ffn.resU m, ?_, ?_⟩
  · refine (θ_run _ _ _).mono (fun r h c => ?_) (Cert.FfnDzIdeal.Value.run_blocks m g)
    obtain ⟨ha, hg, hu, rest⟩ := h c
    exact ⟨ha.trans (Ffn.final_a m c), hg.trans (Ffn.final_g m c), hu.trans (Ffn.final_u m c), rest⟩
  · refine (θ_run _ _ _).mono (fun r h c => ?_) (Cert.FfnDzRefIdeal.Value.run m' g')
    obtain ⟨ha, hg, hu, rest⟩ := h c
    obtain ⟨a0, a1, a2, a3⟩ := hargs c
    have rx := Ffn.pre_x _ _ _ _ (hpre c).1
    have ru := Ffn.pre_u _ _ _ _ (hpre c).2.1
    have rw' := Ffn.pre_w _ _ _ _ (hpre c).2.2
    refine ⟨ha.trans (Eq.trans ?_ (Ffn.outA_match m c)), hg.trans (Eq.trans ?_ (Ffn.outG_match m c rx ru rw')),
      hu.trans (Eq.trans ?_ (Ffn.outU_match m c)), rest⟩
    · rw [a1, a2]
      rfl
    · rw [a0, a1, a2, a3]
      rfl
    · rw [a0, a1, a3]
      rfl

/-- The references of the weights' gradients have no kernel and no semaphore. -/
theorem dwIn_ref_frame : Cert.quiescent_DwInRefIdeal (hDwInRefIdeal := Cert.DwInRefIdeal.Gen.facts) := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The gradients of the gated unit's input weights agree. -/
theorem dwIn_algebraic : Cert.algebraic_DwInIdeal_DwInRefIdeal (hDwInIdeal := Cert.DwInIdeal.Gen.facts) (hDwInRefIdeal := Cert.DwInRefIdeal.Gen.facts) := by
  intro m g m' g' _ hargs
  refine ⟨Weights.In.res m, ?_, ?_⟩
  · refine (θ_run _ _ _).mono (fun r h c => ?_) (Cert.DwInIdeal.Value.run_blocks m g)
    obtain ⟨hw, rest⟩ := h c
    exact ⟨hw.trans (Weights.In.final m c), rest⟩
  · refine (θ_run _ _ _).mono (fun r h c => ?_) (Cert.DwInRefIdeal.Value.run m' g')
    obtain ⟨hw, rest⟩ := h c
    obtain ⟨a0, a1, a2⟩ := hargs c
    refine ⟨hw.trans (Eq.trans ?_ (Weights.InRef.out_match m c)), rest⟩
    rw [a0, a1, a2]
    rfl

/-- The same of the output weights. -/
theorem dwOut_ref_frame : Cert.quiescent_DwOutRefIdeal (hDwOutRefIdeal := Cert.DwOutRefIdeal.Gen.facts) := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The gradients of the output weights agree. -/
theorem dwOut_algebraic : Cert.algebraic_DwOutIdeal_DwOutRefIdeal (hDwOutIdeal := Cert.DwOutIdeal.Gen.facts) (hDwOutRefIdeal := Cert.DwOutRefIdeal.Gen.facts) := by
  intro m g m' g' _ hargs
  refine ⟨Weights.Out.res m, ?_, ?_⟩
  · refine (θ_run _ _ _).mono (fun r h c => ?_) (Cert.DwOutIdeal.Value.run_blocks m g)
    obtain ⟨hw, rest⟩ := h c
    exact ⟨(hw.trans (Cert.DwOutIdeal.Value.final2 m c)).trans (Weights.Out.final m c), rest⟩
  · refine (θ_run _ _ _).mono (fun r h c => ?_) (Cert.DwOutRefIdeal.Value.run m' g')
    obtain ⟨hw, rest⟩ := h c
    obtain ⟨a0, a1⟩ := hargs c
    refine ⟨hw.trans (Eq.trans ?_ (Weights.OutRef.out_match m c)), rest⟩
    rw [a0, a1]
    rfl

/-- The norm's reference has no kernel and no semaphore. -/
theorem ffnDh_ref_frame : Cert.quiescent_FfnDhRefIdeal (hFfnDhRefIdeal := Cert.FfnDhRefIdeal.Gen.facts) := fun m ρ _ =>
  (θ_run Cert.FfnDhRefIdeal.defs _ _).mono (fun r h => ⟨fun c => (h c).2.2, sem_eq_zero_of_no_sems (by decide) r.2⟩)
    (Cert.FfnDhRefIdeal.Value.run (F := Ideal) m ρ)

/-- The gradients of the normalised rows and of their gain agree. -/
theorem ffnDh_algebraic : Cert.algebraic_FfnDhIdeal_FfnDhRefIdeal (hFfnDhIdeal := Cert.FfnDhIdeal.Gen.facts) (hFfnDhRefIdeal := Cert.FfnDhRefIdeal.Gen.facts) := by
  intro m g m' g' _ hargs
  refine ⟨Norm.resX m, Norm.resG m, ?_, ?_⟩
  · refine (θ_run _ _ _).mono (fun r h c => ?_) (Cert.FfnDhIdeal.Value.run_blocks m g)
    obtain ⟨hx, hg, rest⟩ := h c
    exact ⟨hx.trans (Norm.final_x m c), hg.trans (Norm.final_g m c), rest⟩
  · refine (θ_run _ _ _).mono (fun r h c => ?_) (Cert.FfnDhRefIdeal.Value.run m' g')
    obtain ⟨hx, hg, rest⟩ := h c
    obtain ⟨a0, a1, a2, a3, a4, a5⟩ := hargs c
    refine ⟨hx.trans (Eq.trans ?_ (Norm.Ref.outX_match m c)), hg.trans (Eq.trans ?_ (Norm.Ref.outG_match m c)), rest⟩
    · unfold Cert.FfnDhRefIdeal.Value.res_main_v39
      rw [a0, a1, a2, a3, a4, a5]
      rfl
    · rw [a0, a3, a4, a5]
      rfl

/-- The reference of the mixer's input weights has no kernel and no semaphore. -/
theorem mixDw_ref_frame : Cert.quiescent_MixDwRefIdeal (hMixDwRefIdeal := Cert.MixDwRefIdeal.Gen.facts) := fun m ρ _ =>
  (θ_run Cert.MixDwRefIdeal.defs _ _).mono (fun r h => ⟨fun c => (h c).2, sem_eq_zero_of_no_sems (by decide) r.2⟩)
    (Cert.MixDwRefIdeal.Value.run (F := Ideal) m ρ)

/-- The gradients of the mixer's input weights agree. -/
theorem mixDw_algebraic : Cert.algebraic_MixDwIdeal_MixDwRefIdeal (hMixDwIdeal := Cert.MixDwIdeal.Gen.facts) (hMixDwRefIdeal := Cert.MixDwRefIdeal.Gen.facts) := by
  intro m g m' g' _ hargs
  refine ⟨Weights.Mix.res m, ?_, ?_⟩
  · refine (θ_run _ _ _).mono (fun r h c => ?_) (Cert.MixDwIdeal.Value.run_blocks m g)
    obtain ⟨hx, rest⟩ := h c
    exact ⟨(hx.trans (Cert.MixDwIdeal.Value.final2 m c)).trans (Weights.Mix.final m c), rest⟩
  · refine (θ_run _ _ _).mono (fun r h c => ?_) (Cert.MixDwRefIdeal.Value.run m' g')
    obtain ⟨hx, rest⟩ := h c
    obtain ⟨a0, a1⟩ := hargs c
    refine ⟨hx.trans (Eq.trans ?_ (Weights.MixRef.out_match m c)), rest⟩
    rw [a0, a1]
    rfl

/-- The reference of the mixer's norm has no kernel and no semaphore. -/
theorem mixDh_ref_frame : Cert.quiescent_MixDhRefIdeal (hMixDhRefIdeal := Cert.MixDhRefIdeal.Gen.facts) := fun m ρ _ =>
  (θ_run Cert.MixDhRefIdeal.defs _ _).mono (fun r h => ⟨fun c => (h c).2.2, sem_eq_zero_of_no_sems (by decide) r.2⟩)
    (Cert.MixDhRefIdeal.Value.run (F := Ideal) m ρ)

/-- The gradients of the mixer's rows and of its norm's gain agree. -/
theorem mixDh_algebraic : Cert.algebraic_MixDhIdeal_MixDhRefIdeal (hMixDhIdeal := Cert.MixDhIdeal.Gen.facts) (hMixDhRefIdeal := Cert.MixDhRefIdeal.Gen.facts) := by
  intro m g m' g' _ hargs
  refine ⟨Norm.Mix.resX m, Norm.Mix.resG m, ?_, ?_⟩
  · refine (θ_run _ _ _).mono (fun r h c => ?_) (Cert.MixDhIdeal.Value.run_blocks m g)
    obtain ⟨hx, hg, rest⟩ := h c
    exact ⟨hx.trans (Norm.Mix.final_x m c), hg.trans (Norm.Mix.final_g m c), rest⟩
  · refine (θ_run _ _ _).mono (fun r h c => ?_) (Cert.MixDhRefIdeal.Value.run m' g')
    obtain ⟨hx, hg, rest⟩ := h c
    obtain ⟨a0, a1, a2, a3, a4⟩ := hargs c
    refine ⟨hx.trans (Eq.trans ?_ (Norm.MixRef.outX_match m c)), hg.trans (Eq.trans ?_ (Norm.MixRef.outG_match m c)), rest⟩
    · unfold Cert.MixDhRefIdeal.Value.res_main_v38
      rw [a0, a1, a2, a3, a4]
      rfl
    · rw [a0, a3, a4]
      rfl

/-- The reference of the mixer's output has no kernel and no semaphore. -/
theorem mixDy_ref_frame : Cert.quiescent_MixDyRefIdeal (hMixDyRefIdeal := Cert.MixDyRefIdeal.Gen.facts) := fun m ρ _ =>
  (θ_run Cert.MixDyRefIdeal.defs _ _).mono (fun r h => ⟨fun c => (h c).2, sem_eq_zero_of_no_sems (by decide) r.2⟩)
    (Cert.MixDyRefIdeal.Value.run (F := Ideal) m ρ)

/-- The gradients of the mixer's output agree. -/
theorem mixDy_algebraic : Cert.algebraic_MixDyIdeal_MixDyRefIdeal (hMixDyIdeal := Cert.MixDyIdeal.Gen.facts) (hMixDyRefIdeal := Cert.MixDyRefIdeal.Gen.facts) := by
  intro m g m' g' _ hargs
  refine ⟨Products.Dy.res m, ?_, ?_⟩
  · refine (θ_run _ _ _).mono (fun r h c => ?_) (Cert.MixDyIdeal.Value.run_blocks m g)
    obtain ⟨hx, rest⟩ := h c
    exact ⟨hx.trans (Products.Dy.final m c), rest⟩
  · refine (θ_run _ _ _).mono (fun r h c => ?_) (Cert.MixDyRefIdeal.Value.run m' g')
    obtain ⟨hx, rest⟩ := h c
    obtain ⟨a0, a1⟩ := hargs c
    refine ⟨hx.trans (Eq.trans ?_ (Products.DyRef.out_match m c)), rest⟩
    rw [a0, a1]
    rfl

/-- The reference of the square weights has no kernel and no semaphore. -/
theorem dwSq_ref_frame : Cert.quiescent_DwSqRefIdeal (hDwSqRefIdeal := Cert.DwSqRefIdeal.Gen.facts) := fun m ρ _ =>
  (θ_run Cert.DwSqRefIdeal.defs _ _).mono (fun r h => ⟨fun c => (h c).2, sem_eq_zero_of_no_sems (by decide) r.2⟩)
    (Cert.DwSqRefIdeal.Value.run (F := Ideal) m ρ)

/-- The gradients of the square weights agree. -/
theorem dwSq_algebraic : Cert.algebraic_DwSqIdeal_DwSqRefIdeal (hDwSqIdeal := Cert.DwSqIdeal.Gen.facts) (hDwSqRefIdeal := Cert.DwSqRefIdeal.Gen.facts) := by
  intro m g m' g' _ hargs
  refine ⟨Weights.Square.res m, ?_, ?_⟩
  · refine (θ_run _ _ _).mono (fun r h c => ?_) (Cert.DwSqIdeal.Value.run_blocks m g)
    obtain ⟨hx, rest⟩ := h c
    exact ⟨(hx.trans (Cert.DwSqIdeal.Value.final2 m c)).trans (Weights.Square.final m c), rest⟩
  · refine (θ_run _ _ _).mono (fun r h c => ?_) (Cert.DwSqRefIdeal.Value.run m' g')
    obtain ⟨hx, rest⟩ := h c
    obtain ⟨a0, a1⟩ := hargs c
    refine ⟨hx.trans (Eq.trans ?_ (Weights.SquareRef.out_match m c)), rest⟩
    rw [a0, a1]
    rfl

/-- The reference of the query weights has no kernel and no semaphore. -/
theorem dwQ_ref_frame : Cert.quiescent_DwQRefIdeal (hDwQRefIdeal := Cert.DwQRefIdeal.Gen.facts) := fun m ρ _ =>
  (θ_run Cert.DwQRefIdeal.defs _ _).mono (fun r h => ⟨fun c => (h c).2, sem_eq_zero_of_no_sems (by decide) r.2⟩)
    (Cert.DwQRefIdeal.Value.run (F := Ideal) m ρ)

/-- The gradients of the query weights agree. -/
theorem dwQ_algebraic : Cert.algebraic_DwQIdeal_DwQRefIdeal (hDwQIdeal := Cert.DwQIdeal.Gen.facts) (hDwQRefIdeal := Cert.DwQRefIdeal.Gen.facts) := by
  intro m g m' g' _ hargs
  refine ⟨Weights.Query.res m, ?_, ?_⟩
  · refine (θ_run _ _ _).mono (fun r h c => ?_) (Cert.DwQIdeal.Value.run_blocks m g)
    obtain ⟨hx, rest⟩ := h c
    exact ⟨(hx.trans (Cert.DwQIdeal.Value.final2 m c)).trans (Weights.Query.final m c), rest⟩
  · refine (θ_run _ _ _).mono (fun r h c => ?_) (Cert.DwQRefIdeal.Value.run m' g')
    obtain ⟨hx, rest⟩ := h c
    obtain ⟨a0, a1⟩ := hargs c
    refine ⟨hx.trans (Eq.trans ?_ (Weights.QueryRef.out_match m c)), rest⟩
    rw [a0, a1]
    rfl

/-- The reference of the attention's norm has no kernel and no semaphore. -/
theorem attnDh_ref_frame : Cert.quiescent_AttnDhRefIdeal (hAttnDhRefIdeal := Cert.AttnDhRefIdeal.Gen.facts) := fun m ρ _ =>
  (θ_run Cert.AttnDhRefIdeal.defs _ _).mono (fun r h => ⟨fun c => (h c).2.2, sem_eq_zero_of_no_sems (by decide) r.2⟩)
    (Cert.AttnDhRefIdeal.Value.run (F := Ideal) m ρ)

/-- The gradients of the attention's rows and of its norm's gain agree. -/
theorem attnDh_algebraic : Cert.algebraic_AttnDhIdeal_AttnDhRefIdeal (hAttnDhIdeal := Cert.AttnDhIdeal.Gen.facts) (hAttnDhRefIdeal := Cert.AttnDhRefIdeal.Gen.facts) := by
  intro m g m' g' _ hargs
  refine ⟨Norm.Query.resX m, Norm.Query.resG m, ?_, ?_⟩
  · refine (θ_run _ _ _).mono (fun r h c => ?_) (Cert.AttnDhIdeal.Value.run_blocks m g)
    obtain ⟨hx, hg, rest⟩ := h c
    exact ⟨hx.trans (Norm.Query.final_x m c), hg.trans (Norm.Query.final_g m c), rest⟩
  · refine (θ_run _ _ _).mono (fun r h c => ?_) (Cert.AttnDhRefIdeal.Value.run m' g')
    obtain ⟨hx, hg, rest⟩ := h c
    obtain ⟨a0, a1, a2, a3, a4⟩ := hargs c
    refine ⟨hx.trans (Eq.trans ?_ (Norm.QueryRef.outX_match m c)), hg.trans (Eq.trans ?_ (Norm.QueryRef.outG_match m c)), rest⟩
    · unfold Cert.AttnDhRefIdeal.Value.res_main_v38
      rw [a0, a1, a2, a3, a4]
      rfl
    · rw [a0, a3, a4]
      rfl

/-- The reference of the attention's output has no kernel and no semaphore. -/
theorem attnDo_ref_frame : Cert.quiescent_AttnDoRefIdeal (hAttnDoRefIdeal := Cert.AttnDoRefIdeal.Gen.facts) := fun m ρ _ =>
  (θ_run Cert.AttnDoRefIdeal.defs _ _).mono (fun r h => ⟨fun c => (h c).2, sem_eq_zero_of_no_sems (by decide) r.2⟩)
    (Cert.AttnDoRefIdeal.Value.run (F := Ideal) m ρ)

/-- The gradients of the attention's output agree. -/
theorem attnDo_algebraic : Cert.algebraic_AttnDoIdeal_AttnDoRefIdeal (hAttnDoIdeal := Cert.AttnDoIdeal.Gen.facts) (hAttnDoRefIdeal := Cert.AttnDoRefIdeal.Gen.facts) := by
  intro m g m' g' _ hargs
  refine ⟨Products.Do.res m, ?_, ?_⟩
  · refine (θ_run _ _ _).mono (fun r h c => ?_) (Cert.AttnDoIdeal.Value.run_blocks m g)
    obtain ⟨hx, rest⟩ := h c
    exact ⟨hx.trans (Products.Do.final m c), rest⟩
  · refine (θ_run _ _ _).mono (fun r h c => ?_) (Cert.AttnDoRefIdeal.Value.run m' g')
    obtain ⟨hx, rest⟩ := h c
    obtain ⟨a0, a1⟩ := hargs c
    refine ⟨hx.trans (Eq.trans ?_ (Products.DoRef.out_match m c)), rest⟩
    rw [a0, a1]
    rfl

/-- The reference of the mixer's input has no kernel and no semaphore. -/
theorem mixIn_ref_frame : Cert.quiescent_MixInRefIdeal (hMixInRefIdeal := Cert.MixInRefIdeal.Gen.facts) := fun m ρ _ =>
  (θ_run Cert.MixInRefIdeal.defs _ _).mono (fun r h => ⟨fun c => (h c).2.2, sem_eq_zero_of_no_sems (by decide) r.2⟩)
    (Cert.MixInRefIdeal.Value.run (F := Ideal) m ρ)

/-- The mixer's normalised rows and their projections agree. -/
theorem mixIn_algebraic : Cert.algebraic_MixInIdeal_MixInRefIdeal (hMixInIdeal := Cert.MixInIdeal.Gen.facts) (hMixInRefIdeal := Cert.MixInRefIdeal.Gen.facts) := by
  intro m g m' g' _ hargs
  refine ⟨Products.MixIn.res m, Products.MixIn.resH m, ?_, ?_⟩
  · refine (θ_run _ _ _).mono (fun r h c => ?_) (Cert.MixInIdeal.Value.run_blocks m g)
    obtain ⟨hx, hg, rest⟩ := h c
    exact ⟨hx.trans (Products.MixIn.final_o m c), hg.trans (Products.MixIn.final_h m c), rest⟩
  · refine (θ_run _ _ _).mono (fun r h c => ?_) (Cert.MixInRefIdeal.Value.run m' g')
    obtain ⟨hx, hg, rest⟩ := h c
    obtain ⟨a0, a1, a2⟩ := hargs c
    refine ⟨hx.trans (Eq.trans ?_ (Products.MixInRef.outO_match m c)), hg.trans (Eq.trans ?_ (Products.MixInRef.outH_match m c)), rest⟩
    · rw [a0, a1, a2]
      rfl
    · rw [a0, a1]
      rfl

/-- The reference of the queries has no kernel and no semaphore. -/
theorem attnQ_ref_frame : Cert.quiescent_AttnQRefIdeal (hAttnQRefIdeal := Cert.AttnQRefIdeal.Gen.facts) := fun m ρ _ =>
  (θ_run Cert.AttnQRefIdeal.defs _ _).mono (fun r h => ⟨fun c => (h c).2.2, sem_eq_zero_of_no_sems (by decide) r.2⟩)
    (Cert.AttnQRefIdeal.Value.run (F := Ideal) m ρ)

/-- The attention's normalised rows and their queries agree. -/
theorem attnQ_algebraic : Cert.algebraic_AttnQIdeal_AttnQRefIdeal (hAttnQIdeal := Cert.AttnQIdeal.Gen.facts) (hAttnQRefIdeal := Cert.AttnQRefIdeal.Gen.facts) := by
  intro m g m' g' _ hargs
  refine ⟨Products.Query.res m, Products.Query.resH m, ?_, ?_⟩
  · refine (θ_run _ _ _).mono (fun r h c => ?_) (Cert.AttnQIdeal.Value.run_blocks m g)
    obtain ⟨hx, hg, rest⟩ := h c
    exact ⟨hx.trans (Products.Query.final_o m c), hg.trans (Products.Query.final_h m c), rest⟩
  · refine (θ_run _ _ _).mono (fun r h c => ?_) (Cert.AttnQRefIdeal.Value.run m' g')
    obtain ⟨hx, hg, rest⟩ := h c
    obtain ⟨a0, a1, a2⟩ := hargs c
    refine ⟨hx.trans (Eq.trans ?_ (Products.QueryRef.outO_match m c)), hg.trans (Eq.trans ?_ (Products.QueryRef.outH_match m c)), rest⟩
    · rw [a0, a1, a2]
      rfl
    · rw [a0, a1]
      rfl

/-- The reference of the output projection has no kernel and no semaphore. -/
theorem mixOut_ref_frame : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The streams after the projection agree. -/
theorem mixOut_algebraic : Cert.algebraic_MixOutIdeal_MixOutRefIdeal (hMixOutIdeal := Cert.MixOutIdeal.Gen.facts) (hMixOutRefIdeal := Cert.MixOutRefIdeal.Gen.facts) := by
  intro m g m' g' _ hargs
  refine ⟨Products.Residual.res m, ?_, ?_⟩
  · refine (θ_run _ _ _).mono (fun r h c => ?_) (Cert.MixOutIdeal.Value.run_blocks m g)
    obtain ⟨hx, rest⟩ := h c
    exact ⟨hx.trans (Products.Residual.final m c), rest⟩
  · refine (θ_run _ _ _).mono (fun r h c => ?_) (Cert.MixOutRefIdeal.Value.run m' g')
    obtain ⟨hx, rest⟩ := h c
    obtain ⟨a0, a1, a2⟩ := hargs c
    refine ⟨hx.trans (Eq.trans ?_ (Products.ResidualRef.out_match m c)), rest⟩
    rw [a0, a1, a2]
    rfl

/-- The reference of the feed-forward forward pass has no kernel and no semaphore. -/
theorem ffnFwd_ref_frame : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)

/-- The feed-forward forward pass's four results agree. -/
theorem ffnFwd_algebraic : Cert.algebraic_FfnFwdIdeal_FfnFwdRefIdeal (hFfnFwdIdeal := Cert.FfnFwdIdeal.Gen.facts) (hFfnFwdRefIdeal := Cert.FfnFwdRefIdeal.Gen.facts) := by
  intro m g m' g' _ hargs
  refine ⟨Forward.Arrays.resO m, Forward.Arrays.resH m, Forward.Arrays.resG m, Forward.Arrays.resU m, ?_, ?_⟩
  · refine (θ_run _ _ _).mono (fun r h c => ?_)
      (θ_run_and (Forward.FfnFwdIdeal.ran_arrays m g) (Forward.FfnFwdIdeal.frame m g))
    obtain ⟨h, rest⟩ := h
    exact ⟨((h c).1 5).trans (Forward.Arrays.final_o m c), ((h c).1 6).trans (Forward.Arrays.final_h m c),
      ((h c).1 7).trans (Forward.Arrays.final_g m c), ((h c).1 8).trans (Forward.Arrays.final_u m c), rest.1 c⟩
  · refine (θ_run _ _ _).mono (fun r h c => ?_) (Cert.FfnFwdRefIdeal.Value.run m' g')
    obtain ⟨ho, hh, hg, hu, rest⟩ := h c
    obtain ⟨a0, a1, a2, a3⟩ := hargs c
    refine ⟨ho.trans (Eq.trans ?_ (Forward.Reference.outO_match m c)), hh.trans (Eq.trans ?_ (Forward.Reference.outH_match m c)),
      hg.trans (Eq.trans ?_ (Forward.Reference.outG_match m c)), hu.trans (Eq.trans ?_ (Forward.Reference.outU_match m c)), rest⟩
    · rw [a0, a1, a2, a3]
      rfl
    · rw [a0, a1]
      rfl
    · rw [a0, a1, a2]
      rfl
    · rw [a0, a1, a2]
      rfl

/-- The reference of the forward attention has no kernel and no semaphore. -/
theorem attnFwd_ref_frame : Cert.quiescent_AttnFwdRefIdeal (hAttnFwdRefIdeal := Cert.AttnFwdRefIdeal.Gen.facts) := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- The forward attention's outputs agree. -/
theorem attnFwd_algebraic : Cert.algebraic_AttnFwdIdeal_AttnFwdRefIdeal (hAttnFwdIdeal := Cert.AttnFwdIdeal.Gen.facts) (hAttnFwdRefIdeal := Cert.AttnFwdRefIdeal.Gen.facts) := by
  intro m g m' g' _ hargs
  refine ⟨Attn.Fwd.res m, ?_, ?_⟩
  · refine (θ_run _ _ _).mono (fun r h c => ?_) (Cert.AttnFwdIdeal.Value.run_blocks m g)
    obtain ⟨hx, rest⟩ := h c
    exact ⟨hx.trans (Attn.Fwd.final m c), rest⟩
  · refine (θ_run _ _ _).mono (fun r h c => ?_) (Cert.AttnFwdRefIdeal.Value.run m' g')
    obtain ⟨hx, rest⟩ := h c
    obtain ⟨a0, a1⟩ := hargs c
    refine ⟨hx.trans (Eq.trans ?_ (Attn.FwdRef.out_match m c)), rest⟩
    rw [a0, a1]
    rfl

/-- The reference of the keys and values has no kernel and no semaphore. -/
theorem attnKv_ref_frame : Cert.quiescent_AttnKvRefIdeal (hAttnKvRefIdeal := Cert.AttnKvRefIdeal.Gen.facts) := fun m ρ _ =>
  (θ_run Cert.AttnKvRefIdeal.defs _ _).mono (fun r h => ⟨fun c => (h c).2.2, sem_eq_zero_of_no_sems (by decide) r.2⟩)
    (Cert.AttnKvRefIdeal.Value.run (F := Ideal) m ρ)

/-- The normalised memory rows and their keys and values agree. -/
theorem attnKv_algebraic : Cert.algebraic_AttnKvIdeal_AttnKvRefIdeal (hAttnKvIdeal := Cert.AttnKvIdeal.Gen.facts) (hAttnKvRefIdeal := Cert.AttnKvRefIdeal.Gen.facts) := by
  intro m g m' g' _ hargs
  refine ⟨Products.AttnKv.res m, Products.AttnKv.resH m, ?_, ?_⟩
  · refine (θ_run _ _ _).mono (fun r h c => ?_) (Cert.AttnKvIdeal.Value.run_blocks m g)
    obtain ⟨hx, hg, rest⟩ := h c
    exact ⟨hx.trans (Products.AttnKv.final_o m c), hg.trans (Products.AttnKv.final_h m c), rest⟩
  · refine (θ_run _ _ _).mono (fun r h c => ?_) (Cert.AttnKvRefIdeal.Value.run m' g')
    obtain ⟨hx, hg, rest⟩ := h c
    obtain ⟨a0, a1, a2⟩ := hargs c
    refine ⟨hx.trans (Eq.trans ?_ (Products.AttnKvRef.outO_match m c)), hg.trans (Eq.trans ?_ (Products.AttnKvRef.outH_match m c)), rest⟩
    · rw [a0, a1, a2]
      rfl
    · rw [a0, a1]
      rfl

/-- The reference of the keys' and values' weights' gradient has no kernel and no semaphore. -/
theorem dwKv_ref_frame : Cert.quiescent_DwKvRefIdeal (hDwKvRefIdeal := Cert.DwKvRefIdeal.Gen.facts) := fun m ρ _ =>
  (θ_run Cert.DwKvRefIdeal.defs _ _).mono (fun r h => ⟨fun c => (h c).2, sem_eq_zero_of_no_sems (by decide) r.2⟩)
    (Cert.DwKvRefIdeal.Value.run (F := Ideal) m ρ)

/-- The gradients of the keys' and values' weights agree. -/
theorem dwKv_algebraic : Cert.algebraic_DwKvIdeal_DwKvRefIdeal (hDwKvIdeal := Cert.DwKvIdeal.Gen.facts) (hDwKvRefIdeal := Cert.DwKvRefIdeal.Gen.facts) := by
  intro m g m' g' _ hargs
  refine ⟨Weights.Memory.res m, ?_, ?_⟩
  · refine (θ_run _ _ _).mono (fun r h c => ?_) (Cert.DwKvIdeal.Value.run_blocks m g)
    obtain ⟨hx, rest⟩ := h c
    exact ⟨hx.trans (Weights.Memory.final m c), rest⟩
  · refine (θ_run _ _ _).mono (fun r h c => ?_) (Cert.DwKvRefIdeal.Value.run m' g')
    obtain ⟨hx, rest⟩ := h c
    obtain ⟨a0, a1⟩ := hargs c
    refine ⟨hx.trans (Eq.trans ?_ (Weights.MemoryRef.out_match m c)), rest⟩
    rw [a0, a1]
    rfl

/-- The reference of the normalised memory rows' gradient has no kernel and no semaphore. -/
theorem attnDmn_ref_frame : Cert.quiescent_AttnDmnRefIdeal (hAttnDmnRefIdeal := Cert.AttnDmnRefIdeal.Gen.facts) := fun m ρ _ =>
  (θ_run Cert.AttnDmnRefIdeal.defs _ _).mono (fun r h => ⟨fun c => (h c).2, sem_eq_zero_of_no_sems (by decide) r.2⟩)
    (Cert.AttnDmnRefIdeal.Value.run (F := Ideal) m ρ)

/-- The gradients of the normalised memory rows agree. -/
theorem attnDmn_algebraic : Cert.algebraic_AttnDmnIdeal_AttnDmnRefIdeal (hAttnDmnIdeal := Cert.AttnDmnIdeal.Gen.facts) (hAttnDmnRefIdeal := Cert.AttnDmnRefIdeal.Gen.facts) := by
  intro m g m' g' _ hargs
  refine ⟨fun c => Cert.AttnDmnIdeal.Value.G2 (m ((c.tc : Thread Cert.AttnDmnIdeal.nD Cert.AttnDmnIdeal.τ).loc Cert.AttnDmnIdeal.main_arg0)) (m ((c.tc : Thread Cert.AttnDmnIdeal.nD Cert.AttnDmnIdeal.τ).loc Cert.AttnDmnIdeal.main_arg1)), ?_, ?_⟩
  · exact Cert.AttnDmnIdeal.Value.run m g
  · refine (θ_run _ _ _).mono (fun r h c => ?_) (Cert.AttnDmnRefIdeal.Value.run m' g')
    obtain ⟨hx, rest⟩ := h c
    obtain ⟨a0, a1⟩ := hargs c
    refine ⟨hx.trans (Eq.trans ?_ (Products.DmnRef.out_match _ _)), rest⟩
    rw [a0, a1]
    rfl

/-- The reference of the memory norm's gradient has no kernel and no semaphore. -/
theorem normMem_ref_frame : Cert.quiescent_NormMemRefIdeal (hNormMemRefIdeal := Cert.NormMemRefIdeal.Gen.facts) := fun m ρ _ =>
  (θ_run Cert.NormMemRefIdeal.defs _ _).mono (fun r h => ⟨fun c => (h c).2.2, sem_eq_zero_of_no_sems (by decide) r.2⟩)
    (Cert.NormMemRefIdeal.Value.run (F := Ideal) m ρ)

/-- The gradients of the memory rows and of their gain agree. -/
theorem normMem_algebraic : Cert.algebraic_NormMemIdeal_NormMemRefIdeal (hNormMemIdeal := Cert.NormMemIdeal.Gen.facts) (hNormMemRefIdeal := Cert.NormMemRefIdeal.Gen.facts) := by
  intro m g m' g' _ hargs
  refine ⟨Norm.Memory.resX m, Norm.Memory.resG m, ?_, ?_⟩
  · refine (θ_run _ _ _).mono (fun r h c => ?_) (Cert.NormMemIdeal.Value.run_blocks m g)
    obtain ⟨hx, hg, rest⟩ := h c
    exact ⟨hx.trans (Norm.Memory.final_x m c), hg.trans (Norm.Memory.final_g m c), rest⟩
  · refine (θ_run _ _ _).mono (fun r h c => ?_) (Cert.NormMemRefIdeal.Value.run m' g')
    obtain ⟨hx, hg, rest⟩ := h c
    obtain ⟨a0, a1, a2⟩ := hargs c
    refine ⟨hx.trans (Eq.trans ?_ (Norm.MemoryRef.outX_match m c)), hg.trans (Eq.trans ?_ (Norm.MemoryRef.outG_match m c)), rest⟩
    · rw [a0, a1, a2]
      rfl
    · rw [a0, a1]
      rfl

/-- The loss head's reference has no kernel and no semaphore. -/
theorem lossHead_ref_frame : Cert.quiescent_LossHeadRefIdeal (hLossHeadRefIdeal := Cert.LossHeadRefIdeal.Gen.facts) := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

/-- The loss and the gradients of the last norm's rows and gain agree. -/
theorem lossHead_algebraic : Cert.algebraic_LossHeadIdeal_LossHeadRefIdeal (hLossHeadIdeal := Cert.LossHeadIdeal.Gen.facts) (hLossHeadRefIdeal := Cert.LossHeadRefIdeal.Gen.facts) := by
  intro m g m' g' _ hargs
  refine ⟨Loss.resL m, Loss.resX m, Loss.resG m, ?_, ?_⟩
  · refine (θ_run _ _ _).mono (fun r h c => ?_) (Cert.LossHeadIdeal.Value.run_blocks m g)
    obtain ⟨hl, hx, hg, rest⟩ := h c
    exact ⟨hl.trans (Loss.final_l m c), hx.trans (Loss.final_x m c), hg.trans (Loss.final_g m c), rest⟩
  · refine (θ_run _ _ _).mono (fun r h c => ?_) (Cert.LossHeadRefIdeal.Value.run m' g')
    obtain ⟨hl, hx, hg, rest⟩ := h c
    obtain ⟨a0, a1, a2⟩ := hargs c
    refine ⟨hl.trans (Eq.trans ?_ (Loss.Ref.outL_match m c)), hx.trans (Eq.trans ?_ (Loss.Ref.outX_match m c)), hg.trans (Eq.trans ?_ (Loss.Ref.outG_match m c)), rest⟩
    · rw [a0, a1, a2]
      rfl
    · unfold Cert.LossHeadRefIdeal.Value.res_main_v48
      rw [a0, a1, a2]
      rfl
    · rw [a0, a1, a2]
      rfl

theorem claim : Cert.Claim := ⟨Cert.AttnBwd.Gen.facts, Cert.AttnBwdIdeal.Gen.facts, Cert.AttnBwdRefIdeal.Gen.facts, Cert.FfnDz.Gen.facts, Cert.FfnDzIdeal.Gen.facts, Cert.FfnDzRefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.FfnDh.Gen.facts, Cert.FfnDhIdeal.Gen.facts, Cert.FfnDhRefIdeal.Gen.facts, Cert.MixDw.Gen.facts, Cert.MixDwIdeal.Gen.facts, Cert.MixDwRefIdeal.Gen.facts, Cert.MixDh.Gen.facts, Cert.MixDhIdeal.Gen.facts, Cert.MixDhRefIdeal.Gen.facts, Cert.MixDy.Gen.facts, Cert.MixDyIdeal.Gen.facts, Cert.MixDyRefIdeal.Gen.facts, Cert.DwSq.Gen.facts, Cert.DwSqIdeal.Gen.facts, Cert.DwSqRefIdeal.Gen.facts, Cert.DwQ.Gen.facts, Cert.DwQIdeal.Gen.facts, Cert.DwQRefIdeal.Gen.facts, Cert.AttnDh.Gen.facts, Cert.AttnDhIdeal.Gen.facts, Cert.AttnDhRefIdeal.Gen.facts, Cert.AttnDo.Gen.facts, Cert.AttnDoIdeal.Gen.facts, Cert.AttnDoRefIdeal.Gen.facts, Cert.MixIn.Gen.facts, Cert.MixInIdeal.Gen.facts, Cert.MixInRefIdeal.Gen.facts, Cert.AttnQ.Gen.facts, Cert.AttnQIdeal.Gen.facts, Cert.AttnQRefIdeal.Gen.facts, Cert.MixOut.Gen.facts, Cert.MixOutIdeal.Gen.facts, Cert.MixOutRefIdeal.Gen.facts, Cert.FfnFwd.Gen.facts, Cert.FfnFwdIdeal.Gen.facts, Cert.FfnFwdRefIdeal.Gen.facts, Cert.AttnFwd.Gen.facts, Cert.AttnFwdIdeal.Gen.facts, Cert.AttnFwdRefIdeal.Gen.facts, Cert.AttnKv.Gen.facts, Cert.AttnKvIdeal.Gen.facts, Cert.AttnKvRefIdeal.Gen.facts, Cert.DwKv.Gen.facts, Cert.DwKvIdeal.Gen.facts, Cert.DwKvRefIdeal.Gen.facts, Cert.AttnDmn.Gen.facts, Cert.AttnDmnIdeal.Gen.facts, Cert.AttnDmnRefIdeal.Gen.facts, Cert.NormMem.Gen.facts, Cert.NormMemIdeal.Gen.facts, Cert.NormMemRefIdeal.Gen.facts, Cert.LossHead.Gen.facts, Cert.LossHeadIdeal.Gen.facts, Cert.LossHeadRefIdeal.Gen.facts,
  Cert.Pre_finite_qk.Gen.facts, Cert.Pre_finite_dz.Gen.facts,
  fun m ρ _ => Cert.AttnBwd.Gen.frame m ρ,
  fun m ρ _ => Cert.AttnBwdIdeal.Gen.frame m ρ,
  fun m ρ _ => Cert.AttnBwdIdeal.Gen.frame m ρ,
  attn_ref_frame,
  fun m ρ _ => attn_ref_frame m ρ trivial,
  fun m ρ _ => Cert.FfnDz.Gen.frame m ρ,
  fun m ρ _ => Cert.FfnDzIdeal.Gen.frame m ρ,
  fun m ρ _ => Cert.FfnDzIdeal.Gen.frame m ρ,
  ffnDz_ref_frame,
  fun m ρ _ => ffnDz_ref_frame m ρ trivial,
  fun m ρ _ => Cert.DwIn.Gen.frame m ρ,
  fun m ρ _ => Cert.DwInIdeal.Gen.frame m ρ,
  dwIn_ref_frame,
  fun m ρ _ => Cert.DwOut.Gen.frame m ρ,
  fun m ρ _ => Cert.DwOutIdeal.Gen.frame m ρ,
  dwOut_ref_frame,
  fun m ρ _ => Cert.FfnDh.Gen.frame m ρ,
  fun m ρ _ => Cert.FfnDhIdeal.Gen.frame m ρ,
  ffnDh_ref_frame,
  fun m ρ _ => Cert.MixDw.Gen.frame m ρ,
  fun m ρ _ => Cert.MixDwIdeal.Gen.frame m ρ,
  mixDw_ref_frame,
  fun m ρ _ => Cert.MixDh.Gen.frame m ρ,
  fun m ρ _ => Cert.MixDhIdeal.Gen.frame m ρ,
  mixDh_ref_frame,
  fun m ρ _ => Cert.MixDy.Gen.frame m ρ,
  fun m ρ _ => Cert.MixDyIdeal.Gen.frame m ρ,
  mixDy_ref_frame,
  fun m ρ _ => Cert.DwSq.Gen.frame m ρ,
  fun m ρ _ => Cert.DwSqIdeal.Gen.frame m ρ,
  dwSq_ref_frame,
  fun m ρ _ => Cert.DwQ.Gen.frame m ρ,
  fun m ρ _ => Cert.DwQIdeal.Gen.frame m ρ,
  dwQ_ref_frame,
  fun m ρ _ => Cert.AttnDh.Gen.frame m ρ,
  fun m ρ _ => Cert.AttnDhIdeal.Gen.frame m ρ,
  attnDh_ref_frame,
  fun m ρ _ => Cert.AttnDo.Gen.frame m ρ,
  fun m ρ _ => Cert.AttnDoIdeal.Gen.frame m ρ,
  attnDo_ref_frame,
  fun m ρ _ => Cert.MixIn.Gen.frame m ρ,
  fun m ρ _ => Cert.MixInIdeal.Gen.frame m ρ,
  mixIn_ref_frame,
  fun m ρ _ => Cert.AttnQ.Gen.frame m ρ,
  fun m ρ _ => Cert.AttnQIdeal.Gen.frame m ρ,
  attnQ_ref_frame,
  fun m ρ _ => Cert.MixOut.Gen.frame m ρ,
  fun m ρ _ => Cert.MixOutIdeal.Gen.frame m ρ,
  mixOut_ref_frame,
  fun m ρ _ => Forward.FfnFwd.frame m ρ,
  fun m ρ _ => Forward.FfnFwdIdeal.frame m ρ,
  ffnFwd_ref_frame,
  fun m ρ _ => Cert.AttnFwd.Gen.frame m ρ,
  fun m ρ _ => Cert.AttnFwdIdeal.Gen.frame m ρ,
  attnFwd_ref_frame,
  fun m ρ _ => Cert.AttnKv.Gen.frame m ρ,
  fun m ρ _ => Cert.AttnKvIdeal.Gen.frame m ρ,
  attnKv_ref_frame,
  fun m ρ _ => Cert.DwKv.Gen.frame m ρ,
  fun m ρ _ => Cert.DwKvIdeal.Gen.frame m ρ,
  dwKv_ref_frame,
  fun m ρ _ => Cert.AttnDmn.Gen.frame m ρ,
  fun m ρ _ => Cert.AttnDmnIdeal.Gen.frame m ρ,
  attnDmn_ref_frame,
  fun m ρ _ => Cert.NormMem.Gen.frame m ρ,
  fun m ρ _ => Cert.NormMemIdeal.Gen.frame m ρ,
  normMem_ref_frame,
  fun m ρ _ => Cert.LossHead.Gen.frame m ρ,
  fun m ρ _ => Cert.LossHeadIdeal.Gen.frame m ρ,
  lossHead_ref_frame,
  trivial, attn_algebraic,
  trivial, ffnDz_algebraic,
  trivial, dwIn_algebraic,
  trivial, dwOut_algebraic,
  trivial, ffnDh_algebraic,
  trivial, mixDw_algebraic,
  trivial, mixDh_algebraic,
  trivial, mixDy_algebraic,
  trivial, dwSq_algebraic,
  trivial, dwQ_algebraic,
  trivial, attnDh_algebraic,
  trivial, attnDo_algebraic,
  trivial, mixIn_algebraic,
  trivial, attnQ_algebraic,
  trivial, mixOut_algebraic,
  trivial, ffnFwd_algebraic,
  trivial, attnFwd_algebraic,
  trivial, attnKv_algebraic,
  trivial, dwKv_algebraic,
  trivial, attnDmn_algebraic,
  trivial, normMem_algebraic,
  trivial, lossHead_algebraic⟩

end Cert.Proof

end
